-- ==== Defs.lean ====
def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenIdeal_finite [hPre_finite : Cert.Pre_finite.Facts] (m : (ℓ : Loc Cert.HiddenIdeal.nD Cert.HiddenIdeal.τ Cert.HiddenIdeal.sig) → Buf (Elt Ideal) ℓ) : Prop :=
  ∀ c : Dev Cert.HiddenIdeal.nD,
    (Cert.Pre_finite.fn (F := Ideal) (m ((c.tc : Thread Cert.HiddenIdeal.nD Cert.HiddenIdeal.τ).loc Cert.HiddenIdeal.main_arg0)) (m ((c.tc : Thread Cert.HiddenIdeal.nD Cert.HiddenIdeal.τ).loc Cert.HiddenIdeal.main_arg1)) (m ((c.tc : Thread Cert.HiddenIdeal.nD Cert.HiddenIdeal.τ).loc Cert.HiddenIdeal.main_arg2)) (m ((c.tc : Thread Cert.HiddenIdeal.nD Cert.HiddenIdeal.τ).loc Cert.HiddenIdeal.main_arg3)) (m ((c.tc : Thread Cert.HiddenIdeal.nD Cert.HiddenIdeal.τ).loc Cert.HiddenIdeal.main_arg4)) (m ((c.tc : Thread Cert.HiddenIdeal.nD Cert.HiddenIdeal.τ).loc Cert.HiddenIdeal.main_arg5)) (m ((c.tc : Thread Cert.HiddenIdeal.nD Cert.HiddenIdeal.τ).loc Cert.HiddenIdeal.main_arg6))).1 = (fun _ => 1#1)
    ∧ (Cert.Pre_finite.fn (F := Ideal) (m ((c.tc : Thread Cert.HiddenIdeal.nD Cert.HiddenIdeal.τ).loc Cert.HiddenIdeal.main_arg0)) (m ((c.tc : Thread Cert.HiddenIdeal.nD Cert.HiddenIdeal.τ).loc Cert.HiddenIdeal.main_arg1)) (m ((c.tc : Thread Cert.HiddenIdeal.nD Cert.HiddenIdeal.τ).loc Cert.HiddenIdeal.main_arg2)) (m ((c.tc : Thread Cert.HiddenIdeal.nD Cert.HiddenIdeal.τ).loc Cert.HiddenIdeal.main_arg3)) (m ((c.tc : Thread Cert.HiddenIdeal.nD Cert.HiddenIdeal.τ).loc Cert.HiddenIdeal.main_arg4)) (m ((c.tc : Thread Cert.HiddenIdeal.nD Cert.HiddenIdeal.τ).loc Cert.HiddenIdeal.main_arg5)) (m ((c.tc : Thread Cert.HiddenIdeal.nD Cert.HiddenIdeal.τ).loc Cert.HiddenIdeal.main_arg6))).2.1 = (fun _ => 1#1)
    ∧ (Cert.Pre_finite.fn (F := Ideal) (m ((c.tc : Thread Cert.HiddenIdeal.nD Cert.HiddenIdeal.τ).loc Cert.HiddenIdeal.main_arg0)) (m ((c.tc : Thread Cert.HiddenIdeal.nD Cert.HiddenIdeal.τ).loc Cert.HiddenIdeal.main_arg1)) (m ((c.tc : Thread Cert.HiddenIdeal.nD Cert.HiddenIdeal.τ).loc Cert.HiddenIdeal.main_arg2)) (m ((c.tc : Thread Cert.HiddenIdeal.nD Cert.HiddenIdeal.τ).loc Cert.HiddenIdeal.main_arg3)) (m ((c.tc : Thread Cert.HiddenIdeal.nD Cert.HiddenIdeal.τ).loc Cert.HiddenIdeal.main_arg4)) (m ((c.tc : Thread Cert.HiddenIdeal.nD Cert.HiddenIdeal.τ).loc Cert.HiddenIdeal.main_arg5)) (m ((c.tc : Thread Cert.HiddenIdeal.nD Cert.HiddenIdeal.τ).loc Cert.HiddenIdeal.main_arg6))).2.2.1 = (fun _ => 1#1)
    ∧ (Cert.Pre_finite.fn (F := Ideal) (m ((c.tc : Thread Cert.HiddenIdeal.nD Cert.HiddenIdeal.τ).loc Cert.HiddenIdeal.main_arg0)) (m ((c.tc : Thread Cert.HiddenIdeal.nD Cert.HiddenIdeal.τ).loc Cert.HiddenIdeal.main_arg1)) (m ((c.tc : Thread Cert.HiddenIdeal.nD Cert.HiddenIdeal.τ).loc Cert.HiddenIdeal.main_arg2)) (m ((c.tc : Thread Cert.HiddenIdeal.nD Cert.HiddenIdeal.τ).loc Cert.HiddenIdeal.main_arg3)) (m ((c.tc : Thread Cert.HiddenIdeal.nD Cert.HiddenIdeal.τ).loc Cert.HiddenIdeal.main_arg4)) (m ((c.tc : Thread Cert.HiddenIdeal.nD Cert.HiddenIdeal.τ).loc Cert.HiddenIdeal.main_arg5)) (m ((c.tc : Thread Cert.HiddenIdeal.nD Cert.HiddenIdeal.τ).loc Cert.HiddenIdeal.main_arg6))).2.2.2 = (fun _ => 1#1)

def Pre_HiddenRefIdeal (m : (ℓ : Loc Cert.HiddenRefIdeal.nD Cert.HiddenRefIdeal.τ Cert.HiddenRefIdeal.sig) → Buf (Elt Ideal) ℓ) : Prop :=
  True

def Pre_HiddenRefIdeal_finite [hPre_finite : Cert.Pre_finite.Facts] (m : (ℓ : Loc Cert.HiddenRefIdeal.nD Cert.HiddenRefIdeal.τ Cert.HiddenRefIdeal.sig) → Buf (Elt Ideal) ℓ) : Prop :=
  ∀ c : Dev Cert.HiddenRefIdeal.nD,
    (Cert.Pre_finite.fn (F := Ideal) (m ((c.tc : Thread Cert.HiddenRefIdeal.nD Cert.HiddenRefIdeal.τ).loc Cert.HiddenRefIdeal.main_arg0)) (m ((c.tc : Thread Cert.HiddenRefIdeal.nD Cert.HiddenRefIdeal.τ).loc Cert.HiddenRefIdeal.main_arg1)) (m ((c.tc : Thread Cert.HiddenRefIdeal.nD Cert.HiddenRefIdeal.τ).loc Cert.HiddenRefIdeal.main_arg2)) (m ((c.tc : Thread Cert.HiddenRefIdeal.nD Cert.HiddenRefIdeal.τ).loc Cert.HiddenRefIdeal.main_arg3)) (m ((c.tc : Thread Cert.HiddenRefIdeal.nD Cert.HiddenRefIdeal.τ).loc Cert.HiddenRefIdeal.main_arg4)) (m ((c.tc : Thread Cert.HiddenRefIdeal.nD Cert.HiddenRefIdeal.τ).loc Cert.HiddenRefIdeal.main_arg5)) (m ((c.tc : Thread Cert.HiddenRefIdeal.nD Cert.HiddenRefIdeal.τ).loc Cert.HiddenRefIdeal.main_arg6))).1 = (fun _ => 1#1)
    ∧ (Cert.Pre_finite.fn (F := Ideal) (m ((c.tc : Thread Cert.HiddenRefIdeal.nD Cert.HiddenRefIdeal.τ).loc Cert.HiddenRefIdeal.main_arg0)) (m ((c.tc : Thread Cert.HiddenRefIdeal.nD Cert.HiddenRefIdeal.τ).loc Cert.HiddenRefIdeal.main_arg1)) (m ((c.tc : Thread Cert.HiddenRefIdeal.nD Cert.HiddenRefIdeal.τ).loc Cert.HiddenRefIdeal.main_arg2)) (m ((c.tc : Thread Cert.HiddenRefIdeal.nD Cert.HiddenRefIdeal.τ).loc Cert.HiddenRefIdeal.main_arg3)) (m ((c.tc : Thread Cert.HiddenRefIdeal.nD Cert.HiddenRefIdeal.τ).loc Cert.HiddenRefIdeal.main_arg4)) (m ((c.tc : Thread Cert.HiddenRefIdeal.nD Cert.HiddenRefIdeal.τ).loc Cert.HiddenRefIdeal.main_arg5)) (m ((c.tc : Thread Cert.HiddenRefIdeal.nD Cert.HiddenRefIdeal.τ).loc Cert.HiddenRefIdeal.main_arg6))).2.1 = (fun _ => 1#1)
    ∧ (Cert.Pre_finite.fn (F := Ideal) (m ((c.tc : Thread Cert.HiddenRefIdeal.nD Cert.HiddenRefIdeal.τ).loc Cert.HiddenRefIdeal.main_arg0)) (m ((c.tc : Thread Cert.HiddenRefIdeal.nD Cert.HiddenRefIdeal.τ).loc Cert.HiddenRefIdeal.main_arg1)) (m ((c.tc : Thread Cert.HiddenRefIdeal.nD Cert.HiddenRefIdeal.τ).loc Cert.HiddenRefIdeal.main_arg2)) (m ((c.tc : Thread Cert.HiddenRefIdeal.nD Cert.HiddenRefIdeal.τ).loc Cert.HiddenRefIdeal.main_arg3)) (m ((c.tc : Thread Cert.HiddenRefIdeal.nD Cert.HiddenRefIdeal.τ).loc Cert.HiddenRefIdeal.main_arg4)) (m ((c.tc : Thread Cert.HiddenRefIdeal.nD Cert.HiddenRefIdeal.τ).loc Cert.HiddenRefIdeal.main_arg5)) (m ((c.tc : Thread Cert.HiddenRefIdeal.nD Cert.HiddenRefIdeal.τ).loc Cert.HiddenRefIdeal.main_arg6))).2.2.1 = (fun _ => 1#1)
    ∧ (Cert.Pre_finite.fn (F := Ideal) (m ((c.tc : Thread Cert.HiddenRefIdeal.nD Cert.HiddenRefIdeal.τ).loc Cert.HiddenRefIdeal.main_arg0)) (m ((c.tc : Thread Cert.HiddenRefIdeal.nD Cert.HiddenRefIdeal.τ).loc Cert.HiddenRefIdeal.main_arg1)) (m ((c.tc : Thread Cert.HiddenRefIdeal.nD Cert.HiddenRefIdeal.τ).loc Cert.HiddenRefIdeal.main_arg2)) (m ((c.tc : Thread Cert.HiddenRefIdeal.nD Cert.HiddenRefIdeal.τ).loc Cert.HiddenRefIdeal.main_arg3)) (m ((c.tc : Thread Cert.HiddenRefIdeal.nD Cert.HiddenRefIdeal.τ).loc Cert.HiddenRefIdeal.main_arg4)) (m ((c.tc : Thread Cert.HiddenRefIdeal.nD Cert.HiddenRefIdeal.τ).loc Cert.HiddenRefIdeal.main_arg5)) (m ((c.tc : Thread Cert.HiddenRefIdeal.nD Cert.HiddenRefIdeal.τ).loc Cert.HiddenRefIdeal.main_arg6))).2.2.2 = (fun _ => 1#1)

def Pre_LruProj (m : (ℓ : Loc Cert.LruProj.nD Cert.LruProj.τ Cert.LruProj.sig) → Buf (Elt Bits) ℓ) : Prop :=
  True

def Pre_LruProjIdeal (m : (ℓ : Loc Cert.LruProjIdeal.nD Cert.LruProjIdeal.τ Cert.LruProjIdeal.sig) → Buf (Elt Ideal) ℓ) : Prop :=
  True

def Pre_LruProjRefIdeal (m : (ℓ : Loc Cert.LruProjRefIdeal.nD Cert.LruProjRefIdeal.τ Cert.LruProjRefIdeal.sig) → Buf (Elt Ideal) ℓ) : Prop :=
  True

def Pre_PoolProj (m : (ℓ : Loc Cert.PoolProj.nD Cert.PoolProj.τ Cert.PoolProj.sig) → Buf (Elt Bits) ℓ) : Prop :=
  True

def Pre_PoolProjIdeal (m : (ℓ : Loc Cert.PoolProjIdeal.nD Cert.PoolProjIdeal.τ Cert.PoolProjIdeal.sig) → Buf (Elt Ideal) ℓ) : Prop :=
  True

def Pre_PoolProjRefIdeal (m : (ℓ : Loc Cert.PoolProjRefIdeal.nD Cert.PoolProjRefIdeal.τ Cert.PoolProjRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_AdamWin (m : (ℓ : Loc Cert.AdamWin.nD Cert.AdamWin.τ Cert.AdamWin.sig) → Buf (Elt Bits) ℓ) : Prop :=
  True

def Pre_AdamWinIdeal (m : (ℓ : Loc Cert.AdamWinIdeal.nD Cert.AdamWinIdeal.τ Cert.AdamWinIdeal.sig) → Buf (Elt Ideal) ℓ) : Prop :=
  True

def Pre_AdamWinRefIdeal (m : (ℓ : Loc Cert.AdamWinRefIdeal.nD Cert.AdamWinRefIdeal.τ Cert.AdamWinRefIdeal.sig) → Buf (Elt Ideal) ℓ) : Prop :=
  True

def Pre_AdamFfnIn (m : (ℓ : Loc Cert.AdamFfnIn.nD Cert.AdamFfnIn.τ Cert.AdamFfnIn.sig) → Buf (Elt Bits) ℓ) : Prop :=
  True

def Pre_AdamFfnInIdeal (m : (ℓ : Loc Cert.AdamFfnInIdeal.nD Cert.AdamFfnInIdeal.τ Cert.AdamFfnInIdeal.sig) → Buf (Elt Ideal) ℓ) : Prop :=
  True

def Pre_AdamFfnInRefIdeal (m : (ℓ : Loc Cert.AdamFfnInRefIdeal.nD Cert.AdamFfnInRefIdeal.τ Cert.AdamFfnInRefIdeal.sig) → Buf (Elt Ideal) ℓ) : Prop :=
  True

def Pre_AdamLru (m : (ℓ : Loc Cert.AdamLru.nD Cert.AdamLru.τ Cert.AdamLru.sig) → Buf (Elt Bits) ℓ) : Prop :=
  True

def Pre_AdamLruIdeal (m : (ℓ : Loc Cert.AdamLruIdeal.nD Cert.AdamLruIdeal.τ Cert.AdamLruIdeal.sig) → Buf (Elt Ideal) ℓ) : Prop :=
  True

def Pre_AdamLruRefIdeal (m : (ℓ : Loc Cert.AdamLruRefIdeal.nD Cert.AdamLruRefIdeal.τ Cert.AdamLruRefIdeal.sig) → Buf (Elt Ideal) ℓ) : Prop :=
  True

def Pre_AdamFfnOut (m : (ℓ : Loc Cert.AdamFfnOut.nD Cert.AdamFfnOut.τ Cert.AdamFfnOut.sig) → Buf (Elt Bits) ℓ) : Prop :=
  True

def Pre_AdamFfnOutIdeal (m : (ℓ : Loc Cert.AdamFfnOutIdeal.nD Cert.AdamFfnOutIdeal.τ Cert.AdamFfnOutIdeal.sig) → Buf (Elt Ideal) ℓ) : Prop :=
  True

def Pre_AdamFfnOutRefIdeal (m : (ℓ : Loc Cert.AdamFfnOutRefIdeal.nD Cert.AdamFfnOutRefIdeal.τ Cert.AdamFfnOutRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def Pre_AdamPle (m : (ℓ : Loc Cert.AdamPle.nD Cert.AdamPle.τ Cert.AdamPle.sig) → Buf (Elt Bits) ℓ) : Prop :=
  True

def Pre_AdamPleIdeal (m : (ℓ : Loc Cert.AdamPleIdeal.nD Cert.AdamPleIdeal.τ Cert.AdamPleIdeal.sig) → Buf (Elt Ideal) ℓ) : Prop :=
  True

def Pre_AdamPleRefIdeal (m : (ℓ : Loc Cert.AdamPleRefIdeal.nD Cert.AdamPleRefIdeal.τ Cert.AdamPleRefIdeal.sig) → Buf (Elt Ideal) ℓ) : Prop :=
  True

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5)
      ∧ r.2.mem ((c.tc : Thread Cert.FfnIn.nD Cert.FfnIn.τ).loc Cert.FfnIn.main_arg6) = m ((c.tc : Thread Cert.FfnIn.nD Cert.FfnIn.τ).loc Cert.FfnIn.main_arg6)
      ∧ r.2.mem ((c.tc : Thread Cert.FfnIn.nD Cert.FfnIn.τ).loc Cert.FfnIn.main_arg7) = m ((c.tc : Thread Cert.FfnIn.nD Cert.FfnIn.τ).loc Cert.FfnIn.main_arg7))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6)
      ∧ r.2.mem ((c.tc : Thread Cert.FfnInIdeal.nD Cert.FfnInIdeal.τ).loc Cert.FfnInIdeal.main_arg7) = m ((c.tc : Thread Cert.FfnInIdeal.nD Cert.FfnInIdeal.τ).loc Cert.FfnInIdeal.main_arg7))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6)
      ∧ r.2.mem ((c.tc : Thread Cert.FfnInRefIdeal.nD Cert.FfnInRefIdeal.τ).loc Cert.FfnInRefIdeal.main_arg7) = m ((c.tc : Thread Cert.FfnInRefIdeal.nD Cert.FfnInRefIdeal.τ).loc Cert.FfnInRefIdeal.main_arg7))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2)
      ∧ r.2.mem ((c.tc : Thread Cert.Hidden.nD Cert.Hidden.τ).loc Cert.Hidden.main_arg3) = m ((c.tc : Thread Cert.Hidden.nD Cert.Hidden.τ).loc Cert.Hidden.main_arg3)
      ∧ r.2.mem ((c.tc : Thread Cert.Hidden.nD Cert.Hidden.τ).loc Cert.Hidden.main_arg4) = m ((c.tc : Thread Cert.Hidden.nD Cert.Hidden.τ).loc Cert.Hidden.main_arg4)
      ∧ r.2.mem ((c.tc : Thread Cert.Hidden.nD Cert.Hidden.τ).loc Cert.Hidden.main_arg5) = m ((c.tc : Thread Cert.Hidden.nD Cert.Hidden.τ).loc Cert.Hidden.main_arg5)
      ∧ r.2.mem ((c.tc : Thread Cert.Hidden.nD Cert.Hidden.τ).loc Cert.Hidden.main_arg6) = m ((c.tc : Thread Cert.Hidden.nD Cert.Hidden.τ).loc Cert.Hidden.main_arg6))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3)
      ∧ r.2.mem ((c.tc : Thread Cert.HiddenIdeal.nD Cert.HiddenIdeal.τ).loc Cert.HiddenIdeal.main_arg4) = m ((c.tc : Thread Cert.HiddenIdeal.nD Cert.HiddenIdeal.τ).loc Cert.HiddenIdeal.main_arg4)
      ∧ r.2.mem ((c.tc : Thread Cert.HiddenIdeal.nD Cert.HiddenIdeal.τ).loc Cert.HiddenIdeal.main_arg5) = m ((c.tc : Thread Cert.HiddenIdeal.nD Cert.HiddenIdeal.τ).loc Cert.HiddenIdeal.main_arg5)
      ∧ r.2.mem ((c.tc : Thread Cert.HiddenIdeal.nD Cert.HiddenIdeal.τ).loc Cert.HiddenIdeal.main_arg6) = m ((c.tc : Thread Cert.HiddenIdeal.nD Cert.HiddenIdeal.τ).loc Cert.HiddenIdeal.main_arg6))
      ∧ r.2.sem = fun _ => 0)

def quiescent_HiddenIdeal_pre_finite [hHiddenIdeal : Cert.HiddenIdeal.Facts] [hPre_finite : Cert.Pre_finite.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal_finite m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3)
      ∧ r.2.mem ((c.tc : Thread Cert.HiddenIdeal.nD Cert.HiddenIdeal.τ).loc Cert.HiddenIdeal.main_arg4) = m ((c.tc : Thread Cert.HiddenIdeal.nD Cert.HiddenIdeal.τ).loc Cert.HiddenIdeal.main_arg4)
      ∧ r.2.mem ((c.tc : Thread Cert.HiddenIdeal.nD Cert.HiddenIdeal.τ).loc Cert.HiddenIdeal.main_arg5) = m ((c.tc : Thread Cert.HiddenIdeal.nD Cert.HiddenIdeal.τ).loc Cert.HiddenIdeal.main_arg5)
      ∧ r.2.mem ((c.tc : Thread Cert.HiddenIdeal.nD Cert.HiddenIdeal.τ).loc Cert.HiddenIdeal.main_arg6) = m ((c.tc : Thread Cert.HiddenIdeal.nD Cert.HiddenIdeal.τ).loc Cert.HiddenIdeal.main_arg6))
      ∧ r.2.sem = fun _ => 0)

def quiescent_HiddenRefIdeal [hHiddenRefIdeal : Cert.HiddenRefIdeal.Facts] : Prop :=
  ∀ (m : (ℓ : Loc Cert.HiddenRefIdeal.nD Cert.HiddenRefIdeal.τ Cert.HiddenRefIdeal.sig) → Buf (Elt Ideal) ℓ) (g : Dev Cert.HiddenRefIdeal.nD → PrngReg), Pre_HiddenRefIdeal m →
    θ_run (Cert.HiddenRefIdeal.defs (F := Ideal)) (onTc (τ := Cert.HiddenRefIdeal.τ) (Cert.HiddenRefIdeal.main (F := Ideal))) ⟨m, fun _ => 0, g⟩ (fun r => (∀ c : Dev Cert.HiddenRefIdeal.nD,
      r.2.mem ((c.tc : Thread Cert.HiddenRefIdeal.nD Cert.HiddenRefIdeal.τ).loc Cert.HiddenRefIdeal.main_arg0) = m ((c.tc : Thread Cert.HiddenRefIdeal.nD Cert.HiddenRefIdeal.τ).loc Cert.HiddenRefIdeal.main_arg0)
      ∧ r.2.mem ((c.tc : Thread Cert.HiddenRefIdeal.nD Cert.HiddenRefIdeal.τ).loc Cert.HiddenRefIdeal.main_arg1) = m ((c.tc : Thread Cert.HiddenRefIdeal.nD Cert.HiddenRefIdeal.τ).loc Cert.HiddenRefIdeal.main_arg1)
      ∧ r.2.mem ((c.tc : Thread Cert.HiddenRefIdeal.nD Cert.HiddenRefIdeal.τ).loc Cert.HiddenRefIdeal.main_arg2) = m ((c.tc : Thread Cert.HiddenRefIdeal.nD Cert.HiddenRefIdeal.τ).loc Cert.HiddenRefIdeal.main_arg2)
      ∧ r.2.mem ((c.tc : Thread Cert.HiddenRefIdeal.nD Cert.HiddenRefIdeal.τ).loc Cert.HiddenRefIdeal.main_arg3) = m ((c.tc : Thread Cert.HiddenRefIdeal.nD Cert.HiddenRefIdeal.τ).loc Cert.HiddenRefIdeal.main_arg3)
      ∧ r.2.mem ((c.tc : Thread Cert.HiddenRefIdeal.nD Cert.HiddenRefIdeal.τ).loc Cert.HiddenRefIdeal.main_arg4) = m ((c.tc : Thread Cert.HiddenRefIdeal.nD Cert.HiddenRefIdeal.τ).loc Cert.HiddenRefIdeal.main_arg4)
      ∧ r.2.mem ((c.tc : Thread Cert.HiddenRefIdeal.nD Cert.HiddenRefIdeal.τ).loc Cert.HiddenRefIdeal.main_arg5) = m ((c.tc : Thread Cert.HiddenRefIdeal.nD Cert.HiddenRefIdeal.τ).loc Cert.HiddenRefIdeal.main_arg5)
      ∧ r.2.mem ((c.tc : Thread Cert.HiddenRefIdeal.nD Cert.HiddenRefIdeal.τ).loc Cert.HiddenRefIdeal.main_arg6) = m ((c.tc : Thread Cert.HiddenRefIdeal.nD Cert.HiddenRefIdeal.τ).loc Cert.HiddenRefIdeal.main_arg6))
      ∧ r.2.sem = fun _ => 0)

def quiescent_HiddenRefIdeal_pre_finite [hHiddenRefIdeal : Cert.HiddenRefIdeal.Facts] [hPre_finite : Cert.Pre_finite.Facts] : Prop :=
  ∀ (m : (ℓ : Loc Cert.HiddenRefIdeal.nD Cert.HiddenRefIdeal.τ Cert.HiddenRefIdeal.sig) → Buf (Elt Ideal) ℓ) (g : Dev Cert.HiddenRefIdeal.nD → PrngReg), Pre_HiddenRefIdeal_finite m →
    θ_run (Cert.HiddenRefIdeal.defs (F := Ideal)) (onTc (τ := Cert.HiddenRefIdeal.τ) (Cert.HiddenRefIdeal.main (F := Ideal))) ⟨m, fun _ => 0, g⟩ (fun r => (∀ c : Dev Cert.HiddenRefIdeal.nD,
      r.2.mem ((c.tc : Thread Cert.HiddenRefIdeal.nD Cert.HiddenRefIdeal.τ).loc Cert.HiddenRefIdeal.main_arg0) = m ((c.tc : Thread Cert.HiddenRefIdeal.nD Cert.HiddenRefIdeal.τ).loc Cert.HiddenRefIdeal.main_arg0)
      ∧ r.2.mem ((c.tc : Thread Cert.HiddenRefIdeal.nD Cert.HiddenRefIdeal.τ).loc Cert.HiddenRefIdeal.main_arg1) = m ((c.tc : Thread Cert.HiddenRefIdeal.nD Cert.HiddenRefIdeal.τ).loc Cert.HiddenRefIdeal.main_arg1)
      ∧ r.2.mem ((c.tc : Thread Cert.HiddenRefIdeal.nD Cert.HiddenRefIdeal.τ).loc Cert.HiddenRefIdeal.main_arg2) = m ((c.tc : Thread Cert.HiddenRefIdeal.nD Cert.HiddenRefIdeal.τ).loc Cert.HiddenRefIdeal.main_arg2)
      ∧ r.2.mem ((c.tc : Thread Cert.HiddenRefIdeal.nD Cert.HiddenRefIdeal.τ).loc Cert.HiddenRefIdeal.main_arg3) = m ((c.tc : Thread Cert.HiddenRefIdeal.nD Cert.HiddenRefIdeal.τ).loc Cert.HiddenRefIdeal.main_arg3)
      ∧ r.2.mem ((c.tc : Thread Cert.HiddenRefIdeal.nD Cert.HiddenRefIdeal.τ).loc Cert.HiddenRefIdeal.main_arg4) = m ((c.tc : Thread Cert.HiddenRefIdeal.nD Cert.HiddenRefIdeal.τ).loc Cert.HiddenRefIdeal.main_arg4)
      ∧ r.2.mem ((c.tc : Thread Cert.HiddenRefIdeal.nD Cert.HiddenRefIdeal.τ).loc Cert.HiddenRefIdeal.main_arg5) = m ((c.tc : Thread Cert.HiddenRefIdeal.nD Cert.HiddenRefIdeal.τ).loc Cert.HiddenRefIdeal.main_arg5)
      ∧ r.2.mem ((c.tc : Thread Cert.HiddenRefIdeal.nD Cert.HiddenRefIdeal.τ).loc Cert.HiddenRefIdeal.main_arg6) = m ((c.tc : Thread Cert.HiddenRefIdeal.nD Cert.HiddenRefIdeal.τ).loc Cert.HiddenRefIdeal.main_arg6))
      ∧ r.2.sem = fun _ => 0)

def quiescent_LruProj [hLruProj : Cert.LruProj.Facts] : Prop :=
  ∀ (m : (ℓ : Loc Cert.LruProj.nD Cert.LruProj.τ Cert.LruProj.sig) → Buf (Elt Bits) ℓ) (g : Dev Cert.LruProj.nD → PrngReg), Pre_LruProj m →
    θ_run (Cert.LruProj.defs (F := Bits)) (onTc (τ := Cert.LruProj.τ) (Cert.LruProj.main (F := Bits))) ⟨m, fun _ => 0, g⟩ (fun r => (∀ c : Dev Cert.LruProj.nD,
      r.2.mem ((c.tc : Thread Cert.LruProj.nD Cert.LruProj.τ).loc Cert.LruProj.main_arg0) = m ((c.tc : Thread Cert.LruProj.nD Cert.LruProj.τ).loc Cert.LruProj.main_arg0)
      ∧ r.2.mem ((c.tc : Thread Cert.LruProj.nD Cert.LruProj.τ).loc Cert.LruProj.main_arg1) = m ((c.tc : Thread Cert.LruProj.nD Cert.LruProj.τ).loc Cert.LruProj.main_arg1))
      ∧ r.2.sem = fun _ => 0)

def quiescent_LruProjIdeal [hLruProjIdeal : Cert.LruProjIdeal.Facts] : Prop :=
  ∀ (m : (ℓ : Loc Cert.LruProjIdeal.nD Cert.LruProjIdeal.τ Cert.LruProjIdeal.sig) → Buf (Elt Ideal) ℓ) (g : Dev Cert.LruProjIdeal.nD → PrngReg), Pre_LruProjIdeal m →
    θ_run (Cert.LruProjIdeal.defs (F := Ideal)) (onTc (τ := Cert.LruProjIdeal.τ) (Cert.LruProjIdeal.main (F := Ideal))) ⟨m, fun _ => 0, g⟩ (fun r => (∀ c : Dev Cert.LruProjIdeal.nD,
      r.2.mem ((c.tc : Thread Cert.LruProjIdeal.nD Cert.LruProjIdeal.τ).loc Cert.LruProjIdeal.main_arg0) = m ((c.tc : Thread Cert.LruProjIdeal.nD Cert.LruProjIdeal.τ).loc Cert.LruProjIdeal.main_arg0)
      ∧ r.2.mem ((c.tc : Thread Cert.LruProjIdeal.nD Cert.LruProjIdeal.τ).loc Cert.LruProjIdeal.main_arg1) = m ((c.tc : Thread Cert.LruProjIdeal.nD Cert.LruProjIdeal.τ).loc Cert.LruProjIdeal.main_arg1))
      ∧ r.2.sem = fun _ => 0)

def quiescent_LruProjRefIdeal [hLruProjRefIdeal : Cert.LruProjRefIdeal.Facts] : Prop :=
  ∀ (m : (ℓ : Loc Cert.LruProjRefIdeal.nD Cert.LruProjRefIdeal.τ Cert.LruProjRefIdeal.sig) → Buf (Elt Ideal) ℓ) (g : Dev Cert.LruProjRefIdeal.nD → PrngReg), Pre_LruProjRefIdeal m →
    θ_run (Cert.LruProjRefIdeal.defs (F := Ideal)) (onTc (τ := Cert.LruProjRefIdeal.τ) (Cert.LruProjRefIdeal.main (F := Ideal))) ⟨m, fun _ => 0, g⟩ (fun r => (∀ c : Dev Cert.LruProjRefIdeal.nD,
      r.2.mem ((c.tc : Thread Cert.LruProjRefIdeal.nD Cert.LruProjRefIdeal.τ).loc Cert.LruProjRefIdeal.main_arg0) = m ((c.tc : Thread Cert.LruProjRefIdeal.nD Cert.LruProjRefIdeal.τ).loc Cert.LruProjRefIdeal.main_arg0)
      ∧ r.2.mem ((c.tc : Thread Cert.LruProjRefIdeal.nD Cert.LruProjRefIdeal.τ).loc Cert.LruProjRefIdeal.main_arg1) = m ((c.tc : Thread Cert.LruProjRefIdeal.nD Cert.LruProjRefIdeal.τ).loc Cert.LruProjRefIdeal.main_arg1))
      ∧ r.2.sem = fun _ => 0)

def quiescent_PoolProj [hPoolProj : Cert.PoolProj.Facts] : Prop :=
  ∀ (m : (ℓ : Loc Cert.PoolProj.nD Cert.PoolProj.τ Cert.PoolProj.sig) → Buf (Elt Bits) ℓ) (g : Dev Cert.PoolProj.nD → PrngReg), Pre_PoolProj m →
    θ_run (Cert.PoolProj.defs (F := Bits)) (onTc (τ := Cert.PoolProj.τ) (Cert.PoolProj.main (F := Bits))) ⟨m, fun _ => 0, g⟩ (fun r => (∀ c : Dev Cert.PoolProj.nD,
      r.2.mem ((c.tc : Thread Cert.PoolProj.nD Cert.PoolProj.τ).loc Cert.PoolProj.main_arg0) = m ((c.tc : Thread Cert.PoolProj.nD Cert.PoolProj.τ).loc Cert.PoolProj.main_arg0)
      ∧ r.2.mem ((c.tc : Thread Cert.PoolProj.nD Cert.PoolProj.τ).loc Cert.PoolProj.main_arg1) = m ((c.tc : Thread Cert.PoolProj.nD Cert.PoolProj.τ).loc Cert.PoolProj.main_arg1))
      ∧ r.2.sem = fun _ => 0)

def quiescent_PoolProjIdeal [hPoolProjIdeal : Cert.PoolProjIdeal.Facts] : Prop :=
  ∀ (m : (ℓ : Loc Cert.PoolProjIdeal.nD Cert.PoolProjIdeal.τ Cert.PoolProjIdeal.sig) → Buf (Elt Ideal) ℓ) (g : Dev Cert.PoolProjIdeal.nD → PrngReg), Pre_PoolProjIdeal m →
    θ_run (Cert.PoolProjIdeal.defs (F := Ideal)) (onTc (τ := Cert.PoolProjIdeal.τ) (Cert.PoolProjIdeal.main (F := Ideal))) ⟨m, fun _ => 0, g⟩ (fun r => (∀ c : Dev Cert.PoolProjIdeal.nD,
      r.2.mem ((c.tc : Thread Cert.PoolProjIdeal.nD Cert.PoolProjIdeal.τ).loc Cert.PoolProjIdeal.main_arg0) = m ((c.tc : Thread Cert.PoolProjIdeal.nD Cert.PoolProjIdeal.τ).loc Cert.PoolProjIdeal.main_arg0)
      ∧ r.2.mem ((c.tc : Thread Cert.PoolProjIdeal.nD Cert.PoolProjIdeal.τ).loc Cert.PoolProjIdeal.main_arg1) = m ((c.tc : Thread Cert.PoolProjIdeal.nD Cert.PoolProjIdeal.τ).loc Cert.PoolProjIdeal.main_arg1))
      ∧ r.2.sem = fun _ => 0)

def quiescent_PoolProjRefIdeal [hPoolProjRefIdeal : Cert.PoolProjRefIdeal.Facts] : Prop :=
  ∀ (m : (ℓ : Loc Cert.PoolProjRefIdeal.nD Cert.PoolProjRefIdeal.τ Cert.PoolProjRefIdeal.sig) → Buf (Elt Ideal) ℓ) (g : Dev Cert.PoolProjRefIdeal.nD → PrngReg), Pre_PoolProjRefIdeal m →
    θ_run (Cert.PoolProjRefIdeal.defs (F := Ideal)) (onTc (τ := Cert.PoolProjRefIdeal.τ) (Cert.PoolProjRefIdeal.main (F := Ideal))) ⟨m, fun _ => 0, g⟩ (fun r => (∀ c : Dev Cert.PoolProjRefIdeal.nD,
      r.2.mem ((c.tc : Thread Cert.PoolProjRefIdeal.nD Cert.PoolProjRefIdeal.τ).loc Cert.PoolProjRefIdeal.main_arg0) = m ((c.tc : Thread Cert.PoolProjRefIdeal.nD Cert.PoolProjRefIdeal.τ).loc Cert.PoolProjRefIdeal.main_arg0)
      ∧ r.2.mem ((c.tc : Thread Cert.PoolProjRefIdeal.nD Cert.PoolProjRefIdeal.τ).loc Cert.PoolProjRefIdeal.main_arg1) = m ((c.tc : Thread Cert.PoolProjRefIdeal.nD Cert.PoolProjRefIdeal.τ).loc Cert.PoolProjRefIdeal.main_arg1))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6)
      ∧ r.2.mem ((c.tc : Thread Cert.Head.nD Cert.Head.τ).loc Cert.Head.main_arg7) = m ((c.tc : Thread Cert.Head.nD Cert.Head.τ).loc Cert.Head.main_arg7)
      ∧ r.2.mem ((c.tc : Thread Cert.Head.nD Cert.Head.τ).loc Cert.Head.main_arg8) = m ((c.tc : Thread Cert.Head.nD Cert.Head.τ).loc Cert.Head.main_arg8))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8))
      ∧ r.2.sem = fun _ => 0)

def quiescent_AdamWin [hAdamWin : Cert.AdamWin.Facts] : Prop :=
  ∀ (m : (ℓ : Loc Cert.AdamWin.nD Cert.AdamWin.τ Cert.AdamWin.sig) → Buf (Elt Bits) ℓ) (g : Dev Cert.AdamWin.nD → PrngReg), Pre_AdamWin m →
    θ_run (Cert.AdamWin.defs (F := Bits)) (onTc (τ := Cert.AdamWin.τ) (Cert.AdamWin.main (F := Bits))) ⟨m, fun _ => 0, g⟩ (fun r => (∀ c : Dev Cert.AdamWin.nD,
      r.2.mem ((c.tc : Thread Cert.AdamWin.nD Cert.AdamWin.τ).loc Cert.AdamWin.main_arg0) = m ((c.tc : Thread Cert.AdamWin.nD Cert.AdamWin.τ).loc Cert.AdamWin.main_arg0)
      ∧ r.2.mem ((c.tc : Thread Cert.AdamWin.nD Cert.AdamWin.τ).loc Cert.AdamWin.main_arg1) = m ((c.tc : Thread Cert.AdamWin.nD Cert.AdamWin.τ).loc Cert.AdamWin.main_arg1)
      ∧ r.2.mem ((c.tc : Thread Cert.AdamWin.nD Cert.AdamWin.τ).loc Cert.AdamWin.main_arg2) = m ((c.tc : Thread Cert.AdamWin.nD Cert.AdamWin.τ).loc Cert.AdamWin.main_arg2)
      ∧ r.2.mem ((c.tc : Thread Cert.AdamWin.nD Cert.AdamWin.τ).loc Cert.AdamWin.main_arg3) = m ((c.tc : Thread Cert.AdamWin.nD Cert.AdamWin.τ).loc Cert.AdamWin.main_arg3))
      ∧ r.2.sem = fun _ => 0)

def quiescent_AdamWinIdeal [hAdamWinIdeal : Cert.AdamWinIdeal.Facts] : Prop :=
  ∀ (m : (ℓ : Loc Cert.AdamWinIdeal.nD Cert.AdamWinIdeal.τ Cert.AdamWinIdeal.sig) → Buf (Elt Ideal) ℓ) (g : Dev Cert.AdamWinIdeal.nD → PrngReg), Pre_AdamWinIdeal m →
    θ_run (Cert.AdamWinIdeal.defs (F := Ideal)) (onTc (τ := Cert.AdamWinIdeal.τ) (Cert.AdamWinIdeal.main (F := Ideal))) ⟨m, fun _ => 0, g⟩ (fun r => (∀ c : Dev Cert.AdamWinIdeal.nD,
      r.2.mem ((c.tc : Thread Cert.AdamWinIdeal.nD Cert.AdamWinIdeal.τ).loc Cert.AdamWinIdeal.main_arg0) = m ((c.tc : Thread Cert.AdamWinIdeal.nD Cert.AdamWinIdeal.τ).loc Cert.AdamWinIdeal.main_arg0)
      ∧ r.2.mem ((c.tc : Thread Cert.AdamWinIdeal.nD Cert.AdamWinIdeal.τ).loc Cert.AdamWinIdeal.main_arg1) = m ((c.tc : Thread Cert.AdamWinIdeal.nD Cert.AdamWinIdeal.τ).loc Cert.AdamWinIdeal.main_arg1)
      ∧ r.2.mem ((c.tc : Thread Cert.AdamWinIdeal.nD Cert.AdamWinIdeal.τ).loc Cert.AdamWinIdeal.main_arg2) = m ((c.tc : Thread Cert.AdamWinIdeal.nD Cert.AdamWinIdeal.τ).loc Cert.AdamWinIdeal.main_arg2)
      ∧ r.2.mem ((c.tc : Thread Cert.AdamWinIdeal.nD Cert.AdamWinIdeal.τ).loc Cert.AdamWinIdeal.main_arg3) = m ((c.tc : Thread Cert.AdamWinIdeal.nD Cert.AdamWinIdeal.τ).loc Cert.AdamWinIdeal.main_arg3))
      ∧ r.2.sem = fun _ => 0)

def quiescent_AdamWinRefIdeal [hAdamWinRefIdeal : Cert.AdamWinRefIdeal.Facts] : Prop :=
  ∀ (m : (ℓ : Loc Cert.AdamWinRefIdeal.nD Cert.AdamWinRefIdeal.τ Cert.AdamWinRefIdeal.sig) → Buf (Elt Ideal) ℓ) (g : Dev Cert.AdamWinRefIdeal.nD → PrngReg), Pre_AdamWinRefIdeal m →
    θ_run (Cert.AdamWinRefIdeal.defs (F := Ideal)) (onTc (τ := Cert.AdamWinRefIdeal.τ) (Cert.AdamWinRefIdeal.main (F := Ideal))) ⟨m, fun _ => 0, g⟩ (fun r => (∀ c : Dev Cert.AdamWinRefIdeal.nD,
      r.2.mem ((c.tc : Thread Cert.AdamWinRefIdeal.nD Cert.AdamWinRefIdeal.τ).loc Cert.AdamWinRefIdeal.main_arg0) = m ((c.tc : Thread Cert.AdamWinRefIdeal.nD Cert.AdamWinRefIdeal.τ).loc Cert.AdamWinRefIdeal.main_arg0)
      ∧ r.2.mem ((c.tc : Thread Cert.AdamWinRefIdeal.nD Cert.AdamWinRefIdeal.τ).loc Cert.AdamWinRefIdeal.main_arg1) = m ((c.tc : Thread Cert.AdamWinRefIdeal.nD Cert.AdamWinRefIdeal.τ).loc Cert.AdamWinRefIdeal.main_arg1)
      ∧ r.2.mem ((c.tc : Thread Cert.AdamWinRefIdeal.nD Cert.AdamWinRefIdeal.τ).loc Cert.AdamWinRefIdeal.main_arg2) = m ((c.tc : Thread Cert.AdamWinRefIdeal.nD Cert.AdamWinRefIdeal.τ).loc Cert.AdamWinRefIdeal.main_arg2)
      ∧ r.2.mem ((c.tc : Thread Cert.AdamWinRefIdeal.nD Cert.AdamWinRefIdeal.τ).loc Cert.AdamWinRefIdeal.main_arg3) = m ((c.tc : Thread Cert.AdamWinRefIdeal.nD Cert.AdamWinRefIdeal.τ).loc Cert.AdamWinRefIdeal.main_arg3))
      ∧ r.2.sem = fun _ => 0)

def quiescent_AdamFfnIn [hAdamFfnIn : Cert.AdamFfnIn.Facts] : Prop :=
  ∀ (m : (ℓ : Loc Cert.AdamFfnIn.nD Cert.AdamFfnIn.τ Cert.AdamFfnIn.sig) → Buf (Elt Bits) ℓ) (g : Dev Cert.AdamFfnIn.nD → PrngReg), Pre_AdamFfnIn m →
    θ_run (Cert.AdamFfnIn.defs (F := Bits)) (onTc (τ := Cert.AdamFfnIn.τ) (Cert.AdamFfnIn.main (F := Bits))) ⟨m, fun _ => 0, g⟩ (fun r => (∀ c : Dev Cert.AdamFfnIn.nD,
      r.2.mem ((c.tc : Thread Cert.AdamFfnIn.nD Cert.AdamFfnIn.τ).loc Cert.AdamFfnIn.main_arg0) = m ((c.tc : Thread Cert.AdamFfnIn.nD Cert.AdamFfnIn.τ).loc Cert.AdamFfnIn.main_arg0)
      ∧ r.2.mem ((c.tc : Thread Cert.AdamFfnIn.nD Cert.AdamFfnIn.τ).loc Cert.AdamFfnIn.main_arg1) = m ((c.tc : Thread Cert.AdamFfnIn.nD Cert.AdamFfnIn.τ).loc Cert.AdamFfnIn.main_arg1)
      ∧ r.2.mem ((c.tc : Thread Cert.AdamFfnIn.nD Cert.AdamFfnIn.τ).loc Cert.AdamFfnIn.main_arg2) = m ((c.tc : Thread Cert.AdamFfnIn.nD Cert.AdamFfnIn.τ).loc Cert.AdamFfnIn.main_arg2)
      ∧ r.2.mem ((c.tc : Thread Cert.AdamFfnIn.nD Cert.AdamFfnIn.τ).loc Cert.AdamFfnIn.main_arg3) = m ((c.tc : Thread Cert.AdamFfnIn.nD Cert.AdamFfnIn.τ).loc Cert.AdamFfnIn.main_arg3))
      ∧ r.2.sem = fun _ => 0)

def quiescent_AdamFfnInIdeal [hAdamFfnInIdeal : Cert.AdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg), Pre_AdamFfnInIdeal m →
    θ_run (Cert.AdamFfnInIdeal.defs (F := Ideal)) (onTc (τ := Cert.AdamFfnInIdeal.τ) (Cert.AdamFfnInIdeal.main (F := Ideal))) ⟨m, fun _ => 0, g⟩ (fun r => (∀ c : Dev Cert.AdamFfnInIdeal.nD,
      r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
      ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
      ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
      ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ r.2.sem = fun _ => 0)

def quiescent_AdamFfnInRefIdeal [hAdamFfnInRefIdeal : Cert.AdamFfnInRefIdeal.Facts] : Prop :=
  ∀ (m : (ℓ : Loc Cert.AdamFfnInRefIdeal.nD Cert.AdamFfnInRefIdeal.τ Cert.AdamFfnInRefIdeal.sig) → Buf (Elt Ideal) ℓ) (g : Dev Cert.AdamFfnInRefIdeal.nD → PrngReg), Pre_AdamFfnInRefIdeal m →
    θ_run (Cert.AdamFfnInRefIdeal.defs (F := Ideal)) (onTc (τ := Cert.AdamFfnInRefIdeal.τ) (Cert.AdamFfnInRefIdeal.main (F := Ideal))) ⟨m, fun _ => 0, g⟩ (fun r => (∀ c : Dev Cert.AdamFfnInRefIdeal.nD,
      r.2.mem ((c.tc : Thread Cert.AdamFfnInRefIdeal.nD Cert.AdamFfnInRefIdeal.τ).loc Cert.AdamFfnInRefIdeal.main_arg0) = m ((c.tc : Thread Cert.AdamFfnInRefIdeal.nD Cert.AdamFfnInRefIdeal.τ).loc Cert.AdamFfnInRefIdeal.main_arg0)
      ∧ r.2.mem ((c.tc : Thread Cert.AdamFfnInRefIdeal.nD Cert.AdamFfnInRefIdeal.τ).loc Cert.AdamFfnInRefIdeal.main_arg1) = m ((c.tc : Thread Cert.AdamFfnInRefIdeal.nD Cert.AdamFfnInRefIdeal.τ).loc Cert.AdamFfnInRefIdeal.main_arg1)
      ∧ r.2.mem ((c.tc : Thread Cert.AdamFfnInRefIdeal.nD Cert.AdamFfnInRefIdeal.τ).loc Cert.AdamFfnInRefIdeal.main_arg2) = m ((c.tc : Thread Cert.AdamFfnInRefIdeal.nD Cert.AdamFfnInRefIdeal.τ).loc Cert.AdamFfnInRefIdeal.main_arg2)
      ∧ r.2.mem ((c.tc : Thread Cert.AdamFfnInRefIdeal.nD Cert.AdamFfnInRefIdeal.τ).loc Cert.AdamFfnInRefIdeal.main_arg3) = m ((c.tc : Thread Cert.AdamFfnInRefIdeal.nD Cert.AdamFfnInRefIdeal.τ).loc Cert.AdamFfnInRefIdeal.main_arg3))
      ∧ r.2.sem = fun _ => 0)

def quiescent_AdamLru [hAdamLru : Cert.AdamLru.Facts] : Prop :=
  ∀ (m : (ℓ : Loc Cert.AdamLru.nD Cert.AdamLru.τ Cert.AdamLru.sig) → Buf (Elt Bits) ℓ) (g : Dev Cert.AdamLru.nD → PrngReg), Pre_AdamLru m →
    θ_run (Cert.AdamLru.defs (F := Bits)) (onTc (τ := Cert.AdamLru.τ) (Cert.AdamLru.main (F := Bits))) ⟨m, fun _ => 0, g⟩ (fun r => (∀ c : Dev Cert.AdamLru.nD,
      r.2.mem ((c.tc : Thread Cert.AdamLru.nD Cert.AdamLru.τ).loc Cert.AdamLru.main_arg0) = m ((c.tc : Thread Cert.AdamLru.nD Cert.AdamLru.τ).loc Cert.AdamLru.main_arg0)
      ∧ r.2.mem ((c.tc : Thread Cert.AdamLru.nD Cert.AdamLru.τ).loc Cert.AdamLru.main_arg1) = m ((c.tc : Thread Cert.AdamLru.nD Cert.AdamLru.τ).loc Cert.AdamLru.main_arg1)
      ∧ r.2.mem ((c.tc : Thread Cert.AdamLru.nD Cert.AdamLru.τ).loc Cert.AdamLru.main_arg2) = m ((c.tc : Thread Cert.AdamLru.nD Cert.AdamLru.τ).loc Cert.AdamLru.main_arg2)
      ∧ r.2.mem ((c.tc : Thread Cert.AdamLru.nD Cert.AdamLru.τ).loc Cert.AdamLru.main_arg3) = m ((c.tc : Thread Cert.AdamLru.nD Cert.AdamLru.τ).loc Cert.AdamLru.main_arg3))
      ∧ r.2.sem = fun _ => 0)

def quiescent_AdamLruIdeal [hAdamLruIdeal : Cert.AdamLruIdeal.Facts] : Prop :=
  ∀ (m : (ℓ : Loc Cert.AdamLruIdeal.nD Cert.AdamLruIdeal.τ Cert.AdamLruIdeal.sig) → Buf (Elt Ideal) ℓ) (g : Dev Cert.AdamLruIdeal.nD → PrngReg), Pre_AdamLruIdeal m →
    θ_run (Cert.AdamLruIdeal.defs (F := Ideal)) (onTc (τ := Cert.AdamLruIdeal.τ) (Cert.AdamLruIdeal.main (F := Ideal))) ⟨m, fun _ => 0, g⟩ (fun r => (∀ c : Dev Cert.AdamLruIdeal.nD,
      r.2.mem ((c.tc : Thread Cert.AdamLruIdeal.nD Cert.AdamLruIdeal.τ).loc Cert.AdamLruIdeal.main_arg0) = m ((c.tc : Thread Cert.AdamLruIdeal.nD Cert.AdamLruIdeal.τ).loc Cert.AdamLruIdeal.main_arg0)
      ∧ r.2.mem ((c.tc : Thread Cert.AdamLruIdeal.nD Cert.AdamLruIdeal.τ).loc Cert.AdamLruIdeal.main_arg1) = m ((c.tc : Thread Cert.AdamLruIdeal.nD Cert.AdamLruIdeal.τ).loc Cert.AdamLruIdeal.main_arg1)
      ∧ r.2.mem ((c.tc : Thread Cert.AdamLruIdeal.nD Cert.AdamLruIdeal.τ).loc Cert.AdamLruIdeal.main_arg2) = m ((c.tc : Thread Cert.AdamLruIdeal.nD Cert.AdamLruIdeal.τ).loc Cert.AdamLruIdeal.main_arg2)
      ∧ r.2.mem ((c.tc : Thread Cert.AdamLruIdeal.nD Cert.AdamLruIdeal.τ).loc Cert.AdamLruIdeal.main_arg3) = m ((c.tc : Thread Cert.AdamLruIdeal.nD Cert.AdamLruIdeal.τ).loc Cert.AdamLruIdeal.main_arg3))
      ∧ r.2.sem = fun _ => 0)

def quiescent_AdamLruRefIdeal [hAdamLruRefIdeal : Cert.AdamLruRefIdeal.Facts] : Prop :=
  ∀ (m : (ℓ : Loc Cert.AdamLruRefIdeal.nD Cert.AdamLruRefIdeal.τ Cert.AdamLruRefIdeal.sig) → Buf (Elt Ideal) ℓ) (g : Dev Cert.AdamLruRefIdeal.nD → PrngReg), Pre_AdamLruRefIdeal m →
    θ_run (Cert.AdamLruRefIdeal.defs (F := Ideal)) (onTc (τ := Cert.AdamLruRefIdeal.τ) (Cert.AdamLruRefIdeal.main (F := Ideal))) ⟨m, fun _ => 0, g⟩ (fun r => (∀ c : Dev Cert.AdamLruRefIdeal.nD,
      r.2.mem ((c.tc : Thread Cert.AdamLruRefIdeal.nD Cert.AdamLruRefIdeal.τ).loc Cert.AdamLruRefIdeal.main_arg0) = m ((c.tc : Thread Cert.AdamLruRefIdeal.nD Cert.AdamLruRefIdeal.τ).loc Cert.AdamLruRefIdeal.main_arg0)
      ∧ r.2.mem ((c.tc : Thread Cert.AdamLruRefIdeal.nD Cert.AdamLruRefIdeal.τ).loc Cert.AdamLruRefIdeal.main_arg1) = m ((c.tc : Thread Cert.AdamLruRefIdeal.nD Cert.AdamLruRefIdeal.τ).loc Cert.AdamLruRefIdeal.main_arg1)
      ∧ r.2.mem ((c.tc : Thread Cert.AdamLruRefIdeal.nD Cert.AdamLruRefIdeal.τ).loc Cert.AdamLruRefIdeal.main_arg2) = m ((c.tc : Thread Cert.AdamLruRefIdeal.nD Cert.AdamLruRefIdeal.τ).loc Cert.AdamLruRefIdeal.main_arg2)
      ∧ r.2.mem ((c.tc : Thread Cert.AdamLruRefIdeal.nD Cert.AdamLruRefIdeal.τ).loc Cert.AdamLruRefIdeal.main_arg3) = m ((c.tc : Thread Cert.AdamLruRefIdeal.nD Cert.AdamLruRefIdeal.τ).loc Cert.AdamLruRefIdeal.main_arg3))
      ∧ r.2.sem = fun _ => 0)

def quiescent_AdamFfnOut [hAdamFfnOut : Cert.AdamFfnOut.Facts] : Prop :=
  ∀ (m : (ℓ : Loc Cert.AdamFfnOut.nD Cert.AdamFfnOut.τ Cert.AdamFfnOut.sig) → Buf (Elt Bits) ℓ) (g : Dev Cert.AdamFfnOut.nD → PrngReg), Pre_AdamFfnOut m →
    θ_run (Cert.AdamFfnOut.defs (F := Bits)) (onTc (τ := Cert.AdamFfnOut.τ) (Cert.AdamFfnOut.main (F := Bits))) ⟨m, fun _ => 0, g⟩ (fun r => (∀ c : Dev Cert.AdamFfnOut.nD,
      r.2.mem ((c.tc : Thread Cert.AdamFfnOut.nD Cert.AdamFfnOut.τ).loc Cert.AdamFfnOut.main_arg0) = m ((c.tc : Thread Cert.AdamFfnOut.nD Cert.AdamFfnOut.τ).loc Cert.AdamFfnOut.main_arg0)
      ∧ r.2.mem ((c.tc : Thread Cert.AdamFfnOut.nD Cert.AdamFfnOut.τ).loc Cert.AdamFfnOut.main_arg1) = m ((c.tc : Thread Cert.AdamFfnOut.nD Cert.AdamFfnOut.τ).loc Cert.AdamFfnOut.main_arg1)
      ∧ r.2.mem ((c.tc : Thread Cert.AdamFfnOut.nD Cert.AdamFfnOut.τ).loc Cert.AdamFfnOut.main_arg2) = m ((c.tc : Thread Cert.AdamFfnOut.nD Cert.AdamFfnOut.τ).loc Cert.AdamFfnOut.main_arg2)
      ∧ r.2.mem ((c.tc : Thread Cert.AdamFfnOut.nD Cert.AdamFfnOut.τ).loc Cert.AdamFfnOut.main_arg3) = m ((c.tc : Thread Cert.AdamFfnOut.nD Cert.AdamFfnOut.τ).loc Cert.AdamFfnOut.main_arg3))
      ∧ r.2.sem = fun _ => 0)

def quiescent_AdamFfnOutIdeal [hAdamFfnOutIdeal : Cert.AdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg), Pre_AdamFfnOutIdeal m →
    θ_run (Cert.AdamFfnOutIdeal.defs (F := Ideal)) (onTc (τ := Cert.AdamFfnOutIdeal.τ) (Cert.AdamFfnOutIdeal.main (F := Ideal))) ⟨m, fun _ => 0, g⟩ (fun r => (∀ c : Dev Cert.AdamFfnOutIdeal.nD,
      r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
      ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
      ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
      ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ r.2.sem = fun _ => 0)

def quiescent_AdamFfnOutRefIdeal [hAdamFfnOutRefIdeal : Cert.AdamFfnOutRefIdeal.Facts] : Prop :=
  ∀ (m : (ℓ : Loc Cert.AdamFfnOutRefIdeal.nD Cert.AdamFfnOutRefIdeal.τ Cert.AdamFfnOutRefIdeal.sig) → Buf (Elt Ideal) ℓ) (g : Dev Cert.AdamFfnOutRefIdeal.nD → PrngReg), Pre_AdamFfnOutRefIdeal m →
    θ_run (Cert.AdamFfnOutRefIdeal.defs (F := Ideal)) (onTc (τ := Cert.AdamFfnOutRefIdeal.τ) (Cert.AdamFfnOutRefIdeal.main (F := Ideal))) ⟨m, fun _ => 0, g⟩ (fun r => (∀ c : Dev Cert.AdamFfnOutRefIdeal.nD,
      r.2.mem ((c.tc : Thread Cert.AdamFfnOutRefIdeal.nD Cert.AdamFfnOutRefIdeal.τ).loc Cert.AdamFfnOutRefIdeal.main_arg0) = m ((c.tc : Thread Cert.AdamFfnOutRefIdeal.nD Cert.AdamFfnOutRefIdeal.τ).loc Cert.AdamFfnOutRefIdeal.main_arg0)
      ∧ r.2.mem ((c.tc : Thread Cert.AdamFfnOutRefIdeal.nD Cert.AdamFfnOutRefIdeal.τ).loc Cert.AdamFfnOutRefIdeal.main_arg1) = m ((c.tc : Thread Cert.AdamFfnOutRefIdeal.nD Cert.AdamFfnOutRefIdeal.τ).loc Cert.AdamFfnOutRefIdeal.main_arg1)
      ∧ r.2.mem ((c.tc : Thread Cert.AdamFfnOutRefIdeal.nD Cert.AdamFfnOutRefIdeal.τ).loc Cert.AdamFfnOutRefIdeal.main_arg2) = m ((c.tc : Thread Cert.AdamFfnOutRefIdeal.nD Cert.AdamFfnOutRefIdeal.τ).loc Cert.AdamFfnOutRefIdeal.main_arg2)
      ∧ r.2.mem ((c.tc : Thread Cert.AdamFfnOutRefIdeal.nD Cert.AdamFfnOutRefIdeal.τ).loc Cert.AdamFfnOutRefIdeal.main_arg3) = m ((c.tc : Thread Cert.AdamFfnOutRefIdeal.nD Cert.AdamFfnOutRefIdeal.τ).loc Cert.AdamFfnOutRefIdeal.main_arg3))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3))
      ∧ r.2.sem = fun _ => 0)

def quiescent_AdamPle [hAdamPle : Cert.AdamPle.Facts] : Prop :=
  ∀ (m : (ℓ : Loc Cert.AdamPle.nD Cert.AdamPle.τ Cert.AdamPle.sig) → Buf (Elt Bits) ℓ) (g : Dev Cert.AdamPle.nD → PrngReg), Pre_AdamPle m →
    θ_run (Cert.AdamPle.defs (F := Bits)) (onTc (τ := Cert.AdamPle.τ) (Cert.AdamPle.main (F := Bits))) ⟨m, fun _ => 0, g⟩ (fun r => (∀ c : Dev Cert.AdamPle.nD,
      r.2.mem ((c.tc : Thread Cert.AdamPle.nD Cert.AdamPle.τ).loc Cert.AdamPle.main_arg0) = m ((c.tc : Thread Cert.AdamPle.nD Cert.AdamPle.τ).loc Cert.AdamPle.main_arg0)
      ∧ r.2.mem ((c.tc : Thread Cert.AdamPle.nD Cert.AdamPle.τ).loc Cert.AdamPle.main_arg1) = m ((c.tc : Thread Cert.AdamPle.nD Cert.AdamPle.τ).loc Cert.AdamPle.main_arg1)
      ∧ r.2.mem ((c.tc : Thread Cert.AdamPle.nD Cert.AdamPle.τ).loc Cert.AdamPle.main_arg2) = m ((c.tc : Thread Cert.AdamPle.nD Cert.AdamPle.τ).loc Cert.AdamPle.main_arg2)
      ∧ r.2.mem ((c.tc : Thread Cert.AdamPle.nD Cert.AdamPle.τ).loc Cert.AdamPle.main_arg3) = m ((c.tc : Thread Cert.AdamPle.nD Cert.AdamPle.τ).loc Cert.AdamPle.main_arg3))
      ∧ r.2.sem = fun _ => 0)

def quiescent_AdamPleIdeal [hAdamPleIdeal : Cert.AdamPleIdeal.Facts] : Prop :=
  ∀ (m : (ℓ : Loc Cert.AdamPleIdeal.nD Cert.AdamPleIdeal.τ Cert.AdamPleIdeal.sig) → Buf (Elt Ideal) ℓ) (g : Dev Cert.AdamPleIdeal.nD → PrngReg), Pre_AdamPleIdeal m →
    θ_run (Cert.AdamPleIdeal.defs (F := Ideal)) (onTc (τ := Cert.AdamPleIdeal.τ) (Cert.AdamPleIdeal.main (F := Ideal))) ⟨m, fun _ => 0, g⟩ (fun r => (∀ c : Dev Cert.AdamPleIdeal.nD,
      r.2.mem ((c.tc : Thread Cert.AdamPleIdeal.nD Cert.AdamPleIdeal.τ).loc Cert.AdamPleIdeal.main_arg0) = m ((c.tc : Thread Cert.AdamPleIdeal.nD Cert.AdamPleIdeal.τ).loc Cert.AdamPleIdeal.main_arg0)
      ∧ r.2.mem ((c.tc : Thread Cert.AdamPleIdeal.nD Cert.AdamPleIdeal.τ).loc Cert.AdamPleIdeal.main_arg1) = m ((c.tc : Thread Cert.AdamPleIdeal.nD Cert.AdamPleIdeal.τ).loc Cert.AdamPleIdeal.main_arg1)
      ∧ r.2.mem ((c.tc : Thread Cert.AdamPleIdeal.nD Cert.AdamPleIdeal.τ).loc Cert.AdamPleIdeal.main_arg2) = m ((c.tc : Thread Cert.AdamPleIdeal.nD Cert.AdamPleIdeal.τ).loc Cert.AdamPleIdeal.main_arg2)
      ∧ r.2.mem ((c.tc : Thread Cert.AdamPleIdeal.nD Cert.AdamPleIdeal.τ).loc Cert.AdamPleIdeal.main_arg3) = m ((c.tc : Thread Cert.AdamPleIdeal.nD Cert.AdamPleIdeal.τ).loc Cert.AdamPleIdeal.main_arg3))
      ∧ r.2.sem = fun _ => 0)

def quiescent_AdamPleRefIdeal [hAdamPleRefIdeal : Cert.AdamPleRefIdeal.Facts] : Prop :=
  ∀ (m : (ℓ : Loc Cert.AdamPleRefIdeal.nD Cert.AdamPleRefIdeal.τ Cert.AdamPleRefIdeal.sig) → Buf (Elt Ideal) ℓ) (g : Dev Cert.AdamPleRefIdeal.nD → PrngReg), Pre_AdamPleRefIdeal m →
    θ_run (Cert.AdamPleRefIdeal.defs (F := Ideal)) (onTc (τ := Cert.AdamPleRefIdeal.τ) (Cert.AdamPleRefIdeal.main (F := Ideal))) ⟨m, fun _ => 0, g⟩ (fun r => (∀ c : Dev Cert.AdamPleRefIdeal.nD,
      r.2.mem ((c.tc : Thread Cert.AdamPleRefIdeal.nD Cert.AdamPleRefIdeal.τ).loc Cert.AdamPleRefIdeal.main_arg0) = m ((c.tc : Thread Cert.AdamPleRefIdeal.nD Cert.AdamPleRefIdeal.τ).loc Cert.AdamPleRefIdeal.main_arg0)
      ∧ r.2.mem ((c.tc : Thread Cert.AdamPleRefIdeal.nD Cert.AdamPleRefIdeal.τ).loc Cert.AdamPleRefIdeal.main_arg1) = m ((c.tc : Thread Cert.AdamPleRefIdeal.nD Cert.AdamPleRefIdeal.τ).loc Cert.AdamPleRefIdeal.main_arg1)
      ∧ r.2.mem ((c.tc : Thread Cert.AdamPleRefIdeal.nD Cert.AdamPleRefIdeal.τ).loc Cert.AdamPleRefIdeal.main_arg2) = m ((c.tc : Thread Cert.AdamPleRefIdeal.nD Cert.AdamPleRefIdeal.τ).loc Cert.AdamPleRefIdeal.main_arg2)
      ∧ r.2.mem ((c.tc : Thread Cert.AdamPleRefIdeal.nD Cert.AdamPleRefIdeal.τ).loc Cert.AdamPleRefIdeal.main_arg3) = m ((c.tc : Thread Cert.AdamPleRefIdeal.nD Cert.AdamPleRefIdeal.τ).loc Cert.AdamPleRefIdeal.main_arg3))
      ∧ r.2.sem = fun _ => 0)

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)
      ∧ m' ((c.tc : Thread Cert.FfnInRefIdeal.nD Cert.FfnInRefIdeal.τ).loc Cert.FfnInRefIdeal.main_arg6) = m ((c.tc : Thread Cert.FfnInIdeal.nD Cert.FfnInIdeal.τ).loc Cert.FfnInIdeal.main_arg6)
      ∧ m' ((c.tc : Thread Cert.FfnInRefIdeal.nD Cert.FfnInRefIdeal.τ).loc Cert.FfnInRefIdeal.main_arg7) = m ((c.tc : Thread Cert.FfnInIdeal.nD Cert.FfnInIdeal.τ).loc Cert.FfnInIdeal.main_arg7)) →
    ∃ (v0 : (c : Dev Cert.FfnInIdeal.nD) → Buf (Elt Ideal) ((c.tc : Thread Cert.FfnInIdeal.nD Cert.FfnInIdeal.τ).loc Cert.FfnInIdeal.main_v16_0)) (v1 : (c : Dev Cert.FfnInIdeal.nD) → Buf (Elt Ideal) ((c.tc : Thread Cert.FfnInIdeal.nD Cert.FfnInIdeal.τ).loc Cert.FfnInIdeal.main_v16_1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v16_0) = v0 c
          ∧ r.2.mem ((c.tc : Thread Cert.FfnInIdeal.nD Cert.FfnInIdeal.τ).loc Cert.FfnInIdeal.main_v16_1) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
          ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6)
          ∧ r.2.mem ((c.tc : Thread Cert.FfnInIdeal.nD Cert.FfnInIdeal.τ).loc Cert.FfnInIdeal.main_arg7) = m ((c.tc : Thread Cert.FfnInIdeal.nD Cert.FfnInIdeal.τ).loc Cert.FfnInIdeal.main_arg7))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v41) = v0 c
          ∧ r.2.mem ((c.tc : Thread Cert.FfnInRefIdeal.nD Cert.FfnInRefIdeal.τ).loc Cert.FfnInRefIdeal.main_v42) = v1 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5)
          ∧ r.2.mem ((c.tc : Thread Cert.FfnInRefIdeal.nD Cert.FfnInRefIdeal.τ).loc Cert.FfnInRefIdeal.main_arg6) = m' ((c.tc : Thread Cert.FfnInRefIdeal.nD Cert.FfnInRefIdeal.τ).loc Cert.FfnInRefIdeal.main_arg6)
          ∧ r.2.mem ((c.tc : Thread Cert.FfnInRefIdeal.nD Cert.FfnInRefIdeal.τ).loc Cert.FfnInRefIdeal.main_arg7) = m' ((c.tc : Thread Cert.FfnInRefIdeal.nD Cert.FfnInRefIdeal.τ).loc Cert.FfnInRefIdeal.main_arg7))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)) →
    ∃ (v0 : (c : Dev Cert.InprojIdeal.nD) → Buf (Elt Ideal) ((c.tc : Thread Cert.InprojIdeal.nD Cert.InprojIdeal.τ).loc Cert.InprojIdeal.main_v6_0)) (v1 : (c : Dev Cert.InprojIdeal.nD) → Buf (Elt Ideal) ((c.tc : Thread Cert.InprojIdeal.nD Cert.InprojIdeal.τ).loc Cert.InprojIdeal.main_v6_1)) (v2 : (c : Dev Cert.InprojIdeal.nD) → Buf (Elt Ideal) ((c.tc : Thread Cert.InprojIdeal.nD Cert.InprojIdeal.τ).loc Cert.InprojIdeal.main_v6_2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v6_0) = v0 c
          ∧ r.2.mem ((c.tc : Thread Cert.InprojIdeal.nD Cert.InprojIdeal.τ).loc Cert.InprojIdeal.main_v6_1) = v1 c
          ∧ r.2.mem ((c.tc : Thread Cert.InprojIdeal.nD Cert.InprojIdeal.τ).loc Cert.InprojIdeal.main_v6_2) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v48) = v0 c
          ∧ r.2.mem ((c.tc : Thread Cert.InprojRefIdeal.nD Cert.InprojRefIdeal.τ).loc Cert.InprojRefIdeal.main_v49) = v1 c
          ∧ r.2.mem ((c.tc : Thread Cert.InprojRefIdeal.nD Cert.InprojRefIdeal.τ).loc Cert.InprojRefIdeal.main_v26) = v2 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6))

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)
      ∧ m' ((c.tc : Thread Cert.FwdRefIdeal.nD Cert.FwdRefIdeal.τ).loc Cert.FwdRefIdeal.main_arg5) = m ((c.tc : Thread Cert.FwdIdeal.nD Cert.FwdIdeal.τ).loc Cert.FwdIdeal.main_arg5)) →
    ∃ (v0 : (c : Dev Cert.FwdIdeal.nD) → Buf (Elt Ideal) ((c.tc : Thread Cert.FwdIdeal.nD Cert.FwdIdeal.τ).loc Cert.FwdIdeal.main_v16_0)) (v1 : (c : Dev Cert.FwdIdeal.nD) → Buf (Elt Ideal) ((c.tc : Thread Cert.FwdIdeal.nD Cert.FwdIdeal.τ).loc Cert.FwdIdeal.main_v16_1)) (v2 : (c : Dev Cert.FwdIdeal.nD) → Buf (Elt Ideal) ((c.tc : Thread Cert.FwdIdeal.nD Cert.FwdIdeal.τ).loc Cert.FwdIdeal.main_v16_2)) (v3 : (c : Dev Cert.FwdIdeal.nD) → Buf (Elt Ideal) ((c.tc : Thread Cert.FwdIdeal.nD Cert.FwdIdeal.τ).loc Cert.FwdIdeal.main_v16_3)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v16_0) = v0 c
          ∧ r.2.mem ((c.tc : Thread Cert.FwdIdeal.nD Cert.FwdIdeal.τ).loc Cert.FwdIdeal.main_v16_1) = v1 c
          ∧ r.2.mem ((c.tc : Thread Cert.FwdIdeal.nD Cert.FwdIdeal.τ).loc Cert.FwdIdeal.main_v16_2) = v2 c
          ∧ r.2.mem ((c.tc : Thread Cert.FwdIdeal.nD Cert.FwdIdeal.τ).loc Cert.FwdIdeal.main_v16_3) = v3 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v23) = v0 c
          ∧ r.2.mem ((c.tc : Thread Cert.FwdRefIdeal.nD Cert.FwdRefIdeal.τ).loc Cert.FwdRefIdeal.main_v24) = v1 c
          ∧ r.2.mem ((c.tc : Thread Cert.FwdRefIdeal.nD Cert.FwdRefIdeal.τ).loc Cert.FwdRefIdeal.main_v25) = v2 c
          ∧ r.2.mem ((c.tc : Thread Cert.FwdRefIdeal.nD Cert.FwdRefIdeal.τ).loc Cert.FwdRefIdeal.main_v22) = v3 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4)
          ∧ r.2.mem ((c.tc : Thread Cert.FwdRefIdeal.nD Cert.FwdRefIdeal.τ).loc Cert.FwdRefIdeal.main_arg5) = m' ((c.tc : Thread Cert.FwdRefIdeal.nD Cert.FwdRefIdeal.τ).loc Cert.FwdRefIdeal.main_arg5))

def preserves_Hidden_HiddenIdeal : Prop :=
  True

def algebraic_HiddenIdeal_HiddenRefIdeal_pre_finite [hHiddenIdeal : Cert.HiddenIdeal.Facts] [hHiddenRefIdeal : Cert.HiddenRefIdeal.Facts] [hPre_finite : Cert.Pre_finite.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenRefIdeal.nD Cert.HiddenRefIdeal.τ Cert.HiddenRefIdeal.sig) → Buf (Elt Ideal) ℓ) (g' : Dev Cert.HiddenRefIdeal.nD → PrngReg), Pre_HiddenIdeal_finite m →
    (∀ c : Dev Cert.HiddenIdeal.nD,
      m' ((c.tc : Thread Cert.HiddenRefIdeal.nD Cert.HiddenRefIdeal.τ).loc Cert.HiddenRefIdeal.main_arg0) = m ((c.tc : Thread Cert.HiddenIdeal.nD Cert.HiddenIdeal.τ).loc Cert.HiddenIdeal.main_arg0)
      ∧ m' ((c.tc : Thread Cert.HiddenRefIdeal.nD Cert.HiddenRefIdeal.τ).loc Cert.HiddenRefIdeal.main_arg1) = m ((c.tc : Thread Cert.HiddenIdeal.nD Cert.HiddenIdeal.τ).loc Cert.HiddenIdeal.main_arg1)
      ∧ m' ((c.tc : Thread Cert.HiddenRefIdeal.nD Cert.HiddenRefIdeal.τ).loc Cert.HiddenRefIdeal.main_arg2) = m ((c.tc : Thread Cert.HiddenIdeal.nD Cert.HiddenIdeal.τ).loc Cert.HiddenIdeal.main_arg2)
      ∧ m' ((c.tc : Thread Cert.HiddenRefIdeal.nD Cert.HiddenRefIdeal.τ).loc Cert.HiddenRefIdeal.main_arg3) = m ((c.tc : Thread Cert.HiddenIdeal.nD Cert.HiddenIdeal.τ).loc Cert.HiddenIdeal.main_arg3)
      ∧ m' ((c.tc : Thread Cert.HiddenRefIdeal.nD Cert.HiddenRefIdeal.τ).loc Cert.HiddenRefIdeal.main_arg4) = m ((c.tc : Thread Cert.HiddenIdeal.nD Cert.HiddenIdeal.τ).loc Cert.HiddenIdeal.main_arg4)
      ∧ m' ((c.tc : Thread Cert.HiddenRefIdeal.nD Cert.HiddenRefIdeal.τ).loc Cert.HiddenRefIdeal.main_arg5) = m ((c.tc : Thread Cert.HiddenIdeal.nD Cert.HiddenIdeal.τ).loc Cert.HiddenIdeal.main_arg5)
      ∧ m' ((c.tc : Thread Cert.HiddenRefIdeal.nD Cert.HiddenRefIdeal.τ).loc Cert.HiddenRefIdeal.main_arg6) = m ((c.tc : Thread Cert.HiddenIdeal.nD Cert.HiddenIdeal.τ).loc Cert.HiddenIdeal.main_arg6)) →
    ∃ (v0 : (c : Dev Cert.HiddenIdeal.nD) → Buf (Elt Ideal) ((c.tc : Thread Cert.HiddenIdeal.nD Cert.HiddenIdeal.τ).loc Cert.HiddenIdeal.main_v36_0)) (v1 : (c : Dev Cert.HiddenIdeal.nD) → Buf (Elt Ideal) ((c.tc : Thread Cert.HiddenIdeal.nD Cert.HiddenIdeal.τ).loc Cert.HiddenIdeal.main_v36_1)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v36_0) = v0 c
          ∧ r.2.mem ((c.tc : Thread Cert.HiddenIdeal.nD Cert.HiddenIdeal.τ).loc Cert.HiddenIdeal.main_v36_1) = v1 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
          ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3)
          ∧ r.2.mem ((c.tc : Thread Cert.HiddenIdeal.nD Cert.HiddenIdeal.τ).loc Cert.HiddenIdeal.main_arg4) = m ((c.tc : Thread Cert.HiddenIdeal.nD Cert.HiddenIdeal.τ).loc Cert.HiddenIdeal.main_arg4)
          ∧ r.2.mem ((c.tc : Thread Cert.HiddenIdeal.nD Cert.HiddenIdeal.τ).loc Cert.HiddenIdeal.main_arg5) = m ((c.tc : Thread Cert.HiddenIdeal.nD Cert.HiddenIdeal.τ).loc Cert.HiddenIdeal.main_arg5)
          ∧ r.2.mem ((c.tc : Thread Cert.HiddenIdeal.nD Cert.HiddenIdeal.τ).loc Cert.HiddenIdeal.main_arg6) = m ((c.tc : Thread Cert.HiddenIdeal.nD Cert.HiddenIdeal.τ).loc Cert.HiddenIdeal.main_arg6))
      ∧ θ_run (Cert.HiddenRefIdeal.defs (F := Ideal)) (onTc (τ := Cert.HiddenRefIdeal.τ) (Cert.HiddenRefIdeal.main (F := Ideal))) ⟨m', fun _ => 0, g'⟩ (fun r => ∀ c : Dev Cert.HiddenRefIdeal.nD,
          r.2.mem ((c.tc : Thread Cert.HiddenRefIdeal.nD Cert.HiddenRefIdeal.τ).loc Cert.HiddenRefIdeal.main_v29) = v0 c
          ∧ r.2.mem ((c.tc : Thread Cert.HiddenRefIdeal.nD Cert.HiddenRefIdeal.τ).loc Cert.HiddenRefIdeal.main_v23) = v1 c
          ∧ r.2.mem ((c.tc : Thread Cert.HiddenRefIdeal.nD Cert.HiddenRefIdeal.τ).loc Cert.HiddenRefIdeal.main_arg0) = m' ((c.tc : Thread Cert.HiddenRefIdeal.nD Cert.HiddenRefIdeal.τ).loc Cert.HiddenRefIdeal.main_arg0)
          ∧ r.2.mem ((c.tc : Thread Cert.HiddenRefIdeal.nD Cert.HiddenRefIdeal.τ).loc Cert.HiddenRefIdeal.main_arg1) = m' ((c.tc : Thread Cert.HiddenRefIdeal.nD Cert.HiddenRefIdeal.τ).loc Cert.HiddenRefIdeal.main_arg1)
          ∧ r.2.mem ((c.tc : Thread Cert.HiddenRefIdeal.nD Cert.HiddenRefIdeal.τ).loc Cert.HiddenRefIdeal.main_arg2) = m' ((c.tc : Thread Cert.HiddenRefIdeal.nD Cert.HiddenRefIdeal.τ).loc Cert.HiddenRefIdeal.main_arg2)
          ∧ r.2.mem ((c.tc : Thread Cert.HiddenRefIdeal.nD Cert.HiddenRefIdeal.τ).loc Cert.HiddenRefIdeal.main_arg3) = m' ((c.tc : Thread Cert.HiddenRefIdeal.nD Cert.HiddenRefIdeal.τ).loc Cert.HiddenRefIdeal.main_arg3)
          ∧ r.2.mem ((c.tc : Thread Cert.HiddenRefIdeal.nD Cert.HiddenRefIdeal.τ).loc Cert.HiddenRefIdeal.main_arg4) = m' ((c.tc : Thread Cert.HiddenRefIdeal.nD Cert.HiddenRefIdeal.τ).loc Cert.HiddenRefIdeal.main_arg4)
          ∧ r.2.mem ((c.tc : Thread Cert.HiddenRefIdeal.nD Cert.HiddenRefIdeal.τ).loc Cert.HiddenRefIdeal.main_arg5) = m' ((c.tc : Thread Cert.HiddenRefIdeal.nD Cert.HiddenRefIdeal.τ).loc Cert.HiddenRefIdeal.main_arg5)
          ∧ r.2.mem ((c.tc : Thread Cert.HiddenRefIdeal.nD Cert.HiddenRefIdeal.τ).loc Cert.HiddenRefIdeal.main_arg6) = m' ((c.tc : Thread Cert.HiddenRefIdeal.nD Cert.HiddenRefIdeal.τ).loc Cert.HiddenRefIdeal.main_arg6))

def preserves_LruProj_LruProjIdeal : Prop :=
  True

def algebraic_LruProjIdeal_LruProjRefIdeal [hLruProjIdeal : Cert.LruProjIdeal.Facts] [hLruProjRefIdeal : Cert.LruProjRefIdeal.Facts] : Prop :=
  ∀ (m : (ℓ : Loc Cert.LruProjIdeal.nD Cert.LruProjIdeal.τ Cert.LruProjIdeal.sig) → Buf (Elt Ideal) ℓ) (g : Dev Cert.LruProjIdeal.nD → PrngReg)
    (m' : (ℓ : Loc Cert.LruProjRefIdeal.nD Cert.LruProjRefIdeal.τ Cert.LruProjRefIdeal.sig) → Buf (Elt Ideal) ℓ) (g' : Dev Cert.LruProjRefIdeal.nD → PrngReg), Pre_LruProjIdeal m →
    (∀ c : Dev Cert.LruProjIdeal.nD,
      m' ((c.tc : Thread Cert.LruProjRefIdeal.nD Cert.LruProjRefIdeal.τ).loc Cert.LruProjRefIdeal.main_arg0) = m ((c.tc : Thread Cert.LruProjIdeal.nD Cert.LruProjIdeal.τ).loc Cert.LruProjIdeal.main_arg0)
      ∧ m' ((c.tc : Thread Cert.LruProjRefIdeal.nD Cert.LruProjRefIdeal.τ).loc Cert.LruProjRefIdeal.main_arg1) = m ((c.tc : Thread Cert.LruProjIdeal.nD Cert.LruProjIdeal.τ).loc Cert.LruProjIdeal.main_arg1)) →
    ∃ (v0 : (c : Dev Cert.LruProjIdeal.nD) → Buf (Elt Ideal) ((c.tc : Thread Cert.LruProjIdeal.nD Cert.LruProjIdeal.τ).loc Cert.LruProjIdeal.main_v0)),
      θ_run (Cert.LruProjIdeal.defs (F := Ideal)) (onTc (τ := Cert.LruProjIdeal.τ) (Cert.LruProjIdeal.main (F := Ideal))) ⟨m, fun _ => 0, g⟩ (fun r => ∀ c : Dev Cert.LruProjIdeal.nD,
          r.2.mem ((c.tc : Thread Cert.LruProjIdeal.nD Cert.LruProjIdeal.τ).loc Cert.LruProjIdeal.main_v0) = v0 c
          ∧ r.2.mem ((c.tc : Thread Cert.LruProjIdeal.nD Cert.LruProjIdeal.τ).loc Cert.LruProjIdeal.main_arg0) = m ((c.tc : Thread Cert.LruProjIdeal.nD Cert.LruProjIdeal.τ).loc Cert.LruProjIdeal.main_arg0)
          ∧ r.2.mem ((c.tc : Thread Cert.LruProjIdeal.nD Cert.LruProjIdeal.τ).loc Cert.LruProjIdeal.main_arg1) = m ((c.tc : Thread Cert.LruProjIdeal.nD Cert.LruProjIdeal.τ).loc Cert.LruProjIdeal.main_arg1))
      ∧ θ_run (Cert.LruProjRefIdeal.defs (F := Ideal)) (onTc (τ := Cert.LruProjRefIdeal.τ) (Cert.LruProjRefIdeal.main (F := Ideal))) ⟨m', fun _ => 0, g'⟩ (fun r => ∀ c : Dev Cert.LruProjRefIdeal.nD,
          r.2.mem ((c.tc : Thread Cert.LruProjRefIdeal.nD Cert.LruProjRefIdeal.τ).loc Cert.LruProjRefIdeal.main_v5) = v0 c
          ∧ r.2.mem ((c.tc : Thread Cert.LruProjRefIdeal.nD Cert.LruProjRefIdeal.τ).loc Cert.LruProjRefIdeal.main_arg0) = m' ((c.tc : Thread Cert.LruProjRefIdeal.nD Cert.LruProjRefIdeal.τ).loc Cert.LruProjRefIdeal.main_arg0)
          ∧ r.2.mem ((c.tc : Thread Cert.LruProjRefIdeal.nD Cert.LruProjRefIdeal.τ).loc Cert.LruProjRefIdeal.main_arg1) = m' ((c.tc : Thread Cert.LruProjRefIdeal.nD Cert.LruProjRefIdeal.τ).loc Cert.LruProjRefIdeal.main_arg1))

def preserves_PoolProj_PoolProjIdeal : Prop :=
  True

def algebraic_PoolProjIdeal_PoolProjRefIdeal [hPoolProjIdeal : Cert.PoolProjIdeal.Facts] [hPoolProjRefIdeal : Cert.PoolProjRefIdeal.Facts] : Prop :=
  ∀ (m : (ℓ : Loc Cert.PoolProjIdeal.nD Cert.PoolProjIdeal.τ Cert.PoolProjIdeal.sig) → Buf (Elt Ideal) ℓ) (g : Dev Cert.PoolProjIdeal.nD → PrngReg)
    (m' : (ℓ : Loc Cert.PoolProjRefIdeal.nD Cert.PoolProjRefIdeal.τ Cert.PoolProjRefIdeal.sig) → Buf (Elt Ideal) ℓ) (g' : Dev Cert.PoolProjRefIdeal.nD → PrngReg), Pre_PoolProjIdeal m →
    (∀ c : Dev Cert.PoolProjIdeal.nD,
      m' ((c.tc : Thread Cert.PoolProjRefIdeal.nD Cert.PoolProjRefIdeal.τ).loc Cert.PoolProjRefIdeal.main_arg0) = m ((c.tc : Thread Cert.PoolProjIdeal.nD Cert.PoolProjIdeal.τ).loc Cert.PoolProjIdeal.main_arg0)
      ∧ m' ((c.tc : Thread Cert.PoolProjRefIdeal.nD Cert.PoolProjRefIdeal.τ).loc Cert.PoolProjRefIdeal.main_arg1) = m ((c.tc : Thread Cert.PoolProjIdeal.nD Cert.PoolProjIdeal.τ).loc Cert.PoolProjIdeal.main_arg1)) →
    ∃ (v0 : (c : Dev Cert.PoolProjIdeal.nD) → Buf (Elt Ideal) ((c.tc : Thread Cert.PoolProjIdeal.nD Cert.PoolProjIdeal.τ).loc Cert.PoolProjIdeal.main_v0)),
      θ_run (Cert.PoolProjIdeal.defs (F := Ideal)) (onTc (τ := Cert.PoolProjIdeal.τ) (Cert.PoolProjIdeal.main (F := Ideal))) ⟨m, fun _ => 0, g⟩ (fun r => ∀ c : Dev Cert.PoolProjIdeal.nD,
          r.2.mem ((c.tc : Thread Cert.PoolProjIdeal.nD Cert.PoolProjIdeal.τ).loc Cert.PoolProjIdeal.main_v0) = v0 c
          ∧ r.2.mem ((c.tc : Thread Cert.PoolProjIdeal.nD Cert.PoolProjIdeal.τ).loc Cert.PoolProjIdeal.main_arg0) = m ((c.tc : Thread Cert.PoolProjIdeal.nD Cert.PoolProjIdeal.τ).loc Cert.PoolProjIdeal.main_arg0)
          ∧ r.2.mem ((c.tc : Thread Cert.PoolProjIdeal.nD Cert.PoolProjIdeal.τ).loc Cert.PoolProjIdeal.main_arg1) = m ((c.tc : Thread Cert.PoolProjIdeal.nD Cert.PoolProjIdeal.τ).loc Cert.PoolProjIdeal.main_arg1))
      ∧ θ_run (Cert.PoolProjRefIdeal.defs (F := Ideal)) (onTc (τ := Cert.PoolProjRefIdeal.τ) (Cert.PoolProjRefIdeal.main (F := Ideal))) ⟨m', fun _ => 0, g'⟩ (fun r => ∀ c : Dev Cert.PoolProjRefIdeal.nD,
          r.2.mem ((c.tc : Thread Cert.PoolProjRefIdeal.nD Cert.PoolProjRefIdeal.τ).loc Cert.PoolProjRefIdeal.main_v7) = v0 c
          ∧ r.2.mem ((c.tc : Thread Cert.PoolProjRefIdeal.nD Cert.PoolProjRefIdeal.τ).loc Cert.PoolProjRefIdeal.main_arg0) = m' ((c.tc : Thread Cert.PoolProjRefIdeal.nD Cert.PoolProjRefIdeal.τ).loc Cert.PoolProjRefIdeal.main_arg0)
          ∧ r.2.mem ((c.tc : Thread Cert.PoolProjRefIdeal.nD Cert.PoolProjRefIdeal.τ).loc Cert.PoolProjRefIdeal.main_arg1) = m' ((c.tc : Thread Cert.PoolProjRefIdeal.nD Cert.PoolProjRefIdeal.τ).loc Cert.PoolProjRefIdeal.main_arg1))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)
      ∧ m' ((c.tc : Thread Cert.HeadRefIdeal.nD Cert.HeadRefIdeal.τ).loc Cert.HeadRefIdeal.main_arg7) = m ((c.tc : Thread Cert.HeadIdeal.nD Cert.HeadIdeal.τ).loc Cert.HeadIdeal.main_arg7)
      ∧ m' ((c.tc : Thread Cert.HeadRefIdeal.nD Cert.HeadRefIdeal.τ).loc Cert.HeadRefIdeal.main_arg8) = m ((c.tc : Thread Cert.HeadIdeal.nD Cert.HeadIdeal.τ).loc Cert.HeadIdeal.main_arg8)) →
    ∃ (v0 : (c : Dev Cert.HeadIdeal.nD) → Buf (Elt Ideal) ((c.tc : Thread Cert.HeadIdeal.nD Cert.HeadIdeal.τ).loc Cert.HeadIdeal.main_v17_0)) (v1 : (c : Dev Cert.HeadIdeal.nD) → Buf (Elt Ideal) ((c.tc : Thread Cert.HeadIdeal.nD Cert.HeadIdeal.τ).loc Cert.HeadIdeal.main_v17_1)) (v2 : (c : Dev Cert.HeadIdeal.nD) → Buf (Elt Ideal) ((c.tc : Thread Cert.HeadIdeal.nD Cert.HeadIdeal.τ).loc Cert.HeadIdeal.main_v17_2)) (v3 : (c : Dev Cert.HeadIdeal.nD) → Buf (Elt Ideal) ((c.tc : Thread Cert.HeadIdeal.nD Cert.HeadIdeal.τ).loc Cert.HeadIdeal.main_v17_3)) (v4 : (c : Dev Cert.HeadIdeal.nD) → Buf (Elt Ideal) ((c.tc : Thread Cert.HeadIdeal.nD Cert.HeadIdeal.τ).loc Cert.HeadIdeal.main_v17_4)) (v5 : (c : Dev Cert.HeadIdeal.nD) → Buf (Elt Ideal) ((c.tc : Thread Cert.HeadIdeal.nD Cert.HeadIdeal.τ).loc Cert.HeadIdeal.main_v17_5)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v17_0) = v0 c
          ∧ r.2.mem ((c.tc : Thread Cert.HeadIdeal.nD Cert.HeadIdeal.τ).loc Cert.HeadIdeal.main_v17_1) = v1 c
          ∧ r.2.mem ((c.tc : Thread Cert.HeadIdeal.nD Cert.HeadIdeal.τ).loc Cert.HeadIdeal.main_v17_2) = v2 c
          ∧ r.2.mem ((c.tc : Thread Cert.HeadIdeal.nD Cert.HeadIdeal.τ).loc Cert.HeadIdeal.main_v17_3) = v3 c
          ∧ r.2.mem ((c.tc : Thread Cert.HeadIdeal.nD Cert.HeadIdeal.τ).loc Cert.HeadIdeal.main_v17_4) = v4 c
          ∧ r.2.mem ((c.tc : Thread Cert.HeadIdeal.nD Cert.HeadIdeal.τ).loc Cert.HeadIdeal.main_v17_5) = v5 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
          ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
          ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v109) = v0 c
          ∧ r.2.mem ((c.tc : Thread Cert.HeadRefIdeal.nD Cert.HeadRefIdeal.τ).loc Cert.HeadRefIdeal.main_v113) = v1 c
          ∧ r.2.mem ((c.tc : Thread Cert.HeadRefIdeal.nD Cert.HeadRefIdeal.τ).loc Cert.HeadRefIdeal.main_v110) = v2 c
          ∧ r.2.mem ((c.tc : Thread Cert.HeadRefIdeal.nD Cert.HeadRefIdeal.τ).loc Cert.HeadRefIdeal.main_v114) = v3 c
          ∧ r.2.mem ((c.tc : Thread Cert.HeadRefIdeal.nD Cert.HeadRefIdeal.τ).loc Cert.HeadRefIdeal.main_v87) = v4 c
          ∧ r.2.mem ((c.tc : Thread Cert.HeadRefIdeal.nD Cert.HeadRefIdeal.τ).loc Cert.HeadRefIdeal.main_v116) = v5 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6)
          ∧ r.2.mem ((c.tc : Thread Cert.HeadRefIdeal.nD Cert.HeadRefIdeal.τ).loc Cert.HeadRefIdeal.main_arg7) = m' ((c.tc : Thread Cert.HeadRefIdeal.nD Cert.HeadRefIdeal.τ).loc Cert.HeadRefIdeal.main_arg7)
          ∧ r.2.mem ((c.tc : Thread Cert.HeadRefIdeal.nD Cert.HeadRefIdeal.τ).loc Cert.HeadRefIdeal.main_arg8) = m' ((c.tc : Thread Cert.HeadRefIdeal.nD Cert.HeadRefIdeal.τ).loc Cert.HeadRefIdeal.main_arg8))

def preserves_AdamWin_AdamWinIdeal : Prop :=
  True

def algebraic_AdamWinIdeal_AdamWinRefIdeal [hAdamWinIdeal : Cert.AdamWinIdeal.Facts] [hAdamWinRefIdeal : Cert.AdamWinRefIdeal.Facts] : Prop :=
  ∀ (m : (ℓ : Loc Cert.AdamWinIdeal.nD Cert.AdamWinIdeal.τ Cert.AdamWinIdeal.sig) → Buf (Elt Ideal) ℓ) (g : Dev Cert.AdamWinIdeal.nD → PrngReg)
    (m' : (ℓ : Loc Cert.AdamWinRefIdeal.nD Cert.AdamWinRefIdeal.τ Cert.AdamWinRefIdeal.sig) → Buf (Elt Ideal) ℓ) (g' : Dev Cert.AdamWinRefIdeal.nD → PrngReg), Pre_AdamWinIdeal m →
    (∀ c : Dev Cert.AdamWinIdeal.nD,
      m' ((c.tc : Thread Cert.AdamWinRefIdeal.nD Cert.AdamWinRefIdeal.τ).loc Cert.AdamWinRefIdeal.main_arg0) = m ((c.tc : Thread Cert.AdamWinIdeal.nD Cert.AdamWinIdeal.τ).loc Cert.AdamWinIdeal.main_arg0)
      ∧ m' ((c.tc : Thread Cert.AdamWinRefIdeal.nD Cert.AdamWinRefIdeal.τ).loc Cert.AdamWinRefIdeal.main_arg1) = m ((c.tc : Thread Cert.AdamWinIdeal.nD Cert.AdamWinIdeal.τ).loc Cert.AdamWinIdeal.main_arg1)
      ∧ m' ((c.tc : Thread Cert.AdamWinRefIdeal.nD Cert.AdamWinRefIdeal.τ).loc Cert.AdamWinRefIdeal.main_arg2) = m ((c.tc : Thread Cert.AdamWinIdeal.nD Cert.AdamWinIdeal.τ).loc Cert.AdamWinIdeal.main_arg2)
      ∧ m' ((c.tc : Thread Cert.AdamWinRefIdeal.nD Cert.AdamWinRefIdeal.τ).loc Cert.AdamWinRefIdeal.main_arg3) = m ((c.tc : Thread Cert.AdamWinIdeal.nD Cert.AdamWinIdeal.τ).loc Cert.AdamWinIdeal.main_arg3)) →
    ∃ (v0 : (c : Dev Cert.AdamWinIdeal.nD) → Buf (Elt Ideal) ((c.tc : Thread Cert.AdamWinIdeal.nD Cert.AdamWinIdeal.τ).loc Cert.AdamWinIdeal.main_v6_0)) (v1 : (c : Dev Cert.AdamWinIdeal.nD) → Buf (Elt Ideal) ((c.tc : Thread Cert.AdamWinIdeal.nD Cert.AdamWinIdeal.τ).loc Cert.AdamWinIdeal.main_v6_1)) (v2 : (c : Dev Cert.AdamWinIdeal.nD) → Buf (Elt Ideal) ((c.tc : Thread Cert.AdamWinIdeal.nD Cert.AdamWinIdeal.τ).loc Cert.AdamWinIdeal.main_v6_2)),
      θ_run (Cert.AdamWinIdeal.defs (F := Ideal)) (onTc (τ := Cert.AdamWinIdeal.τ) (Cert.AdamWinIdeal.main (F := Ideal))) ⟨m, fun _ => 0, g⟩ (fun r => ∀ c : Dev Cert.AdamWinIdeal.nD,
          r.2.mem ((c.tc : Thread Cert.AdamWinIdeal.nD Cert.AdamWinIdeal.τ).loc Cert.AdamWinIdeal.main_v6_0) = v0 c
          ∧ r.2.mem ((c.tc : Thread Cert.AdamWinIdeal.nD Cert.AdamWinIdeal.τ).loc Cert.AdamWinIdeal.main_v6_1) = v1 c
          ∧ r.2.mem ((c.tc : Thread Cert.AdamWinIdeal.nD Cert.AdamWinIdeal.τ).loc Cert.AdamWinIdeal.main_v6_2) = v2 c
          ∧ r.2.mem ((c.tc : Thread Cert.AdamWinIdeal.nD Cert.AdamWinIdeal.τ).loc Cert.AdamWinIdeal.main_arg0) = m ((c.tc : Thread Cert.AdamWinIdeal.nD Cert.AdamWinIdeal.τ).loc Cert.AdamWinIdeal.main_arg0)
          ∧ r.2.mem ((c.tc : Thread Cert.AdamWinIdeal.nD Cert.AdamWinIdeal.τ).loc Cert.AdamWinIdeal.main_arg1) = m ((c.tc : Thread Cert.AdamWinIdeal.nD Cert.AdamWinIdeal.τ).loc Cert.AdamWinIdeal.main_arg1)
          ∧ r.2.mem ((c.tc : Thread Cert.AdamWinIdeal.nD Cert.AdamWinIdeal.τ).loc Cert.AdamWinIdeal.main_arg2) = m ((c.tc : Thread Cert.AdamWinIdeal.nD Cert.AdamWinIdeal.τ).loc Cert.AdamWinIdeal.main_arg2)
          ∧ r.2.mem ((c.tc : Thread Cert.AdamWinIdeal.nD Cert.AdamWinIdeal.τ).loc Cert.AdamWinIdeal.main_arg3) = m ((c.tc : Thread Cert.AdamWinIdeal.nD Cert.AdamWinIdeal.τ).loc Cert.AdamWinIdeal.main_arg3))
      ∧ θ_run (Cert.AdamWinRefIdeal.defs (F := Ideal)) (onTc (τ := Cert.AdamWinRefIdeal.τ) (Cert.AdamWinRefIdeal.main (F := Ideal))) ⟨m', fun _ => 0, g'⟩ (fun r => ∀ c : Dev Cert.AdamWinRefIdeal.nD,
          r.2.mem ((c.tc : Thread Cert.AdamWinRefIdeal.nD Cert.AdamWinRefIdeal.τ).loc Cert.AdamWinRefIdeal.main_v27) = v0 c
          ∧ r.2.mem ((c.tc : Thread Cert.AdamWinRefIdeal.nD Cert.AdamWinRefIdeal.τ).loc Cert.AdamWinRefIdeal.main_v29) = v1 c
          ∧ r.2.mem ((c.tc : Thread Cert.AdamWinRefIdeal.nD Cert.AdamWinRefIdeal.τ).loc Cert.AdamWinRefIdeal.main_v31) = v2 c
          ∧ r.2.mem ((c.tc : Thread Cert.AdamWinRefIdeal.nD Cert.AdamWinRefIdeal.τ).loc Cert.AdamWinRefIdeal.main_arg0) = m' ((c.tc : Thread Cert.AdamWinRefIdeal.nD Cert.AdamWinRefIdeal.τ).loc Cert.AdamWinRefIdeal.main_arg0)
          ∧ r.2.mem ((c.tc : Thread Cert.AdamWinRefIdeal.nD Cert.AdamWinRefIdeal.τ).loc Cert.AdamWinRefIdeal.main_arg1) = m' ((c.tc : Thread Cert.AdamWinRefIdeal.nD Cert.AdamWinRefIdeal.τ).loc Cert.AdamWinRefIdeal.main_arg1)
          ∧ r.2.mem ((c.tc : Thread Cert.AdamWinRefIdeal.nD Cert.AdamWinRefIdeal.τ).loc Cert.AdamWinRefIdeal.main_arg2) = m' ((c.tc : Thread Cert.AdamWinRefIdeal.nD Cert.AdamWinRefIdeal.τ).loc Cert.AdamWinRefIdeal.main_arg2)
          ∧ r.2.mem ((c.tc : Thread Cert.AdamWinRefIdeal.nD Cert.AdamWinRefIdeal.τ).loc Cert.AdamWinRefIdeal.main_arg3) = m' ((c.tc : Thread Cert.AdamWinRefIdeal.nD Cert.AdamWinRefIdeal.τ).loc Cert.AdamWinRefIdeal.main_arg3))

def preserves_AdamFfnIn_AdamFfnInIdeal : Prop :=
  True

def algebraic_AdamFfnInIdeal_AdamFfnInRefIdeal [hAdamFfnInIdeal : Cert.AdamFfnInIdeal.Facts] [hAdamFfnInRefIdeal : Cert.AdamFfnInRefIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg)
    (m' : (ℓ : Loc Cert.AdamFfnInRefIdeal.nD Cert.AdamFfnInRefIdeal.τ Cert.AdamFfnInRefIdeal.sig) → Buf (Elt Ideal) ℓ) (g' : Dev Cert.AdamFfnInRefIdeal.nD → PrngReg), Pre_AdamFfnInIdeal m →
    (∀ c : Dev Cert.AdamFfnInIdeal.nD,
      m' ((c.tc : Thread Cert.AdamFfnInRefIdeal.nD Cert.AdamFfnInRefIdeal.τ).loc Cert.AdamFfnInRefIdeal.main_arg0) = m ((c.tc : Thread Cert.AdamFfnInIdeal.nD Cert.AdamFfnInIdeal.τ).loc Cert.AdamFfnInIdeal.main_arg0)
      ∧ m' ((c.tc : Thread Cert.AdamFfnInRefIdeal.nD Cert.AdamFfnInRefIdeal.τ).loc Cert.AdamFfnInRefIdeal.main_arg1) = m ((c.tc : Thread Cert.AdamFfnInIdeal.nD Cert.AdamFfnInIdeal.τ).loc Cert.AdamFfnInIdeal.main_arg1)
      ∧ m' ((c.tc : Thread Cert.AdamFfnInRefIdeal.nD Cert.AdamFfnInRefIdeal.τ).loc Cert.AdamFfnInRefIdeal.main_arg2) = m ((c.tc : Thread Cert.AdamFfnInIdeal.nD Cert.AdamFfnInIdeal.τ).loc Cert.AdamFfnInIdeal.main_arg2)
      ∧ m' ((c.tc : Thread Cert.AdamFfnInRefIdeal.nD Cert.AdamFfnInRefIdeal.τ).loc Cert.AdamFfnInRefIdeal.main_arg3) = m ((c.tc : Thread Cert.AdamFfnInIdeal.nD Cert.AdamFfnInIdeal.τ).loc Cert.AdamFfnInIdeal.main_arg3)) →
    ∃ (v0 : (c : Dev Cert.AdamFfnInIdeal.nD) → Buf (Elt Ideal) ((c.tc : Thread Cert.AdamFfnInIdeal.nD Cert.AdamFfnInIdeal.τ).loc Cert.AdamFfnInIdeal.main_v6_0)) (v1 : (c : Dev Cert.AdamFfnInIdeal.nD) → Buf (Elt Ideal) ((c.tc : Thread Cert.AdamFfnInIdeal.nD Cert.AdamFfnInIdeal.τ).loc Cert.AdamFfnInIdeal.main_v6_1)) (v2 : (c : Dev Cert.AdamFfnInIdeal.nD) → Buf (Elt Ideal) ((c.tc : Thread Cert.AdamFfnInIdeal.nD Cert.AdamFfnInIdeal.τ).loc Cert.AdamFfnInIdeal.main_v6_2)),
      θ_run (Cert.AdamFfnInIdeal.defs (F := Ideal)) (onTc (τ := Cert.AdamFfnInIdeal.τ) (Cert.AdamFfnInIdeal.main (F := Ideal))) ⟨m, fun _ => 0, g⟩ (fun r => ∀ c : Dev Cert.AdamFfnInIdeal.nD,
          r.2.mem ((c.tc : Thread Cert.AdamFfnInIdeal.nD Cert.AdamFfnInIdeal.τ).loc Cert.AdamFfnInIdeal.main_v6_0) = v0 c
          ∧ r.2.mem ((c.tc : Thread Cert.AdamFfnInIdeal.nD Cert.AdamFfnInIdeal.τ).loc Cert.AdamFfnInIdeal.main_v6_1) = v1 c
          ∧ r.2.mem ((c.tc : Thread Cert.AdamFfnInIdeal.nD Cert.AdamFfnInIdeal.τ).loc Cert.AdamFfnInIdeal.main_v6_2) = v2 c
          ∧ r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
          ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
          ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
          ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ θ_run (Cert.AdamFfnInRefIdeal.defs (F := Ideal)) (onTc (τ := Cert.AdamFfnInRefIdeal.τ) (Cert.AdamFfnInRefIdeal.main (F := Ideal))) ⟨m', fun _ => 0, g'⟩ (fun r => ∀ c : Dev Cert.AdamFfnInRefIdeal.nD,
          r.2.mem ((c.tc : Thread Cert.AdamFfnInRefIdeal.nD Cert.AdamFfnInRefIdeal.τ).loc Cert.AdamFfnInRefIdeal.main_v27) = v0 c
          ∧ r.2.mem ((c.tc : Thread Cert.AdamFfnInRefIdeal.nD Cert.AdamFfnInRefIdeal.τ).loc Cert.AdamFfnInRefIdeal.main_v29) = v1 c
          ∧ r.2.mem ((c.tc : Thread Cert.AdamFfnInRefIdeal.nD Cert.AdamFfnInRefIdeal.τ).loc Cert.AdamFfnInRefIdeal.main_v31) = v2 c
          ∧ r.2.mem ((c.tc : Thread Cert.AdamFfnInRefIdeal.nD Cert.AdamFfnInRefIdeal.τ).loc Cert.AdamFfnInRefIdeal.main_arg0) = m' ((c.tc : Thread Cert.AdamFfnInRefIdeal.nD Cert.AdamFfnInRefIdeal.τ).loc Cert.AdamFfnInRefIdeal.main_arg0)
          ∧ r.2.mem ((c.tc : Thread Cert.AdamFfnInRefIdeal.nD Cert.AdamFfnInRefIdeal.τ).loc Cert.AdamFfnInRefIdeal.main_arg1) = m' ((c.tc : Thread Cert.AdamFfnInRefIdeal.nD Cert.AdamFfnInRefIdeal.τ).loc Cert.AdamFfnInRefIdeal.main_arg1)
          ∧ r.2.mem ((c.tc : Thread Cert.AdamFfnInRefIdeal.nD Cert.AdamFfnInRefIdeal.τ).loc Cert.AdamFfnInRefIdeal.main_arg2) = m' ((c.tc : Thread Cert.AdamFfnInRefIdeal.nD Cert.AdamFfnInRefIdeal.τ).loc Cert.AdamFfnInRefIdeal.main_arg2)
          ∧ r.2.mem ((c.tc : Thread Cert.AdamFfnInRefIdeal.nD Cert.AdamFfnInRefIdeal.τ).loc Cert.AdamFfnInRefIdeal.main_arg3) = m' ((c.tc : Thread Cert.AdamFfnInRefIdeal.nD Cert.AdamFfnInRefIdeal.τ).loc Cert.AdamFfnInRefIdeal.main_arg3))

def preserves_AdamLru_AdamLruIdeal : Prop :=
  True

def algebraic_AdamLruIdeal_AdamLruRefIdeal [hAdamLruIdeal : Cert.AdamLruIdeal.Facts] [hAdamLruRefIdeal : Cert.AdamLruRefIdeal.Facts] : Prop :=
  ∀ (m : (ℓ : Loc Cert.AdamLruIdeal.nD Cert.AdamLruIdeal.τ Cert.AdamLruIdeal.sig) → Buf (Elt Ideal) ℓ) (g : Dev Cert.AdamLruIdeal.nD → PrngReg)
    (m' : (ℓ : Loc Cert.AdamLruRefIdeal.nD Cert.AdamLruRefIdeal.τ Cert.AdamLruRefIdeal.sig) → Buf (Elt Ideal) ℓ) (g' : Dev Cert.AdamLruRefIdeal.nD → PrngReg), Pre_AdamLruIdeal m →
    (∀ c : Dev Cert.AdamLruIdeal.nD,
      m' ((c.tc : Thread Cert.AdamLruRefIdeal.nD Cert.AdamLruRefIdeal.τ).loc Cert.AdamLruRefIdeal.main_arg0) = m ((c.tc : Thread Cert.AdamLruIdeal.nD Cert.AdamLruIdeal.τ).loc Cert.AdamLruIdeal.main_arg0)
      ∧ m' ((c.tc : Thread Cert.AdamLruRefIdeal.nD Cert.AdamLruRefIdeal.τ).loc Cert.AdamLruRefIdeal.main_arg1) = m ((c.tc : Thread Cert.AdamLruIdeal.nD Cert.AdamLruIdeal.τ).loc Cert.AdamLruIdeal.main_arg1)
      ∧ m' ((c.tc : Thread Cert.AdamLruRefIdeal.nD Cert.AdamLruRefIdeal.τ).loc Cert.AdamLruRefIdeal.main_arg2) = m ((c.tc : Thread Cert.AdamLruIdeal.nD Cert.AdamLruIdeal.τ).loc Cert.AdamLruIdeal.main_arg2)
      ∧ m' ((c.tc : Thread Cert.AdamLruRefIdeal.nD Cert.AdamLruRefIdeal.τ).loc Cert.AdamLruRefIdeal.main_arg3) = m ((c.tc : Thread Cert.AdamLruIdeal.nD Cert.AdamLruIdeal.τ).loc Cert.AdamLruIdeal.main_arg3)) →
    ∃ (v0 : (c : Dev Cert.AdamLruIdeal.nD) → Buf (Elt Ideal) ((c.tc : Thread Cert.AdamLruIdeal.nD Cert.AdamLruIdeal.τ).loc Cert.AdamLruIdeal.main_v4_0)) (v1 : (c : Dev Cert.AdamLruIdeal.nD) → Buf (Elt Ideal) ((c.tc : Thread Cert.AdamLruIdeal.nD Cert.AdamLruIdeal.τ).loc Cert.AdamLruIdeal.main_v4_1)) (v2 : (c : Dev Cert.AdamLruIdeal.nD) → Buf (Elt Ideal) ((c.tc : Thread Cert.AdamLruIdeal.nD Cert.AdamLruIdeal.τ).loc Cert.AdamLruIdeal.main_v4_2)),
      θ_run (Cert.AdamLruIdeal.defs (F := Ideal)) (onTc (τ := Cert.AdamLruIdeal.τ) (Cert.AdamLruIdeal.main (F := Ideal))) ⟨m, fun _ => 0, g⟩ (fun r => ∀ c : Dev Cert.AdamLruIdeal.nD,
          r.2.mem ((c.tc : Thread Cert.AdamLruIdeal.nD Cert.AdamLruIdeal.τ).loc Cert.AdamLruIdeal.main_v4_0) = v0 c
          ∧ r.2.mem ((c.tc : Thread Cert.AdamLruIdeal.nD Cert.AdamLruIdeal.τ).loc Cert.AdamLruIdeal.main_v4_1) = v1 c
          ∧ r.2.mem ((c.tc : Thread Cert.AdamLruIdeal.nD Cert.AdamLruIdeal.τ).loc Cert.AdamLruIdeal.main_v4_2) = v2 c
          ∧ r.2.mem ((c.tc : Thread Cert.AdamLruIdeal.nD Cert.AdamLruIdeal.τ).loc Cert.AdamLruIdeal.main_arg0) = m ((c.tc : Thread Cert.AdamLruIdeal.nD Cert.AdamLruIdeal.τ).loc Cert.AdamLruIdeal.main_arg0)
          ∧ r.2.mem ((c.tc : Thread Cert.AdamLruIdeal.nD Cert.AdamLruIdeal.τ).loc Cert.AdamLruIdeal.main_arg1) = m ((c.tc : Thread Cert.AdamLruIdeal.nD Cert.AdamLruIdeal.τ).loc Cert.AdamLruIdeal.main_arg1)
          ∧ r.2.mem ((c.tc : Thread Cert.AdamLruIdeal.nD Cert.AdamLruIdeal.τ).loc Cert.AdamLruIdeal.main_arg2) = m ((c.tc : Thread Cert.AdamLruIdeal.nD Cert.AdamLruIdeal.τ).loc Cert.AdamLruIdeal.main_arg2)
          ∧ r.2.mem ((c.tc : Thread Cert.AdamLruIdeal.nD Cert.AdamLruIdeal.τ).loc Cert.AdamLruIdeal.main_arg3) = m ((c.tc : Thread Cert.AdamLruIdeal.nD Cert.AdamLruIdeal.τ).loc Cert.AdamLruIdeal.main_arg3))
      ∧ θ_run (Cert.AdamLruRefIdeal.defs (F := Ideal)) (onTc (τ := Cert.AdamLruRefIdeal.τ) (Cert.AdamLruRefIdeal.main (F := Ideal))) ⟨m', fun _ => 0, g'⟩ (fun r => ∀ c : Dev Cert.AdamLruRefIdeal.nD,
          r.2.mem ((c.tc : Thread Cert.AdamLruRefIdeal.nD Cert.AdamLruRefIdeal.τ).loc Cert.AdamLruRefIdeal.main_v24) = v0 c
          ∧ r.2.mem ((c.tc : Thread Cert.AdamLruRefIdeal.nD Cert.AdamLruRefIdeal.τ).loc Cert.AdamLruRefIdeal.main_v25) = v1 c
          ∧ r.2.mem ((c.tc : Thread Cert.AdamLruRefIdeal.nD Cert.AdamLruRefIdeal.τ).loc Cert.AdamLruRefIdeal.main_v26) = v2 c
          ∧ r.2.mem ((c.tc : Thread Cert.AdamLruRefIdeal.nD Cert.AdamLruRefIdeal.τ).loc Cert.AdamLruRefIdeal.main_arg0) = m' ((c.tc : Thread Cert.AdamLruRefIdeal.nD Cert.AdamLruRefIdeal.τ).loc Cert.AdamLruRefIdeal.main_arg0)
          ∧ r.2.mem ((c.tc : Thread Cert.AdamLruRefIdeal.nD Cert.AdamLruRefIdeal.τ).loc Cert.AdamLruRefIdeal.main_arg1) = m' ((c.tc : Thread Cert.AdamLruRefIdeal.nD Cert.AdamLruRefIdeal.τ).loc Cert.AdamLruRefIdeal.main_arg1)
          ∧ r.2.mem ((c.tc : Thread Cert.AdamLruRefIdeal.nD Cert.AdamLruRefIdeal.τ).loc Cert.AdamLruRefIdeal.main_arg2) = m' ((c.tc : Thread Cert.AdamLruRefIdeal.nD Cert.AdamLruRefIdeal.τ).loc Cert.AdamLruRefIdeal.main_arg2)
          ∧ r.2.mem ((c.tc : Thread Cert.AdamLruRefIdeal.nD Cert.AdamLruRefIdeal.τ).loc Cert.AdamLruRefIdeal.main_arg3) = m' ((c.tc : Thread Cert.AdamLruRefIdeal.nD Cert.AdamLruRefIdeal.τ).loc Cert.AdamLruRefIdeal.main_arg3))

def preserves_AdamFfnOut_AdamFfnOutIdeal : Prop :=
  True

def algebraic_AdamFfnOutIdeal_AdamFfnOutRefIdeal [hAdamFfnOutIdeal : Cert.AdamFfnOutIdeal.Facts] [hAdamFfnOutRefIdeal : Cert.AdamFfnOutRefIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg)
    (m' : (ℓ : Loc Cert.AdamFfnOutRefIdeal.nD Cert.AdamFfnOutRefIdeal.τ Cert.AdamFfnOutRefIdeal.sig) → Buf (Elt Ideal) ℓ) (g' : Dev Cert.AdamFfnOutRefIdeal.nD → PrngReg), Pre_AdamFfnOutIdeal m →
    (∀ c : Dev Cert.AdamFfnOutIdeal.nD,
      m' ((c.tc : Thread Cert.AdamFfnOutRefIdeal.nD Cert.AdamFfnOutRefIdeal.τ).loc Cert.AdamFfnOutRefIdeal.main_arg0) = m ((c.tc : Thread Cert.AdamFfnOutIdeal.nD Cert.AdamFfnOutIdeal.τ).loc Cert.AdamFfnOutIdeal.main_arg0)
      ∧ m' ((c.tc : Thread Cert.AdamFfnOutRefIdeal.nD Cert.AdamFfnOutRefIdeal.τ).loc Cert.AdamFfnOutRefIdeal.main_arg1) = m ((c.tc : Thread Cert.AdamFfnOutIdeal.nD Cert.AdamFfnOutIdeal.τ).loc Cert.AdamFfnOutIdeal.main_arg1)
      ∧ m' ((c.tc : Thread Cert.AdamFfnOutRefIdeal.nD Cert.AdamFfnOutRefIdeal.τ).loc Cert.AdamFfnOutRefIdeal.main_arg2) = m ((c.tc : Thread Cert.AdamFfnOutIdeal.nD Cert.AdamFfnOutIdeal.τ).loc Cert.AdamFfnOutIdeal.main_arg2)
      ∧ m' ((c.tc : Thread Cert.AdamFfnOutRefIdeal.nD Cert.AdamFfnOutRefIdeal.τ).loc Cert.AdamFfnOutRefIdeal.main_arg3) = m ((c.tc : Thread Cert.AdamFfnOutIdeal.nD Cert.AdamFfnOutIdeal.τ).loc Cert.AdamFfnOutIdeal.main_arg3)) →
    ∃ (v0 : (c : Dev Cert.AdamFfnOutIdeal.nD) → Buf (Elt Ideal) ((c.tc : Thread Cert.AdamFfnOutIdeal.nD Cert.AdamFfnOutIdeal.τ).loc Cert.AdamFfnOutIdeal.main_v4_0)) (v1 : (c : Dev Cert.AdamFfnOutIdeal.nD) → Buf (Elt Ideal) ((c.tc : Thread Cert.AdamFfnOutIdeal.nD Cert.AdamFfnOutIdeal.τ).loc Cert.AdamFfnOutIdeal.main_v4_1)) (v2 : (c : Dev Cert.AdamFfnOutIdeal.nD) → Buf (Elt Ideal) ((c.tc : Thread Cert.AdamFfnOutIdeal.nD Cert.AdamFfnOutIdeal.τ).loc Cert.AdamFfnOutIdeal.main_v4_2)),
      θ_run (Cert.AdamFfnOutIdeal.defs (F := Ideal)) (onTc (τ := Cert.AdamFfnOutIdeal.τ) (Cert.AdamFfnOutIdeal.main (F := Ideal))) ⟨m, fun _ => 0, g⟩ (fun r => ∀ c : Dev Cert.AdamFfnOutIdeal.nD,
          r.2.mem ((c.tc : Thread Cert.AdamFfnOutIdeal.nD Cert.AdamFfnOutIdeal.τ).loc Cert.AdamFfnOutIdeal.main_v4_0) = v0 c
          ∧ r.2.mem ((c.tc : Thread Cert.AdamFfnOutIdeal.nD Cert.AdamFfnOutIdeal.τ).loc Cert.AdamFfnOutIdeal.main_v4_1) = v1 c
          ∧ r.2.mem ((c.tc : Thread Cert.AdamFfnOutIdeal.nD Cert.AdamFfnOutIdeal.τ).loc Cert.AdamFfnOutIdeal.main_v4_2) = v2 c
          ∧ r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
          ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
          ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
          ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ θ_run (Cert.AdamFfnOutRefIdeal.defs (F := Ideal)) (onTc (τ := Cert.AdamFfnOutRefIdeal.τ) (Cert.AdamFfnOutRefIdeal.main (F := Ideal))) ⟨m', fun _ => 0, g'⟩ (fun r => ∀ c : Dev Cert.AdamFfnOutRefIdeal.nD,
          r.2.mem ((c.tc : Thread Cert.AdamFfnOutRefIdeal.nD Cert.AdamFfnOutRefIdeal.τ).loc Cert.AdamFfnOutRefIdeal.main_v24) = v0 c
          ∧ r.2.mem ((c.tc : Thread Cert.AdamFfnOutRefIdeal.nD Cert.AdamFfnOutRefIdeal.τ).loc Cert.AdamFfnOutRefIdeal.main_v25) = v1 c
          ∧ r.2.mem ((c.tc : Thread Cert.AdamFfnOutRefIdeal.nD Cert.AdamFfnOutRefIdeal.τ).loc Cert.AdamFfnOutRefIdeal.main_v26) = v2 c
          ∧ r.2.mem ((c.tc : Thread Cert.AdamFfnOutRefIdeal.nD Cert.AdamFfnOutRefIdeal.τ).loc Cert.AdamFfnOutRefIdeal.main_arg0) = m' ((c.tc : Thread Cert.AdamFfnOutRefIdeal.nD Cert.AdamFfnOutRefIdeal.τ).loc Cert.AdamFfnOutRefIdeal.main_arg0)
          ∧ r.2.mem ((c.tc : Thread Cert.AdamFfnOutRefIdeal.nD Cert.AdamFfnOutRefIdeal.τ).loc Cert.AdamFfnOutRefIdeal.main_arg1) = m' ((c.tc : Thread Cert.AdamFfnOutRefIdeal.nD Cert.AdamFfnOutRefIdeal.τ).loc Cert.AdamFfnOutRefIdeal.main_arg1)
          ∧ r.2.mem ((c.tc : Thread Cert.AdamFfnOutRefIdeal.nD Cert.AdamFfnOutRefIdeal.τ).loc Cert.AdamFfnOutRefIdeal.main_arg2) = m' ((c.tc : Thread Cert.AdamFfnOutRefIdeal.nD Cert.AdamFfnOutRefIdeal.τ).loc Cert.AdamFfnOutRefIdeal.main_arg2)
          ∧ r.2.mem ((c.tc : Thread Cert.AdamFfnOutRefIdeal.nD Cert.AdamFfnOutRefIdeal.τ).loc Cert.AdamFfnOutRefIdeal.main_arg3) = m' ((c.tc : Thread Cert.AdamFfnOutRefIdeal.nD Cert.AdamFfnOutRefIdeal.τ).loc Cert.AdamFfnOutRefIdeal.main_arg3))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)) →
    ∃ (v0 : (c : Dev Cert.AdamPoolIdeal.nD) → Buf (Elt Ideal) ((c.tc : Thread Cert.AdamPoolIdeal.nD Cert.AdamPoolIdeal.τ).loc Cert.AdamPoolIdeal.main_v4_0)) (v1 : (c : Dev Cert.AdamPoolIdeal.nD) → Buf (Elt Ideal) ((c.tc : Thread Cert.AdamPoolIdeal.nD Cert.AdamPoolIdeal.τ).loc Cert.AdamPoolIdeal.main_v4_1)) (v2 : (c : Dev Cert.AdamPoolIdeal.nD) → Buf (Elt Ideal) ((c.tc : Thread Cert.AdamPoolIdeal.nD Cert.AdamPoolIdeal.τ).loc Cert.AdamPoolIdeal.main_v4_2)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v4_0) = v0 c
          ∧ r.2.mem ((c.tc : Thread Cert.AdamPoolIdeal.nD Cert.AdamPoolIdeal.τ).loc Cert.AdamPoolIdeal.main_v4_1) = v1 c
          ∧ r.2.mem ((c.tc : Thread Cert.AdamPoolIdeal.nD Cert.AdamPoolIdeal.τ).loc Cert.AdamPoolIdeal.main_v4_2) = v2 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_v24) = v0 c
          ∧ r.2.mem ((c.tc : Thread Cert.AdamPoolRefIdeal.nD Cert.AdamPoolRefIdeal.τ).loc Cert.AdamPoolRefIdeal.main_v25) = v1 c
          ∧ r.2.mem ((c.tc : Thread Cert.AdamPoolRefIdeal.nD Cert.AdamPoolRefIdeal.τ).loc Cert.AdamPoolRefIdeal.main_v26) = v2 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3))

def preserves_AdamPle_AdamPleIdeal : Prop :=
  True

def algebraic_AdamPleIdeal_AdamPleRefIdeal [hAdamPleIdeal : Cert.AdamPleIdeal.Facts] [hAdamPleRefIdeal : Cert.AdamPleRefIdeal.Facts] : Prop :=
  ∀ (m : (ℓ : Loc Cert.AdamPleIdeal.nD Cert.AdamPleIdeal.τ Cert.AdamPleIdeal.sig) → Buf (Elt Ideal) ℓ) (g : Dev Cert.AdamPleIdeal.nD → PrngReg)
    (m' : (ℓ : Loc Cert.AdamPleRefIdeal.nD Cert.AdamPleRefIdeal.τ Cert.AdamPleRefIdeal.sig) → Buf (Elt Ideal) ℓ) (g' : Dev Cert.AdamPleRefIdeal.nD → PrngReg), Pre_AdamPleIdeal m →
    (∀ c : Dev Cert.AdamPleIdeal.nD,
      m' ((c.tc : Thread Cert.AdamPleRefIdeal.nD Cert.AdamPleRefIdeal.τ).loc Cert.AdamPleRefIdeal.main_arg0) = m ((c.tc : Thread Cert.AdamPleIdeal.nD Cert.AdamPleIdeal.τ).loc Cert.AdamPleIdeal.main_arg0)
      ∧ m' ((c.tc : Thread Cert.AdamPleRefIdeal.nD Cert.AdamPleRefIdeal.τ).loc Cert.AdamPleRefIdeal.main_arg1) = m ((c.tc : Thread Cert.AdamPleIdeal.nD Cert.AdamPleIdeal.τ).loc Cert.AdamPleIdeal.main_arg1)
      ∧ m' ((c.tc : Thread Cert.AdamPleRefIdeal.nD Cert.AdamPleRefIdeal.τ).loc Cert.AdamPleRefIdeal.main_arg2) = m ((c.tc : Thread Cert.AdamPleIdeal.nD Cert.AdamPleIdeal.τ).loc Cert.AdamPleIdeal.main_arg2)
      ∧ m' ((c.tc : Thread Cert.AdamPleRefIdeal.nD Cert.AdamPleRefIdeal.τ).loc Cert.AdamPleRefIdeal.main_arg3) = m ((c.tc : Thread Cert.AdamPleIdeal.nD Cert.AdamPleIdeal.τ).loc Cert.AdamPleIdeal.main_arg3)) →
    ∃ (v0 : (c : Dev Cert.AdamPleIdeal.nD) → Buf (Elt Ideal) ((c.tc : Thread Cert.AdamPleIdeal.nD Cert.AdamPleIdeal.τ).loc Cert.AdamPleIdeal.main_v4_0)) (v1 : (c : Dev Cert.AdamPleIdeal.nD) → Buf (Elt Ideal) ((c.tc : Thread Cert.AdamPleIdeal.nD Cert.AdamPleIdeal.τ).loc Cert.AdamPleIdeal.main_v4_1)) (v2 : (c : Dev Cert.AdamPleIdeal.nD) → Buf (Elt Ideal) ((c.tc : Thread Cert.AdamPleIdeal.nD Cert.AdamPleIdeal.τ).loc Cert.AdamPleIdeal.main_v4_2)),
      θ_run (Cert.AdamPleIdeal.defs (F := Ideal)) (onTc (τ := Cert.AdamPleIdeal.τ) (Cert.AdamPleIdeal.main (F := Ideal))) ⟨m, fun _ => 0, g⟩ (fun r => ∀ c : Dev Cert.AdamPleIdeal.nD,
          r.2.mem ((c.tc : Thread Cert.AdamPleIdeal.nD Cert.AdamPleIdeal.τ).loc Cert.AdamPleIdeal.main_v4_0) = v0 c
          ∧ r.2.mem ((c.tc : Thread Cert.AdamPleIdeal.nD Cert.AdamPleIdeal.τ).loc Cert.AdamPleIdeal.main_v4_1) = v1 c
          ∧ r.2.mem ((c.tc : Thread Cert.AdamPleIdeal.nD Cert.AdamPleIdeal.τ).loc Cert.AdamPleIdeal.main_v4_2) = v2 c
          ∧ r.2.mem ((c.tc : Thread Cert.AdamPleIdeal.nD Cert.AdamPleIdeal.τ).loc Cert.AdamPleIdeal.main_arg0) = m ((c.tc : Thread Cert.AdamPleIdeal.nD Cert.AdamPleIdeal.τ).loc Cert.AdamPleIdeal.main_arg0)
          ∧ r.2.mem ((c.tc : Thread Cert.AdamPleIdeal.nD Cert.AdamPleIdeal.τ).loc Cert.AdamPleIdeal.main_arg1) = m ((c.tc : Thread Cert.AdamPleIdeal.nD Cert.AdamPleIdeal.τ).loc Cert.AdamPleIdeal.main_arg1)
          ∧ r.2.mem ((c.tc : Thread Cert.AdamPleIdeal.nD Cert.AdamPleIdeal.τ).loc Cert.AdamPleIdeal.main_arg2) = m ((c.tc : Thread Cert.AdamPleIdeal.nD Cert.AdamPleIdeal.τ).loc Cert.AdamPleIdeal.main_arg2)
          ∧ r.2.mem ((c.tc : Thread Cert.AdamPleIdeal.nD Cert.AdamPleIdeal.τ).loc Cert.AdamPleIdeal.main_arg3) = m ((c.tc : Thread Cert.AdamPleIdeal.nD Cert.AdamPleIdeal.τ).loc Cert.AdamPleIdeal.main_arg3))
      ∧ θ_run (Cert.AdamPleRefIdeal.defs (F := Ideal)) (onTc (τ := Cert.AdamPleRefIdeal.τ) (Cert.AdamPleRefIdeal.main (F := Ideal))) ⟨m', fun _ => 0, g'⟩ (fun r => ∀ c : Dev Cert.AdamPleRefIdeal.nD,
          r.2.mem ((c.tc : Thread Cert.AdamPleRefIdeal.nD Cert.AdamPleRefIdeal.τ).loc Cert.AdamPleRefIdeal.main_v24) = v0 c
          ∧ r.2.mem ((c.tc : Thread Cert.AdamPleRefIdeal.nD Cert.AdamPleRefIdeal.τ).loc Cert.AdamPleRefIdeal.main_v25) = v1 c
          ∧ r.2.mem ((c.tc : Thread Cert.AdamPleRefIdeal.nD Cert.AdamPleRefIdeal.τ).loc Cert.AdamPleRefIdeal.main_v26) = v2 c
          ∧ r.2.mem ((c.tc : Thread Cert.AdamPleRefIdeal.nD Cert.AdamPleRefIdeal.τ).loc Cert.AdamPleRefIdeal.main_arg0) = m' ((c.tc : Thread Cert.AdamPleRefIdeal.nD Cert.AdamPleRefIdeal.τ).loc Cert.AdamPleRefIdeal.main_arg0)
          ∧ r.2.mem ((c.tc : Thread Cert.AdamPleRefIdeal.nD Cert.AdamPleRefIdeal.τ).loc Cert.AdamPleRefIdeal.main_arg1) = m' ((c.tc : Thread Cert.AdamPleRefIdeal.nD Cert.AdamPleRefIdeal.τ).loc Cert.AdamPleRefIdeal.main_arg1)
          ∧ r.2.mem ((c.tc : Thread Cert.AdamPleRefIdeal.nD Cert.AdamPleRefIdeal.τ).loc Cert.AdamPleRefIdeal.main_arg2) = m' ((c.tc : Thread Cert.AdamPleRefIdeal.nD Cert.AdamPleRefIdeal.τ).loc Cert.AdamPleRefIdeal.main_arg2)
          ∧ r.2.mem ((c.tc : Thread Cert.AdamPleRefIdeal.nD Cert.AdamPleRefIdeal.τ).loc Cert.AdamPleRefIdeal.main_arg3) = m' ((c.tc : Thread Cert.AdamPleRefIdeal.nD Cert.AdamPleRefIdeal.τ).loc Cert.AdamPleRefIdeal.main_arg3))

def Claim : Prop :=
  ∃ (hFfnIn : Cert.FfnIn.Facts) (hFfnInIdeal : Cert.FfnInIdeal.Facts) (hFfnInRefIdeal : Cert.FfnInRefIdeal.Facts) (hInproj : Cert.Inproj.Facts) (hInprojIdeal : Cert.InprojIdeal.Facts) (hInprojRefIdeal : Cert.InprojRefIdeal.Facts) (hFwd : Cert.Fwd.Facts) (hFwdIdeal : Cert.FwdIdeal.Facts) (hFwdRefIdeal : Cert.FwdRefIdeal.Facts) (hHidden : Cert.Hidden.Facts) (hHiddenIdeal : Cert.HiddenIdeal.Facts) (hHiddenRefIdeal : Cert.HiddenRefIdeal.Facts) (hLruProj : Cert.LruProj.Facts) (hLruProjIdeal : Cert.LruProjIdeal.Facts) (hLruProjRefIdeal : Cert.LruProjRefIdeal.Facts) (hPoolProj : Cert.PoolProj.Facts) (hPoolProjIdeal : Cert.PoolProjIdeal.Facts) (hPoolProjRefIdeal : Cert.PoolProjRefIdeal.Facts) (hHead : Cert.Head.Facts) (hHeadIdeal : Cert.HeadIdeal.Facts) (hHeadRefIdeal : Cert.HeadRefIdeal.Facts) (hAdamWin : Cert.AdamWin.Facts) (hAdamWinIdeal : Cert.AdamWinIdeal.Facts) (hAdamWinRefIdeal : Cert.AdamWinRefIdeal.Facts) (hAdamFfnIn : Cert.AdamFfnIn.Facts) (hAdamFfnInIdeal : Cert.AdamFfnInIdeal.Facts) (hAdamFfnInRefIdeal : Cert.AdamFfnInRefIdeal.Facts) (hAdamLru : Cert.AdamLru.Facts) (hAdamLruIdeal : Cert.AdamLruIdeal.Facts) (hAdamLruRefIdeal : Cert.AdamLruRefIdeal.Facts) (hAdamFfnOut : Cert.AdamFfnOut.Facts) (hAdamFfnOutIdeal : Cert.AdamFfnOutIdeal.Facts) (hAdamFfnOutRefIdeal : Cert.AdamFfnOutRefIdeal.Facts) (hAdamPool : Cert.AdamPool.Facts) (hAdamPoolIdeal : Cert.AdamPoolIdeal.Facts) (hAdamPoolRefIdeal : Cert.AdamPoolRefIdeal.Facts) (hAdamPle : Cert.AdamPle.Facts) (hAdamPleIdeal : Cert.AdamPleIdeal.Facts) (hAdamPleRefIdeal : Cert.AdamPleRefIdeal.Facts) (hPre_finite : Cert.Pre_finite.Facts),
    quiescent_FfnIn (hFfnIn := hFfnIn)
    ∧ quiescent_FfnInIdeal (hFfnInIdeal := hFfnInIdeal)
    ∧ quiescent_FfnInRefIdeal (hFfnInRefIdeal := hFfnInRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Fwd (hFwd := hFwd)
    ∧ quiescent_FwdIdeal (hFwdIdeal := hFwdIdeal)
    ∧ quiescent_FwdRefIdeal (hFwdRefIdeal := hFwdRefIdeal)
    ∧ quiescent_Hidden (hHidden := hHidden)
    ∧ quiescent_HiddenIdeal (hHiddenIdeal := hHiddenIdeal)
    ∧ quiescent_HiddenIdeal_pre_finite (hHiddenIdeal := hHiddenIdeal) (hPre_finite := hPre_finite)
    ∧ quiescent_HiddenRefIdeal (hHiddenRefIdeal := hHiddenRefIdeal)
    ∧ quiescent_HiddenRefIdeal_pre_finite (hHiddenRefIdeal := hHiddenRefIdeal) (hPre_finite := hPre_finite)
    ∧ quiescent_LruProj (hLruProj := hLruProj)
    ∧ quiescent_LruProjIdeal (hLruProjIdeal := hLruProjIdeal)
    ∧ quiescent_LruProjRefIdeal (hLruProjRefIdeal := hLruProjRefIdeal)
    ∧ quiescent_PoolProj (hPoolProj := hPoolProj)
    ∧ quiescent_PoolProjIdeal (hPoolProjIdeal := hPoolProjIdeal)
    ∧ quiescent_PoolProjRefIdeal (hPoolProjRefIdeal := hPoolProjRefIdeal)
    ∧ quiescent_Head (hHead := hHead)
    ∧ quiescent_HeadIdeal (hHeadIdeal := hHeadIdeal)
    ∧ quiescent_HeadRefIdeal (hHeadRefIdeal := hHeadRefIdeal)
    ∧ quiescent_AdamWin (hAdamWin := hAdamWin)
    ∧ quiescent_AdamWinIdeal (hAdamWinIdeal := hAdamWinIdeal)
    ∧ quiescent_AdamWinRefIdeal (hAdamWinRefIdeal := hAdamWinRefIdeal)
    ∧ quiescent_AdamFfnIn (hAdamFfnIn := hAdamFfnIn)
    ∧ quiescent_AdamFfnInIdeal (hAdamFfnInIdeal := hAdamFfnInIdeal)
    ∧ quiescent_AdamFfnInRefIdeal (hAdamFfnInRefIdeal := hAdamFfnInRefIdeal)
    ∧ quiescent_AdamLru (hAdamLru := hAdamLru)
    ∧ quiescent_AdamLruIdeal (hAdamLruIdeal := hAdamLruIdeal)
    ∧ quiescent_AdamLruRefIdeal (hAdamLruRefIdeal := hAdamLruRefIdeal)
    ∧ quiescent_AdamFfnOut (hAdamFfnOut := hAdamFfnOut)
    ∧ quiescent_AdamFfnOutIdeal (hAdamFfnOutIdeal := hAdamFfnOutIdeal)
    ∧ quiescent_AdamFfnOutRefIdeal (hAdamFfnOutRefIdeal := hAdamFfnOutRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ quiescent_AdamPle (hAdamPle := hAdamPle)
    ∧ quiescent_AdamPleIdeal (hAdamPleIdeal := hAdamPleIdeal)
    ∧ quiescent_AdamPleRefIdeal (hAdamPleRefIdeal := hAdamPleRefIdeal)
    ∧ preserves_FfnIn_FfnInIdeal
    ∧ algebraic_FfnInIdeal_FfnInRefIdeal (hFfnInIdeal := hFfnInIdeal) (hFfnInRefIdeal := hFfnInRefIdeal)
    ∧ preserves_Inproj_InprojIdeal
    ∧ algebraic_InprojIdeal_InprojRefIdeal (hInprojIdeal := hInprojIdeal) (hInprojRefIdeal := hInprojRefIdeal)
    ∧ preserves_Fwd_FwdIdeal
    ∧ algebraic_FwdIdeal_FwdRefIdeal (hFwdIdeal := hFwdIdeal) (hFwdRefIdeal := hFwdRefIdeal)
    ∧ preserves_Hidden_HiddenIdeal
    ∧ algebraic_HiddenIdeal_HiddenRefIdeal_pre_finite (hHiddenIdeal := hHiddenIdeal) (hHiddenRefIdeal := hHiddenRefIdeal) (hPre_finite := hPre_finite)
    ∧ preserves_LruProj_LruProjIdeal
    ∧ algebraic_LruProjIdeal_LruProjRefIdeal (hLruProjIdeal := hLruProjIdeal) (hLruProjRefIdeal := hLruProjRefIdeal)
    ∧ preserves_PoolProj_PoolProjIdeal
    ∧ algebraic_PoolProjIdeal_PoolProjRefIdeal (hPoolProjIdeal := hPoolProjIdeal) (hPoolProjRefIdeal := hPoolProjRefIdeal)
    ∧ preserves_Head_HeadIdeal
    ∧ algebraic_HeadIdeal_HeadRefIdeal (hHeadIdeal := hHeadIdeal) (hHeadRefIdeal := hHeadRefIdeal)
    ∧ preserves_AdamWin_AdamWinIdeal
    ∧ algebraic_AdamWinIdeal_AdamWinRefIdeal (hAdamWinIdeal := hAdamWinIdeal) (hAdamWinRefIdeal := hAdamWinRefIdeal)
    ∧ preserves_AdamFfnIn_AdamFfnInIdeal
    ∧ algebraic_AdamFfnInIdeal_AdamFfnInRefIdeal (hAdamFfnInIdeal := hAdamFfnInIdeal) (hAdamFfnInRefIdeal := hAdamFfnInRefIdeal)
    ∧ preserves_AdamLru_AdamLruIdeal
    ∧ algebraic_AdamLruIdeal_AdamLruRefIdeal (hAdamLruIdeal := hAdamLruIdeal) (hAdamLruRefIdeal := hAdamLruRefIdeal)
    ∧ preserves_AdamFfnOut_AdamFfnOutIdeal
    ∧ algebraic_AdamFfnOutIdeal_AdamFfnOutRefIdeal (hAdamFfnOutIdeal := hAdamFfnOutIdeal) (hAdamFfnOutRefIdeal := hAdamFfnOutRefIdeal)
    ∧ preserves_AdamPool_AdamPoolIdeal
    ∧ algebraic_AdamPoolIdeal_AdamPoolRefIdeal (hAdamPoolIdeal := hAdamPoolIdeal) (hAdamPoolRefIdeal := hAdamPoolRefIdeal)
    ∧ preserves_AdamPle_AdamPleIdeal
    ∧ algebraic_AdamPleIdeal_AdamPleRefIdeal (hAdamPleIdeal := hAdamPleIdeal) (hAdamPleRefIdeal := hAdamPleRefIdeal)
-- ==== Pre_finite.lean ====
abbrev S16384x1024 : Shape := ⟨2, ![16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x1024 : Shape := ⟨3, ![1, 1024, 1024]⟩
abbrev S1x256x1024 : Shape := ⟨3, ![1, 256, 1024]⟩
abbrev S1x1024x2816 : Shape := ⟨3, ![1, 1024, 2816]⟩
abbrev S_ : Shape := ⟨0, ![]⟩

class Facts : Prop where
  slices_S1x1024x5632_S1x1024x2816_0_0_2816 : S1x1024x5632.Slices ![0, 0, 2816] S1x1024x2816
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)
  bcast_S_S16384x1024 : S_.BroadcastsInDim S16384x1024 (![] : Fin 0 → Fin S16384x1024.rank)

variable [Facts]

def fn {F : FTy → Type} [FloatOps F] (main_arg0 : FVec F S16384x1024 .f32) (main_arg1 : FVec F S1x1024 .f32) (main_arg2 : FVec F S1x1024x5632 .f32) (main_arg3 : FVec F S1x2816x1024 .f32) (main_arg4 : FVec F S1x1024x1024 .f32) (main_arg5 : FVec F S1x256x1024 .f32) (main_arg6 : FVec F S16384x1024 .f32) : IVec S1x1024 1 × IVec S1x1024x2816 1 × IVec S1x2816x1024 1 × IVec S16384x1024 1 :=
  let main_v0 : FVec F S1x1024x2816 .f32 := (extractStridedSlice S1x1024x2816 ![0, 0, 2816] · slices_S1x1024x5632_S1x1024x2816_0_0_2816) main_arg2
  let main_v1 : FVec F S1x1024 .f32 := Host.absf main_arg1
  let main_cst : FVec F S_ .f32 := constant S_ .f32 0x7F800000#32
  let main_v2 : FVec F S1x1024 .f32 := broadcastInDim S1x1024 ![] bcast_S_S1x1024 main_cst
  let main_v3 : IVec S1x1024 1 := cmpf .olt main_v1 main_v2
  let main_v4 : FVec F S1x1024x2816 .f32 := Host.absf main_v0
  let main_cst_0 : FVec F S_ .f32 := constant S_ .f32 0x7F800000#32
  let main_v5 : FVec F S1x1024x2816 .f32 := broadcastInDim S1x1024x2816 ![] bcast_S_S1x1024x2816 main_cst_0
  let main_v6 : IVec S1x1024x2816 1 := cmpf .olt main_v4 main_v5
  let main_v7 : FVec F S1x2816x1024 .f32 := Host.absf main_arg3
  let main_cst_1 : FVec F S_ .f32 := constant S_ .f32 0x7F800000#32
  let main_v8 : FVec F S1x2816x1024 .f32 := broadcastInDim S1x2816x1024 ![] bcast_S_S1x2816x1024 main_cst_1
  let main_v9 : IVec S1x2816x1024 1 := cmpf .olt main_v7 main_v8
  let main_v10 : FVec F S16384x1024 .f32 := Host.absf main_arg6
  let main_cst_2 : FVec F S_ .f32 := constant S_ .f32 0x7F800000#32
  let main_v11 : FVec F S16384x1024 .f32 := broadcastInDim S16384x1024 ![] bcast_S_S16384x1024 main_cst_2
  let main_v12 : IVec S16384x1024 1 := cmpf .olt main_v10 main_v11
  (main_v3, main_v6, main_v9, main_v12)
-- ==== FfnIn.lean ====
abbrev S16384x1024 : Shape := ⟨2, ![16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x1024 : Shape := ⟨3, ![1, 1024, 1024]⟩
abbrev S1x256x1024 : Shape := ⟨3, ![1, 256, 1024]⟩
abbrev S16384x5632 : Shape := ⟨2, ![16384, 5632]⟩
abbrev S1024x5632 : Shape := ⟨2, ![1024, 5632]⟩
abbrev S5632x1024 : Shape := ⟨2, ![5632, 1024]⟩
abbrev S8x704x1024 : Shape := ⟨3, ![8, 704, 1024]⟩
abbrev S256x1024 : Shape := ⟨2, ![256, 1024]⟩
abbrev S1024x256 : Shape := ⟨2, ![1024, 256]⟩
abbrev S_ : Shape := ⟨0, ![]⟩
abbrev S1024x1024 : Shape := ⟨2, ![1024, 1024]⟩
abbrev S8x128x1024 : Shape := ⟨3, ![8, 128, 1024]⟩
abbrev S2816x1024 : Shape := ⟨2, ![2816, 1024]⟩
abbrev S8x352x1024 : Shape := ⟨3, ![8, 352, 1024]⟩
abbrev S8x1312x1024 : Shape := ⟨3, ![8, 1312, 1024]⟩
abbrev S512x5632 : Shape := ⟨2, ![512, 5632]⟩
abbrev S512x1024 : Shape := ⟨2, ![512, 1024]⟩
abbrev S8 : Shape := ⟨1, ![8]⟩
abbrev S1 : Shape := ⟨1, ![1]⟩
abbrev S704x1024 : Shape := ⟨2, ![704, 1024]⟩
abbrev S1x704x1024 : Shape := ⟨3, ![1, 704, 1024]⟩
abbrev S512 : Shape := ⟨1, ![512]⟩
abbrev S512x1 : Shape := ⟨2, ![512, 1]⟩
abbrev S1024 : Shape := ⟨1, ![1024]⟩

abbrev nBuf : Space → Nat
  | .hbm => 28
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024x1024, .f32⟩
  | .hbm, ⟨5, _⟩ => ⟨S1x256x1024, .f32⟩
  | .hbm, ⟨6, _⟩ => ⟨S16384x5632, .bf16⟩
  | .hbm, ⟨7, _⟩ => ⟨S16384x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | .hbm, ⟨11, _⟩ => ⟨S8x704x1024, .bf16⟩
  | .hbm, ⟨12, _⟩ => ⟨S256x1024, .f32⟩
  | .hbm, ⟨13, _⟩ => ⟨S1024x256, .f32⟩
  | .hbm, ⟨14, _⟩ => ⟨S_, .i32⟩
  | .hbm, ⟨15, _⟩ => ⟨S_, .f32⟩
  | .hbm, ⟨16, _⟩ => ⟨S1024x1024, .f32⟩
  | .hbm, ⟨17, _⟩ => ⟨S1024x1024, .bf16⟩
  | .hbm, ⟨18, _⟩ => ⟨S8x128x1024, .bf16⟩
  | .hbm, ⟨19, _⟩ => ⟨S2816x1024, .f32⟩
  | .hbm, ⟨20, _⟩ => ⟨S2816x1024, .bf16⟩
  | .hbm, ⟨21, _⟩ => ⟨S8x352x1024, .bf16⟩
  | .hbm, ⟨22, _⟩ => ⟨S1024x1024, .f32⟩
  | .hbm, ⟨23, _⟩ => ⟨S1024x1024, .bf16⟩
  | .hbm, ⟨24, _⟩ => ⟨S8x128x1024, .bf16⟩
  | .hbm, ⟨25, _⟩ => ⟨S8x1312x1024, .bf16⟩
  | .hbm, ⟨26, _⟩ => ⟨S16384x1024, .f32⟩
  | .hbm, ⟨27, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S5632x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FfnInRefIdeal.lean ====
abbrev S16384x1024 : Shape := ⟨2, ![16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x1024 : Shape := ⟨3, ![1, 1024, 1024]⟩
abbrev S1x256x1024 : Shape := ⟨3, ![1, 256, 1024]⟩
abbrev S16384x5632 : Shape := ⟨2, ![16384, 5632]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024x1024, .f32⟩
  | .hbm, ⟨5, _⟩ => ⟨S1x256x1024, .f32⟩
  | .hbm, ⟨6, _⟩ => ⟨S16384x5632, .bf16⟩
  | .hbm, ⟨7, _⟩ => ⟨S16384x1024, .f32⟩
  | .hbm, ⟨8, _⟩ => ⟨S1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S1024x5632, .f32⟩
  | .hbm, ⟨30, _⟩ => ⟨S16384x5632, .f32⟩
  | .hbm, ⟨31, _⟩ => ⟨S16384x5632, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S1024, .f32⟩
  | .hbm, ⟨41, _⟩ => ⟨S16384x1024, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== Inproj.lean ====
abbrev S16384x1024 : Shape := ⟨2, ![16384, 1024]⟩
abbrev S1x1024 : Shape := ⟨2, ![1, 1024]⟩
abbrev S1x1024x4608 : Shape := ⟨3, ![1, 1024, 4608]⟩
abbrev S1x1024x1024 : Shape := ⟨3, ![1, 1024, 1024]⟩
abbrev S16384x4608 : Shape := ⟨2, ![16384, 4608]⟩
abbrev S1024x4608 : Shape := ⟨2, ![1024, 4608]⟩
abbrev S4608x1024 : Shape := ⟨2, ![4608, 1024]⟩
abbrev S8x576x1024 : Shape := ⟨3, ![8, 576, 1024]⟩
abbrev S_ : Shape := ⟨0, ![]⟩
abbrev S8x16x1024 : Shape := ⟨3, ![8, 16, 1024]⟩
abbrev S8x592x1024 : Shape := ⟨3, ![8, 592, 1024]⟩
abbrev S1024x1024 : Shape := ⟨2, ![1024, 1024]⟩
abbrev S512x4608 : Shape := ⟨2, ![512, 4608]⟩
abbrev S512x1024 : Shape := ⟨2, ![512, 1024]⟩
abbrev S8 : Shape := ⟨1, ![8]⟩
abbrev S1 : Shape := ⟨1, ![1]⟩
abbrev S576x1024 : Shape := ⟨2, ![576, 1024]⟩
abbrev S1x576x1024 : Shape := ⟨3, ![1, 576, 1024]⟩
abbrev S512 : Shape := ⟨1, ![512]⟩
abbrev S512x1 : Shape := ⟨2, ![512, 1]⟩
abbrev S1024 : Shape := ⟨1, ![1024]⟩

abbrev nBuf : Space → Nat
  | .hbm => 17
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x4608, .f32⟩
  | .hbm, ⟨3, _⟩ => ⟨S1x1024x1024, .f32⟩
  | .hbm, ⟨4, _⟩ => ⟨S16384x1024, .bf16⟩
  | .hbm, ⟨5, _⟩ => ⟨S16384x4608, .bf16⟩
  | .hbm, ⟨6, _⟩ => ⟨S16384x1024, .f32⟩
  | .hbm, ⟨7, _⟩ => ⟨S1024x4608, .f32⟩
  | .hbm, ⟨8, _⟩ => ⟨S4608x1024, .f32⟩
  | .hbm, ⟨9, _⟩ => ⟨S4608x1024, .bf16⟩
  | .hbm, ⟨10, _⟩ => ⟨S8x576x1024, .bf16⟩
  | .hbm, ⟨11, _⟩ => ⟨S_, .bf16⟩
  | .hbm, ⟨12, _⟩ => ⟨S8x16x1024, .bf16⟩
  | .hbm, ⟨13, _⟩ => ⟨S8x592x1024, .bf16⟩
  | .hbm, ⟨14, _⟩ => ⟨S16384x1024, .f32⟩
  | .hbm, ⟨15, _⟩ => ⟨S1x1024, .f32⟩
  | .hbm, ⟨16, _⟩ => ⟨S1024x1024, .f32⟩
  | .local _ .vmem, ⟨0, _⟩ => ⟨S512x4608, .bf16⟩
  | .local _ .vmem, ⟨1, _⟩ => ⟨S512x4608, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1024x1024, .f32⟩
  | .local _ .vmem, ⟨13, _⟩ => ⟨S4608x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InprojRefIdeal.lean ====
abbrev S16384x1024 : Shape := ⟨2, ![16384, 1024]⟩
abbrev S1x1024 : Shape := ⟨2, ![1, 1024]⟩
abbrev S1x1024x4608 : Shape := ⟨3, ![1, 1024, 4608]⟩
abbrev S1x1024x1024 : Shape := ⟨3, ![1, 1024, 1024]⟩
abbrev S16384x4608 : Shape := ⟨2, ![16384, 4608]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x4608 : Shape := ⟨2, ![1024, 4608]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x4608, .f32⟩
  | .hbm, ⟨3, _⟩ => ⟨S1x1024x1024, .f32⟩
  | .hbm, ⟨4, _⟩ => ⟨S16384x1024, .bf16⟩
  | .hbm, ⟨5, _⟩ => ⟨S16384x4608, .bf16⟩
  | .hbm, ⟨6, _⟩ => ⟨S16384x1024, .f32⟩
  | .hbm, ⟨7, _⟩ => ⟨S1024x1024, .f32⟩
  | .hbm, ⟨8, _⟩ => ⟨S1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S1024x4608, .f32⟩
  | .hbm, ⟨30, _⟩ => ⟨S16384x4608, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x4608, .f32⟩
  | .hbm, ⟨35, _⟩ => ⟨S16384x1024, .f32⟩
  | .hbm, ⟨36, _⟩ => ⟨S1024x1024, .f32⟩
  | .hbm, ⟨37, _⟩ => ⟨S1024x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S1024, .f32⟩
  | .hbm, ⟨47, _⟩ => ⟨S16384x1024, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Fwd.lean ====
abbrev S16384x1024 : Shape := ⟨2, ![16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x1024 : Shape := ⟨3, ![1, 1024, 1024]⟩
abbrev S1x256x1024 : Shape := ⟨3, ![1, 256, 1024]⟩
abbrev S1024x5632 : Shape := ⟨2, ![1024, 5632]⟩
abbrev S5632x1024 : Shape := ⟨2, ![5632, 1024]⟩
abbrev S8x704x1024 : Shape := ⟨3, ![8, 704, 1024]⟩
abbrev S256x1024 : Shape := ⟨2, ![256, 1024]⟩
abbrev S1024x256 : Shape := ⟨2, ![1024, 256]⟩
abbrev S_ : Shape := ⟨0, ![]⟩
abbrev S1024x1024 : Shape := ⟨2, ![1024, 1024]⟩
abbrev S8x128x1024 : Shape := ⟨3, ![8, 128, 1024]⟩
abbrev S2816x1024 : Shape := ⟨2, ![2816, 1024]⟩
abbrev S8x352x1024 : Shape := ⟨3, ![8, 352, 1024]⟩
abbrev S8x1312x1024 : Shape := ⟨3, ![8, 1312, 1024]⟩
abbrev S16384x2816 : Shape := ⟨2, ![16384, 2816]⟩
abbrev S512x1024 : Shape := ⟨2, ![512, 1024]⟩
abbrev S512x2816 : Shape := ⟨2, ![512, 2816]⟩
abbrev S16 : Shape := ⟨1, ![16]⟩
abbrev S1 : Shape := ⟨1, ![1]⟩
abbrev S704x1024 : Shape := ⟨2, ![704, 1024]⟩
abbrev S1x704x1024 : Shape := ⟨3, ![1, 704, 1024]⟩
abbrev S352x1024 : Shape := ⟨2, ![352, 1024]⟩
abbrev S1x352x1024 : Shape := ⟨3, ![1, 352, 1024]⟩
abbrev S512 : Shape := ⟨1, ![512]⟩
abbrev S512x1 : Shape := ⟨2, ![512, 1]⟩
abbrev S768x1024 : Shape := ⟨2, ![768, 1024]⟩
abbrev S512x768 : Shape := ⟨2, ![512, 768]⟩
abbrev S512x512 : Shape := ⟨2, ![512, 512]⟩

abbrev nBuf : Space → Nat
  | .hbm => 28
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024x1024, .f32⟩
  | .hbm, ⟨5, _⟩ => ⟨S1x256x1024, .f32⟩
  | .hbm, ⟨6, _⟩ => ⟨S1024x5632, .f32⟩
  | .hbm, ⟨7, _⟩ => ⟨S5632x1024, .f32⟩
  | .hbm, ⟨8, _⟩ => ⟨S5632x1024, .bf16⟩
  | .hbm, ⟨9, _⟩ => ⟨S8x704x1024, .bf16⟩
  | .hbm, ⟨10, _⟩ => ⟨S256x1024, .f32⟩
  | .hbm, ⟨11, _⟩ => ⟨S1024x256, .f32⟩
  | .hbm, ⟨12, _⟩ => ⟨S_, .i32⟩
  | .hbm, ⟨13, _⟩ => ⟨S_, .f32⟩
  | .hbm, ⟨14, _⟩ => ⟨S1024x1024, .f32⟩
  | .hbm, ⟨15, _⟩ => ⟨S1024x1024, .bf16⟩
  | .hbm, ⟨16, _⟩ => ⟨S8x128x1024, .bf16⟩
  | .hbm, ⟨17, _⟩ => ⟨S2816x1024, .f32⟩
  | .hbm, ⟨18, _⟩ => ⟨S2816x1024, .bf16⟩
  | .hbm, ⟨19, _⟩ => ⟨S8x352x1024, .bf16⟩
  | .hbm, ⟨20, _⟩ => ⟨S1024x1024, .f32⟩
  | .hbm, ⟨21, _⟩ => ⟨S1024x1024, .bf16⟩
  | .hbm, ⟨22, _⟩ => ⟨S8x128x1024, .bf16⟩
  | .hbm, ⟨23, _⟩ => ⟨S8x1312x1024, .bf16⟩
  | .hbm, ⟨24, _⟩ => ⟨S16384x1024, .bf16⟩
  | .hbm, ⟨25, _⟩ => ⟨S16384x2816, .bf16⟩
  | .hbm, ⟨26, _⟩ => ⟨S16384x2816, .bf16⟩
  | .hbm, ⟨27, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x1024, .f32⟩
  | .local _ .vmem, ⟨10, _⟩ => ⟨S512x1024, .f32⟩
  | .local _ .vmem, ⟨11, _⟩ => ⟨S5632x1024, .bf16⟩
  | .local _ .vmem, ⟨12, _⟩ => ⟨S2816x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v16_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FwdRefIdeal.lean ====
abbrev S16384x1024 : Shape := ⟨2, ![16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x1024 : Shape := ⟨3, ![1, 1024, 1024]⟩
abbrev S1x256x1024 : Shape := ⟨3, ![1, 256, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩
abbrev S16384x5632 : Shape := ⟨2, ![16384, 5632]⟩
abbrev S16384x2816 : Shape := ⟨2, ![16384, 2816]⟩
abbrev S2816x1024 : Shape := ⟨2, ![2816, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024x1024, .f32⟩
  | .hbm, ⟨5, _⟩ => ⟨S1x256x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1024x5632, .f32⟩
  | .hbm, ⟨24, _⟩ => ⟨S16384x5632, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S2816x1024, .f32⟩
  | .hbm, ⟨38, _⟩ => ⟨S16384x1024, .f32⟩
  | .hbm, ⟨39, _⟩ => ⟨S16384x1024, .f32⟩
  | .hbm, ⟨40, _⟩ => ⟨S16384x1024, .bf16⟩
  | .hbm, ⟨41, _⟩ => ⟨S16384x2816, .bf16⟩
  | .hbm, ⟨42, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Hidden.lean ====
abbrev S16384x1024 : Shape := ⟨2, ![16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x1024 : Shape := ⟨3, ![1, 1024, 1024]⟩
abbrev S1x256x1024 : Shape := ⟨3, ![1, 256, 1024]⟩
abbrev S1024x5632 : Shape := ⟨2, ![1024, 5632]⟩
abbrev S5632x1024 : Shape := ⟨2, ![5632, 1024]⟩
abbrev S8x704x1024 : Shape := ⟨3, ![8, 704, 1024]⟩
abbrev S256x1024 : Shape := ⟨2, ![256, 1024]⟩
abbrev S1024x256 : Shape := ⟨2, ![1024, 256]⟩
abbrev S_ : Shape := ⟨0, ![]⟩
abbrev S1024x1024 : Shape := ⟨2, ![1024, 1024]⟩
abbrev S8x128x1024 : Shape := ⟨3, ![8, 128, 1024]⟩
abbrev S2816x1024 : Shape := ⟨2, ![2816, 1024]⟩
abbrev S8x352x1024 : Shape := ⟨3, ![8, 352, 1024]⟩
abbrev S8x1312x1024 : Shape := ⟨3, ![8, 1312, 1024]⟩
abbrev S1024 : Shape := ⟨1, ![1024]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩
abbrev S512x1024 : Shape := ⟨2, ![512, 1024]⟩
abbrev S512x2816 : Shape := ⟨2, ![512, 2816]⟩
abbrev S512x5632 : Shape := ⟨2, ![512, 5632]⟩
abbrev S8 : Shape := ⟨1, ![8]⟩
abbrev S1 : Shape := ⟨1, ![1]⟩
abbrev S352x1024 : Shape := ⟨2, ![352, 1024]⟩
abbrev S1x352x1024 : Shape := ⟨3, ![1, 352, 1024]⟩
abbrev S768x1024 : Shape := ⟨2, ![768, 1024]⟩
abbrev S512x768 : Shape := ⟨2, ![512, 768]⟩
abbrev S512x512 : Shape := ⟨2, ![512, 512]⟩

abbrev nBuf : Space → Nat
  | .hbm => 50
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024x1024, .f32⟩
  | .hbm, ⟨5, _⟩ => ⟨S1x256x1024, .f32⟩
  | .hbm, ⟨6, _⟩ => ⟨S16384x1024, .f32⟩
  | .hbm, ⟨7, _⟩ => ⟨S1024x5632, .f32⟩
  | .hbm, ⟨8, _⟩ => ⟨S5632x1024, .f32⟩
  | .hbm, ⟨9, _⟩ => ⟨S5632x1024, .bf16⟩
  | .hbm, ⟨10, _⟩ => ⟨S8x704x1024, .bf16⟩
  | .hbm, ⟨11, _⟩ => ⟨S256x1024, .f32⟩
  | .hbm, ⟨12, _⟩ => ⟨S1024x256, .f32⟩
  | .hbm, ⟨13, _⟩ => ⟨S_, .i32⟩
  | .hbm, ⟨14, _⟩ => ⟨S_, .f32⟩
  | .hbm, ⟨15, _⟩ => ⟨S1024x1024, .f32⟩
  | .hbm, ⟨16, _⟩ => ⟨S1024x1024, .bf16⟩
  | .hbm, ⟨17, _⟩ => ⟨S8x128x1024, .bf16⟩
  | .hbm, ⟨18, _⟩ => ⟨S2816x1024, .f32⟩
  | .hbm, ⟨19, _⟩ => ⟨S2816x1024, .bf16⟩
  | .hbm, ⟨20, _⟩ => ⟨S8x352x1024, .bf16⟩
  | .hbm, ⟨21, _⟩ => ⟨S1024x1024, .f32⟩
  | .hbm, ⟨22, _⟩ => ⟨S1024x1024, .bf16⟩
  | .hbm, ⟨23, _⟩ => ⟨S8x128x1024, .bf16⟩
  | .hbm, ⟨24, _⟩ => ⟨S8x1312x1024, .bf16⟩
  | .hbm, ⟨25, _⟩ => ⟨S1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S1024x5632, .f32⟩
  | .hbm, ⟨43, _⟩ => ⟨S16384x5632, .f32⟩
  | .hbm, ⟨44, _⟩ => ⟨S16384x2816, .f32⟩
  | .hbm, ⟨45, _⟩ => ⟨S16384x2816, .f32⟩
  | .hbm, ⟨46, _⟩ => ⟨S16384x2816, .bf16⟩
  | .hbm, ⟨47, _⟩ => ⟨S16384x2816, .bf16⟩
  | .hbm, ⟨48, _⟩ => ⟨S16384x5632, .bf16⟩
  | .hbm, ⟨49, _⟩ => ⟨S2816x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x5632, .bf16⟩
  | .local _ .vmem, ⟨7, _⟩ => ⟨S512x5632, .bf16⟩
  | .local _ .vmem, ⟨8, _⟩ => ⟨S2816x1024, .bf16⟩
  | .local _ .vmem, ⟨9, _⟩ => ⟨S2816x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36_0 : Ref sig .tc := ⟨.hbm, 48, rfl⟩
abbrev main_v36_1 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== HiddenRefIdeal.lean ====
abbrev S16384x1024 : Shape := ⟨2, ![16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x1024 : Shape := ⟨3, ![1, 1024, 1024]⟩
abbrev S1x256x1024 : Shape := ⟨3, ![1, 256, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩
abbrev S16384x5632 : Shape := ⟨2, ![16384, 5632]⟩
abbrev S16384x2816 : Shape := ⟨2, ![16384, 2816]⟩
abbrev S2816x1024 : Shape := ⟨2, ![2816, 1024]⟩
abbrev S1024x2816 : Shape := ⟨2, ![1024, 2816]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024x1024, .f32⟩
  | .hbm, ⟨5, _⟩ => ⟨S1x256x1024, .f32⟩
  | .hbm, ⟨6, _⟩ => ⟨S16384x1024, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1024x5632, .f32⟩
  | .hbm, ⟨25, _⟩ => ⟨S16384x5632, .f32⟩
  | .hbm, ⟨26, _⟩ => ⟨S16384x2816, .f32⟩
  | .hbm, ⟨27, _⟩ => ⟨S16384x2816, .f32⟩
  | .hbm, ⟨28, _⟩ => ⟨S2816x1024, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S_, .f32⟩
  | .hbm, ⟨35, _⟩ => ⟨S16384x2816, .f32⟩
  | .hbm, ⟨36, _⟩ => ⟨S16384x2816, .f32⟩
  | .hbm, ⟨37, _⟩ => ⟨S_, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S16384x1024, .f32⟩
  | .hbm, ⟨44, _⟩ => ⟨S1024x2816, .f32⟩
  | .hbm, ⟨45, _⟩ => ⟨S2816x1024, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S16384x2816, .f32⟩
  | .hbm, ⟨53, _⟩ => ⟨S16384x5632, .f32⟩
  | .hbm, ⟨54, _⟩ => ⟨S16384x5632, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v19_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v19_1 : Ref sig .tc := ⟨.hbm, 40, rfl⟩
abbrev main_v19_0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩

abbrev nD : Nat := 1
abbrev τ : Topo := Topo.v7x

variable {F : FTy → Type} [FloatOps F]
-- ==== LruProj.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== LruProjRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== PoolProj.lean ====
abbrev S16384x1024 : Shape := ⟨2, ![16384, 1024]⟩
abbrev S16384x512 : Shape := ⟨2, ![16384, 512]⟩
abbrev S1024x1024 : Shape := ⟨2, ![1024, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== PoolProjRefIdeal.lean ====
abbrev S16384x1024 : Shape := ⟨2, ![16384, 1024]⟩
abbrev S16384x512 : Shape := ⟨2, ![16384, 512]⟩
abbrev S_ : Shape := ⟨0, ![]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S_, .f32⟩
  | .hbm, ⟨3, _⟩ => ⟨S512x1024, .f32⟩
  | .hbm, ⟨4, _⟩ => ⟨S16384x512, .f32⟩
  | .hbm, ⟨5, _⟩ => ⟨S16384x1024, .f32⟩
  | .hbm, ⟨6, _⟩ => ⟨S16384x1024, .f32⟩
  | .hbm, ⟨7, _⟩ => ⟨S1024x512, .f32⟩
  | .hbm, ⟨8, _⟩ => ⟨S512x1024, .f32⟩
  | .hbm, ⟨9, _⟩ => ⟨S1024x512, .f32⟩
  | .hbm, ⟨10, _⟩ => ⟨S_, .i32⟩
  | .hbm, ⟨11, _⟩ => ⟨S_, .f32⟩
  | .hbm, ⟨12, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Head.lean ====
abbrev S16384x1024 : Shape := ⟨2, ![16384, 1024]⟩
abbrev S16384x256 : Shape := ⟨2, ![16384, 256]⟩
abbrev S1x1024 : Shape := ⟨2, ![1, 1024]⟩
abbrev S1024 : Shape := ⟨1, ![1024]⟩
abbrev S1x1024x5632 : Shape := ⟨3, ![1, 1024, 5632]⟩
abbrev S1x2816x1024 : Shape := ⟨3, ![1, 2816, 1024]⟩
abbrev S1x1024x1024 : Shape := ⟨3, ![1, 1024, 1024]⟩
abbrev S1x256x1024 : Shape := ⟨3, ![1, 256, 1024]⟩
abbrev S1024x5632 : Shape := ⟨2, ![1024, 5632]⟩
abbrev S5632x1024 : Shape := ⟨2, ![5632, 1024]⟩
abbrev S8x704x1024 : Shape := ⟨3, ![8, 704, 1024]⟩
abbrev S256x1024 : Shape := ⟨2, ![256, 1024]⟩
abbrev S1024x256 : Shape := ⟨2, ![1024, 256]⟩
abbrev S_ : Shape := ⟨0, ![]⟩
abbrev S1024x1024 : Shape := ⟨2, ![1024, 1024]⟩
abbrev S8x128x1024 : Shape := ⟨3, ![8, 128, 1024]⟩
abbrev S2816x1024 : Shape := ⟨2, ![2816, 1024]⟩
abbrev S8x352x1024 : Shape := ⟨3, ![8, 352, 1024]⟩
abbrev S8x1312x1024 : Shape := ⟨3, ![8, 1312, 1024]⟩
abbrev S8x128 : Shape := ⟨2, ![8, 128]⟩
abbrev S512x1024 : Shape := ⟨2, ![512, 1024]⟩
abbrev S512x256 : Shape := ⟨2, ![512, 256]⟩
abbrev S16 : Shape := ⟨1, ![16]⟩
abbrev S1 : Shape := ⟨1, ![1]⟩
abbrev S128x1024 : Shape := ⟨2, ![128, 1024]⟩
abbrev S1x128x1024 : Shape := ⟨3, ![1, 128, 1024]⟩
abbrev S128x256 : Shape := ⟨2, ![128, 256]⟩
abbrev S1x128x256 : Shape := ⟨3, ![1, 128, 256]⟩
abbrev S512 : Shape := ⟨1, ![512]⟩
abbrev S512x1 : Shape := ⟨2, ![512, 1]⟩
abbrev S1x512x1024 : Shape := ⟨3, ![1, 512, 1024]⟩
abbrev S1x1x1 : Shape := ⟨3, ![1, 1, 1]⟩

abbrev nBuf : Space → Nat
  | .hbm => 34
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x1024, .f32⟩
  | .hbm, ⟨3, _⟩ => ⟨S1x1024, .f32⟩
  | .hbm, ⟨4, _⟩ => ⟨S1024, .f32⟩
  | .hbm, ⟨5, _⟩ => ⟨S1x1024x5632, .f32⟩
  | .hbm, ⟨6, _⟩ => ⟨S1x2816x1024, .f32⟩
  | .hbm, ⟨7, _⟩ => ⟨S1x1024x1024, .f32⟩
  | .hbm, ⟨8, _⟩ => ⟨S1x256x1024, .f32⟩
  | .hbm, ⟨9, _⟩ => ⟨S1024x5632, .f32⟩
  | .hbm, ⟨10, _⟩ => ⟨S5632x1024, .f32⟩
  | .hbm, ⟨11, _⟩ => ⟨S5632x1024, .bf16⟩
  | .hbm, ⟨12, _⟩ => ⟨S8x704x1024, .bf16⟩
  | .hbm, ⟨13, _⟩ => ⟨S256x1024, .f32⟩
  | .hbm, ⟨14, _⟩ => ⟨S1024x256, .f32⟩
  | .hbm, ⟨15, _⟩ => ⟨S_, .i32⟩
  | .hbm, ⟨16, _⟩ => ⟨S_, .f32⟩
  | .hbm, ⟨17, _⟩ => ⟨S1024x1024, .f32⟩
  | .hbm, ⟨18, _⟩ => ⟨S1024x1024, .bf16⟩
  | .hbm, ⟨19, _⟩ => ⟨S8x128x1024, .bf16⟩
  | .hbm, ⟨20, _⟩ => ⟨S2816x1024, .f32⟩
  | .hbm, ⟨21, _⟩ => ⟨S2816x1024, .bf16⟩
  | .hbm, ⟨22, _⟩ => ⟨S8x352x1024, .bf16⟩
  | .hbm, ⟨23, _⟩ => ⟨S1024x1024, .f32⟩
  | .hbm, ⟨24, _⟩ => ⟨S1024x1024, .bf16⟩
  | .hbm, ⟨25, _⟩ => ⟨S8x128x1024, .bf16⟩
  | .hbm, ⟨26, _⟩ => ⟨S8x1312x1024, .bf16⟩
  | .hbm, ⟨27, _⟩ => ⟨S1x1024, .f32⟩
  | .hbm, ⟨28, _⟩ => ⟨S16384x1024, .f32⟩
  | .hbm, ⟨29, _⟩ => ⟨S8x128, .f32⟩
  | .hbm, ⟨30, _⟩ => ⟨S1x1024, .f32⟩
  | .hbm, ⟨31, _⟩ => ⟨S1x1024, .f32⟩
  | .hbm, ⟨32, _⟩ => ⟨S1024x1024, .f32⟩
  | .hbm, ⟨33, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x128, .f32⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_v17_3 : Ref sig .tc := ⟨.hbm, 31, rfl⟩
abbrev main_v17_4 : Ref sig .tc := ⟨.hbm, 32, rfl⟩
abbrev main_v17_5 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== HeadRefIdeal.lean ====
abbrev S16384x1024 : Shape := ⟨2, ![16384, 1024]⟩
abbrev S16384x256 : Shape := ⟨2, ![16384, 256]⟩
abbrev S1x1024 : Shape := ⟨2, ![1, 1024]⟩
abbrev S1024 : Shape := ⟨1, ![1024]⟩
abbrev S1x1024x5632 : Shape := ⟨3, ![1, 1024, 5632]⟩
abbrev S1x2816x1024 : Shape := ⟨3, ![1, 2816, 1024]⟩
abbrev S1x1024x1024 : Shape := ⟨3, ![1, 1024, 1024]⟩
abbrev S1x256x1024 : Shape := ⟨3, ![1, 256, 1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1024x256 : Shape := ⟨2, ![1024, 256]⟩
abbrev S8x128 : Shape := ⟨2, ![8, 128]⟩

abbrev nBuf : Space → Nat
  | .hbm => 157
  | .vmem => 0
  | .smem => 0
  | _ => 0

abbrev hbmTy0_0 (i : Nat) : BufTy := match i % 128 with
  | 0 => ⟨S16384x1024, .f32⟩
  | 1 => ⟨S16384x256, .f32⟩
  | 2 => ⟨S16384x1024, .f32⟩
  | 3 => ⟨S1x1024, .f32⟩
  | 4 => ⟨S1024, .f32⟩
  | 5 => ⟨S1x1024x5632, .f32⟩
  | 6 => ⟨S1x2816x1024, .f32⟩
  | 7 => ⟨S1x1024x1024, .f32⟩
  | 8 => ⟨S1x256x1024, .f32⟩
  | 9 => ⟨S1024x1024, .f32⟩
  | 10 => ⟨S256x1024, .f32⟩
  | 11 => ⟨S16384x1024, .f32⟩
  | 12 => ⟨S1024, .f32⟩
  | 13 => ⟨S16384x1024, .f32⟩
  | 14 => ⟨S_, .f32⟩
  | 15 => ⟨S16384, .f32⟩
  | 16 => ⟨S16384x1, .f32⟩
  | 17 => ⟨S_, .f32⟩
  | 18 => ⟨S16384x1, .f32⟩
  | 19 => ⟨S16384x1, .f32⟩
  | 20 => ⟨S_, .f32⟩
  | 21 => ⟨S16384x1, .f32⟩
  | 22 => ⟨S16384x1, .f32⟩
  | 23 => ⟨S16384x1, .f32⟩
  | 24 => ⟨S16384x1, .f32⟩
  | 25 => ⟨S_, .f32⟩
  | 26 => ⟨S16384x1, .f32⟩
  | 27 => ⟨S16384x1, .f32⟩
  | 28 => ⟨S16384x1024, .f32⟩
  | 29 => ⟨S16384x1024, .f32⟩
  | 30 => ⟨S1x1024, .f32⟩
  | 31 => ⟨S16384x1024, .f32⟩
  | 32 => ⟨S16384x1024, .f32⟩
  | 33 => ⟨S16384x1024, .f32⟩
  | 34 => ⟨S16384x1024, .f32⟩
  | 35 => ⟨S16384x1024, .f32⟩
  | 36 => ⟨S_, .f32⟩
  | 37 => ⟨S16384x1024, .f32⟩
  | 38 => ⟨S16384x1024, .f32⟩
  | 39 => ⟨S_, .f32⟩
  | 40 => ⟨S16384x1024, .f32⟩
  | 41 => ⟨S16384x1024, .f32⟩
  | 42 => ⟨S_, .f32⟩
  | 43 => ⟨S16384x1024, .f32⟩
  | 44 => ⟨S16384x1024, .f32⟩
  | 45 => ⟨S16384x1024, .f32⟩
  | 46 => ⟨S16384x1024, .f32⟩
  | 47 => ⟨S16384x1024, .f32⟩
  | 48 => ⟨S16384x1024, .f32⟩
  | 49 => ⟨S_, .f32⟩
  | 50 => ⟨S16384, .f32⟩
  | 51 => ⟨S16384x1, .f32⟩
  | 52 => ⟨S_, .f32⟩
  | 53 => ⟨S16384x1, .f32⟩
  | 54 => ⟨S16384x1, .f32⟩
  | 55 => ⟨S_, .f32⟩
  | 56 => ⟨S16384x1, .f32⟩
  | 57 => ⟨S16384x1, .f32⟩
  | 58 => ⟨S16384x1, .f32⟩
  | 59 => ⟨S16384x1, .f32⟩
  | 60 => ⟨S_, .f32⟩
  | 61 => ⟨S16384x1, .f32⟩
  | 62 => ⟨S16384x1, .f32⟩
  | 63 => ⟨S16384x1024, .f32⟩
  | 64 => ⟨S16384x1024, .f32⟩
  | 65 => ⟨S1x1024, .f32⟩
  | 66 => ⟨S16384x1024, .f32⟩
  | 67 => ⟨S16384x1024, .f32⟩
  | 68 => ⟨S16384x1024, .f32⟩
  | 69 => ⟨S16384x1024, .f32⟩
  | 70 => ⟨S_, .f32⟩
  | 71 => ⟨S16384x1024, .f32⟩
  | 72 => ⟨S16384x1024, .f32⟩
  | 73 => ⟨S_, .f32⟩
  | 74 => ⟨S16384, .f32⟩
  | 75 => ⟨S_, .f32⟩
  | 76 => ⟨S16384, .f32⟩
  | 77 => ⟨S16384, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S16384, .f32⟩
  | 86 => ⟨S_, .f32⟩
  | 87 => ⟨S16384, .f32⟩
  | 88 => ⟨S16384, .f32⟩
  | 89 => ⟨S16384x1024, .f32⟩
  | 90 => ⟨S16384x1024, .f32⟩
  | 91 => ⟨S16384x1024, .f32⟩
  | 92 => ⟨S_, .f32⟩
  | 93 => ⟨S1024, .f32⟩
  | 94 => ⟨S1x1024, .f32⟩
  | 95 => ⟨S16384x1024, .f32⟩
  | 96 => ⟨S16384x1024, .f32⟩
  | 97 => ⟨S_, .f32⟩
  | 98 => ⟨S1024, .f32⟩
  | 99 => ⟨S16384x1024, .f32⟩
  | 100 => ⟨S_, .f32⟩
  | 101 => ⟨S16384, .f32⟩
  | 102 => ⟨S16384x1, .f32⟩
  | 103 => ⟨S16384x1024, .f32⟩
  | 104 => ⟨S16384x1024, .f32⟩
  | 105 => ⟨S16384x1, .f32⟩
  | 106 => ⟨S_, .f32⟩
  | 107 => ⟨S16384x1, .f32⟩
  | 108 => ⟨S16384x1, .f32⟩
  | 109 => ⟨S_, .f32⟩
  | 110 => ⟨S16384, .f32⟩
  | 111 => ⟨S16384x1024, .f32⟩
  | 112 => ⟨S16384x1024, .f32⟩
  | 113 => ⟨S16384x1024, .f32⟩
  | 114 => ⟨S16384x1024, .f32⟩
  | 115 => ⟨S16384x1024, .f32⟩
  | 116 => ⟨S16384x1024, .f32⟩
  | 117 => ⟨S16384x1024, .f32⟩
  | 118 => ⟨S16384x1024, .f32⟩
  | 119 => ⟨S1024x1024, .f32⟩
  | 120 => ⟨S1024x1024, .f32⟩
  | 121 => ⟨S16384x1024, .f32⟩
  | 122 => ⟨S16384x1024, .f32⟩
  | 123 => ⟨S_, .f32⟩
  | 124 => ⟨S1024, .f32⟩
  | 125 => ⟨S1x1024, .f32⟩
  | 126 => ⟨S16384x1024, .f32⟩
  | 127 => ⟨S16384x1024, .f32⟩
  | _ => ⟨S16384x1024, .f32⟩

abbrev hbmTy0_1 (i : Nat) : BufTy := match i % 128 with
  | 0 => ⟨S_, .f32⟩
  | 1 => ⟨S1024, .f32⟩
  | 2 => ⟨S16384x1024, .f32⟩
  | 3 => ⟨S_, .f32⟩
  | 4 => ⟨S16384, .f32⟩
  | 5 => ⟨S16384x1, .f32⟩
  | 6 => ⟨S16384x1024, .f32⟩
  | 7 => ⟨S16384x1024, .f32⟩
  | 8 => ⟨S16384x1024, .f32⟩
  | 9 => ⟨S16384x1, .f32⟩
  | 10 => ⟨S_, .f32⟩
  | 11 => ⟨S16384x1, .f32⟩
  | 12 => ⟨S16384x1, .f32⟩
  | 13 => ⟨S_, .f32⟩
  | 14 => ⟨S16384, .f32⟩
  | 15 => ⟨S16384x1024, .f32⟩
  | 16 => ⟨S16384x1024, .f32⟩
  | 17 => ⟨S16384x1024, .f32⟩
  | 18 => ⟨S16384x1024, .f32⟩
  | 19 => ⟨S16384x1024, .f32⟩
  | 20 => ⟨S1x1024, .f32⟩
  | 21 => ⟨S1024x256, .f32⟩
  | 22 => ⟨S256x1024, .f32⟩
  | 23 => ⟨S8x128, .f32⟩
  | 24 => ⟨S1x1024, .f32⟩
  | 25 => ⟨S1024x256, .f32⟩
  | 26 => ⟨S_, .i32⟩
  | 27 => ⟨S_, .f32⟩
  | 28 => ⟨S1024x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_cst_14 : Ref sig .tc := ⟨.hbm, 80, rfl⟩
abbrev main_v56 : Ref sig .tc := ⟨.hbm, 81, rfl⟩
abbrev main_cst_15 : Ref sig .tc := ⟨.hbm, 82, rfl⟩
abbrev main_cst_16 : Ref sig .tc := ⟨.hbm, 83, rfl⟩
abbrev main_v57 : Ref sig .tc := ⟨.hbm, 84, rfl⟩
abbrev main_v58 : Ref sig .tc := ⟨.hbm, 85, rfl⟩
abbrev main_cst_17 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_18 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_19 : Ref sig .tc := ⟨.hbm, 97, rfl⟩
abbrev main_v68 : Ref sig .tc := ⟨.hbm, 98, rfl⟩
abbrev main_v69 : Ref sig .tc := ⟨.hbm, 99, rfl⟩
abbrev main_cst_20 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_21 : Ref sig .tc := ⟨.hbm, 106, rfl⟩
abbrev main_v75 : Ref sig .tc := ⟨.hbm, 107, rfl⟩
abbrev main_v76 : Ref sig .tc := ⟨.hbm, 108, rfl⟩
abbrev main_cst_22 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_23 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_24 : Ref sig .tc := ⟨.hbm, 128, rfl⟩
abbrev main_v94 : Ref sig .tc := ⟨.hbm, 129, rfl⟩
abbrev main_v95 : Ref sig .tc := ⟨.hbm, 130, rfl⟩
abbrev main_cst_25 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_26 : Ref sig .tc := ⟨.hbm, 138, rfl⟩
abbrev main_v102 : Ref sig .tc := ⟨.hbm, 139, rfl⟩
abbrev main_v103 : Ref sig .tc := ⟨.hbm, 140, rfl⟩
abbrev main_cst_27 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_c : Ref sig .tc := ⟨.hbm, 154, rfl⟩
abbrev main_call0_v0 : Ref sig .tc := ⟨.hbm, 155, rfl⟩
abbrev main_v116 : Ref sig .tc := ⟨.hbm, 156, rfl⟩

abbrev nD : Nat := 1
abbrev τ : Topo := Topo.v7x

variable {F : FTy → Type} [FloatOps F]
-- ==== AdamWin.lean ====
abbrev S1x1024x576 : Shape := ⟨3, ![1, 1024, 576]⟩
abbrev S576x1024 : Shape := ⟨2, ![576, 1024]⟩
abbrev S1024x576 : Shape := ⟨2, ![1024, 576]⟩
abbrev S192x1024 : Shape := ⟨2, ![192, 1024]⟩

abbrev nBuf : Space → Nat
  | .hbm => 13
  | .vmem => 14
  | .smem => 0
  | _ => 0

abbrev bufTy : (tb : Table) → Fin (tcTables nBuf tb) → BufTy
  | .hbm, ⟨0, _⟩ => ⟨S1x1024x576, .f32⟩
  | .hbm, ⟨1, _⟩ => ⟨S576x1024, .f32⟩
  | .hbm, ⟨2, _⟩ => ⟨S1x1024x576, .f32⟩
  | .hbm, ⟨3, _⟩ => ⟨S1x1024x576, .f32⟩
  | .hbm, ⟨4, _⟩ => ⟨S1024x576, .f32⟩
  | .hbm, ⟨5, _⟩ => ⟨S576x1024, .f32⟩
  | .hbm, ⟨6, _⟩ => ⟨S1024x576, .f32⟩
  | .hbm, ⟨7, _⟩ => ⟨S576x1024, .f32⟩
  | .hbm, ⟨8, _⟩ => ⟨S1024x576, .f32⟩
  | .hbm, ⟨9, _⟩ => ⟨S576x1024, .f32⟩
  | .hbm, ⟨10, _⟩ => ⟨S576x1024, .f32⟩
  | .hbm, ⟨11, _⟩ => ⟨S576x1024, .f32⟩
  | .hbm, ⟨12, _⟩ => ⟨S576x1024, .f32⟩
  | .local _ .vmem, ⟨0, _⟩ => ⟨S192x1024, .f32⟩
  | .local _ .vmem, ⟨1, _⟩ => ⟨S192x1024, .f32⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S192x1024, .f32⟩
  | .local _ .vmem, ⟨8, _⟩ => ⟨S192x1024, .f32⟩
  | .local _ .vmem, ⟨9, _⟩ => ⟨S192x1024, .f32⟩
  | .local _ .vmem, ⟨10, _⟩ => ⟨S192x1024, .f32⟩
  | .local _ .vmem, ⟨11, _⟩ => ⟨S192x1024, .f32⟩
  | .local _ .vmem, ⟨12, _⟩ => ⟨S192x1024, .f32⟩
  | .local _ .vmem, ⟨13, _⟩ => ⟨S192x1024, .f32⟩
  | _, _ => ⟨S1x1024x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWinRefIdeal.lean ====
abbrev S1x1024x576 : Shape := ⟨3, ![1, 1024, 576]⟩
abbrev S576x1024 : Shape := ⟨2, ![576, 1024]⟩
abbrev S1024x576 : Shape := ⟨2, ![1024, 576]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1x1024x576, .f32⟩
  | .hbm, ⟨1, _⟩ => ⟨S576x1024, .f32⟩
  | .hbm, ⟨2, _⟩ => ⟨S1x1024x576, .f32⟩
  | .hbm, ⟨3, _⟩ => ⟨S1x1024x576, .f32⟩
  | .hbm, ⟨4, _⟩ => ⟨S1024x576, .f32⟩
  | .hbm, ⟨5, _⟩ => ⟨S1x1024x576, .f32⟩
  | .hbm, ⟨6, _⟩ => ⟨S_, .f32⟩
  | .hbm, ⟨7, _⟩ => ⟨S1x1024x576, .f32⟩
  | .hbm, ⟨8, _⟩ => ⟨S1x1024x576, .f32⟩
  | .hbm, ⟨9, _⟩ => ⟨S_, .f32⟩
  | .hbm, ⟨10, _⟩ => ⟨S1x1024x576, .f32⟩
  | .hbm, ⟨11, _⟩ => ⟨S1x1024x576, .f32⟩
  | .hbm, ⟨12, _⟩ => ⟨S1x1024x576, .f32⟩
  | .hbm, ⟨13, _⟩ => ⟨S_, .f32⟩
  | .hbm, ⟨14, _⟩ => ⟨S1x1024x576, .f32⟩
  | .hbm, ⟨15, _⟩ => ⟨S1x1024x576, .f32⟩
  | .hbm, ⟨16, _⟩ => ⟨S1x1024x576, .f32⟩
  | .hbm, ⟨17, _⟩ => ⟨S_, .f32⟩
  | .hbm, ⟨18, _⟩ => ⟨S1x1024x576, .f32⟩
  | .hbm, ⟨19, _⟩ => ⟨S1x1024x576, .f32⟩
  | .hbm, ⟨20, _⟩ => ⟨S1x1024x576, .f32⟩
  | .hbm, ⟨21, _⟩ => ⟨S_, .f32⟩
  | .hbm, ⟨22, _⟩ => ⟨S1x1024x576, .f32⟩
  | .hbm, ⟨23, _⟩ => ⟨S1x1024x576, .f32⟩
  | .hbm, ⟨24, _⟩ => ⟨S_, .f32⟩
  | .hbm, ⟨25, _⟩ => ⟨S1x1024x576, .f32⟩
  | .hbm, ⟨26, _⟩ => ⟨S1x1024x576, .f32⟩
  | .hbm, ⟨27, _⟩ => ⟨S1x1024x576, .f32⟩
  | .hbm, ⟨28, _⟩ => ⟨S_, .f32⟩
  | .hbm, ⟨29, _⟩ => ⟨S1x1024x576, .f32⟩
  | .hbm, ⟨30, _⟩ => ⟨S1x1024x576, .f32⟩
  | .hbm, ⟨31, _⟩ => ⟨S1x1024x576, .f32⟩
  | .hbm, ⟨32, _⟩ => ⟨S_, .f32⟩
  | .hbm, ⟨33, _⟩ => ⟨S1x1024x576, .f32⟩
  | .hbm, ⟨34, _⟩ => ⟨S1x1024x576, .f32⟩
  | .hbm, ⟨35, _⟩ => ⟨S1x1024x576, .f32⟩
  | .hbm, ⟨36, _⟩ => ⟨S_, .f32⟩
  | .hbm, ⟨37, _⟩ => ⟨S1x1024x576, .f32⟩
  | .hbm, ⟨38, _⟩ => ⟨S1x1024x576, .f32⟩
  | .hbm, ⟨39, _⟩ => ⟨S1024x576, .f32⟩
  | .hbm, ⟨40, _⟩ => ⟨S576x1024, .f32⟩
  | .hbm, ⟨41, _⟩ => ⟨S1024x576, .f32⟩
  | .hbm, ⟨42, _⟩ => ⟨S576x1024, .f32⟩
  | .hbm, ⟨43, _⟩ => ⟨S1024x576, .f32⟩
  | .hbm, ⟨44, _⟩ => ⟨S576x1024, .f32⟩
  | _, _ => ⟨S1x1024x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== AdamFfnIn.lean ====
abbrev S1x1024x704 : Shape := ⟨3, ![1, 1024, 704]⟩
abbrev S704x1024 : Shape := ⟨2, ![704, 1024]⟩
abbrev S1024x704 : Shape := ⟨2, ![1024, 704]⟩
abbrev S176x1024 : Shape := ⟨2, ![176, 1024]⟩

abbrev nBuf : Space → Nat
  | .hbm => 13
  | .vmem => 14
  | .smem => 0
  | _ => 0

abbrev bufTy : (tb : Table) → Fin (tcTables nBuf tb) → BufTy
  | .hbm, ⟨0, _⟩ => ⟨S1x1024x704, .f32⟩
  | .hbm, ⟨1, _⟩ => ⟨S704x1024, .f32⟩
  | .hbm, ⟨2, _⟩ => ⟨S1x1024x704, .f32⟩
  | .hbm, ⟨3, _⟩ => ⟨S1x1024x704, .f32⟩
  | .hbm, ⟨4, _⟩ => ⟨S1024x704, .f32⟩
  | .hbm, ⟨5, _⟩ => ⟨S704x1024, .f32⟩
  | .hbm, ⟨6, _⟩ => ⟨S1024x704, .f32⟩
  | .hbm, ⟨7, _⟩ => ⟨S704x1024, .f32⟩
  | .hbm, ⟨8, _⟩ => ⟨S1024x704, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnInRefIdeal.lean ====
abbrev S1x1024x704 : Shape := ⟨3, ![1, 1024, 704]⟩
abbrev S704x1024 : Shape := ⟨2, ![704, 1024]⟩
abbrev S1024x704 : Shape := ⟨2, ![1024, 704]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1x1024x704, .f32⟩
  | .hbm, ⟨1, _⟩ => ⟨S704x1024, .f32⟩
  | .hbm, ⟨2, _⟩ => ⟨S1x1024x704, .f32⟩
  | .hbm, ⟨3, _⟩ => ⟨S1x1024x704, .f32⟩
  | .hbm, ⟨4, _⟩ => ⟨S1024x704, .f32⟩
  | .hbm, ⟨5, _⟩ => ⟨S1x1024x704, .f32⟩
  | .hbm, ⟨6, _⟩ => ⟨S_, .f32⟩
  | .hbm, ⟨7, _⟩ => ⟨S1x1024x704, .f32⟩
  | .hbm, ⟨8, _⟩ => ⟨S1x1024x704, .f32⟩
  | .hbm, ⟨9, _⟩ => ⟨S_, .f32⟩
  | .hbm, ⟨10, _⟩ => ⟨S1x1024x704, .f32⟩
  | .hbm, ⟨11, _⟩ => ⟨S1x1024x704, .f32⟩
  | .hbm, ⟨12, _⟩ => ⟨S1x1024x704, .f32⟩
  | .hbm, ⟨13, _⟩ => ⟨S_, .f32⟩
  | .hbm, ⟨14, _⟩ => ⟨S1x1024x704, .f32⟩
  | .hbm, ⟨15, _⟩ => ⟨S1x1024x704, .f32⟩
  | .hbm, ⟨16, _⟩ => ⟨S1x1024x704, .f32⟩
  | .hbm, ⟨17, _⟩ => ⟨S_, .f32⟩
  | .hbm, ⟨18, _⟩ => ⟨S1x1024x704, .f32⟩
  | .hbm, ⟨19, _⟩ => ⟨S1x1024x704, .f32⟩
  | .hbm, ⟨20, _⟩ => ⟨S1x1024x704, .f32⟩
  | .hbm, ⟨21, _⟩ => ⟨S_, .f32⟩
  | .hbm, ⟨22, _⟩ => ⟨S1x1024x704, .f32⟩
  | .hbm, ⟨23, _⟩ => ⟨S1x1024x704, .f32⟩
  | .hbm, ⟨24, _⟩ => ⟨S_, .f32⟩
  | .hbm, ⟨25, _⟩ => ⟨S1x1024x704, .f32⟩
  | .hbm, ⟨26, _⟩ => ⟨S1x1024x704, .f32⟩
  | .hbm, ⟨27, _⟩ => ⟨S1x1024x704, .f32⟩
  | .hbm, ⟨28, _⟩ => ⟨S_, .f32⟩
  | .hbm, ⟨29, _⟩ => ⟨S1x1024x704, .f32⟩
  | .hbm, ⟨30, _⟩ => ⟨S1x1024x704, .f32⟩
  | .hbm, ⟨31, _⟩ => ⟨S1x1024x704, .f32⟩
  | .hbm, ⟨32, _⟩ => ⟨S_, .f32⟩
  | .hbm, ⟨33, _⟩ => ⟨S1x1024x704, .f32⟩
  | .hbm, ⟨34, _⟩ => ⟨S1x1024x704, .f32⟩
  | .hbm, ⟨35, _⟩ => ⟨S1x1024x704, .f32⟩
  | .hbm, ⟨36, _⟩ => ⟨S_, .f32⟩
  | .hbm, ⟨37, _⟩ => ⟨S1x1024x704, .f32⟩
  | .hbm, ⟨38, _⟩ => ⟨S1x1024x704, .f32⟩
  | .hbm, ⟨39, _⟩ => ⟨S1024x704, .f32⟩
  | .hbm, ⟨40, _⟩ => ⟨S704x1024, .f32⟩
  | .hbm, ⟨41, _⟩ => ⟨S1024x704, .f32⟩
  | .hbm, ⟨42, _⟩ => ⟨S704x1024, .f32⟩
  | .hbm, ⟨43, _⟩ => ⟨S1024x704, .f32⟩
  | .hbm, ⟨44, _⟩ => ⟨S704x1024, .f32⟩
  | _, _ => ⟨S1x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== AdamLru.lean ====
abbrev S1x128x1024 : Shape := ⟨3, ![1, 128, 1024]⟩
abbrev S128x1024 : Shape := ⟨2, ![128, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLruRefIdeal.lean ====
abbrev S1x128x1024 : Shape := ⟨3, ![1, 128, 1024]⟩
abbrev S_ : Shape := ⟨0, ![]⟩
abbrev S128x1024 : Shape := ⟨2, ![128, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S_, .f32⟩
  | .hbm, ⟨5, _⟩ => ⟨S1x128x1024, .f32⟩
  | .hbm, ⟨6, _⟩ => ⟨S1x128x1024, .f32⟩
  | .hbm, ⟨7, _⟩ => ⟨S_, .f32⟩
  | .hbm, ⟨8, _⟩ => ⟨S1x128x1024, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S_, .f32⟩
  | .hbm, ⟨23, _⟩ => ⟨S1x128x1024, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S128x1024, .f32⟩
  | .hbm, ⟨38, _⟩ => ⟨S128x1024, .f32⟩
  | .hbm, ⟨39, _⟩ => ⟨S128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamFfnOut.lean ====
abbrev S1x352x1024 : Shape := ⟨3, ![1, 352, 1024]⟩
abbrev S352x1024 : Shape := ⟨2, ![352, 1024]⟩
abbrev S176x1024 : Shape := ⟨2, ![176, 1024]⟩

abbrev nBuf : Space → Nat
  | .hbm => 11
  | .vmem => 14
  | .smem => 0
  | _ => 0

abbrev bufTy : (tb : Table) → Fin (tcTables nBuf tb) → BufTy
  | .hbm, ⟨0, _⟩ => ⟨S1x352x1024, .f32⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S1x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnOutRefIdeal.lean ====
abbrev S1x352x1024 : Shape := ⟨3, ![1, 352, 1024]⟩
abbrev S_ : Shape := ⟨0, ![]⟩
abbrev S352x1024 : Shape := ⟨2, ![352, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x352x1024, .f32⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S_, .f32⟩
  | .hbm, ⟨5, _⟩ => ⟨S1x352x1024, .f32⟩
  | .hbm, ⟨6, _⟩ => ⟨S1x352x1024, .f32⟩
  | .hbm, ⟨7, _⟩ => ⟨S_, .f32⟩
  | .hbm, ⟨8, _⟩ => ⟨S1x352x1024, .f32⟩
  | .hbm, ⟨9, _⟩ => ⟨S1x352x1024, .f32⟩
  | .hbm, ⟨10, _⟩ => ⟨S1x352x1024, .f32⟩
  | .hbm, ⟨11, _⟩ => ⟨S_, .f32⟩
  | .hbm, ⟨12, _⟩ => ⟨S1x352x1024, .f32⟩
  | .hbm, ⟨13, _⟩ => ⟨S1x352x1024, .f32⟩
  | .hbm, ⟨14, _⟩ => ⟨S1x352x1024, .f32⟩
  | .hbm, ⟨15, _⟩ => ⟨S_, .f32⟩
  | .hbm, ⟨16, _⟩ => ⟨S1x352x1024, .f32⟩
  | .hbm, ⟨17, _⟩ => ⟨S1x352x1024, .f32⟩
  | .hbm, ⟨18, _⟩ => ⟨S1x352x1024, .f32⟩
  | .hbm, ⟨19, _⟩ => ⟨S_, .f32⟩
  | .hbm, ⟨20, _⟩ => ⟨S1x352x1024, .f32⟩
  | .hbm, ⟨21, _⟩ => ⟨S1x352x1024, .f32⟩
  | .hbm, ⟨22, _⟩ => ⟨S_, .f32⟩
  | .hbm, ⟨23, _⟩ => ⟨S1x352x1024, .f32⟩
  | .hbm, ⟨24, _⟩ => ⟨S1x352x1024, .f32⟩
  | .hbm, ⟨25, _⟩ => ⟨S1x352x1024, .f32⟩
  | .hbm, ⟨26, _⟩ => ⟨S_, .f32⟩
  | .hbm, ⟨27, _⟩ => ⟨S1x352x1024, .f32⟩
  | .hbm, ⟨28, _⟩ => ⟨S1x352x1024, .f32⟩
  | .hbm, ⟨29, _⟩ => ⟨S1x352x1024, .f32⟩
  | .hbm, ⟨30, _⟩ => ⟨S_, .f32⟩
  | .hbm, ⟨31, _⟩ => ⟨S1x352x1024, .f32⟩
  | .hbm, ⟨32, _⟩ => ⟨S1x352x1024, .f32⟩
  | .hbm, ⟨33, _⟩ => ⟨S1x352x1024, .f32⟩
  | .hbm, ⟨34, _⟩ => ⟨S_, .f32⟩
  | .hbm, ⟨35, _⟩ => ⟨S1x352x1024, .f32⟩
  | .hbm, ⟨36, _⟩ => ⟨S1x352x1024, .f32⟩
  | .hbm, ⟨37, _⟩ => ⟨S352x1024, .f32⟩
  | .hbm, ⟨38, _⟩ => ⟨S352x1024, .f32⟩
  | .hbm, ⟨39, _⟩ => ⟨S352x1024, .f32⟩
  | _, _ => ⟨S1x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamPool.lean ====
abbrev S1x512x128 : Shape := ⟨3, ![1, 512, 128]⟩
abbrev S512x128 : Shape := ⟨2, ![512, 128]⟩
abbrev S256x128 : Shape := ⟨2, ![256, 128]⟩

abbrev nBuf : Space → Nat
  | .hbm => 11
  | .vmem => 14
  | .smem => 0
  | _ => 0

abbrev bufTy : (tb : Table) → Fin (tcTables nBuf tb) → BufTy
  | .hbm, ⟨0, _⟩ => ⟨S1x512x128, .f32⟩
  | .hbm, ⟨1, _⟩ => ⟨S1x512x128, .f32⟩
  | .hbm, ⟨2, _⟩ => ⟨S1x512x128, .f32⟩
  | .hbm, ⟨3, _⟩ => ⟨S1x512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x128, .f32⟩
  | .hbm, ⟨9, _⟩ => ⟨S512x128, .f32⟩
  | .hbm, ⟨10, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S1x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamPoolRefIdeal.lean ====
abbrev S1x512x128 : Shape := ⟨3, ![1, 512, 128]⟩
abbrev S_ : Shape := ⟨0, ![]⟩
abbrev S512x128 : Shape := ⟨2, ![512, 128]⟩

abbrev nBuf : Space → Nat
  | .hbm => 40
  | .vmem => 0
  | .smem => 0
  | _ => 0

abbrev bufTy : (tb : Table) → Fin (tcTables nBuf tb) → BufTy
  | .hbm, ⟨0, _⟩ => ⟨S1x512x128, .f32⟩
  | .hbm, ⟨1, _⟩ => ⟨S1x512x128, .f32⟩
  | .hbm, ⟨2, _⟩ => ⟨S1x512x128, .f32⟩
  | .hbm, ⟨3, _⟩ => ⟨S1x512x128, .f32⟩
  | .hbm, ⟨4, _⟩ => ⟨S_, .f32⟩
  | .hbm, ⟨5, _⟩ => ⟨S1x512x128, .f32⟩
  | .hbm, ⟨6, _⟩ => ⟨S1x512x128, .f32⟩
  | .hbm, ⟨7, _⟩ => ⟨S_, .f32⟩
  | .hbm, ⟨8, _⟩ => ⟨S1x512x128, .f32⟩
  | .hbm, ⟨9, _⟩ => ⟨S1x512x128, .f32⟩
  | .hbm, ⟨10, _⟩ => ⟨S1x512x128, .f32⟩
  | .hbm, ⟨11, _⟩ => ⟨S_, .f32⟩
  | .hbm, ⟨12, _⟩ => ⟨S1x512x128, .f32⟩
  | .hbm, ⟨13, _⟩ => ⟨S1x512x128, .f32⟩
  | .hbm, ⟨14, _⟩ => ⟨S1x512x128, .f32⟩
  | .hbm, ⟨15, _⟩ => ⟨S_, .f32⟩
  | .hbm, ⟨16, _⟩ => ⟨S1x512x128, .f32⟩
  | .hbm, ⟨17, _⟩ => ⟨S1x512x128, .f32⟩
  | .hbm, ⟨18, _⟩ => ⟨S1x512x128, .f32⟩
  | .hbm, ⟨19, _⟩ => ⟨S_, .f32⟩
  | .hbm, ⟨20, _⟩ => ⟨S1x512x128, .f32⟩
  | .hbm, ⟨21, _⟩ => ⟨S1x512x128, .f32⟩
  | .hbm, ⟨22, _⟩ => ⟨S_, .f32⟩
  | .hbm, ⟨23, _⟩ => ⟨S1x512x128, .f32⟩
  | .hbm, ⟨24, _⟩ => ⟨S1x512x128, .f32⟩
  | .hbm, ⟨25, _⟩ => ⟨S1x512x128, .f32⟩
  | .hbm, ⟨26, _⟩ => ⟨S_, .f32⟩
  | .hbm, ⟨27, _⟩ => ⟨S1x512x128, .f32⟩
  | .hbm, ⟨28, _⟩ => ⟨S1x512x128, .f32⟩
  | .hbm, ⟨29, _⟩ => ⟨S1x512x128, .f32⟩
  | .hbm, ⟨30, _⟩ => ⟨S_, .f32⟩
  | .hbm, ⟨31, _⟩ => ⟨S1x512x128, .f32⟩
  | .hbm, ⟨32, _⟩ => ⟨S1x512x128, .f32⟩
  | .hbm, ⟨33, _⟩ => ⟨S1x512x128, .f32⟩
  | .hbm, ⟨34, _⟩ => ⟨S_, .f32⟩
  | .hbm, ⟨35, _⟩ => ⟨S1x512x128, .f32⟩
  | .hbm, ⟨36, _⟩ => ⟨S1x512x128, .f32⟩
  | .hbm, ⟨37, _⟩ => ⟨S512x128, .f32⟩
  | .hbm, ⟨38, _⟩ => ⟨S512x128, .f32⟩
  | .hbm, ⟨39, _⟩ => ⟨S512x128, .f32⟩
  | _, _ => ⟨S1x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamPle.lean ====
abbrev S1x256x128 : Shape := ⟨3, ![1, 256, 128]⟩
abbrev S256x128 : Shape := ⟨2, ![256, 128]⟩

abbrev nBuf : Space → Nat
  | .hbm => 11
  | .vmem => 7
  | .smem => 0
  | _ => 0

abbrev bufTy : (tb : Table) → Fin (tcTables nBuf tb) → BufTy
  | .hbm, ⟨0, _⟩ => ⟨S1x256x128, .f32⟩
  | .hbm, ⟨1, _⟩ => ⟨S1x256x128, .f32⟩
  | .hbm, ⟨2, _⟩ => ⟨S1x256x128, .f32⟩
  | .hbm, ⟨3, _⟩ => ⟨S1x256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .hbm, ⟨8, _⟩ => ⟨S256x128, .f32⟩
  | .hbm, ⟨9, _⟩ => ⟨S256x128, .f32⟩
  | .hbm, ⟨10, _⟩ => ⟨S256x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | _, _ => ⟨S1x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPleRefIdeal.lean ====
abbrev S1x256x128 : Shape := ⟨3, ![1, 256, 128]⟩
abbrev S_ : Shape := ⟨0, ![]⟩
abbrev S256x128 : Shape := ⟨2, ![256, 128]⟩

abbrev nBuf : Space → Nat
  | .hbm => 40
  | .vmem => 0
  | .smem => 0
  | _ => 0

abbrev bufTy : (tb : Table) → Fin (tcTables nBuf tb) → BufTy
  | .hbm, ⟨0, _⟩ => ⟨S1x256x128, .f32⟩
  | .hbm, ⟨1, _⟩ => ⟨S1x256x128, .f32⟩
  | .hbm, ⟨2, _⟩ => ⟨S1x256x128, .f32⟩
  | .hbm, ⟨3, _⟩ => ⟨S1x256x128, .f32⟩
  | .hbm, ⟨4, _⟩ => ⟨S_, .f32⟩
  | .hbm, ⟨5, _⟩ => ⟨S1x256x128, .f32⟩
  | .hbm, ⟨6, _⟩ => ⟨S1x256x128, .f32⟩
  | .hbm, ⟨7, _⟩ => ⟨S_, .f32⟩
  | .hbm, ⟨8, _⟩ => ⟨S1x256x128, .f32⟩
  | .hbm, ⟨9, _⟩ => ⟨S1x256x128, .f32⟩
  | .hbm, ⟨10, _⟩ => ⟨S1x256x128, .f32⟩
  | .hbm, ⟨11, _⟩ => ⟨S_, .f32⟩
  | .hbm, ⟨12, _⟩ => ⟨S1x256x128, .f32⟩
  | .hbm, ⟨13, _⟩ => ⟨S1x256x128, .f32⟩
  | .hbm, ⟨14, _⟩ => ⟨S1x256x128, .f32⟩
  | .hbm, ⟨15, _⟩ => ⟨S_, .f32⟩
  | .hbm, ⟨16, _⟩ => ⟨S1x256x128, .f32⟩
  | .hbm, ⟨17, _⟩ => ⟨S1x256x128, .f32⟩
  | .hbm, ⟨18, _⟩ => ⟨S1x256x128, .f32⟩
  | .hbm, ⟨19, _⟩ => ⟨S_, .f32⟩
  | .hbm, ⟨20, _⟩ => ⟨S1x256x128, .f32⟩
  | .hbm, ⟨21, _⟩ => ⟨S1x256x128, .f32⟩
  | .hbm, ⟨22, _⟩ => ⟨S_, .f32⟩
  | .hbm, ⟨23, _⟩ => ⟨S1x256x128, .f32⟩
  | .hbm, ⟨24, _⟩ => ⟨S1x256x128, .f32⟩
  | .hbm, ⟨25, _⟩ => ⟨S1x256x128, .f32⟩
  | .hbm, ⟨26, _⟩ => ⟨S_, .f32⟩
  | .hbm, ⟨27, _⟩ => ⟨S1x256x128, .f32⟩
  | .hbm, ⟨28, _⟩ => ⟨S1x256x128, .f32⟩
  | .hbm, ⟨29, _⟩ => ⟨S1x256x128, .f32⟩
  | .hbm, ⟨30, _⟩ => ⟨S_, .f32⟩
  | .hbm, ⟨31, _⟩ => ⟨S1x256x128, .f32⟩
  | .hbm, ⟨32, _⟩ => ⟨S1x256x128, .f32⟩
  | .hbm, ⟨33, _⟩ => ⟨S1x256x128, .f32⟩
  | .hbm, ⟨34, _⟩ => ⟨S_, .f32⟩
  | .hbm, ⟨35, _⟩ => ⟨S1x256x128, .f32⟩
  | .hbm, ⟨36, _⟩ => ⟨S1x256x128, .f32⟩
  | .hbm, ⟨37, _⟩ => ⟨S256x128, .f32⟩
  | .hbm, ⟨38, _⟩ => ⟨S256x128, .f32⟩
  | .hbm, ⟨39, _⟩ => ⟨S256x128, .f32⟩
  | _, _ => ⟨S1x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.FfnIn.RunA.lean ====
/- The body at the first point of the grid, run over its statements. -/
module

public import proofs.«01_k».proof.Proof.Gen.FfnInIdeal.Frame.Runs

@[expose] public section

set_option maxRecDepth 16384

noncomputable section

namespace Cert.FfnInIdeal.Launch

open Cert.FfnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option sl_exec.dmaWindow true in
set_option sl_exec.dmaWindowSet true in
set_option maxHeartbeats 1000000 in

/-- The pieces each buffer ends with in case A, found by the run of the body, with the proof of the run. -/
noncomputable def kernelRun0_A (c : Dev nD) (i : grid0.Coords) (arg1 : Memref sig .tc .vmem S512x5632 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg6 : Memref sig .tc .vmem S512x1024 .f32) (harg6 : arg6.IsWhole) (arg7 : Memref sig .tc .vmem S1x1024 .f32) (harg7 : arg7.IsWhole) (arg8 : Memref sig .tc .vmem S5632x1024 .bf16) (harg8 : arg8.IsWhole) (hc0 : cond0_0 i)
    (x0 : Vec F S512x5632 .bf16) (x1 : Vec F S512x1024 .f32) (x2 : Vec F S512x1024 .f32) (x3 : Vec F S1x1024 .f32) (fh0 : HbBuf0 (F := F) c hbM0_0) :
    Σ' (L4 : List (View.Piece (Elt F) S512x1024 .f32)), Σ' (L5 : List (View.Piece (Elt F) S1x1024 .f32)), { LS0 : List (View.Piece (Elt F) S5632x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d) ∗ (∃ d, owns (c : Thread nD τ) arg7 fullShare d) ∗ (∃ d, owns (c : Thread nD τ) arg8 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ hbPt0 c hbM0_0 fh0 ∗ (∃ W', owes (c : Thread nD τ) 0 W')) -∗ K ⟨⟩))
          ⊢ wp frame (wpE (defs₀ (F := F)) Variants.none c none) Set.univ (cc0_ffn_bwd_in i arg1 harg1 arg2 harg2 arg3 harg3 arg4 harg4 (Memref.whole main_v15) (Memref.isWhole_whole _) arg6 harg6 arg7 harg7 arg8 harg8 cc0_scratch1) K } := by
  refine ⟨?_, ?_, ?_, fun W K => ?run⟩
  case run =>
    simp only [cc0_ffn_bwd_in_eq_skeleton]; unfold cc0_ffn_bwd_in_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hq0, Hq1, Hq2, Hq3, Hq4, Hq5, Hq6, Hq7, Hh0, HW, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.FfnInIdeal.Launch

end
-- ==== Proof.FfnIn.RunB.lean ====
/- The body at a later point of the grid, run over its statements. -/
module

public import proofs.«01_k».proof.Proof.FfnIn.RunA

@[expose] public section

set_option maxRecDepth 16384

noncomputable section

namespace Cert.FfnInIdeal.Launch

open Cert.FfnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option sl_exec.dmaWindow true in
set_option sl_exec.dmaWindowSet true in
set_option maxHeartbeats 1000000 in

/-- The pieces each buffer ends with in case B, found by the run of the body, with the proof of the run. -/
noncomputable def kernelRun0_B (c : Dev nD) (i : grid0.Coords) (arg1 : Memref sig .tc .vmem S512x5632 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg6 : Memref sig .tc .vmem S512x1024 .f32) (harg6 : arg6.IsWhole) (arg7 : Memref sig .tc .vmem S1x1024 .f32) (harg7 : arg7.IsWhole) (arg8 : Memref sig .tc .vmem S5632x1024 .bf16) (harg8 : arg8.IsWhole) (hc0 : ¬cond0_0 i)
    (x0 : Vec F S512x5632 .bf16) (x1 : Vec F S512x1024 .f32) (x2 : Vec F S512x1024 .f32) (x3 : Vec F S1x1024 .f32) (xo5 : Vec F S1x1024 .f32) (xs0 : Vec F S5632x1024 .bf16) (fh0 : HbBuf0 (F := F) c hbM0_0) :
    Σ' (L4 : List (View.Piece (Elt F) S512x1024 .f32)), Σ' (L5 : List (View.Piece (Elt F) S1x1024 .f32)), { LS0 : List (View.Piece (Elt F) S5632x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d) ∗ owns (c : Thread nD τ) arg7 fullShare xo5 ∗ owns (c : Thread nD τ) arg8 fullShare xs0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xs0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ hbPt0 c hbM0_0 fh0 ∗ (∃ W', owes (c : Thread nD τ) 0 W')) -∗ K ⟨⟩))
          ⊢ wp frame (wpE (defs₀ (F := F)) Variants.none c none) Set.univ (cc0_ffn_bwd_in i arg1 harg1 arg2 harg2 arg3 harg3 arg4 harg4 (Memref.whole main_v15) (Memref.isWhole_whole _) arg6 harg6 arg7 harg7 arg8 harg8 cc0_scratch1) K } := by
  refine ⟨?_, ?_, [], fun W K => ?run⟩
  case run =>
    simp only [cc0_ffn_bwd_in_eq_skeleton]; unfold cc0_ffn_bwd_in_skel
    simp only [k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hq0, Hq1, Hq2, Hq3, Hq4, Hq5, Hq6, Hq7, Hh0, HW, Hk⟩
    obtain rfl := harg1.eq_unread hf0; obtain rfl := harg2.eq_unread hf1; obtain rfl := harg3.eq_unread hf2; obtain rfl := harg4.eq_unread hf3; obtain rfl := harg7.eq_unread hf5; obtain rfl := harg8.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]
    · iexists _; isplitr; · ipureintro; exact harg8.read_unread _
      iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.FfnInIdeal.Launch

end
-- ==== Proof.FfnIn.Frame.lean ====
/- What the body leaves at every point, the run of the whole program, and its frame. -/
module

public import proofs.«01_k».proof.Proof.FfnIn.RunB
public import Idealize.ShloMosaic.Lib.Claim

@[expose] public section

set_option maxRecDepth 16384

noncomputable section

namespace Cert.FfnInIdeal.Launch

open Cert.FfnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section CaseA

variable (c : Dev nD) (i : grid0.Coords) (arg1 : Memref sig .tc .vmem S512x5632 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg6 : Memref sig .tc .vmem S512x1024 .f32) (harg6 : arg6.IsWhole) (arg7 : Memref sig .tc .vmem S1x1024 .f32) (harg7 : arg7.IsWhole) (arg8 : Memref sig .tc .vmem S5632x1024 .bf16) (harg8 : arg8.IsWhole) (hc0 : cond0_0 i)
  (x0 : Vec F S512x5632 .bf16) (x1 : Vec F S512x1024 .f32) (x2 : Vec F S512x1024 .f32) (x3 : Vec F S1x1024 .f32) (fh0 : HbBuf0 (F := F) c hbM0_0)

/-- Case A's stores cover the block of window 4. -/
theorem cover0_A_4 (y : S512x1024.Idx) :
    ∃ pc ∈ (kernelRun0_A c i arg1 harg1 arg2 harg2 arg3 harg3 arg4 harg4 arg6 harg6 arg7 harg7 arg8 harg8 hc0 x0 x1 x2 x3 fh0).1, y ∈ pc.1.set :=
  View.cover_of_tiledL _ S512x1024.size (by sl_kernel_rfl) y

/-- What case A leaves in the block of window 4. -/
def out0_A_4 : Vec F S512x1024 .f32 :=
  VO0_4.read (Elt F) (VO0_4.writes (Elt F) VO0_4.junk (kernelRun0_A c i arg1 harg1 arg2 harg2 arg3 harg3 arg4 harg4 arg6 harg6 arg7 harg7 arg8 harg8 hc0 x0 x1 x2 x3 fh0).1)

/-- Case A's stores cover the block of window 5. -/
theorem cover0_A_5 (y : S1x1024.Idx) :
    ∃ pc ∈ (kernelRun0_A c i arg1 harg1 arg2 harg2 arg3 harg3 arg4 harg4 arg6 harg6 arg7 harg7 arg8 harg8 hc0 x0 x1 x2 x3 fh0).2.1, y ∈ pc.1.set :=
  View.cover_of_tiledL _ S1x1024.size (by sl_kernel_rfl) y

/-- What case A leaves in the block of window 5. -/
def out0_A_5 : Vec F S1x1024 .f32 :=
  VO0_5.read (Elt F) (VO0_5.writes (Elt F) VO0_5.junk (kernelRun0_A c i arg1 harg1 arg2 harg2 arg3 harg3 arg4 harg4 arg6 harg6 arg7 harg7 arg8 harg8 hc0 x0 x1 x2 x3 fh0).2.1)

/-- Case A's stores cover scratch 0. -/
theorem scover0_A_0 (y : S5632x1024.Idx) :
    ∃ pc ∈ (kernelRun0_A c i arg1 harg1 arg2 harg2 arg3 harg3 arg4 harg4 arg6 harg6 arg7 harg7 arg8 harg8 hc0 x0 x1 x2 x3 fh0).2.2.1, y ∈ pc.1.set :=
  View.cover_of_tiledL (kernelRun0_A c i arg1 harg1 arg2 harg2 arg3 harg3 arg4 harg4 arg6 harg6 arg7 harg7 arg8 harg8 hc0 x0 x1 x2 x3 fh0).2.2.1 S704x1024.size (by sl_kernel_rfl) y

/-- What case A leaves in scratch 0. -/
def sout0_A_0 : Vec F S5632x1024 .bf16 :=
  VS0_0.read (Elt F) (VS0_0.writes (Elt F) VS0_0.junk (kernelRun0_A c i arg1 harg1 arg2 harg2 arg3 harg3 arg4 harg4 arg6 harg6 arg7 harg7 arg8 harg8 hc0 x0 x1 x2 x3 fh0).2.2.1)

end CaseA

section CaseB

variable (c : Dev nD) (i : grid0.Coords) (arg1 : Memref sig .tc .vmem S512x5632 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg6 : Memref sig .tc .vmem S512x1024 .f32) (harg6 : arg6.IsWhole) (arg7 : Memref sig .tc .vmem S1x1024 .f32) (harg7 : arg7.IsWhole) (arg8 : Memref sig .tc .vmem S5632x1024 .bf16) (harg8 : arg8.IsWhole) (hc0 : ¬cond0_0 i)
  (x0 : Vec F S512x5632 .bf16) (x1 : Vec F S512x1024 .f32) (x2 : Vec F S512x1024 .f32) (x3 : Vec F S1x1024 .f32) (xo5 : Vec F S1x1024 .f32) (xs0 : Vec F S5632x1024 .bf16) (fh0 : HbBuf0 (F := F) c hbM0_0)

/-- Case B's stores cover the block of window 4. -/
theorem cover0_B_4 (y : S512x1024.Idx) :
    ∃ pc ∈ (kernelRun0_B c i arg1 harg1 arg2 harg2 arg3 harg3 arg4 harg4 arg6 harg6 arg7 harg7 arg8 harg8 hc0 x0 x1 x2 x3 xo5 xs0 fh0).1, y ∈ pc.1.set :=
  View.cover_of_tiledL _ S512x1024.size (by sl_kernel_rfl) y

/-- What case B leaves in the block of window 4. -/
def out0_B_4 : Vec F S512x1024 .f32 :=
  VO0_4.read (Elt F) (VO0_4.writes (Elt F) VO0_4.junk (kernelRun0_B c i arg1 harg1 arg2 harg2 arg3 harg3 arg4 harg4 arg6 harg6 arg7 harg7 arg8 harg8 hc0 x0 x1 x2 x3 xo5 xs0 fh0).1)

/-- Case B's stores cover the block of window 5. -/
theorem cover0_B_5 (y : S1x1024.Idx) :
    ∃ pc ∈ (kernelRun0_B c i arg1 harg1 arg2 harg2 arg3 harg3 arg4 harg4 arg6 harg6 arg7 harg7 arg8 harg8 hc0 x0 x1 x2 x3 xo5 xs0 fh0).2.1, y ∈ pc.1.set :=
  View.cover_of_tiledL _ S1x1024.size (by sl_kernel_rfl) y

/-- What case B leaves in the block of window 5. -/
def out0_B_5 : Vec F S1x1024 .f32 :=
  VO0_5.read (Elt F) (VO0_5.writes (Elt F) VO0_5.junk (kernelRun0_B c i arg1 harg1 arg2 harg2 arg3 harg3 arg4 harg4 arg6 harg6 arg7 harg7 arg8 harg8 hc0 x0 x1 x2 x3 xo5 xs0 fh0).2.1)

end CaseB

/-- What case B leaves in scratch 0. -/
def sout0_B_0 (c : Dev nD) (i : grid0.Coords) (arg1 : Memref sig .tc .vmem S512x5632 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg6 : Memref sig .tc .vmem S512x1024 .f32) (harg6 : arg6.IsWhole) (arg7 : Memref sig .tc .vmem S1x1024 .f32) (harg7 : arg7.IsWhole) (arg8 : Memref sig .tc .vmem S5632x1024 .bf16) (harg8 : arg8.IsWhole) (hc0 : ¬cond0_0 i)
    (x0 : Vec F S512x5632 .bf16) (x1 : Vec F S512x1024 .f32) (x2 : Vec F S512x1024 .f32) (x3 : Vec F S1x1024 .f32) (xo5 : Vec F S1x1024 .f32) (xs0 : Vec F S5632x1024 .bf16) (fh0 : HbBuf0 (F := F) c hbM0_0) : Vec F S5632x1024 .bf16 := xs0

/-- The contents a point of case A leaves. -/
def atA (c : Dev nD) (t : Fin cfg0.N) (h0 : t.val % 32 = 0) : Vec F S512x1024 .f32 × Vec F S1x1024 .f32 × Vec F S5632x1024 .bf16 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (V m c main_v15), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (V m c main_v15), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (V m c main_v15))

/-- The contents a point of case B leaves, from the contents `p` before it. -/
def atB (c : Dev nD) (t : Fin cfg0.N) (h0 : ¬t.val % 32 = 0) (p : Vec F S512x1024 .f32 × Vec F S1x1024 .f32 × Vec F S5632x1024 .bf16) : Vec F S512x1024 .f32 × Vec F S1x1024 .f32 × Vec F S5632x1024 .bf16 :=
  (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) p.2.1 p.2.2 (V m c main_v15), out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) p.2.1 p.2.2 (V m c main_v15), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) p.2.1 p.2.2 (V m c main_v15))

/-- What the output blocks and the scratch hold after each point. -/
def outsAt0 (c : Dev nD) : (n : ℕ) → n < cfg0.N → Vec F S512x1024 .f32 × Vec F S1x1024 .f32 × Vec F S5632x1024 .bf16
  | 0, hn => atA m c ⟨0, hn⟩ (Nat.zero_mod _)
  | n + 1, hn =>
    if h0 : (n + 1) % 32 = 0 then
      atA m c ⟨n + 1, hn⟩ h0
    else
      atB m c ⟨n + 1, hn⟩ h0 (outsAt0 c n (Nat.lt_of_succ_lt hn))

/-- The contents after a point of case A. -/
theorem outsAt0_A (c : Dev nD) (t : Fin cfg0.N) (h0 : t.val % 32 = 0) :
    outsAt0 m c t.val t.isLt = atA m c t h0 := by
  obtain ⟨n, hn⟩ := t
  cases n with
  | zero => exact rfl
  | succ n => exact (dif_pos h0).trans rfl

/-- The contents after a point of case B. -/
theorem outsAt0_B (c : Dev nD) (t : Fin cfg0.N) (h0 : ¬t.val % 32 = 0) :
    outsAt0 m c t.val t.isLt = atB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What is carried between the points. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) ∗ iprop(hbPt0 c hbM0_0 (V m c main_v15)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) ∗ iprop(hbPt0 c hbM0_0 (V m c main_v15))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) ∗ iprop(hbPt0 c hbM0_0 (V m c main_v15))) := by
  cases n with
  | zero => exact absurd rfl hz
  | succ n => rfl

/-- The proof data of the run: what each window holds after each point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem before0_5_B (c : Dev nD) (t : Fin cfg0.N) (h0 : ¬t.val % 32 = 0) (d) :
    (dats m 0 c).before 5 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 3200000 in

/-- The body at any point takes the contents before it to those after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ,
    after0_0, after0_1, after0_2, after0_3, after0_4, after0_5]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases hz : t.val = 0
    · rw [PhiS_castSucc m c t, PhiS_zero m c _ _ hz, PhiD0_eq]
      rw [outsAt0_A m c t h0, atA]
      unfold out0_A_4 out0_A_5 sout0_A_0; (try dsimp only)
      iintro ⟨⟨HS0, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m c 0 t) (iblk m c 1 t) (iblk m c 2 t) (iblk m c 3 t) (V m c main_v15)).2.2.2 W _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hh0]; · iexact Hh0
      isplitl [HW]; · iexact HW
      iintro ⟨H0, H1, H2, H3, ⟨%e4, H4⟩, ⟨%e5, H5⟩, ⟨%es0, HS0⟩, Hq0, Hq1, Hq2, Hq3, Hq4, Hq5, Hq6, Hq7, Hh0, ⟨%W', HW'⟩⟩
      isplitl [HS0 Hg Hq0 Hq1 Hq2 Hq3 Hq4 Hq5 Hq6 Hq7 Hh0]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _)
        isplitl [Hg]
        · iexact Hg
        isplitl [Hq0 Hq1 Hq2 Hq3 Hq4 Hq5 Hq6 Hq7]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          iexact Hq7
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _ _)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0, atB]
      simp only [before0_5_B m c t h0]
      unfold out0_B_4 out0_B_5 sout0_B_0; (try dsimp only)
      iintro ⟨⟨HS0, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (iblk m c 0 t) (iblk m c 1 t) (iblk m c 2 t) (iblk m c 3 t) _ _ (V m c main_v15)).2.2.2 W _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hh0]; · iexact Hh0
      isplitl [HW]; · iexact HW
      iintro ⟨H0, H1, H2, H3, ⟨%e4, H4⟩, ⟨%e5, H5⟩, HS0, Hq0, Hq1, Hq2, Hq3, Hq4, Hq5, Hq6, Hq7, Hh0, ⟨%W', HW'⟩⟩
      isplitl [HS0 Hg Hq0 Hq1 Hq2 Hq3 Hq4 Hq5 Hq6 Hq7 Hh0]
      · isplitl [HS0]
        · iexact HS0
        isplitl [Hg]
        · iexact Hg
        isplitl [Hq0 Hq1 Hq2 Hq3 Hq4 Hq5 Hq6 Hq7]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          iexact Hq7
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _)
      unfold owns; iexists _; isplitr
      swap; · iexact H5
      ipureintro; exact View.read_writes_of_cover _ _ _ _ _ (cover0_B_5 c _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The obligation of the body at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨HS0, Hg, ⟨Hq0, Hq1, Hq2, Hq3, Hq4, Hq5, Hq6, Hq7⟩, Hh0⟩
  isplitl [HS0]
  · iexists _; iexact HS0
  isplitl [Hg]; · iexact Hg
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  iexact Hh0

theorem hout (c : Dev nD) : (dats m 0 c).Φ (Fin.last cfg0.N) ⊢ Pipeline.ΦD osem0 spec0 H0 (V m) c :=
  Phi_out m c _ (by rw [Fin.val_last]; have : cfg0.N = 32 := N_0; omega)

set_option backward.isDefEq.respectTransparency.types false in

/-- The run of the program, with every semaphore counter back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The run of the program. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The argument arrays are unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.FfnInIdeal.Launch

end
-- ==== Proof.FfnIn.Value.lean ====
/- What every point writes back, and the output arrays of the run block by block. -/
module

public import proofs.«01_k».proof.Proof.FfnIn.Frame
public import Idealize.ShloMosaic.Lib.Pipeline.Value

@[expose] public section

noncomputable section

namespace Cert.FfnInIdeal.Value

open Cert.FfnInIdeal Cert.FfnInIdeal.Gen Cert.FfnInIdeal.Launch Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem post4 (r : PUnit × MemSt nD τ sig (Elt F)) (h : Pipeline.FramePost cfgs (dats m) 0 (V m) r) (c : Dev nD) :
    r.2.mem ((c : Thread nD τ).loc main_v16_0) = (dats m 0 c).arrAt 4 cfg0.N :=
  (h c).1 4

theorem post5 (r : PUnit × MemSt nD τ sig (Elt F)) (h : Pipeline.FramePost cfgs (dats m) 0 (V m) r) (c : Dev nD) :
    r.2.mem ((c : Thread nD τ).loc main_v16_1) = (dats m 0 c).arrAt 5 cfg0.N :=
  (h c).1 5

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 0).trans (((dats m 0 c).arrAt_in 0 rfl _).trans ((A_eq m c 0).trans (V_main_arg6 m c)))

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 2).trans (((dats m 0 c).arrAt_in 2 rfl _).trans ((A_eq m c 2).trans (V_main_arg7 m c)))

/-- The run with each output array named. -/
theorem run_blocks : θ_run defs (onTc (τ := τ) (main (F := F))) ⟨m, fun _ => 0, ρ⟩ fun r => ∀ c : Dev nD,
      r.2.mem ((c : Thread nD τ).loc main_v16_0) = (dats m 0 c).arrAt 4 cfg0.N
      ∧ r.2.mem ((c : Thread nD τ).loc main_v16_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post4 m r h c,
      post5 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.FfnInIdeal.Value

end
-- ==== Proof.FfnIn.Val.lean ====
module

public import proofs.«01_k».proof.Proof.FfnIn.Value
public import proofs.«01_k».proof.Proof.Gen.FfnInRefIdeal.Run
public import Idealize.ShloMosaic.Lib.Pipeline.ValueKit

@[expose] public section

set_option maxRecDepth 16384

noncomputable section

namespace Cert.FfnInIdeal.Val

open Cert.FfnInIdeal Cert.FfnInIdeal.Gen Cert.FfnInIdeal.Launch Idealize.ShloMosaic Idealize.ShloMosaic.TcCoe Idealize.SL.Sem
open Idealize.ShloMosaic.Pipeline (Dat)

variable (m : (ℓ : Loc nD τ sig) → Buf (Elt Ideal) ℓ)

theorem gw_pure (X : FVec Ideal S1x1024x5632 .f32) (k : Fin 8) (r : Fin 704) (d : Fin 1024) :
    shapeCast S8x704x1024 (fun i => truncf (F := Ideal) FTy.bf16 (transpose S5632x1024 [1, 0] (shapeCast S1024x5632 X
      shapeCasts_S1x1024x5632_S1024x5632) transposes_S1024x5632_S5632x1024_1_0) bitsLt_bf16_f32 i) shapeCasts_S5632x1024_S8x704x1024 (ix3 k r d) =
      X (ix3 0 d ⟨704 * k.val + r.val, by omega⟩) := by
  pointwise []
  blk_point []

theorem gw_at (c : Dev nD) (k : Fin 8) (r : Fin 704) (d : Fin 1024) :
    (V m c main_v15 : S8x1312x1024.Idx → EReal) (ix3 k ⟨r.val, by omega⟩ d) = m ((c : Thread nD τ).loc main_arg2) (ix3 0 d ⟨704 * k.val + r.val, by omega⟩) := by
  unfold V
  simp only [hostOps0, hostOps0_1, hostOps0_2, List.flatten_cons, List.flatten_nil, List.append_nil, List.cons_append, List.nil_append]
  after_results
  pointwise []
  after_results_simp
  exact gw_pure _ k r d

theorem slab_read (G : S8x1312x1024.Idx → EReal) (k : Fin 8) (a : Fin 704) (b : Fin 1024)
    (hk : ∀ x, (![k.val, 0, 0] : Fin 3 → Nat) x + (![1, 704, 1024] : Fin 3 → Nat) x ≤ S8x1312x1024.size x) (hn) :
    (View.read (Elt Ideal) (((View.whole main_v15).slice (Rect.unit ![k.val, 0, 0] ![1, 704, 1024] hk)).reshape S704x1024 hn) G : S704x1024.Idx → EReal) (ix2 a b) =
      G (ix3 k ⟨a.val, by omega⟩ b) := by
  have h : Shape.reshapeEquiv (s := S1x704x1024) (s' := S704x1024) hn (ix2 a b) = ix3 0 a b := by
    simp only [reshapeIdx]
  refine (congrArg (fun i => G ((Rect.unit ![k.val, 0, 0] ![1, 704, 1024] hk).emb i)) h).trans (congrArg G ?_)
  funext i
  fin_cases i <;> (apply Fin.ext; simp [Rect.emb, LoadRect.idx, Rect.unit])

theorem slab_at (c : Dev nD) (k : Fin 8) (j : Fin 5632) (d : Fin 1024) (a : Fin 704) (b : Fin 1024)
    (h0 : j.val = 704 * k.val + a.val) (h1 : d.val = b.val) (hk) (hn) :
    (View.read (Elt Ideal) (((View.whole main_v15).slice (Rect.unit ![k.val, 0, 0] ![1, 704, 1024] hk)).reshape S704x1024 hn) (V m c main_v15) : S704x1024.Idx → EReal) (ix2 a b) =
      m ((c : Thread nD τ).loc main_arg2) (ix3 0 d j) := by
  rw [slab_read, gw_at m c k a b]
  congr 2
  · exact Fin.ext h1.symm
  · exact Fin.ext h0.symm

theorem wt_A (c : Dev nD) (t : Fin cfg0.N) (h0 : t.val % 32 = 0) (j : Fin 5632) (d : Fin 1024) :
    (outsAt0 m c t.val t.isLt).2.2 (ix2 j d) = m ((c : Thread nD τ).loc main_arg2) (ix3 0 d j) := by
  rw [outsAt0_A m c t h0, atA]
  dsimp only
  frame_out
  canon_tiles y h
  case piece0 =>
    obtain ⟨a, b, rfl⟩ : ∃ (a : Fin 704) (b : Fin 1024), y = ix2 a b := ⟨y 0, y 1, by funext i; fin_cases i <;> rfl⟩
    exact slab_at m c 7 j d a b h0 h1 _ _
  case piece1 =>
    obtain ⟨a, b, rfl⟩ : ∃ (a : Fin 704) (b : Fin 1024), y = ix2 a b := ⟨y 0, y 1, by funext i; fin_cases i <;> rfl⟩
    exact slab_at m c 6 j d a b h0 h1 _ _
  case piece2 =>
    obtain ⟨a, b, rfl⟩ : ∃ (a : Fin 704) (b : Fin 1024), y = ix2 a b := ⟨y 0, y 1, by funext i; fin_cases i <;> rfl⟩
    exact slab_at m c 5 j d a b h0 h1 _ _
  case piece3 =>
    obtain ⟨a, b, rfl⟩ : ∃ (a : Fin 704) (b : Fin 1024), y = ix2 a b := ⟨y 0, y 1, by funext i; fin_cases i <;> rfl⟩
    exact slab_at m c 4 j d a b h0 h1 _ _
  case piece4 =>
    obtain ⟨a, b, rfl⟩ : ∃ (a : Fin 704) (b : Fin 1024), y = ix2 a b := ⟨y 0, y 1, by funext i; fin_cases i <;> rfl⟩
    exact slab_at m c 3 j d a b h0 h1 _ _
  case piece5 =>
    obtain ⟨a, b, rfl⟩ : ∃ (a : Fin 704) (b : Fin 1024), y = ix2 a b := ⟨y 0, y 1, by funext i; fin_cases i <;> rfl⟩
    exact slab_at m c 2 j d a b h0 h1 _ _
  case piece6 =>
    obtain ⟨a, b, rfl⟩ : ∃ (a : Fin 704) (b : Fin 1024), y = ix2 a b := ⟨y 0, y 1, by funext i; fin_cases i <;> rfl⟩
    exact slab_at m c 1 j d a b h0 h1 _ _
  case piece7 =>
    have h0 : j.val = _ := h0
    obtain ⟨a, b, rfl⟩ : ∃ (a : Fin 704) (b : Fin 1024), y = ix2 a b := ⟨y 0, y 1, by funext i; fin_cases i <;> rfl⟩
    exact slab_at m c 0 j d a b (h0.trans (by simp)) h1 _ _

end Cert.FfnInIdeal.Val
-- ==== Proof.Norm.Real.lean ====
module
public import Idealize.ShloMosaic.Lib.Pipeline.ValueKit
@[expose] public section
set_option maxRecDepth 16384
noncomputable section
/-! The backward lines of a root-mean-square norm over the extended reals: the form a kernel folds them into against the form
    differentiation gives, equal for every row, infinities included. -/
namespace Cert.Norm
open Idealize.ShloMosaic

/-- The mean of a row's squares plus the norm's epsilon. -/
def mean (x : Fin 1024 → EReal) : EReal :=
  Ideal.div (∑ e, x e * x e) (Ideal.ofBits FTy.f32 0x44800000#32) + Ideal.ofBits FTy.f32 0x358637BD#32

/-- The row's factor: one over the root of that. -/
def rinv (x : Fin 1024 → EReal) : EReal := Ideal.rsqrt (mean x)

/-- What the reference multiplies a row by for the derivative of its factor, `p` being the gradient at the normalised row. -/
def coef (x p : Fin 1024 → EReal) : EReal :=
  Ideal.div ((∑ e, x e * p e) * (Ideal.ofBits FTy.f32 0xBF000000#32 * Ideal.div (rinv x) (mean x))) (Ideal.ofBits FTy.f32 0x44800000#32)

/-- The kernel's form of the gradient at a row. -/
def back (x p : Fin 1024 → EReal) (d : Fin 1024) : EReal :=
  rinv x * (p d - x d * rinv x * Ideal.div (∑ e, p e * (x e * rinv x)) (Ideal.ofBits FTy.f32 0x44800000#32))

theorem c1024 : Ideal.ofBits FTy.f32 0x44800000#32 = ((1024 : ℝ) : EReal) := by
  simp only [Ideal.ofBits, Ideal.ieee]
  simp
  rw [← EReal.coe_mul]
  norm_num

theorem chalf : Ideal.ofBits FTy.f32 0xBF000000#32 = ((-(1/2) : ℝ) : EReal) := by
  simp only [Ideal.ofBits, Ideal.ieee]
  simp
  rw [← EReal.coe_mul]
  norm_num

theorem ceps : ∃ e : ℝ, 0 < e ∧ Ideal.ofBits FTy.f32 0x358637BD#32 = (e : EReal) := by
  refine ⟨8796093 * (1 / 8796093022208), by norm_num, ?_⟩
  simp only [Ideal.ofBits, Ideal.ieee]
  simp
  norm_num

theorem sq_nonneg' (x : EReal) : 0 ≤ x * x := by
  rcases le_total 0 x with h | h
  · exact mul_nonneg h h
  · have h' : 0 ≤ -x := EReal.neg_nonneg.mpr h
    rw [← neg_mul_neg]
    exact mul_nonneg h' h'

/-- A finite nonnegative factor passes through a sum of extended reals. -/
theorem sum_mul_real {ι : Type} (s : Finset ι) (f : ι → EReal) {a : ℝ} (ha : 0 ≤ a) : ∑ e ∈ s, f e * (a : EReal) = (∑ e ∈ s, f e) * a := by
  classical
  induction s using Finset.induction_on with
  | empty => simp
  | insert i s hi ih =>
    rw [Finset.sum_insert hi, Finset.sum_insert hi, ih, EReal.right_distrib_of_nonneg_of_ne_top (by exact_mod_cast ha) (EReal.coe_ne_top a)]

/-- The row's factor is a finite nonnegative number, and that number over the mean is its cube. -/
theorem rinv_real (x : Fin 1024 → EReal) : ∃ a : ℝ, 0 ≤ a ∧ rinv x = (a : EReal) ∧ Ideal.div (rinv x) (mean x) = ((a * a * a : ℝ) : EReal) := by
  obtain ⟨e, he, hE⟩ := ceps
  have hS : 0 ≤ ∑ e, x e * x e := Finset.sum_nonneg fun e _ => sq_nonneg' (x e)
  have hm : mean x = (∑ e, x e * x e) * ((1 / 1024 : ℝ) : EReal) + (e : EReal) := by
    unfold mean; rw [hE, c1024, Ideal.div_coe (by norm_num)]
  unfold rinv
  generalize (∑ e, x e * x e) = S at hS hm
  induction S with
  | bot => exact absurd hS (by simp)
  | top =>
    have ht : mean x = ⊤ := by
      rw [hm, EReal.top_mul_of_pos (by exact_mod_cast (by norm_num : (0 : ℝ) < 1 / 1024)), EReal.top_add_coe]
    refine ⟨0, le_rfl, ?_, ?_⟩ <;> rw [ht]
    · simp
    · simp [Ideal.div]
  | coe s =>
    have hs : (0 : ℝ) ≤ s := by exact_mod_cast hS
    have ht : mean x = ((s * (1 / 1024) + e : ℝ) : EReal) := by rw [hm]; push_cast; rfl
    have hp : 0 < s * (1 / 1024) + e := by positivity
    generalize s * (1 / 1024) + e = t at ht hp
    have hr : Ideal.rsqrt (mean x) = (((Real.sqrt t)⁻¹ : ℝ) : EReal) := by
      rw [ht, Ideal.rsqrt_coe, if_neg (not_lt.mpr hp.le), if_neg hp.ne']
    refine ⟨(Real.sqrt t)⁻¹, by positivity, hr, ?_⟩
    rw [hr, ht, Ideal.div_coe hp.ne', ← EReal.coe_mul]
    congr 1
    have h2 : Real.sqrt t * Real.sqrt t = t := Real.mul_self_sqrt hp.le
    have h0 : Real.sqrt t ≠ 0 := (Real.sqrt_pos.mpr hp).ne'
    rw [one_div, ← h2, mul_inv, mul_assoc, h2]

/-- The derivative's form and the kernel's form are one number. -/
theorem back_eq (x p : Fin 1024 → EReal) (d : Fin 1024) (dr : EReal) :
    dr + p d * rinv x + x d * coef x p + coef x p * x d = dr + back x p d := by
  obtain ⟨a, ha, hr, hd⟩ := rinv_real x
  unfold back coef
  rw [hd, hr, chalf, c1024, Ideal.div_coe (by norm_num), Ideal.div_coe (by norm_num)]
  have hsum : ∑ e, p e * (x e * (a : EReal)) = (∑ e, x e * p e) * a := by
    rw [← sum_mul_real _ _ ha]
    exact Finset.sum_congr rfl fun e _ => by rw [← mul_assoc, mul_comm (p e)]
  rw [hsum]
  generalize ∑ e, x e * p e = T
  generalize p d = q
  generalize x d = y
  have h1 : y * (T * (((-(1 / 2) : ℝ) : EReal) * ((a * a * a : ℝ) : EReal)) * ((1 / 1024 : ℝ) : EReal)) = y * T * ((-(1 / 2) * (a * a * a) * (1 / 1024) : ℝ) : EReal) := by
    push_cast
    simp only [← mul_assoc]
  have h2 : T * (((-(1 / 2) : ℝ) : EReal) * ((a * a * a : ℝ) : EReal)) * ((1 / 1024 : ℝ) : EReal) * y = y * T * ((-(1 / 2) * (a * a * a) * (1 / 1024) : ℝ) : EReal) := by
    rw [mul_comm, h1]
  have h3 : (a : EReal) * (q - y * a * (T * a * ((1 / 1024 : ℝ) : EReal))) = q * a + -(y * T * ((a * a * a * (1 / 1024) : ℝ) : EReal)) := by
    rw [sub_eq_add_neg, EReal.left_distrib_of_nonneg_of_ne_top (by exact_mod_cast ha) (EReal.coe_ne_top a), mul_comm (a : EReal) q, mul_neg]
    congr 2
    push_cast
    ac_rfl
  rw [h1, h2, h3, add_assoc, add_assoc]
  congr 2
  have hc : 0 ≤ a * a * a * (1 / 1024) := by positivity
  have h4 : (-(1 / 2) * (a * a * a) * (1 / 1024) : ℝ) = -((a * a * a * (1 / 1024)) / 2) := by ring
  rw [h4]
  generalize a * a * a * (1 / 1024) = k at hc
  generalize y * T = z
  rw [EReal.coe_neg, mul_neg]
  have h5 : (k : EReal) = ((k / 2 : ℝ) : EReal) + ((k / 2 : ℝ) : EReal) := by rw [← EReal.coe_add]; congr 1; ring
  have hk : (0 : EReal) ≤ ((k / 2 : ℝ) : EReal) := by exact_mod_cast (by positivity : (0 : ℝ) ≤ k / 2)
  rw [h5, EReal.left_distrib_of_nonneg hk hk]
  generalize z * ((k / 2 : ℝ) : EReal) = w
  induction w <;> simp [← EReal.coe_add, ← EReal.coe_neg, add_comm]

end Cert.Norm
-- ==== Proof.Norm.Ref.lean ====
module
public import proofs.«01_k».proof.Proof.Gen.FfnInRefIdeal
public import proofs.«01_k».proof.Proof.Norm.Real
public import Idealize.ShloMosaic.Lib.Pipeline.ValueKit
@[expose] public section
set_option maxRecDepth 16384
noncomputable section
/-! The backward lines of a root-mean-square norm, as the reference spells them over whole arrays, read at an index. -/
namespace Cert.Norm
open Cert.FfnInRefIdeal Cert.FfnInRefIdeal.Gen Idealize.ShloMosaic Idealize.ShloMosaic.TcCoe Idealize.SL.Sem

def meanV (x : FVec Ideal S16384x1024 .f32) : FVec Ideal S16384x1 .f32 :=
  addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))

def rinvV (x : FVec Ideal S16384x1024 .f32) : FVec Ideal S16384x1 .f32 := Host.rsqrt (meanV x)

def gainV (g : FVec Ideal S1x1024 .f32) (q : FVec Ideal S16384x1024 .f32) : FVec Ideal S16384x1024 .f32 :=
  mulf q (broadcastInDim S16384x1024 ![0, 1] bcast_S1x1024_S16384x1024_0_1 (broadcastInDim S1x1024 ![1] bcast_S1024_S1x1024_1 (shapeCast _ g shapeCasts_S1x1024_S1024)))

def coefV (x p : FVec Ideal S16384x1024 .f32) : FVec Ideal S16384x1024 .f32 :=
  broadcastInDim S16384x1024 ![0] bcast_S16384_S16384x1024_0 (Host.reduceAdd (Host.divf (mulf (shapeCast _ (Host.reduceAdd (mulf x p) (constant S_ .f32 0x00000000#32) reducesTo_S16384x1024_S16384_d1 h_S_) shapeCasts_S16384_S16384x1)
    (mulf (broadcastInDim S16384x1 ![] bcast_S_S16384x1 (constant S_ .f32 0xBF000000#32)) (Host.divf (rinvV x) (meanV x)))) (broadcastInDim S16384x1 ![] bcast_S_S16384x1 (constant S_ .f32 0x44800000#32))) (constant S_ .f32 0x00000000#32) reducesTo_S16384x1_S16384_d1 h_S_)

def dxV (dr x p : FVec Ideal S16384x1024 .f32) : FVec Ideal S16384x1024 .f32 :=
  addf (addf (addf dr (mulf p (broadcastInDim S16384x1024 ![0, 1] bcast_S16384x1_S16384x1024_0_1 (rinvV x)))) (mulf x (coefV x p))) (mulf (coefV x p) x)

def dgV (x q : FVec Ideal S16384x1024 .f32) : FVec Ideal S1x1024 .f32 :=
  broadcastInDim S1x1024 ![1] bcast_S1024_S1x1024_1 (Host.reduceAdd (shapeCast _ (Host.reduceAdd (mulf (mulf x (broadcastInDim S16384x1024 ![0, 1] bcast_S16384x1_S16384x1024_0_1 (rinvV x))) q) (constant S_ .f32 0x00000000#32) reducesTo_S16384x1024_S1024_d0 h_S_) shapeCasts_S1024_S1x1024) (constant S_ .f32 0x00000000#32) reducesTo_S1x1024_S1024_d0 h_S_)

theorem meanV_at (x : FVec Ideal S16384x1024 .f32) (r : Fin 16384) : (meanV x (ix2 r 0) : EReal) = mean fun e => x (ix2 r e) := by
  pointwise [meanV, mean]

theorem rinvV_at (x : FVec Ideal S16384x1024 .f32) (r : Fin 16384) : (rinvV x (ix2 r 0) : EReal) = rinv fun e => x (ix2 r e) :=
  congrArg Ideal.rsqrt (meanV_at x r)

theorem gainV_at (g : FVec Ideal S1x1024 .f32) (q : FVec Ideal S16384x1024 .f32) (r : Fin 16384) (d : Fin 1024) :
    (gainV g q (ix2 r d) : EReal) = q (ix2 r d) * g (ix2 0 d) := by
  pointwise [gainV]

theorem coefV_at (x p : FVec Ideal S16384x1024 .f32) (r : Fin 16384) (d : Fin 1024) :
    (coefV x p (ix2 r d) : EReal) = coef (fun e => x (ix2 r e)) (fun e => p (ix2 r e)) := by
  unfold coef
  rw [← rinvV_at x r, ← meanV_at x r]
  pointwise [coefV]
  exact Fin.sum_univ_one _

theorem dxV_at (dr x p : FVec Ideal S16384x1024 .f32) (r : Fin 16384) (d : Fin 1024) :
    (dxV dr x p (ix2 r d) : EReal) = dr (ix2 r d) + p (ix2 r d) * rinv (fun e => x (ix2 r e)) +
      x (ix2 r d) * coef (fun e => x (ix2 r e)) (fun e => p (ix2 r e)) + coef (fun e => x (ix2 r e)) (fun e => p (ix2 r e)) * x (ix2 r d) := by
  rw [← rinvV_at x r, ← coefV_at x p r d]
  pointwise [dxV]

theorem dgV_at (x q : FVec Ideal S16384x1024 .f32) (d : Fin 1024) :
    (dgV x q (ix2 0 d) : EReal) = ∑ r : Fin 16384, x (ix2 r d) * rinv (fun e => x (ix2 r e)) * q (ix2 r d) := by
  simp only [← rinvV_at]
  pointwise [dgV]
  exact Fin.sum_univ_one _

end Cert.Norm
-- ==== Proof.FfnIn.Out.lean ====
module
public import proofs.«01_k».proof.Proof.FfnIn.Val
public import proofs.«01_k».proof.Proof.Norm.Ref
@[expose] public section
set_option maxRecDepth 16384
noncomputable section
namespace Cert.FfnInIdeal.Val
open Cert.FfnInIdeal Cert.FfnInIdeal.Gen Cert.FfnInIdeal.Launch Idealize.ShloMosaic Idealize.ShloMosaic.TcCoe Idealize.SL.Sem
variable (m : (ℓ : Loc nD τ sig) → Buf (Elt Ideal) ℓ)

theorem wt_all (c : Dev nD) : ∀ (n : ℕ) (hn : n < cfg0.N) (j : Fin 5632) (d : Fin 1024),
    (outsAt0 m c n hn).2.2 (ix2 j d) = m ((c : Thread nD τ).loc main_arg2) (ix3 0 d j)
  | 0, hn, j, d => wt_A m c ⟨0, hn⟩ (Nat.zero_mod _) j d
  | n + 1, hn, j, d => by
    by_cases h0 : (n + 1) % 32 = 0
    · exact wt_A m c ⟨n + 1, hn⟩ h0 j d
    · have := outsAt0_B m c ⟨n + 1, hn⟩ h0
      rw [this]
      exact wt_all c n (Nat.lt_of_succ_lt hn) j d

theorem readCov_all (L : List (View.Piece (Elt Ideal) S5632x1024 .bf16)) (inb) :
    (View.whole cc0_scratch0).readCov L (Rect.unit ![0, 0] ![5632, 1024] inb).toLoadRect = View.canon L := by
  rw [View.readCov_eq_canon']
  funext j
  refine congrArg (View.canon L) ?_
  funext i
  fin_cases i <;> (apply Fin.ext; simp [LoadRect.idx, Rect.unit])

theorem out4 (c : Dev nD) (t : Fin cfg0.N) :
    (outsAt0 m c t.val t.isLt).1 = k0_pay1 (k0_pay6 (iblk m c 0 t) (outsAt0 m c t.val t.isLt).2.2 (iblk m c 1 t) (iblk m c 3 t)) (iblk m c 2 t) := by
  by_cases h0 : t.val % 32 = 0
  · rw [outsAt0_A m c t h0, atA]
    dsimp only
    frame_out
    refine congrArg (fun w => k0_pay1 (k0_pay6 (iblk m c 0 t) w (iblk m c 1 t) (iblk m c 3 t)) (iblk m c 2 t)) ?_
    exact readCov_all _ _
  · rw [outsAt0_B m c t h0, atB]
    dsimp only
    frame_out
    refine congrArg (fun w => k0_pay1 (k0_pay6 (iblk m c 0 t) w (iblk m c 1 t) (iblk m c 3 t)) (iblk m c 2 t)) ?_
    exact Memref.IsWhole.read_unread (Memref.isWhole_whole _) _

theorem out5_A (c : Dev nD) (t : Fin cfg0.N) (h0 : t.val % 32 = 0) :
    (outsAt0 m c t.val t.isLt).2.1 = k0_pay7 (iblk m c 0 t) (outsAt0 m c t.val t.isLt).2.2 (iblk m c 1 t) (k0_pay2 (F := Ideal)) := by
  rw [outsAt0_A m c t h0, atA]
  dsimp only
  frame_out
  refine congrArg (fun w => k0_pay7 (iblk m c 0 t) w (iblk m c 1 t) (k0_pay2 (F := Ideal))) ?_
  exact readCov_all _ _

theorem out5_B (c : Dev nD) (t : Fin cfg0.N) (h0 : ¬ t.val % 32 = 0) :
    (outsAt0 m c t.val t.isLt).2.1 = k0_pay7 (iblk m c 0 t) (outsAt0 m c t.val t.isLt).2.2 (iblk m c 1 t) (outsAt0 m c (t.val - 1) (Nat.lt_of_le_of_lt (Nat.sub_le _ _) t.isLt)).2.1 := by
  rw [outsAt0_B m c t h0, atB]
  dsimp only
  frame_out
  refine congrArg (fun w => k0_pay7 (iblk m c 0 t) w (iblk m c 1 t) (outsAt0 m c (t.val - 1) (Nat.lt_of_le_of_lt (Nat.sub_le _ _) t.isLt)).2.1) ?_
  exact Memref.IsWhole.read_unread (Memref.isWhole_whole _) _

/-- The gradient at the normalised row before the gain: the product with the transposed weight. -/
def dv (a6 : FVec Ideal S16384x5632 .bf16) (a2 : FVec Ideal S1x1024x5632 .f32) (r : Fin 16384) (d : Fin 1024) : EReal :=
  ∑ k : Fin 5632, a6 (ix2 r k) * a2 (ix3 0 d k)

theorem pay6_at (dy : FVec Ideal S512x5632 .bf16) (w : FVec Ideal S5632x1024 .bf16) (x : FVec Ideal S512x1024 .f32) (g : FVec Ideal S1x1024 .f32)
    (dr : FVec Ideal S512x1024 .f32) (r : Fin 512) (d : Fin 1024) :
    (k0_pay1 (F := Ideal) (k0_pay6 dy w x g) dr (ix2 r d) : EReal) = dr (ix2 r d) + Norm.back (fun e => x (ix2 r e)) (fun e => (∑ k : Fin 5632, dy (ix2 r k) * w (ix2 k e)) * g (ix2 0 e)) d := by
  pointwise [k0_pay1, k0_pay6, k0_pay5, k0_pay4, k0_pay3, Norm.back, Norm.rinv, Norm.mean]

theorem pay7_at (dy : FVec Ideal S512x5632 .bf16) (w : FVec Ideal S5632x1024 .bf16) (x : FVec Ideal S512x1024 .f32) (s : FVec Ideal S1x1024 .f32) (d : Fin 1024) :
    (k0_pay7 (F := Ideal) dy w x s (ix2 0 d) : EReal) = s (ix2 0 d) + ∑ r : Fin 512, (∑ k : Fin 5632, dy (ix2 r k) * w (ix2 k d)) * (x (ix2 r d) * Norm.rinv fun e => x (ix2 r e)) := by
  pointwise [k0_pay7, k0_pay5, k0_pay4, k0_pay3, Norm.rinv, Norm.mean]

theorem idx : ∀ t : Fin cfg0.N, win0_0.index t = ![t.val, 0] ∧ win0_1.index t = ![t.val, 0] ∧ win0_2.index t = ![t.val, 0] ∧ win0_3.index t = ![0, 0] ∧
    win0_4.index t = ![t.val, 0] ∧ win0_5.index t = ![0, 0] ∧ t.val < 32 :=
  (by decide +kernel : ∀ t : Fin grid0.N, _)

/-- The first result over whole arrays, in the kernel's form. -/
def G4 (a7 a0 : FVec Ideal S16384x1024 .f32) (a1 : FVec Ideal S1x1024 .f32) (q : Fin 16384 → Fin 1024 → EReal) : FVec Ideal S16384x1024 .f32 :=
  fun i => a7 i + Norm.back (fun e => a0 (ix2 (i 0) e)) (fun e => q (i 0) e * a1 (ix2 0 e)) (i 1)

/-- The row of the whole arrays that row `a` of point `t`'s block is. -/
def row (t : Fin cfg0.N) (a : Fin 512) : Fin 16384 := ⟨512 * t.val + a.val, by have := (idx t).2.2.2.2.2.2; omega⟩

theorem blk_dy (c : Dev nD) (t : Fin cfg0.N) (a : Fin 512) (k : Fin 5632) :
    (iblk m c 0 t : S512x5632.Idx → EReal) (ix2 a k) = m ((c : Thread nD τ).loc main_arg6) (ix2 (row t a) k) := by
  blk_ext [iblk, V, idx t, row]
theorem blk_x (c : Dev nD) (t : Fin cfg0.N) (a : Fin 512) (k : Fin 1024) :
    (iblk m c 1 t : S512x1024.Idx → EReal) (ix2 a k) = m ((c : Thread nD τ).loc main_arg0) (ix2 (row t a) k) := by
  blk_ext [iblk, V, idx t, row]
theorem blk_dr (c : Dev nD) (t : Fin cfg0.N) (a : Fin 512) (k : Fin 1024) :
    (iblk m c 2 t : S512x1024.Idx → EReal) (ix2 a k) = m ((c : Thread nD τ).loc main_arg7) (ix2 (row t a) k) := by
  blk_ext [iblk, V, idx t, row]
theorem blk_g (c : Dev nD) (t : Fin cfg0.N) (k : Fin 1024) :
    (iblk m c 3 t : S1x1024.Idx → EReal) (ix2 0 k) = m ((c : Thread nD τ).loc main_arg1) (ix2 0 k) := by
  blk_ext [iblk, V, idx t]
theorem emb4 (t : Fin cfg0.N) (a : Fin 512) (b : Fin 1024) : ((cfg0.win 4).blk t).view.emb (ix2 a b) = (ix2 (row t a) b : S16384x1024.Idx) := by
  blk_ext [idx t, row]

theorem pay6_row (dy : FVec Ideal S512x5632 .bf16) (w : FVec Ideal S5632x1024 .bf16) (x : FVec Ideal S512x1024 .f32) (g : FVec Ideal S1x1024 .f32)
    (dr : FVec Ideal S512x1024 .f32) (r : Fin 512) (d : Fin 1024)
    (a6 : FVec Ideal S16384x5632 .bf16) (a2 : FVec Ideal S1x1024x5632 .f32) (a7 a0 : FVec Ideal S16384x1024 .f32) (a1 : FVec Ideal S1x1024 .f32) (R : Fin 16384)
    (hdy : ∀ k, dy (ix2 r k) = a6 (ix2 R k)) (hw : ∀ k e, w (ix2 k e) = a2 (ix3 0 e k)) (hx : ∀ k, x (ix2 r k) = a0 (ix2 R k))
    (hdr : ∀ k, dr (ix2 r k) = a7 (ix2 R k)) (hg : ∀ k, g (ix2 0 k) = a1 (ix2 0 k)) :
    (k0_pay1 (F := Ideal) (k0_pay6 dy w x g) dr (ix2 r d) : EReal) = G4 a7 a0 a1 (dv a6 a2) (ix2 R d) := by
  rw [pay6_at]
  simp only [hdy, hw, hx, hdr, hg]
  rfl

theorem final4 (c : Dev nD) : (dats m 0 c).arrAt 4 cfg0.N = G4 (m ((c : Thread nD τ).loc main_arg7)) (m ((c : Thread nD τ).loc main_arg0)) (m ((c : Thread nD τ).loc main_arg1))
      (dv (m ((c : Thread nD τ).loc main_arg6)) (m ((c : Thread nD τ).loc main_arg2))) := by
  refine (dats m 0 c).arrAt_eq_of_covers 4 _ (by decide +kernel) fun t _ y => ?_
  blk_simp
  rw [after0_4, out4]
  obtain ⟨a, b, rfl⟩ : ∃ (a : Fin 512) (b : Fin 1024), y = ix2 a b := ⟨y 0, y 1, by funext i; fin_cases i <;> rfl⟩
  rw [emb4]
  exact pay6_row _ _ _ _ _ a b _ _ _ _ _ (row t a) (blk_dy m c t a) (wt_all m c _ _) (blk_x m c t a) (blk_dr m c t a) (blk_g m c t)

end Cert.FfnInIdeal.Val
-- ==== Proof.FfnIn.Alg.lean ====
module
public import proofs.«01_k».proof.Defs
public import proofs.«01_k».proof.Proof.FfnIn.Out
public import proofs.«01_k».proof.Proof.Gen.FfnInRefIdeal.Run
@[expose] public section
set_option maxRecDepth 16384
noncomputable section
namespace Cert.FfnInIdeal.Val
open Cert.FfnInIdeal Cert.FfnInIdeal.Gen Cert.FfnInIdeal.Launch Idealize.ShloMosaic Idealize.ShloMosaic.TcCoe Idealize.SL.Sem
variable (m : (ℓ : Loc nD τ sig) → Buf (Elt Ideal) ℓ)

/-- What row `R` of the whole arrays adds to the gradient of the gain at `d`. -/
def part (a0 : FVec Ideal S16384x1024 .f32) (q : Fin 16384 → Fin 1024 → EReal) (d : Fin 1024) (R : Fin 16384) : EReal :=
  q R d * (a0 (ix2 R d) * Norm.rinv fun e => a0 (ix2 R e))

/-- The second result over whole arrays: the gradient of the gain. -/
def G5 (a0 : FVec Ideal S16384x1024 .f32) (q : Fin 16384 → Fin 1024 → EReal) : FVec Ideal S1x1024 .f32 :=
  fun i => ∑ R : Fin 16384, part a0 q (i 1) R

theorem gain_idx (j : S1x1024.Idx) : ∃ d : Fin 1024, j = ix2 0 d := by
  refine ⟨j 1, ?_⟩
  funext i
  fin_cases i
  · refine Fin.ext ?_
    have := (j 0).isLt
    change (j 0).val < 1 at this
    change (j 0).val = 0
    omega
  · rfl

theorem pay7_row (dy : FVec Ideal S512x5632 .bf16) (w : FVec Ideal S5632x1024 .bf16) (x : FVec Ideal S512x1024 .f32) (s : FVec Ideal S1x1024 .f32)
    (j : S1x1024.Idx) (a6 : FVec Ideal S16384x5632 .bf16) (a2 : FVec Ideal S1x1024x5632 .f32) (a0 : FVec Ideal S16384x1024 .f32) (t : Fin cfg0.N)
    (hdy : ∀ r k, dy (ix2 r k) = a6 (ix2 (row t r) k)) (hw : ∀ k e, w (ix2 k e) = a2 (ix3 0 e k)) (hx : ∀ r k, x (ix2 r k) = a0 (ix2 (row t r) k)) :
    (k0_pay7 (F := Ideal) dy w x s j : EReal) = s j + ∑ r : Fin 512, part a0 (dv a6 a2) (j 1) (row t r) := by
  obtain ⟨d, rfl⟩ : ∃ d : Fin 1024, j = ix2 0 d := gain_idx j
  rw [pay7_at]
  simp only [hdy, hw, hx]
  rfl

theorem pay2_at (j : S1x1024.Idx) : (k0_pay2 (F := Ideal) j : EReal) = 0 := by pointwise [k0_pay2]

theorem final5 (c : Dev nD) : (dats m 0 c).arrAt 5 cfg0.N = G5 (m ((c : Thread nD τ).loc main_arg0))
      (dv (m ((c : Thread nD τ).loc main_arg6)) (m ((c : Thread nD τ).loc main_arg2))) := by
  refine (dats m 0 c).arrAt_eq_of_covers 5 _ (by decide +kernel) fun t hf y => ?_
  blk_simp
  rw [after0_5]
  refine (Pipeline.eq_sum_fin_of_reset_step_apply_of_flush (N := cfg0.N) (M := EReal) (ι := S1x1024.Idx) (fun n h => (outsAt0 m c n h).2.1) 32 (fun _ => 0)
    (fun p j => ∑ r : Fin 512, part (m ((c : Thread nD τ).loc main_arg0)) (dv (m ((c : Thread nD τ).loc main_arg6)) (m ((c : Thread nD τ).loc main_arg2))) (j 1) (row p r))
    (fun p h j => ?_) (fun p h j => ?_) t ((flush0_5 t).mp hf) y).trans ?_
  · rw [out5_A m c p h]
    refine (pay7_row _ _ _ _ j _ _ _ p (blk_dy m c p) (wt_all m c _ _) (blk_x m c p)).trans ?_
    rw [pay2_at]
  · rw [out5_B m c p h]
    exact pay7_row _ _ _ _ j _ _ _ p (blk_dy m c p) (wt_all m c _ _) (blk_x m c p)
  · rw [zero_add]
    have ht : t.val / 32 = 0 := by have := (idx t).2.2.2.2.2.2; omega
    have he : ((cfg0.win 5).blk t).view.emb y = (y : S1x1024.Idx) := by blk_ext [idx t]
    rw [he]
    unfold G5
    refine Fin.sum_mul_add_congr fun s k hl => congrArg _ (Fin.ext ?_)
    simp only [row, ht]
    omega

theorem ref4 (a7 a0 : FVec Ideal S16384x1024 .f32) (a1 : FVec Ideal S1x1024 .f32) (q : FVec Ideal S16384x1024 .f32) (q' : Fin 16384 → Fin 1024 → EReal)
    (hq : ∀ r d, q (ix2 r d) = q' r d) : Norm.dxV a7 a0 (Norm.gainV a1 q) = G4 a7 a0 a1 q' := by
  funext i
  obtain ⟨r, d, rfl⟩ : ∃ (r : Fin 16384) (d : Fin 1024), i = ix2 r d := ⟨i 0, i 1, by funext i; fin_cases i <;> rfl⟩
  rw [Norm.dxV_at]
  simp only [Norm.gainV_at, hq]
  exact Norm.back_eq _ (fun e => q' r e * a1 (ix2 0 e)) d _

theorem ref5 (a0 : FVec Ideal S16384x1024 .f32) (q : FVec Ideal S16384x1024 .f32) (q' : Fin 16384 → Fin 1024 → EReal)
    (hq : ∀ r d, q (ix2 r d) = q' r d) : Norm.dgV a0 q = G5 a0 q' := by
  funext j
  obtain ⟨d, rfl⟩ : ∃ d : Fin 1024, j = ix2 0 d := gain_idx j
  rw [Norm.dgV_at]
  refine Finset.sum_congr rfl fun r _ => ?_
  rw [hq, mul_comm]
  rfl

end Cert.FfnInIdeal.Val
namespace Cert.FfnInRefIdeal.Val
open Cert.FfnInRefIdeal Cert.FfnInRefIdeal.Gen Idealize.ShloMosaic Idealize.ShloMosaic.TcCoe Idealize.SL.Sem

/-- The reference's product with the transposed weight. -/
def dvV (a6 : FVec Ideal S16384x5632 .bf16) (a2 : FVec Ideal S1x1024x5632 .f32) : FVec Ideal S16384x1024 .f32 :=
  Host.dotGeneral dot_S16384x5632_S1024x5632_S16384x1024_1_1_0_0_n_n none (extf .f32 a6 bitsLt_bf16_f32) (shapeCast _ a2 shapeCasts_S1x1024x5632_S1024x5632)

theorem dvV_at (a6 : FVec Ideal S16384x5632 .bf16) (a2 : FVec Ideal S1x1024x5632 .f32) (r : Fin 16384) (d : Fin 1024) :
    (dvV a6 a2 (ix2 r d) : EReal) = Cert.FfnInIdeal.Val.dv a6 a2 r d := by
  unfold Cert.FfnInIdeal.Val.dv
  pointwise [dvV]

theorem res0 (m : (ℓ : Loc nD τ sig) → Buf (Elt Ideal) ℓ) (c : Dev nD) :
    Cert.FfnInRefIdeal.Value.res_main_v41 m c = Norm.dxV (m ((c.tc : Thread nD τ).loc main_arg7)) (m ((c.tc : Thread nD τ).loc main_arg0))
      (Norm.gainV (m ((c.tc : Thread nD τ).loc main_arg1)) (dvV (m ((c.tc : Thread nD τ).loc main_arg6)) (m ((c.tc : Thread nD τ).loc main_arg2)))) := rfl

end Cert.FfnInRefIdeal.Val
namespace Cert.FfnInIdeal.Val
open Idealize.ShloMosaic Idealize.ShloMosaic.TcCoe Idealize.SL.Sem

theorem algebraic : Cert.algebraic_FfnInIdeal_FfnInRefIdeal (hFfnInIdeal := Cert.FfnInIdeal.Gen.facts) (hFfnInRefIdeal := Cert.FfnInRefIdeal.Gen.facts) := by
  intro m g m' g' _ h
  refine ⟨fun c => (Cert.FfnInIdeal.Launch.dats m 0 c).arrAt 4 Cert.FfnInIdeal.cfg0.N, fun c => (Cert.FfnInIdeal.Launch.dats m 0 c).arrAt 5 Cert.FfnInIdeal.cfg0.N,
    Cert.FfnInIdeal.Value.run_blocks m g, (θ_run _ _ _).mono (fun r hr c => ?_) (Cert.FfnInRefIdeal.Value.run m' g')⟩
  obtain ⟨h0, h1, h2, h3, h4, h5, h6, h7⟩ := h c
  obtain ⟨r0, r1, rest⟩ := hr c
  refine ⟨r0.trans ?_, r1.trans ?_, rest⟩
  · refine Eq.trans ?_ (final4 m c).symm
    rw [Cert.FfnInRefIdeal.Val.res0, h0, h1, h2, h6, h7]
    exact ref4 _ _ _ _ _ (Cert.FfnInRefIdeal.Val.dvV_at _ _)
  · refine Eq.trans ?_ (final5 m c).symm
    rw [h0, h2, h6]
    exact ref5 _ _ _ (Cert.FfnInRefIdeal.Val.dvV_at _ _)

end Cert.FfnInIdeal.Val
-- ==== Proof.FfnIn.Frames.lean ====
/- The frames of the call: of its own text, of its idealised text and of its reference. -/
module

public import proofs.«01_k».proof.Defs
public import proofs.«01_k».proof.Proof.Gen.FfnIn
public import proofs.«01_k».proof.Proof.FfnIn.Frame
public import proofs.«01_k».proof.Proof.Gen.FfnInRefIdeal.Run

@[expose] public section

noncomputable section

namespace Cert.FfnInIdeal.Val

open Idealize.ShloMosaic Idealize.SL.Sem

set_option smartUnfolding false in
/-- The two texts of the call are the same, so its own text runs as its idealised text does, at the
    machine's numbers. -/
theorem frame_own : Cert.quiescent_FfnIn (hFfnIn := Cert.FfnIn.Gen.facts) :=
  fun m ρ _ => Cert.FfnInIdeal.Launch.frame (F := Bits) m ρ

theorem frame_ideal : Cert.quiescent_FfnInIdeal (hFfnInIdeal := Cert.FfnInIdeal.Gen.facts) :=
  fun m ρ _ => Cert.FfnInIdeal.Launch.frame m ρ

/-- The reference declares no semaphore. -/
theorem frame_ref : Cert.quiescent_FfnInRefIdeal (hFfnInRefIdeal := Cert.FfnInRefIdeal.Gen.facts) := fun m ρ _ =>
  (θ_run Cert.FfnInRefIdeal.defs _ _).mono
    (fun r h => ⟨fun c => (h c).2.2, sem_eq_zero_of_no_sems (by decide) r.2⟩)
    (Cert.FfnInRefIdeal.Value.run (F := Ideal) m ρ)

end Cert.FfnInIdeal.Val

end
-- ==== Proof.Inproj.RunA.lean ====
/- The body at the first point of the grid, run over its statements. -/
module

public import proofs.«01_k».proof.Proof.Gen.InprojIdeal.Frame.Runs

@[expose] public section

set_option maxRecDepth 16384

noncomputable section

namespace Cert.InprojIdeal.Launch

open Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option sl_exec.dmaWindow true in
set_option sl_exec.dmaWindowSet true in
set_option maxHeartbeats 1000000 in

/-- The pieces each buffer ends with in case A, found by the run of the body, with the proof of the run. -/
noncomputable def kernelRun0_A (c : Dev nD) (i : grid0.Coords) (arg1 : Memref sig .tc .vmem S512x4608 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .bf16) (harg5 : arg5.IsWhole) (arg7 : Memref sig .tc .vmem S512x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S4608x1024 .bf16) (harg10 : arg10.IsWhole) (hc0 : cond0_0 i)
    (x0 : Vec F S512x4608 .bf16) (x1 : Vec F S512x1024 .f32) (x2 : Vec F S512x1024 .f32) (x3 : Vec F S1x1024 .f32) (x4 : Vec F S512x1024 .bf16) (fh0 : HbBuf0 (F := F) c hbM0_0) :
    Σ' (L5 : List (View.Piece (Elt F) S512x1024 .f32)), Σ' (L6 : List (View.Piece (Elt F) S1x1024 .f32)), Σ' (L7 : List (View.Piece (Elt F) S1024x1024 .f32)), { LS0 : List (View.Piece (Elt F) S4608x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ (∃ W', owes (c : Thread nD τ) 0 W')) -∗ K ⟨⟩))
          ⊢ wp frame (wpE (defs₀ (F := F)) Variants.none c none) Set.univ (cc0_inproj_bwd i arg1 harg1 arg2 harg2 arg3 harg3 arg4 harg4 arg5 harg5 (Memref.whole main_v5) (Memref.isWhole_whole _) arg7 harg7 arg8 harg8 arg9 harg9 arg10 harg10 cc0_scratch1) K } := by
  refine ⟨?_, ?_, ?_, ?_, fun W K => ?run⟩
  case run =>
    simp only [cc0_inproj_bwd_eq_skeleton]; unfold cc0_inproj_bwd_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hq0, Hq1, Hq2, Hq3, Hq4, Hq5, Hq6, Hq7, Hh0, HW, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.InprojIdeal.Launch

end
-- ==== Proof.Inproj.RunB.lean ====
/- The body at a later point of the grid, run over its statements. -/
module

public import proofs.«01_k».proof.Proof.Inproj.RunA

@[expose] public section

set_option maxRecDepth 16384

noncomputable section

namespace Cert.InprojIdeal.Launch

open Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option sl_exec.dmaWindow true in
set_option sl_exec.dmaWindowSet true in
set_option maxHeartbeats 1000000 in

/-- The pieces each buffer ends with in case B, found by the run of the body, with the proof of the run. -/
noncomputable def kernelRun0_B (c : Dev nD) (i : grid0.Coords) (arg1 : Memref sig .tc .vmem S512x4608 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .bf16) (harg5 : arg5.IsWhole) (arg7 : Memref sig .tc .vmem S512x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S4608x1024 .bf16) (harg10 : arg10.IsWhole) (hc0 : ¬cond0_0 i)
    (x0 : Vec F S512x4608 .bf16) (x1 : Vec F S512x1024 .f32) (x2 : Vec F S512x1024 .f32) (x3 : Vec F S1x1024 .f32) (x4 : Vec F S512x1024 .bf16) (xo6 : Vec F S1x1024 .f32) (xo7 : Vec F S1024x1024 .f32) (xs0 : Vec F S4608x1024 .bf16) (fh0 : HbBuf0 (F := F) c hbM0_0) :
    Σ' (L5 : List (View.Piece (Elt F) S512x1024 .f32)), Σ' (L6 : List (View.Piece (Elt F) S1x1024 .f32)), Σ' (L7 : List (View.Piece (Elt F) S1024x1024 .f32)), { LS0 : List (View.Piece (Elt F) S4608x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ owns (c : Thread nD τ) arg8 fullShare xo6 ∗ owns (c : Thread nD τ) arg9 fullShare xo7 ∗ owns (c : Thread nD τ) arg10 fullShare xs0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ (∃ W', owes (c : Thread nD τ) 0 W')) -∗ K ⟨⟩))
          ⊢ wp frame (wpE (defs₀ (F := F)) Variants.none c none) Set.univ (cc0_inproj_bwd i arg1 harg1 arg2 harg2 arg3 harg3 arg4 harg4 arg5 harg5 (Memref.whole main_v5) (Memref.isWhole_whole _) arg7 harg7 arg8 harg8 arg9 harg9 arg10 harg10 cc0_scratch1) K } := by
  refine ⟨?_, ?_, ?_, [], fun W K => ?run⟩
  case run =>
    simp only [cc0_inproj_bwd_eq_skeleton]; unfold cc0_inproj_bwd_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, Hq0, Hq1, Hq2, Hq3, Hq4, Hq5, Hq6, Hq7, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hf6; obtain rfl := harg9.eq_unread hf7; obtain rfl := harg10.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]
    · iexists _; isplitr; · ipureintro; exact harg10.read_unread _
      iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.InprojIdeal.Launch

end
-- ==== Proof.Inproj.Frame.lean ====
/- What the body leaves at every point, the run of the whole program, and its frame. -/
module

public import proofs.«01_k».proof.Proof.Inproj.RunB
public import Idealize.ShloMosaic.Lib.Claim

@[expose] public section

set_option maxRecDepth 16384

noncomputable section

namespace Cert.InprojIdeal.Launch

open Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section CaseA

variable (c : Dev nD) (i : grid0.Coords) (arg1 : Memref sig .tc .vmem S512x4608 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .bf16) (harg5 : arg5.IsWhole) (arg7 : Memref sig .tc .vmem S512x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S4608x1024 .bf16) (harg10 : arg10.IsWhole) (hc0 : cond0_0 i)
  (x0 : Vec F S512x4608 .bf16) (x1 : Vec F S512x1024 .f32) (x2 : Vec F S512x1024 .f32) (x3 : Vec F S1x1024 .f32) (x4 : Vec F S512x1024 .bf16) (fh0 : HbBuf0 (F := F) c hbM0_0)

/-- Case A's stores cover the block of window 5. -/
theorem cover0_A_5 (y : S512x1024.Idx) :
    ∃ pc ∈ (kernelRun0_A c i arg1 harg1 arg2 harg2 arg3 harg3 arg4 harg4 arg5 harg5 arg7 harg7 arg8 harg8 arg9 harg9 arg10 harg10 hc0 x0 x1 x2 x3 x4 fh0).1, y ∈ pc.1.set :=
  View.cover_of_tiledL _ S512x1024.size (by sl_kernel_rfl) y

/-- What case A leaves in the block of window 5. -/
def out0_A_5 : Vec F S512x1024 .f32 :=
  VO0_5.read (Elt F) (VO0_5.writes (Elt F) VO0_5.junk (kernelRun0_A c i arg1 harg1 arg2 harg2 arg3 harg3 arg4 harg4 arg5 harg5 arg7 harg7 arg8 harg8 arg9 harg9 arg10 harg10 hc0 x0 x1 x2 x3 x4 fh0).1)

/-- Case A's stores cover the block of window 6. -/
theorem cover0_A_6 (y : S1x1024.Idx) :
    ∃ pc ∈ (kernelRun0_A c i arg1 harg1 arg2 harg2 arg3 harg3 arg4 harg4 arg5 harg5 arg7 harg7 arg8 harg8 arg9 harg9 arg10 harg10 hc0 x0 x1 x2 x3 x4 fh0).2.1, y ∈ pc.1.set :=
  View.cover_of_tiledL _ S1x1024.size (by sl_kernel_rfl) y

/-- What case A leaves in the block of window 6. -/
def out0_A_6 : Vec F S1x1024 .f32 :=
  VO0_6.read (Elt F) (VO0_6.writes (Elt F) VO0_6.junk (kernelRun0_A c i arg1 harg1 arg2 harg2 arg3 harg3 arg4 harg4 arg5 harg5 arg7 harg7 arg8 harg8 arg9 harg9 arg10 harg10 hc0 x0 x1 x2 x3 x4 fh0).2.1)

/-- Case A's stores cover the block of window 7. -/
theorem cover0_A_7 (y : S1024x1024.Idx) :
    ∃ pc ∈ (kernelRun0_A c i arg1 harg1 arg2 harg2 arg3 harg3 arg4 harg4 arg5 harg5 arg7 harg7 arg8 harg8 arg9 harg9 arg10 harg10 hc0 x0 x1 x2 x3 x4 fh0).2.2.1, y ∈ pc.1.set :=
  View.cover_of_tiledL _ S1024x1024.size (by sl_kernel_rfl) y

/-- What case A leaves in the block of window 7. -/
def out0_A_7 : Vec F S1024x1024 .f32 :=
  VO0_7.read (Elt F) (VO0_7.writes (Elt F) VO0_7.junk (kernelRun0_A c i arg1 harg1 arg2 harg2 arg3 harg3 arg4 harg4 arg5 harg5 arg7 harg7 arg8 harg8 arg9 harg9 arg10 harg10 hc0 x0 x1 x2 x3 x4 fh0).2.2.1)

/-- Case A's stores cover scratch 0. -/
theorem scover0_A_0 (y : S4608x1024.Idx) :
    ∃ pc ∈ (kernelRun0_A c i arg1 harg1 arg2 harg2 arg3 harg3 arg4 harg4 arg5 harg5 arg7 harg7 arg8 harg8 arg9 harg9 arg10 harg10 hc0 x0 x1 x2 x3 x4 fh0).2.2.2.1, y ∈ pc.1.set :=
  View.cover_of_tiledL (kernelRun0_A c i arg1 harg1 arg2 harg2 arg3 harg3 arg4 harg4 arg5 harg5 arg7 harg7 arg8 harg8 arg9 harg9 arg10 harg10 hc0 x0 x1 x2 x3 x4 fh0).2.2.2.1 S576x1024.size (by sl_kernel_rfl) y

/-- What case A leaves in scratch 0. -/
def sout0_A_0 : Vec F S4608x1024 .bf16 :=
  VS0_0.read (Elt F) (VS0_0.writes (Elt F) VS0_0.junk (kernelRun0_A c i arg1 harg1 arg2 harg2 arg3 harg3 arg4 harg4 arg5 harg5 arg7 harg7 arg8 harg8 arg9 harg9 arg10 harg10 hc0 x0 x1 x2 x3 x4 fh0).2.2.2.1)

end CaseA

section CaseB

variable (c : Dev nD) (i : grid0.Coords) (arg1 : Memref sig .tc .vmem S512x4608 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .bf16) (harg5 : arg5.IsWhole) (arg7 : Memref sig .tc .vmem S512x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S4608x1024 .bf16) (harg10 : arg10.IsWhole) (hc0 : ¬cond0_0 i)
  (x0 : Vec F S512x4608 .bf16) (x1 : Vec F S512x1024 .f32) (x2 : Vec F S512x1024 .f32) (x3 : Vec F S1x1024 .f32) (x4 : Vec F S512x1024 .bf16) (xo6 : Vec F S1x1024 .f32) (xo7 : Vec F S1024x1024 .f32) (xs0 : Vec F S4608x1024 .bf16) (fh0 : HbBuf0 (F := F) c hbM0_0)

/-- Case B's stores cover the block of window 5. -/
theorem cover0_B_5 (y : S512x1024.Idx) :
    ∃ pc ∈ (kernelRun0_B c i arg1 harg1 arg2 harg2 arg3 harg3 arg4 harg4 arg5 harg5 arg7 harg7 arg8 harg8 arg9 harg9 arg10 harg10 hc0 x0 x1 x2 x3 x4 xo6 xo7 xs0 fh0).1, y ∈ pc.1.set :=
  View.cover_of_tiledL _ S512x1024.size (by sl_kernel_rfl) y

/-- What case B leaves in the block of window 5. -/
def out0_B_5 : Vec F S512x1024 .f32 :=
  VO0_5.read (Elt F) (VO0_5.writes (Elt F) VO0_5.junk (kernelRun0_B c i arg1 harg1 arg2 harg2 arg3 harg3 arg4 harg4 arg5 harg5 arg7 harg7 arg8 harg8 arg9 harg9 arg10 harg10 hc0 x0 x1 x2 x3 x4 xo6 xo7 xs0 fh0).1)

/-- Case B's stores cover the block of window 6. -/
theorem cover0_B_6 (y : S1x1024.Idx) :
    ∃ pc ∈ (kernelRun0_B c i arg1 harg1 arg2 harg2 arg3 harg3 arg4 harg4 arg5 harg5 arg7 harg7 arg8 harg8 arg9 harg9 arg10 harg10 hc0 x0 x1 x2 x3 x4 xo6 xo7 xs0 fh0).2.1, y ∈ pc.1.set :=
  View.cover_of_tiledL _ S1x1024.size (by sl_kernel_rfl) y

/-- What case B leaves in the block of window 6. -/
def out0_B_6 : Vec F S1x1024 .f32 :=
  VO0_6.read (Elt F) (VO0_6.writes (Elt F) VO0_6.junk (kernelRun0_B c i arg1 harg1 arg2 harg2 arg3 harg3 arg4 harg4 arg5 harg5 arg7 harg7 arg8 harg8 arg9 harg9 arg10 harg10 hc0 x0 x1 x2 x3 x4 xo6 xo7 xs0 fh0).2.1)

/-- Case B's stores cover the block of window 7. -/
theorem cover0_B_7 (y : S1024x1024.Idx) :
    ∃ pc ∈ (kernelRun0_B c i arg1 harg1 arg2 harg2 arg3 harg3 arg4 harg4 arg5 harg5 arg7 harg7 arg8 harg8 arg9 harg9 arg10 harg10 hc0 x0 x1 x2 x3 x4 xo6 xo7 xs0 fh0).2.2.1, y ∈ pc.1.set :=
  View.cover_of_tiledL _ S1024x1024.size (by sl_kernel_rfl) y

/-- What case B leaves in the block of window 7. -/
def out0_B_7 : Vec F S1024x1024 .f32 :=
  VO0_7.read (Elt F) (VO0_7.writes (Elt F) VO0_7.junk (kernelRun0_B c i arg1 harg1 arg2 harg2 arg3 harg3 arg4 harg4 arg5 harg5 arg7 harg7 arg8 harg8 arg9 harg9 arg10 harg10 hc0 x0 x1 x2 x3 x4 xo6 xo7 xs0 fh0).2.2.1)

end CaseB

/-- What case B leaves in scratch 0. -/
def sout0_B_0 (c : Dev nD) (i : grid0.Coords) (arg1 : Memref sig .tc .vmem S512x4608 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .bf16) (harg5 : arg5.IsWhole) (arg7 : Memref sig .tc .vmem S512x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S4608x1024 .bf16) (harg10 : arg10.IsWhole) (hc0 : ¬cond0_0 i)
    (x0 : Vec F S512x4608 .bf16) (x1 : Vec F S512x1024 .f32) (x2 : Vec F S512x1024 .f32) (x3 : Vec F S1x1024 .f32) (x4 : Vec F S512x1024 .bf16) (xo6 : Vec F S1x1024 .f32) (xo7 : Vec F S1024x1024 .f32) (xs0 : Vec F S4608x1024 .bf16) (fh0 : HbBuf0 (F := F) c hbM0_0) : Vec F S4608x1024 .bf16 := xs0

/-- The contents a point of case A leaves. -/
def atA (c : Dev nD) (t : Fin cfg0.N) (h0 : t.val % 32 = 0) : Vec F S512x1024 .f32 × Vec F S1x1024 .f32 × Vec F S1024x1024 .f32 × Vec F S4608x1024 .bf16 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (V m c main_v5), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (V m c main_v5), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (V m c main_v5), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (V m c main_v5))

/-- The contents a point of case B leaves, from the contents `p` before it. -/
def atB (c : Dev nD) (t : Fin cfg0.N) (h0 : ¬t.val % 32 = 0) (p : Vec F S512x1024 .f32 × Vec F S1x1024 .f32 × Vec F S1024x1024 .f32 × Vec F S4608x1024 .bf16) : Vec F S512x1024 .f32 × Vec F S1x1024 .f32 × Vec F S1024x1024 .f32 × Vec F S4608x1024 .bf16 :=
  (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) p.2.1 p.2.2.1 p.2.2.2 (V m c main_v5), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) p.2.1 p.2.2.1 p.2.2.2 (V m c main_v5), out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) p.2.1 p.2.2.1 p.2.2.2 (V m c main_v5), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) p.2.1 p.2.2.1 p.2.2.2 (V m c main_v5))

/-- What the output blocks and the scratch hold after each point. -/
def outsAt0 (c : Dev nD) : (n : ℕ) → n < cfg0.N → Vec F S512x1024 .f32 × Vec F S1x1024 .f32 × Vec F S1024x1024 .f32 × Vec F S4608x1024 .bf16
  | 0, hn => atA m c ⟨0, hn⟩ (Nat.zero_mod _)
  | n + 1, hn =>
    if h0 : (n + 1) % 32 = 0 then
      atA m c ⟨n + 1, hn⟩ h0
    else
      atB m c ⟨n + 1, hn⟩ h0 (outsAt0 c n (Nat.lt_of_succ_lt hn))

/-- The contents after a point of case A. -/
theorem outsAt0_A (c : Dev nD) (t : Fin cfg0.N) (h0 : t.val % 32 = 0) :
    outsAt0 m c t.val t.isLt = atA m c t h0 := by
  obtain ⟨n, hn⟩ := t
  cases n with
  | zero => exact rfl
  | succ n => exact (dif_pos h0).trans rfl

/-- The contents after a point of case B. -/
theorem outsAt0_B (c : Dev nD) (t : Fin cfg0.N) (h0 : ¬t.val % 32 = 0) :
    outsAt0 m c t.val t.isLt = atB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What is carried between the points. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ iprop(hbPt0 c hbM0_0 (V m c main_v5)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ iprop(hbPt0 c hbM0_0 (V m c main_v5))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ iprop(hbPt0 c hbM0_0 (V m c main_v5))) := by
  cases n with
  | zero => exact absurd rfl hz
  | succ n => rfl

/-- The proof data of the run: what each window holds after each point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem before0_6_B (c : Dev nD) (t : Fin cfg0.N) (h0 : ¬t.val % 32 = 0) (d) :
    (dats m 0 c).before 6 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 6 rfl t (by omega) (Bool.eq_false_iff.mpr fun h => by have := (flush0_6 _).mp h; dsimp only at this; omega)
    (fun _ => rfl) (fun _ _ => rfl)]
  dsimp only [dats]

theorem before0_7_B (c : Dev nD) (t : Fin cfg0.N) (h0 : ¬t.val % 32 = 0) (d) :
    (dats m 0 c).before 7 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 7 rfl t (by omega) (Bool.eq_false_iff.mpr fun h => by have := (flush0_7 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 6400000 in

/-- The body at any point takes the contents before it to those after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ,
    after0_0, after0_1, after0_2, after0_3, after0_4, after0_5, after0_6, after0_7]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases hz : t.val = 0
    · rw [PhiS_castSucc m c t, PhiS_zero m c _ _ hz, PhiD0_eq]
      rw [outsAt0_A m c t h0, atA]
      unfold out0_A_5 out0_A_6 out0_A_7 sout0_A_0; (try dsimp only)
      iintro ⟨⟨HS0, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (V m c main_v5)).2.2.2.2 W _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hh0]; · iexact Hh0
      isplitl [HW]; · iexact HW
      iintro ⟨H0, H1, H2, H3, H4, ⟨%e5, H5⟩, ⟨%e6, H6⟩, ⟨%e7, H7⟩, ⟨%es0, HS0⟩, Hq0, Hq1, Hq2, Hq3, Hq4, Hq5, Hq6, Hq7, Hh0, ⟨%W', HW'⟩⟩
      isplitl [HS0 Hg Hq0 Hq1 Hq2 Hq3 Hq4 Hq5 Hq6 Hq7 Hh0]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _)
        isplitl [Hg]
        · iexact Hg
        isplitl [Hq0 Hq1 Hq2 Hq3 Hq4 Hq5 Hq6 Hq7]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          iexact Hq7
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0, atB]
      simp only [before0_6_B m c t h0, before0_7_B m c t h0]
      unfold out0_B_5 out0_B_6 out0_B_7 sout0_B_0; (try dsimp only)
      iintro ⟨⟨HS0, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) _ _ _ (V m c main_v5)).2.2.2.2 W _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hh0]; · iexact Hh0
      isplitl [HW]; · iexact HW
      iintro ⟨H0, H1, H2, H3, H4, ⟨%e5, H5⟩, ⟨%e6, H6⟩, ⟨%e7, H7⟩, HS0, Hq0, Hq1, Hq2, Hq3, Hq4, Hq5, Hq6, Hq7, Hh0, ⟨%W', HW'⟩⟩
      isplitl [HS0 Hg Hq0 Hq1 Hq2 Hq3 Hq4 Hq5 Hq6 Hq7 Hh0]
      · isplitl [HS0]
        · iexact HS0
        isplitl [Hg]
        · iexact Hg
        isplitl [Hq0 Hq1 Hq2 Hq3 Hq4 Hq5 Hq6 Hq7]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          iexact Hq7
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The obligation of the body at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨HS0, Hg, ⟨Hq0, Hq1, Hq2, Hq3, Hq4, Hq5, Hq6, Hq7⟩, Hh0⟩
  isplitl [HS0]
  · iexists _; iexact HS0
  isplitl [Hg]; · iexact Hg
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  iexact Hh0

theorem hout (c : Dev nD) : (dats m 0 c).Φ (Fin.last cfg0.N) ⊢ Pipeline.ΦD osem0 spec0 H0 (V m) c :=
  Phi_out m c _ (by rw [Fin.val_last]; have : cfg0.N = 32 := N_0; omega)

set_option backward.isDefEq.respectTransparency.types false in

/-- The run of the program, with every semaphore counter back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The run of the program. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The argument arrays are unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.InprojIdeal.Launch

end
-- ==== Proof.Inproj.Value.lean ====
/- What every point writes back, and the output arrays of the run block by block. -/
module

public import proofs.«01_k».proof.Proof.Inproj.Frame
public import Idealize.ShloMosaic.Lib.Pipeline.Value

@[expose] public section

noncomputable section

namespace Cert.InprojIdeal.Value

open Cert.InprojIdeal Cert.InprojIdeal.Gen Cert.InprojIdeal.Launch Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem post5 (r : PUnit × MemSt nD τ sig (Elt F)) (h : Pipeline.FramePost cfgs (dats m) 0 (V m) r) (c : Dev nD) :
    r.2.mem ((c : Thread nD τ).loc main_v6_0) = (dats m 0 c).arrAt 5 cfg0.N :=
  (h c).1 5

theorem post6 (r : PUnit × MemSt nD τ sig (Elt F)) (h : Pipeline.FramePost cfgs (dats m) 0 (V m) r) (c : Dev nD) :
    r.2.mem ((c : Thread nD τ).loc main_v6_1) = (dats m 0 c).arrAt 6 cfg0.N :=
  (h c).1 6

theorem post7 (r : PUnit × MemSt nD τ sig (Elt F)) (h : Pipeline.FramePost cfgs (dats m) 0 (V m) r) (c : Dev nD) :
    r.2.mem ((c : Thread nD τ).loc main_v6_2) = (dats m 0 c).arrAt 7 cfg0.N :=
  (h c).1 7

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 0).trans (((dats m 0 c).arrAt_in 0 rfl _).trans ((A_eq m c 0).trans (V_main_arg5 m c)))

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 2).trans (((dats m 0 c).arrAt_in 2 rfl _).trans ((A_eq m c 2).trans (V_main_arg6 m c)))

/-- The run with each output array named. -/
theorem run_blocks : θ_run defs (onTc (τ := τ) (main (F := F))) ⟨m, fun _ => 0, ρ⟩ fun r => ∀ c : Dev nD,
      r.2.mem ((c : Thread nD τ).loc main_v6_0) = (dats m 0 c).arrAt 5 cfg0.N
      ∧ r.2.mem ((c : Thread nD τ).loc main_v6_1) = (dats m 0 c).arrAt 6 cfg0.N
      ∧ r.2.mem ((c : Thread nD τ).loc main_v6_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post5 m r h c,
      post6 m r h c,
      post7 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.InprojIdeal.Value

end
-- ==== Proof.Inproj.Val.lean ====
module

public import proofs.«01_k».proof.Proof.Inproj.Value
public import proofs.«01_k».proof.Proof.Gen.InprojRefIdeal.Run
public import Idealize.ShloMosaic.Lib.Pipeline.ValueKit

@[expose] public section

set_option maxRecDepth 16384

noncomputable section

namespace Cert.InprojIdeal.Val

open Cert.InprojIdeal Cert.InprojIdeal.Gen Cert.InprojIdeal.Launch Idealize.ShloMosaic Idealize.ShloMosaic.TcCoe Idealize.SL.Sem
open Idealize.ShloMosaic.Pipeline (Dat)

variable (m : (ℓ : Loc nD τ sig) → Buf (Elt Ideal) ℓ)

theorem gw_pure (X : FVec Ideal S1x1024x4608 .f32) (k : Fin 8) (r : Fin 576) (d : Fin 1024) :
    shapeCast S8x576x1024 (fun i => truncf (F := Ideal) FTy.bf16 (transpose S4608x1024 [1, 0] (shapeCast S1024x4608 X
      shapeCasts_S1x1024x4608_S1024x4608) transposes_S1024x4608_S4608x1024_1_0) bitsLt_bf16_f32 i) shapeCasts_S4608x1024_S8x576x1024 (ix3 k r d) =
      X (ix3 0 d ⟨576 * k.val + r.val, by omega⟩) := by
  pointwise []
  blk_point []

theorem cat_pure (A : FVec Ideal S8x576x1024 .bf16) (Z : FVec Ideal S8x16x1024 .bf16) (k : Fin 8) (r : Fin 576) (d : Fin 1024) :
    concatenate S8x592x1024 1 [⟨S8x576x1024, A⟩, ⟨S8x16x1024, Z⟩] concatenates_S8x576x1024_S8x16x1024_S8x592x1024_d1 (ix3 k ⟨r.val, by omega⟩ d) =
      A (ix3 k r d) := by
  pointwise []

theorem gw_at (c : Dev nD) (k : Fin 8) (r : Fin 576) (d : Fin 1024) :
    (V m c main_v5 : S8x592x1024.Idx → EReal) (ix3 k ⟨r.val, by omega⟩ d) = m ((c : Thread nD τ).loc main_arg2) (ix3 0 d ⟨576 * k.val + r.val, by omega⟩) := by
  unfold V
  simp only [hostOps0]
  after_results
  after_results_simp
  exact (cat_pure _ _ k r d).trans (gw_pure _ k r d)

theorem slab_read (G : S8x592x1024.Idx → EReal) (k : Fin 8) (a : Fin 576) (b : Fin 1024)
    (hk : ∀ x, (![k.val, 0, 0] : Fin 3 → Nat) x + (![1, 576, 1024] : Fin 3 → Nat) x ≤ S8x592x1024.size x) (hn) :
    (View.read (Elt Ideal) (((View.whole main_v5).slice (Rect.unit ![k.val, 0, 0] ![1, 576, 1024] hk)).reshape S576x1024 hn) G : S576x1024.Idx → EReal) (ix2 a b) =
      G (ix3 k ⟨a.val, by omega⟩ b) := by
  have h : Shape.reshapeEquiv (s := S1x576x1024) (s' := S576x1024) hn (ix2 a b) = ix3 0 a b := by
    simp only [reshapeIdx]
  refine (congrArg (fun i => G ((Rect.unit ![k.val, 0, 0] ![1, 576, 1024] hk).emb i)) h).trans (congrArg G ?_)
  funext i
  fin_cases i <;> (apply Fin.ext; simp [Rect.emb, LoadRect.idx, Rect.unit])

theorem slab_at (c : Dev nD) (k : Fin 8) (j : Fin 4608) (d : Fin 1024) (a : Fin 576) (b : Fin 1024)
    (h0 : j.val = 576 * k.val + a.val) (h1 : d.val = b.val) (hk) (hn) :
    (View.read (Elt Ideal) (((View.whole main_v5).slice (Rect.unit ![k.val, 0, 0] ![1, 576, 1024] hk)).reshape S576x1024 hn) (V m c main_v5) : S576x1024.Idx → EReal) (ix2 a b) =
      m ((c : Thread nD τ).loc main_arg2) (ix3 0 d j) := by
  rw [slab_read, gw_at m c k a b]
  congr 2
  · exact Fin.ext h1.symm
  · exact Fin.ext h0.symm

theorem wt_A (c : Dev nD) (t : Fin cfg0.N) (h0 : t.val % 32 = 0) (j : Fin 4608) (d : Fin 1024) :
    (outsAt0 m c t.val t.isLt).2.2.2 (ix2 j d) = m ((c : Thread nD τ).loc main_arg2) (ix3 0 d j) := by
  rw [outsAt0_A m c t h0, atA]
  dsimp only
  frame_out
  canon_tiles y h
  case piece0 =>
    obtain ⟨a, b, rfl⟩ : ∃ (a : Fin 576) (b : Fin 1024), y = ix2 a b := ⟨y 0, y 1, by funext i; fin_cases i <;> rfl⟩
    exact slab_at m c 7 j d a b h0 h1 _ _
  case piece1 =>
    obtain ⟨a, b, rfl⟩ : ∃ (a : Fin 576) (b : Fin 1024), y = ix2 a b := ⟨y 0, y 1, by funext i; fin_cases i <;> rfl⟩
    exact slab_at m c 6 j d a b h0 h1 _ _
  case piece2 =>
    obtain ⟨a, b, rfl⟩ : ∃ (a : Fin 576) (b : Fin 1024), y = ix2 a b := ⟨y 0, y 1, by funext i; fin_cases i <;> rfl⟩
    exact slab_at m c 5 j d a b h0 h1 _ _
  case piece3 =>
    obtain ⟨a, b, rfl⟩ : ∃ (a : Fin 576) (b : Fin 1024), y = ix2 a b := ⟨y 0, y 1, by funext i; fin_cases i <;> rfl⟩
    exact slab_at m c 4 j d a b h0 h1 _ _
  case piece4 =>
    obtain ⟨a, b, rfl⟩ : ∃ (a : Fin 576) (b : Fin 1024), y = ix2 a b := ⟨y 0, y 1, by funext i; fin_cases i <;> rfl⟩
    exact slab_at m c 3 j d a b h0 h1 _ _
  case piece5 =>
    obtain ⟨a, b, rfl⟩ : ∃ (a : Fin 576) (b : Fin 1024), y = ix2 a b := ⟨y 0, y 1, by funext i; fin_cases i <;> rfl⟩
    exact slab_at m c 2 j d a b h0 h1 _ _
  case piece6 =>
    obtain ⟨a, b, rfl⟩ : ∃ (a : Fin 576) (b : Fin 1024), y = ix2 a b := ⟨y 0, y 1, by funext i; fin_cases i <;> rfl⟩
    exact slab_at m c 1 j d a b h0 h1 _ _
  case piece7 =>
    have h0 : j.val = _ := h0
    obtain ⟨a, b, rfl⟩ : ∃ (a : Fin 576) (b : Fin 1024), y = ix2 a b := ⟨y 0, y 1, by funext i; fin_cases i <;> rfl⟩
    exact slab_at m c 0 j d a b (h0.trans (by simp)) h1 _ _

end Cert.InprojIdeal.Val
-- ==== Proof.Inproj.Out.lean ====
module
public import proofs.«01_k».proof.Proof.Inproj.Val
public import proofs.«01_k».proof.Proof.Norm.Ref
@[expose] public section
set_option maxRecDepth 16384
noncomputable section
namespace Cert.InprojIdeal.Val
open Cert.InprojIdeal Cert.InprojIdeal.Gen Cert.InprojIdeal.Launch Idealize.ShloMosaic Idealize.ShloMosaic.TcCoe Idealize.SL.Sem
variable (m : (ℓ : Loc nD τ sig) → Buf (Elt Ideal) ℓ)

theorem wt_all (c : Dev nD) : ∀ (n : ℕ) (hn : n < cfg0.N) (j : Fin 4608) (d : Fin 1024),
    (outsAt0 m c n hn).2.2.2 (ix2 j d) = m ((c : Thread nD τ).loc main_arg2) (ix3 0 d j)
  | 0, hn, j, d => wt_A m c ⟨0, hn⟩ (Nat.zero_mod _) j d
  | n + 1, hn, j, d => by
    by_cases h0 : (n + 1) % 32 = 0
    · exact wt_A m c ⟨n + 1, hn⟩ h0 j d
    · have := outsAt0_B m c ⟨n + 1, hn⟩ h0
      rw [this]
      exact wt_all c n (Nat.lt_of_succ_lt hn) j d

theorem readCov_all (L : List (View.Piece (Elt Ideal) S4608x1024 .bf16)) (inb) :
    (View.whole cc0_scratch0).readCov L (Rect.unit ![0, 0] ![4608, 1024] inb).toLoadRect = View.canon L := by
  rw [View.readCov_eq_canon']
  funext j
  refine congrArg (View.canon L) ?_
  funext i
  fin_cases i <;> (apply Fin.ext; simp [LoadRect.idx, Rect.unit])

theorem outDx (c : Dev nD) (t : Fin cfg0.N) :
    (outsAt0 m c t.val t.isLt).1 = k0_pay1 (k0_pay8 (iblk m c 0 t) (outsAt0 m c t.val t.isLt).2.2.2 (iblk m c 1 t) (iblk m c 3 t)) (iblk m c 2 t) := by
  by_cases h0 : t.val % 32 = 0
  · rw [outsAt0_A m c t h0, atA]
    dsimp only
    frame_out
    refine congrArg (fun w => k0_pay1 (k0_pay8 (iblk m c 0 t) w (iblk m c 1 t) (iblk m c 3 t)) (iblk m c 2 t)) ?_
    exact readCov_all _ _
  · rw [outsAt0_B m c t h0, atB]
    dsimp only
    frame_out
    refine congrArg (fun w => k0_pay1 (k0_pay8 (iblk m c 0 t) w (iblk m c 1 t) (iblk m c 3 t)) (iblk m c 2 t)) ?_
    exact Memref.IsWhole.read_unread (Memref.isWhole_whole _) _

theorem outDg_A (c : Dev nD) (t : Fin cfg0.N) (h0 : t.val % 32 = 0) :
    (outsAt0 m c t.val t.isLt).2.1 = k0_pay9 (iblk m c 0 t) (outsAt0 m c t.val t.isLt).2.2.2 (iblk m c 1 t) (k0_pay3 (F := Ideal)) := by
  rw [outsAt0_A m c t h0, atA]
  dsimp only
  frame_out
  refine congrArg (fun w => k0_pay9 (iblk m c 0 t) w (iblk m c 1 t) (k0_pay3 (F := Ideal))) ?_
  exact readCov_all _ _

theorem outDg_B (c : Dev nD) (t : Fin cfg0.N) (h0 : ¬ t.val % 32 = 0) :
    (outsAt0 m c t.val t.isLt).2.1 = k0_pay9 (iblk m c 0 t) (outsAt0 m c t.val t.isLt).2.2.2 (iblk m c 1 t) (outsAt0 m c (t.val - 1) (Nat.lt_of_le_of_lt (Nat.sub_le _ _) t.isLt)).2.1 := by
  rw [outsAt0_B m c t h0, atB]
  dsimp only
  frame_out
  refine congrArg (fun w => k0_pay9 (iblk m c 0 t) w (iblk m c 1 t) (outsAt0 m c (t.val - 1) (Nat.lt_of_le_of_lt (Nat.sub_le _ _) t.isLt)).2.1) ?_
  exact Memref.IsWhole.read_unread (Memref.isWhole_whole _) _

theorem outGl_A (c : Dev nD) (t : Fin cfg0.N) (h0 : t.val % 32 = 0) :
    (outsAt0 m c t.val t.isLt).2.2.1 = k0_pay2 (iblk m c 2 t) (k0_pay4 (F := Ideal)) (iblk m c 4 t) := by
  rw [outsAt0_A m c t h0, atA]
  dsimp only
  frame_out

theorem outGl_B (c : Dev nD) (t : Fin cfg0.N) (h0 : ¬ t.val % 32 = 0) :
    (outsAt0 m c t.val t.isLt).2.2.1 = k0_pay2 (iblk m c 2 t) (outsAt0 m c (t.val - 1) (Nat.lt_of_le_of_lt (Nat.sub_le _ _) t.isLt)).2.2.1 (iblk m c 4 t) := by
  rw [outsAt0_B m c t h0, atB]
  dsimp only
  frame_out

/-- The gradient at the normalised row before the gain: the product with the transposed weight. -/
def dv (a6 : FVec Ideal S16384x4608 .bf16) (a2 : FVec Ideal S1x1024x4608 .f32) (r : Fin 16384) (d : Fin 1024) : EReal :=
  ∑ k : Fin 4608, a6 (ix2 r k) * a2 (ix3 0 d k)

theorem pay6_at (dy : FVec Ideal S512x4608 .bf16) (w : FVec Ideal S4608x1024 .bf16) (x : FVec Ideal S512x1024 .f32) (g : FVec Ideal S1x1024 .f32)
    (dr : FVec Ideal S512x1024 .f32) (r : Fin 512) (d : Fin 1024) :
    (k0_pay1 (F := Ideal) (k0_pay8 dy w x g) dr (ix2 r d) : EReal) = dr (ix2 r d) + Norm.back (fun e => x (ix2 r e)) (fun e => (∑ k : Fin 4608, dy (ix2 r k) * w (ix2 k e)) * g (ix2 0 e)) d := by
  pointwise [k0_pay1, k0_pay8, k0_pay7, k0_pay6, k0_pay5, Norm.back, Norm.rinv, Norm.mean]

theorem pay7_at (dy : FVec Ideal S512x4608 .bf16) (w : FVec Ideal S4608x1024 .bf16) (x : FVec Ideal S512x1024 .f32) (s : FVec Ideal S1x1024 .f32) (d : Fin 1024) :
    (k0_pay9 (F := Ideal) dy w x s (ix2 0 d) : EReal) = s (ix2 0 d) + ∑ r : Fin 512, (∑ k : Fin 4608, dy (ix2 r k) * w (ix2 k d)) * (x (ix2 r d) * Norm.rinv fun e => x (ix2 r e)) := by
  pointwise [k0_pay9, k0_pay7, k0_pay6, k0_pay5, Norm.rinv, Norm.mean]

theorem gl_at (dr : FVec Ideal S512x1024 .f32) (s : FVec Ideal S1024x1024 .f32) (l : FVec Ideal S512x1024 .bf16) (i j : Fin 1024) :
    (k0_pay2 (F := Ideal) dr s l (ix2 i j) : EReal) = s (ix2 i j) + ∑ r : Fin 512, l (ix2 r i) * dr (ix2 r j) := by
  pointwise [k0_pay2]

theorem idx : ∀ t : Fin cfg0.N, win0_0.index t = ![t.val, 0] ∧ win0_1.index t = ![t.val, 0] ∧ win0_2.index t = ![t.val, 0] ∧ win0_3.index t = ![0, 0] ∧
    win0_4.index t = ![t.val, 0] ∧ win0_5.index t = ![t.val, 0] ∧ win0_6.index t = ![0, 0] ∧ win0_7.index t = ![0, 0] ∧ t.val < 32 :=
  (by decide +kernel : ∀ t : Fin grid0.N, _)

/-- The first result over whole arrays, in the kernel's form. -/
def GDx (a7 a0 : FVec Ideal S16384x1024 .f32) (a1 : FVec Ideal S1x1024 .f32) (q : Fin 16384 → Fin 1024 → EReal) : FVec Ideal S16384x1024 .f32 :=
  fun i => a7 i + Norm.back (fun e => a0 (ix2 (i 0) e)) (fun e => q (i 0) e * a1 (ix2 0 e)) (i 1)

/-- The row of the whole arrays that row `a` of point `t`'s block is. -/
def row (t : Fin cfg0.N) (a : Fin 512) : Fin 16384 := ⟨512 * t.val + a.val, by have := (idx t).2.2.2.2.2.2.2.2; omega⟩

theorem blk_dy (c : Dev nD) (t : Fin cfg0.N) (a : Fin 512) (k : Fin 4608) :
    (iblk m c 0 t : S512x4608.Idx → EReal) (ix2 a k) = m ((c : Thread nD τ).loc main_arg5) (ix2 (row t a) k) := by
  blk_ext [iblk, V, idx t, row]
theorem blk_x (c : Dev nD) (t : Fin cfg0.N) (a : Fin 512) (k : Fin 1024) :
    (iblk m c 1 t : S512x1024.Idx → EReal) (ix2 a k) = m ((c : Thread nD τ).loc main_arg0) (ix2 (row t a) k) := by
  blk_ext [iblk, V, idx t, row]
theorem blk_dr (c : Dev nD) (t : Fin cfg0.N) (a : Fin 512) (k : Fin 1024) :
    (iblk m c 2 t : S512x1024.Idx → EReal) (ix2 a k) = m ((c : Thread nD τ).loc main_arg6) (ix2 (row t a) k) := by
  blk_ext [iblk, V, idx t, row]
theorem blk_g (c : Dev nD) (t : Fin cfg0.N) (k : Fin 1024) :
    (iblk m c 3 t : S1x1024.Idx → EReal) (ix2 0 k) = m ((c : Thread nD τ).loc main_arg1) (ix2 0 k) := by
  blk_ext [iblk, V, idx t]
theorem blk_l (c : Dev nD) (t : Fin cfg0.N) (a : Fin 512) (k : Fin 1024) :
    (iblk m c 4 t : S512x1024.Idx → EReal) (ix2 a k) = m ((c : Thread nD τ).loc main_arg4) (ix2 (row t a) k) := by
  blk_ext [iblk, V, idx t, row]
theorem embDx (t : Fin cfg0.N) (a : Fin 512) (b : Fin 1024) : ((cfg0.win 5).blk t).view.emb (ix2 a b) = (ix2 (row t a) b : S16384x1024.Idx) := by
  blk_ext [idx t, row]

theorem pay6_row (dy : FVec Ideal S512x4608 .bf16) (w : FVec Ideal S4608x1024 .bf16) (x : FVec Ideal S512x1024 .f32) (g : FVec Ideal S1x1024 .f32)
    (dr : FVec Ideal S512x1024 .f32) (r : Fin 512) (d : Fin 1024)
    (a6 : FVec Ideal S16384x4608 .bf16) (a2 : FVec Ideal S1x1024x4608 .f32) (a7 a0 : FVec Ideal S16384x1024 .f32) (a1 : FVec Ideal S1x1024 .f32) (R : Fin 16384)
    (hdy : ∀ k, dy (ix2 r k) = a6 (ix2 R k)) (hw : ∀ k e, w (ix2 k e) = a2 (ix3 0 e k)) (hx : ∀ k, x (ix2 r k) = a0 (ix2 R k))
    (hdr : ∀ k, dr (ix2 r k) = a7 (ix2 R k)) (hg : ∀ k, g (ix2 0 k) = a1 (ix2 0 k)) :
    (k0_pay1 (F := Ideal) (k0_pay8 dy w x g) dr (ix2 r d) : EReal) = GDx a7 a0 a1 (dv a6 a2) (ix2 R d) := by
  rw [pay6_at]
  simp only [hdy, hw, hx, hdr, hg]
  rfl

theorem finalDx (c : Dev nD) : (dats m 0 c).arrAt 5 cfg0.N = GDx (m ((c : Thread nD τ).loc main_arg6)) (m ((c : Thread nD τ).loc main_arg0)) (m ((c : Thread nD τ).loc main_arg1))
      (dv (m ((c : Thread nD τ).loc main_arg5)) (m ((c : Thread nD τ).loc main_arg2))) := by
  refine (dats m 0 c).arrAt_eq_of_covers 5 _ (by decide +kernel) fun t _ y => ?_
  blk_simp
  rw [after0_5, outDx]
  obtain ⟨a, b, rfl⟩ : ∃ (a : Fin 512) (b : Fin 1024), y = ix2 a b := ⟨y 0, y 1, by funext i; fin_cases i <;> rfl⟩
  rw [embDx]
  exact pay6_row _ _ _ _ _ a b _ _ _ _ _ (row t a) (blk_dy m c t a) (wt_all m c _ _) (blk_x m c t a) (blk_dr m c t a) (blk_g m c t)

end Cert.InprojIdeal.Val
-- ==== Proof.Inproj.Alg.lean ====
module
public import proofs.«01_k».proof.Defs
public import proofs.«01_k».proof.Proof.Inproj.Out
public import proofs.«01_k».proof.Proof.Gen.InprojRefIdeal.Run
@[expose] public section
set_option maxRecDepth 16384
noncomputable section
namespace Cert.InprojIdeal.Val
open Cert.InprojIdeal Cert.InprojIdeal.Gen Cert.InprojIdeal.Launch Idealize.ShloMosaic Idealize.ShloMosaic.TcCoe Idealize.SL.Sem
variable (m : (ℓ : Loc nD τ sig) → Buf (Elt Ideal) ℓ)

/-- What row `R` of the whole arrays adds to the gradient of the gain at `d`. -/
def part (a0 : FVec Ideal S16384x1024 .f32) (q : Fin 16384 → Fin 1024 → EReal) (d : Fin 1024) (R : Fin 16384) : EReal :=
  q R d * (a0 (ix2 R d) * Norm.rinv fun e => a0 (ix2 R e))

/-- The second result over whole arrays: the gradient of the gain. -/
def GDg (a0 : FVec Ideal S16384x1024 .f32) (q : Fin 16384 → Fin 1024 → EReal) : FVec Ideal S1x1024 .f32 :=
  fun i => ∑ R : Fin 16384, part a0 q (i 1) R

theorem gain_idx (j : S1x1024.Idx) : ∃ d : Fin 1024, j = ix2 0 d := by
  refine ⟨j 1, ?_⟩
  funext i
  fin_cases i
  · refine Fin.ext ?_
    have := (j 0).isLt
    change (j 0).val < 1 at this
    change (j 0).val = 0
    omega
  · rfl

theorem pay7_row (dy : FVec Ideal S512x4608 .bf16) (w : FVec Ideal S4608x1024 .bf16) (x : FVec Ideal S512x1024 .f32) (s : FVec Ideal S1x1024 .f32)
    (j : S1x1024.Idx) (a6 : FVec Ideal S16384x4608 .bf16) (a2 : FVec Ideal S1x1024x4608 .f32) (a0 : FVec Ideal S16384x1024 .f32) (t : Fin cfg0.N)
    (hdy : ∀ r k, dy (ix2 r k) = a6 (ix2 (row t r) k)) (hw : ∀ k e, w (ix2 k e) = a2 (ix3 0 e k)) (hx : ∀ r k, x (ix2 r k) = a0 (ix2 (row t r) k)) :
    (k0_pay9 (F := Ideal) dy w x s j : EReal) = s j + ∑ r : Fin 512, part a0 (dv a6 a2) (j 1) (row t r) := by
  obtain ⟨d, rfl⟩ : ∃ d : Fin 1024, j = ix2 0 d := gain_idx j
  rw [pay7_at]
  simp only [hdy, hw, hx]
  rfl

theorem pay2_at (j : S1x1024.Idx) : (k0_pay3 (F := Ideal) j : EReal) = 0 := by pointwise [k0_pay3]

theorem finalDg (c : Dev nD) : (dats m 0 c).arrAt 6 cfg0.N = GDg (m ((c : Thread nD τ).loc main_arg0))
      (dv (m ((c : Thread nD τ).loc main_arg5)) (m ((c : Thread nD τ).loc main_arg2))) := by
  refine (dats m 0 c).arrAt_eq_of_covers 6 _ (by decide +kernel) fun t hf y => ?_
  blk_simp
  rw [after0_6]
  refine (Pipeline.eq_sum_fin_of_reset_step_apply_of_flush (N := cfg0.N) (M := EReal) (ι := S1x1024.Idx) (fun n h => (outsAt0 m c n h).2.1) 32 (fun _ => 0)
    (fun p j => ∑ r : Fin 512, part (m ((c : Thread nD τ).loc main_arg0)) (dv (m ((c : Thread nD τ).loc main_arg5)) (m ((c : Thread nD τ).loc main_arg2))) (j 1) (row p r))
    (fun p h j => ?_) (fun p h j => ?_) t ((flush0_6 t).mp hf) y).trans ?_
  · rw [outDg_A m c p h]
    refine (pay7_row _ _ _ _ j _ _ _ p (blk_dy m c p) (wt_all m c _ _) (blk_x m c p)).trans ?_
    rw [pay2_at]
  · rw [outDg_B m c p h]
    exact pay7_row _ _ _ _ j _ _ _ p (blk_dy m c p) (wt_all m c _ _) (blk_x m c p)
  · rw [zero_add]
    have ht : t.val / 32 = 0 := by have := (idx t).2.2.2.2.2.2.2.2; omega
    have he : ((cfg0.win 6).blk t).view.emb y = (y : S1x1024.Idx) := by blk_ext [idx t]
    rw [he]
    unfold GDg
    refine Fin.sum_mul_add_congr fun s k hl => congrArg _ (Fin.ext ?_)
    simp only [row, ht]
    omega

/-- What row `R` of the whole arrays adds to the gradient of the output projection at `(i, j)`. -/
def glPart (a4 : FVec Ideal S16384x1024 .bf16) (a6 : FVec Ideal S16384x1024 .f32) (i j : Fin 1024) (R : Fin 16384) : EReal := a4 (ix2 R i) * a6 (ix2 R j)

/-- The third result over whole arrays: the left rows, transposed, times the incoming gradient's. -/
def GGl (a4 : FVec Ideal S16384x1024 .bf16) (a6 : FVec Ideal S16384x1024 .f32) : FVec Ideal S1024x1024 .f32 :=
  fun i => ∑ R : Fin 16384, glPart a4 a6 (i 0) (i 1) R

theorem gl_row (dr : FVec Ideal S512x1024 .f32) (s : FVec Ideal S1024x1024 .f32) (l : FVec Ideal S512x1024 .bf16) (j : S1024x1024.Idx)
    (a4 : FVec Ideal S16384x1024 .bf16) (a6 : FVec Ideal S16384x1024 .f32) (t : Fin cfg0.N)
    (hl : ∀ r k, l (ix2 r k) = a4 (ix2 (row t r) k)) (hdr : ∀ r k, dr (ix2 r k) = a6 (ix2 (row t r) k)) :
    (k0_pay2 (F := Ideal) dr s l j : EReal) = s j + ∑ r : Fin 512, glPart a4 a6 (j 0) (j 1) (row t r) := by
  obtain ⟨a, b, rfl⟩ : ∃ (a b : Fin 1024), j = ix2 a b := ⟨j 0, j 1, by funext i; fin_cases i <;> rfl⟩
  rw [gl_at]
  simp only [hl, hdr]
  rfl

theorem pay4_at (j : S1024x1024.Idx) : (k0_pay4 (F := Ideal) j : EReal) = 0 := by pointwise [k0_pay4]

theorem finalGl (c : Dev nD) : (dats m 0 c).arrAt 7 cfg0.N = GGl (m ((c : Thread nD τ).loc main_arg4)) (m ((c : Thread nD τ).loc main_arg6)) := by
  refine (dats m 0 c).arrAt_eq_of_covers 7 _ (by decide +kernel) fun t hf y => ?_
  blk_simp
  rw [after0_7]
  refine (Pipeline.eq_sum_fin_of_reset_step_apply_of_flush (N := cfg0.N) (M := EReal) (ι := S1024x1024.Idx) (fun n h => (outsAt0 m c n h).2.2.1) 32 (fun _ => 0)
    (fun p j => ∑ r : Fin 512, glPart (m ((c : Thread nD τ).loc main_arg4)) (m ((c : Thread nD τ).loc main_arg6)) (j 0) (j 1) (row p r))
    (fun p h j => ?_) (fun p h j => ?_) t ((flush0_7 t).mp hf) y).trans ?_
  · rw [outGl_A m c p h]
    refine (gl_row _ _ _ j _ _ p (blk_l m c p) (blk_dr m c p)).trans ?_
    rw [pay4_at]
  · rw [outGl_B m c p h]
    exact gl_row _ _ _ j _ _ p (blk_l m c p) (blk_dr m c p)
  · rw [zero_add]
    have ht : t.val / 32 = 0 := by have := (idx t).2.2.2.2.2.2.2.2; omega
    have he : ((cfg0.win 7).blk t).view.emb y = (y : S1024x1024.Idx) := by blk_ext [idx t]
    rw [he]
    unfold GGl
    refine Fin.sum_mul_add_congr fun s k hl => congrArg _ (Fin.ext ?_)
    simp only [row, ht]
    omega

theorem refDx (a7 a0 : FVec Ideal S16384x1024 .f32) (a1 : FVec Ideal S1x1024 .f32) (q : FVec Ideal S16384x1024 .f32) (q' : Fin 16384 → Fin 1024 → EReal)
    (hq : ∀ r d, q (ix2 r d) = q' r d) : Norm.dxV a7 a0 (Norm.gainV a1 q) = GDx a7 a0 a1 q' := by
  funext i
  obtain ⟨r, d, rfl⟩ : ∃ (r : Fin 16384) (d : Fin 1024), i = ix2 r d := ⟨i 0, i 1, by funext i; fin_cases i <;> rfl⟩
  rw [Norm.dxV_at]
  simp only [Norm.gainV_at, hq]
  exact Norm.back_eq _ (fun e => q' r e * a1 (ix2 0 e)) d _

theorem refDg (a0 : FVec Ideal S16384x1024 .f32) (q : FVec Ideal S16384x1024 .f32) (q' : Fin 16384 → Fin 1024 → EReal)
    (hq : ∀ r d, q (ix2 r d) = q' r d) : Norm.dgV a0 q = GDg a0 q' := by
  funext j
  obtain ⟨d, rfl⟩ : ∃ d : Fin 1024, j = ix2 0 d := gain_idx j
  rw [Norm.dgV_at]
  refine Finset.sum_congr rfl fun r _ => ?_
  rw [hq, mul_comm]
  rfl

end Cert.InprojIdeal.Val
namespace Cert.InprojRefIdeal.Val
open Cert.InprojRefIdeal Cert.InprojRefIdeal.Gen Idealize.ShloMosaic Idealize.ShloMosaic.TcCoe Idealize.SL.Sem

/-- The reference's product with the transposed weight. -/
def dvV (a6 : FVec Ideal S16384x4608 .bf16) (a2 : FVec Ideal S1x1024x4608 .f32) : FVec Ideal S16384x1024 .f32 :=
  Host.dotGeneral dot_S16384x4608_S1024x4608_S16384x1024_1_1_0_0_n_n none (extf .f32 a6 bitsLt_bf16_f32) (shapeCast _ a2 shapeCasts_S1x1024x4608_S1024x4608)

theorem dvV_at (a6 : FVec Ideal S16384x4608 .bf16) (a2 : FVec Ideal S1x1024x4608 .f32) (r : Fin 16384) (d : Fin 1024) :
    (dvV a6 a2 (ix2 r d) : EReal) = Cert.InprojIdeal.Val.dv a6 a2 r d := by
  unfold Cert.InprojIdeal.Val.dv
  pointwise [dvV]

/-- The reference's gradient of the output projection. -/
def glV (a6 : FVec Ideal S16384x1024 .f32) (a4 : FVec Ideal S16384x1024 .bf16) : FVec Ideal S1024x1024 .f32 :=
  transpose S1024x1024 [1, 0] (Host.dotGeneral dot_S16384x1024_S16384x1024_S1024x1024_0_0_1_1_n_n none (shapeCast _ a6 shapeCasts_S16384x1024_S16384x1024) (extf .f32 a4 bitsLt_bf16_f32)) transposes_S1024x1024_S1024x1024_1_0

theorem glV_at (a6 : FVec Ideal S16384x1024 .f32) (a4 : FVec Ideal S16384x1024 .bf16) (i j : Fin 1024) :
    (glV a6 a4 (ix2 i j) : EReal) = ∑ r : Fin 16384, a6 (ix2 r j) * a4 (ix2 r i) := by
  pointwise [glV]

theorem refGl (a6 : FVec Ideal S16384x1024 .f32) (a4 : FVec Ideal S16384x1024 .bf16) : glV a6 a4 = Cert.InprojIdeal.Val.GGl a4 a6 := by
  funext j
  obtain ⟨a, b, rfl⟩ : ∃ (a b : Fin 1024), j = ix2 a b := ⟨j 0, j 1, by funext i; fin_cases i <;> rfl⟩
  rw [glV_at]
  refine Finset.sum_congr rfl fun r _ => ?_
  rw [mul_comm]
  rfl

theorem res0 (m : (ℓ : Loc nD τ sig) → Buf (Elt Ideal) ℓ) (c : Dev nD) :
    Cert.InprojRefIdeal.Value.res_main_v48 m c = Norm.dxV (m ((c.tc : Thread nD τ).loc main_arg6)) (m ((c.tc : Thread nD τ).loc main_arg0))
      (Norm.gainV (m ((c.tc : Thread nD τ).loc main_arg1)) (dvV (m ((c.tc : Thread nD τ).loc main_arg5)) (m ((c.tc : Thread nD τ).loc main_arg2)))) := rfl

end Cert.InprojRefIdeal.Val
namespace Cert.InprojIdeal.Val
open Idealize.ShloMosaic Idealize.ShloMosaic.TcCoe Idealize.SL.Sem

theorem algebraic : Cert.algebraic_InprojIdeal_InprojRefIdeal (hInprojIdeal := Cert.InprojIdeal.Gen.facts) (hInprojRefIdeal := Cert.InprojRefIdeal.Gen.facts) := by
  intro m g m' g' _ h
  refine ⟨fun c => (Cert.InprojIdeal.Launch.dats m 0 c).arrAt 5 Cert.InprojIdeal.cfg0.N, fun c => (Cert.InprojIdeal.Launch.dats m 0 c).arrAt 6 Cert.InprojIdeal.cfg0.N,
    fun c => (Cert.InprojIdeal.Launch.dats m 0 c).arrAt 7 Cert.InprojIdeal.cfg0.N,
    Cert.InprojIdeal.Value.run_blocks m g, (θ_run _ _ _).mono (fun r hr c => ?_) (Cert.InprojRefIdeal.Value.run m' g')⟩
  obtain ⟨h0, h1, h2, h3, h4, h5, h6⟩ := h c
  obtain ⟨r0, r1, r2, rest⟩ := hr c
  refine ⟨r0.trans ?_, r1.trans ?_, r2.trans ?_, rest⟩
  · refine Eq.trans ?_ (finalDx m c).symm
    rw [Cert.InprojRefIdeal.Val.res0, h0, h1, h2, h5, h6]
    exact refDx _ _ _ _ _ (Cert.InprojRefIdeal.Val.dvV_at _ _)
  · refine Eq.trans ?_ (finalDg m c).symm
    rw [h0, h2, h5]
    exact refDg _ _ _ (Cert.InprojRefIdeal.Val.dvV_at _ _)
  · refine Eq.trans ?_ (finalGl m c).symm
    rw [h4, h6]
    exact Cert.InprojRefIdeal.Val.refGl _ _

end Cert.InprojIdeal.Val
-- ==== Proof.Inproj.Frames.lean ====
/- The frames of the call: of its own text, of its idealised text and of its reference. -/
module

public import proofs.«01_k».proof.Defs
public import proofs.«01_k».proof.Proof.Gen.Inproj
public import proofs.«01_k».proof.Proof.Inproj.Frame
public import proofs.«01_k».proof.Proof.Gen.InprojRefIdeal.Run

@[expose] public section

noncomputable section

namespace Cert.InprojIdeal.Val

open Idealize.ShloMosaic Idealize.SL.Sem

set_option smartUnfolding false in
/-- The two texts of the call are the same, so its own text runs as its idealised text does, at the
    machine's numbers. -/
theorem frame_own : Cert.quiescent_Inproj (hInproj := Cert.Inproj.Gen.facts) :=
  fun m ρ _ => Cert.InprojIdeal.Launch.frame (F := Bits) m ρ

theorem frame_ideal : Cert.quiescent_InprojIdeal (hInprojIdeal := Cert.InprojIdeal.Gen.facts) :=
  fun m ρ _ => Cert.InprojIdeal.Launch.frame m ρ

/-- The reference declares no semaphore. -/
theorem frame_ref : Cert.quiescent_InprojRefIdeal (hInprojRefIdeal := Cert.InprojRefIdeal.Gen.facts) := fun m ρ _ =>
  (θ_run Cert.InprojRefIdeal.defs _ _).mono
    (fun r h => ⟨fun c => (h c).2.2.2, sem_eq_zero_of_no_sems (by decide) r.2⟩)
    (Cert.InprojRefIdeal.Value.run (F := Ideal) m ρ)

end Cert.InprojIdeal.Val

end
-- ==== Proof.Fwd.RunA.lean ====
/- The body at the first point of the grid, run over its statements. -/
module

public import proofs.«01_k».proof.Proof.Gen.FwdIdeal.Frame.Runs

@[expose] public section

set_option maxRecDepth 16384

noncomputable section

namespace Cert.FwdIdeal.Launch

open Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option sl_exec.dmaWindow true in
set_option sl_exec.dmaWindowSet true in
set_option maxHeartbeats 1008000 in

/-- The pieces each buffer ends with in case A, found by the run of the body, with the proof of the run. -/
noncomputable def kernelRun0_A (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .bf16) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S512x1024 .f32) (harg7 : arg7.IsWhole) (arg8 : Memref sig .tc .vmem S5632x1024 .bf16) (harg8 : arg8.IsWhole) (arg9 : Memref sig .tc .vmem S2816x1024 .bf16) (harg9 : arg9.IsWhole) (hc0 : cond0_0 i)
    (x0 : Vec F S512x1024 .f32) (x1 : Vec F S1x1024 .f32) (fh0 : HbBuf0 (F := F) c hbM0_0) :
    Σ' (L2 : List (View.Piece (Elt F) S512x1024 .bf16)), Σ' (L3 : List (View.Piece (Elt F) S512x2816 .bf16)), Σ' (L4 : List (View.Piece (Elt F) S512x2816 .bf16)), Σ' (L5 : List (View.Piece (Elt F) S512x1024 .f32)), Σ' (LS0 : List (View.Piece (Elt F) S5632x1024 .bf16)), { LS1 : List (View.Piece (Elt F) S2816x1024 .bf16) //
      ∀ (W : Waits sig Unit) (K : PUnit → sProp 𝕄),
        iprop(owns (c : Thread nD τ) arg1 fullShare x0 ∗ owns (c : Thread nD τ) arg2 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt0 c hbM0_0 fh0 ∗ owes (c : Thread nD τ) 0 W
            ∗ (iprop(owns (c : Thread nD τ) arg1 fullShare x0 ∗ owns (c : Thread nD τ) arg2 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt0 c hbM0_0 fh0 ∗ (∃ W', owes (c : Thread nD τ) 0 W')) -∗ K ⟨⟩))
          ⊢ wp frame (wpE (defs₀ (F := F)) Variants.none c none) Set.univ (cc0_ffn_fwd i arg1 harg1 arg2 harg2 (Memref.whole main_v15) (Memref.isWhole_whole _) arg4 harg4 arg5 harg5 arg6 harg6 arg7 harg7 arg8 harg8 arg9 harg9 cc0_scratch2) K } := by
  refine ⟨?_, ?_, ?_, ?_, ?_, ?_, fun W K => ?run⟩
  case run =>
    simp only [cc0_ffn_fwd_eq_skeleton]; unfold cc0_ffn_fwd_skel
    simp only [k0_part7_eq_skeleton, k0_part1_eq_skeleton, k0_part2_eq_skeleton, k0_part3_eq_skeleton, k0_part4_eq_skeleton, k0_part5_eq_skeleton, k0_part6_eq_skeleton, k0_part8_eq_skeleton, k0_part9_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%ds0, %fs0, -, HS0⟩, ⟨%ds1, %fs1, -, HS1⟩, Hq0, Hq1, Hq2, Hq3, Hq4, Hq5, Hq6, Hq7, Hq8, Hq9, Hq10, Hq11, Hq12, Hq13, Hq14, Hq15, Hh0, HW, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    isplitl [HS0]; · iexists _; iexact HS0
    isplitl [HS1]; · iexists _; iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    iexists _; iexact HW

end Cert.FwdIdeal.Launch

end
-- ==== Proof.Fwd.RunB.lean ====
/- The body at a later point of the grid, run over its statements. -/
module

public import proofs.«01_k».proof.Proof.Fwd.RunA

@[expose] public section

set_option maxRecDepth 16384

noncomputable section

namespace Cert.FwdIdeal.Launch

open Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option sl_exec.dmaWindow true in
set_option sl_exec.dmaWindowSet true in
set_option maxHeartbeats 1000000 in

/-- The pieces each buffer ends with in case B, found by the run of the body, with the proof of the run. -/
noncomputable def kernelRun0_B (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .bf16) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S512x1024 .f32) (harg7 : arg7.IsWhole) (arg8 : Memref sig .tc .vmem S5632x1024 .bf16) (harg8 : arg8.IsWhole) (arg9 : Memref sig .tc .vmem S2816x1024 .bf16) (harg9 : arg9.IsWhole) (hc0 : ¬cond0_0 i)
    (x0 : Vec F S512x1024 .f32) (x1 : Vec F S1x1024 .f32) (xs0 : Vec F S5632x1024 .bf16) (xs1 : Vec F S2816x1024 .bf16) (fh0 : HbBuf0 (F := F) c hbM0_0) :
    Σ' (L2 : List (View.Piece (Elt F) S512x1024 .bf16)), Σ' (L3 : List (View.Piece (Elt F) S512x2816 .bf16)), Σ' (L4 : List (View.Piece (Elt F) S512x2816 .bf16)), Σ' (L5 : List (View.Piece (Elt F) S512x1024 .f32)), Σ' (LS0 : List (View.Piece (Elt F) S5632x1024 .bf16)), { LS1 : List (View.Piece (Elt F) S2816x1024 .bf16) //
      ∀ (W : Waits sig Unit) (K : PUnit → sProp 𝕄),
        iprop(owns (c : Thread nD τ) arg1 fullShare x0 ∗ owns (c : Thread nD τ) arg2 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt0 c hbM0_0 fh0 ∗ owes (c : Thread nD τ) 0 W
            ∗ (iprop(owns (c : Thread nD τ) arg1 fullShare x0 ∗ owns (c : Thread nD τ) arg2 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xs0 ∗ owns (c : Thread nD τ) arg9 fullShare xs1 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt0 c hbM0_0 fh0 ∗ (∃ W', owes (c : Thread nD τ) 0 W')) -∗ K ⟨⟩))
          ⊢ wp frame (wpE (defs₀ (F := F)) Variants.none c none) Set.univ (cc0_ffn_fwd i arg1 harg1 arg2 harg2 (Memref.whole main_v15) (Memref.isWhole_whole _) arg4 harg4 arg5 harg5 arg6 harg6 arg7 harg7 arg8 harg8 arg9 harg9 cc0_scratch2) K } := by
  refine ⟨?_, ?_, ?_, ?_, [], [], fun W K => ?run⟩
  case run =>
    simp only [cc0_ffn_fwd_eq_skeleton]; unfold cc0_ffn_fwd_skel
    simp only [k0_part7_eq_skeleton, k0_part8_eq_skeleton, k0_part9_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%fs0, %hfs0, HS0⟩, ⟨%fs1, %hfs1, HS1⟩, Hq0, Hq1, Hq2, Hq3, Hq4, Hq5, Hq6, Hq7, Hq8, Hq9, Hq10, Hq11, Hq12, Hq13, Hq14, Hq15, Hh0, HW, Hk⟩
    obtain rfl := harg1.eq_unread hf0; obtain rfl := harg2.eq_unread hf1; obtain rfl := harg8.eq_unread hfs0; obtain rfl := harg9.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    isplitl [HS0]
    · iexists _; isplitr; · ipureintro; exact harg8.read_unread _
      iexact HS0
    isplitl [HS1]
    · iexists _; isplitr; · ipureintro; exact harg9.read_unread _
      iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    iexists _; iexact HW

end Cert.FwdIdeal.Launch

end
-- ==== Proof.Fwd.Frame.lean ====
/- What the body leaves at every point, the run of the whole program, and its frame. -/
module

public import proofs.«01_k».proof.Proof.Fwd.RunB
public import Idealize.ShloMosaic.Lib.Claim

@[expose] public section

set_option maxRecDepth 16384

noncomputable section

namespace Cert.FwdIdeal.Launch

open Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section CaseA

variable (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .bf16) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S512x1024 .f32) (harg7 : arg7.IsWhole) (arg8 : Memref sig .tc .vmem S5632x1024 .bf16) (harg8 : arg8.IsWhole) (arg9 : Memref sig .tc .vmem S2816x1024 .bf16) (harg9 : arg9.IsWhole) (hc0 : cond0_0 i)
  (x0 : Vec F S512x1024 .f32) (x1 : Vec F S1x1024 .f32) (fh0 : HbBuf0 (F := F) c hbM0_0)

/-- Case A's stores cover the block of window 2. -/
theorem cover0_A_2 (y : S512x1024.Idx) :
    ∃ pc ∈ (kernelRun0_A c i arg1 harg1 arg2 harg2 arg4 harg4 arg5 harg5 arg6 harg6 arg7 harg7 arg8 harg8 arg9 harg9 hc0 x0 x1 fh0).1, y ∈ pc.1.set :=
  View.cover_of_tiledL _ S512x1024.size (by sl_kernel_rfl) y

/-- What case A leaves in the block of window 2. -/
def out0_A_2 : Vec F S512x1024 .bf16 :=
  VO0_2.read (Elt F) (VO0_2.writes (Elt F) VO0_2.junk (kernelRun0_A c i arg1 harg1 arg2 harg2 arg4 harg4 arg5 harg5 arg6 harg6 arg7 harg7 arg8 harg8 arg9 harg9 hc0 x0 x1 fh0).1)

/-- Case A's stores cover the block of window 3. -/
theorem cover0_A_3 (y : S512x2816.Idx) :
    ∃ pc ∈ (kernelRun0_A c i arg1 harg1 arg2 harg2 arg4 harg4 arg5 harg5 arg6 harg6 arg7 harg7 arg8 harg8 arg9 harg9 hc0 x0 x1 fh0).2.1, y ∈ pc.1.set :=
  View.cover_of_tiledBy (kernelRun0_A c i arg1 harg1 arg2 harg2 arg4 harg4 arg5 harg5 arg6 harg6 arg7 harg7 arg8 harg8 arg9 harg9 hc0 x0 x1 fh0).2.1 ![512, 256] (by sl_kernel_rfl) y

/-- What case A leaves in the block of window 3. -/
def out0_A_3 : Vec F S512x2816 .bf16 :=
  VO0_3.read (Elt F) (VO0_3.writes (Elt F) VO0_3.junk (kernelRun0_A c i arg1 harg1 arg2 harg2 arg4 harg4 arg5 harg5 arg6 harg6 arg7 harg7 arg8 harg8 arg9 harg9 hc0 x0 x1 fh0).2.1)

/-- Case A's stores cover the block of window 4. -/
theorem cover0_A_4 (y : S512x2816.Idx) :
    ∃ pc ∈ (kernelRun0_A c i arg1 harg1 arg2 harg2 arg4 harg4 arg5 harg5 arg6 harg6 arg7 harg7 arg8 harg8 arg9 harg9 hc0 x0 x1 fh0).2.2.1, y ∈ pc.1.set :=
  View.cover_of_tiledBy (kernelRun0_A c i arg1 harg1 arg2 harg2 arg4 harg4 arg5 harg5 arg6 harg6 arg7 harg7 arg8 harg8 arg9 harg9 hc0 x0 x1 fh0).2.2.1 ![512, 256] (by sl_kernel_rfl) y

/-- What case A leaves in the block of window 4. -/
def out0_A_4 : Vec F S512x2816 .bf16 :=
  VO0_4.read (Elt F) (VO0_4.writes (Elt F) VO0_4.junk (kernelRun0_A c i arg1 harg1 arg2 harg2 arg4 harg4 arg5 harg5 arg6 harg6 arg7 harg7 arg8 harg8 arg9 harg9 hc0 x0 x1 fh0).2.2.1)

/-- Case A's stores cover the block of window 5. -/
theorem cover0_A_5 (y : S512x1024.Idx) :
    ∃ pc ∈ (kernelRun0_A c i arg1 harg1 arg2 harg2 arg4 harg4 arg5 harg5 arg6 harg6 arg7 harg7 arg8 harg8 arg9 harg9 hc0 x0 x1 fh0).2.2.2.1, y ∈ pc.1.set :=
  View.cover_of_tiledL _ S512x1024.size (by sl_kernel_rfl) y

/-- What case A leaves in the block of window 5. -/
def out0_A_5 : Vec F S512x1024 .f32 :=
  VO0_5.read (Elt F) (VO0_5.writes (Elt F) VO0_5.junk (kernelRun0_A c i arg1 harg1 arg2 harg2 arg4 harg4 arg5 harg5 arg6 harg6 arg7 harg7 arg8 harg8 arg9 harg9 hc0 x0 x1 fh0).2.2.2.1)

/-- Case A's stores cover scratch 0. -/
theorem scover0_A_0 (y : S5632x1024.Idx) :
    ∃ pc ∈ (kernelRun0_A c i arg1 harg1 arg2 harg2 arg4 harg4 arg5 harg5 arg6 harg6 arg7 harg7 arg8 harg8 arg9 harg9 hc0 x0 x1 fh0).2.2.2.2.1, y ∈ pc.1.set :=
  View.cover_of_tiledL (kernelRun0_A c i arg1 harg1 arg2 harg2 arg4 harg4 arg5 harg5 arg6 harg6 arg7 harg7 arg8 harg8 arg9 harg9 hc0 x0 x1 fh0).2.2.2.2.1 S704x1024.size (by sl_kernel_rfl) y

/-- What case A leaves in scratch 0. -/
def sout0_A_0 : Vec F S5632x1024 .bf16 :=
  VS0_0.read (Elt F) (VS0_0.writes (Elt F) VS0_0.junk (kernelRun0_A c i arg1 harg1 arg2 harg2 arg4 harg4 arg5 harg5 arg6 harg6 arg7 harg7 arg8 harg8 arg9 harg9 hc0 x0 x1 fh0).2.2.2.2.1)

/-- Case A's stores cover scratch 1. -/
theorem scover0_A_1 (y : S2816x1024.Idx) :
    ∃ pc ∈ (kernelRun0_A c i arg1 harg1 arg2 harg2 arg4 harg4 arg5 harg5 arg6 harg6 arg7 harg7 arg8 harg8 arg9 harg9 hc0 x0 x1 fh0).2.2.2.2.2.1, y ∈ pc.1.set :=
  View.cover_of_tiledL (kernelRun0_A c i arg1 harg1 arg2 harg2 arg4 harg4 arg5 harg5 arg6 harg6 arg7 harg7 arg8 harg8 arg9 harg9 hc0 x0 x1 fh0).2.2.2.2.2.1 S352x1024.size (by sl_kernel_rfl) y

/-- What case A leaves in scratch 1. -/
def sout0_A_1 : Vec F S2816x1024 .bf16 :=
  VS0_1.read (Elt F) (VS0_1.writes (Elt F) VS0_1.junk (kernelRun0_A c i arg1 harg1 arg2 harg2 arg4 harg4 arg5 harg5 arg6 harg6 arg7 harg7 arg8 harg8 arg9 harg9 hc0 x0 x1 fh0).2.2.2.2.2.1)

end CaseA

section CaseB

variable (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .bf16) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S512x1024 .f32) (harg7 : arg7.IsWhole) (arg8 : Memref sig .tc .vmem S5632x1024 .bf16) (harg8 : arg8.IsWhole) (arg9 : Memref sig .tc .vmem S2816x1024 .bf16) (harg9 : arg9.IsWhole) (hc0 : ¬cond0_0 i)
  (x0 : Vec F S512x1024 .f32) (x1 : Vec F S1x1024 .f32) (xs0 : Vec F S5632x1024 .bf16) (xs1 : Vec F S2816x1024 .bf16) (fh0 : HbBuf0 (F := F) c hbM0_0)

/-- Case B's stores cover the block of window 2. -/
theorem cover0_B_2 (y : S512x1024.Idx) :
    ∃ pc ∈ (kernelRun0_B c i arg1 harg1 arg2 harg2 arg4 harg4 arg5 harg5 arg6 harg6 arg7 harg7 arg8 harg8 arg9 harg9 hc0 x0 x1 xs0 xs1 fh0).1, y ∈ pc.1.set :=
  View.cover_of_tiledL _ S512x1024.size (by sl_kernel_rfl) y

/-- What case B leaves in the block of window 2. -/
def out0_B_2 : Vec F S512x1024 .bf16 :=
  VO0_2.read (Elt F) (VO0_2.writes (Elt F) VO0_2.junk (kernelRun0_B c i arg1 harg1 arg2 harg2 arg4 harg4 arg5 harg5 arg6 harg6 arg7 harg7 arg8 harg8 arg9 harg9 hc0 x0 x1 xs0 xs1 fh0).1)

/-- Case B's stores cover the block of window 3. -/
theorem cover0_B_3 (y : S512x2816.Idx) :
    ∃ pc ∈ (kernelRun0_B c i arg1 harg1 arg2 harg2 arg4 harg4 arg5 harg5 arg6 harg6 arg7 harg7 arg8 harg8 arg9 harg9 hc0 x0 x1 xs0 xs1 fh0).2.1, y ∈ pc.1.set :=
  View.cover_of_tiledBy (kernelRun0_B c i arg1 harg1 arg2 harg2 arg4 harg4 arg5 harg5 arg6 harg6 arg7 harg7 arg8 harg8 arg9 harg9 hc0 x0 x1 xs0 xs1 fh0).2.1 ![512, 256] (by sl_kernel_rfl) y

/-- What case B leaves in the block of window 3. -/
def out0_B_3 : Vec F S512x2816 .bf16 :=
  VO0_3.read (Elt F) (VO0_3.writes (Elt F) VO0_3.junk (kernelRun0_B c i arg1 harg1 arg2 harg2 arg4 harg4 arg5 harg5 arg6 harg6 arg7 harg7 arg8 harg8 arg9 harg9 hc0 x0 x1 xs0 xs1 fh0).2.1)

/-- Case B's stores cover the block of window 4. -/
theorem cover0_B_4 (y : S512x2816.Idx) :
    ∃ pc ∈ (kernelRun0_B c i arg1 harg1 arg2 harg2 arg4 harg4 arg5 harg5 arg6 harg6 arg7 harg7 arg8 harg8 arg9 harg9 hc0 x0 x1 xs0 xs1 fh0).2.2.1, y ∈ pc.1.set :=
  View.cover_of_tiledBy (kernelRun0_B c i arg1 harg1 arg2 harg2 arg4 harg4 arg5 harg5 arg6 harg6 arg7 harg7 arg8 harg8 arg9 harg9 hc0 x0 x1 xs0 xs1 fh0).2.2.1 ![512, 256] (by sl_kernel_rfl) y

/-- What case B leaves in the block of window 4. -/
def out0_B_4 : Vec F S512x2816 .bf16 :=
  VO0_4.read (Elt F) (VO0_4.writes (Elt F) VO0_4.junk (kernelRun0_B c i arg1 harg1 arg2 harg2 arg4 harg4 arg5 harg5 arg6 harg6 arg7 harg7 arg8 harg8 arg9 harg9 hc0 x0 x1 xs0 xs1 fh0).2.2.1)

/-- Case B's stores cover the block of window 5. -/
theorem cover0_B_5 (y : S512x1024.Idx) :
    ∃ pc ∈ (kernelRun0_B c i arg1 harg1 arg2 harg2 arg4 harg4 arg5 harg5 arg6 harg6 arg7 harg7 arg8 harg8 arg9 harg9 hc0 x0 x1 xs0 xs1 fh0).2.2.2.1, y ∈ pc.1.set :=
  View.cover_of_tiledL _ S512x1024.size (by sl_kernel_rfl) y

/-- What case B leaves in the block of window 5. -/
def out0_B_5 : Vec F S512x1024 .f32 :=
  VO0_5.read (Elt F) (VO0_5.writes (Elt F) VO0_5.junk (kernelRun0_B c i arg1 harg1 arg2 harg2 arg4 harg4 arg5 harg5 arg6 harg6 arg7 harg7 arg8 harg8 arg9 harg9 hc0 x0 x1 xs0 xs1 fh0).2.2.2.1)

end CaseB

/-- What case B leaves in scratch 0. -/
def sout0_B_0 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .bf16) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S512x1024 .f32) (harg7 : arg7.IsWhole) (arg8 : Memref sig .tc .vmem S5632x1024 .bf16) (harg8 : arg8.IsWhole) (arg9 : Memref sig .tc .vmem S2816x1024 .bf16) (harg9 : arg9.IsWhole) (hc0 : ¬cond0_0 i)
    (x0 : Vec F S512x1024 .f32) (x1 : Vec F S1x1024 .f32) (xs0 : Vec F S5632x1024 .bf16) (xs1 : Vec F S2816x1024 .bf16) (fh0 : HbBuf0 (F := F) c hbM0_0) : Vec F S5632x1024 .bf16 := xs0

/-- What case B leaves in scratch 1. -/
def sout0_B_1 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .bf16) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S512x1024 .f32) (harg7 : arg7.IsWhole) (arg8 : Memref sig .tc .vmem S5632x1024 .bf16) (harg8 : arg8.IsWhole) (arg9 : Memref sig .tc .vmem S2816x1024 .bf16) (harg9 : arg9.IsWhole) (hc0 : ¬cond0_0 i)
    (x0 : Vec F S512x1024 .f32) (x1 : Vec F S1x1024 .f32) (xs0 : Vec F S5632x1024 .bf16) (xs1 : Vec F S2816x1024 .bf16) (fh0 : HbBuf0 (F := F) c hbM0_0) : Vec F S2816x1024 .bf16 := xs1

/-- The contents a point of case A leaves. -/
def atA (c : Dev nD) (t : Fin cfg0.N) (h0 : t.val % 32 = 0) : Vec F S512x1024 .bf16 × Vec F S512x2816 .bf16 × Vec F S512x2816 .bf16 × Vec F S512x1024 .f32 × Vec F S5632x1024 .bf16 × Vec F S2816x1024 .bf16 :=
  (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (V m c main_v15), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (V m c main_v15), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (V m c main_v15), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (V m c main_v15), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (V m c main_v15), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (V m c main_v15))

/-- The contents a point of case B leaves, from the contents `p` before it. -/
def atB (c : Dev nD) (t : Fin cfg0.N) (h0 : ¬t.val % 32 = 0) (p : Vec F S512x1024 .bf16 × Vec F S512x2816 .bf16 × Vec F S512x2816 .bf16 × Vec F S512x1024 .f32 × Vec F S5632x1024 .bf16 × Vec F S2816x1024 .bf16) : Vec F S512x1024 .bf16 × Vec F S512x2816 .bf16 × Vec F S512x2816 .bf16 × Vec F S512x1024 .f32 × Vec F S5632x1024 .bf16 × Vec F S2816x1024 .bf16 :=
  (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) p.2.2.2.2.1 p.2.2.2.2.2 (V m c main_v15), out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) p.2.2.2.2.1 p.2.2.2.2.2 (V m c main_v15), out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) p.2.2.2.2.1 p.2.2.2.2.2 (V m c main_v15), out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) p.2.2.2.2.1 p.2.2.2.2.2 (V m c main_v15), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) p.2.2.2.2.1 p.2.2.2.2.2 (V m c main_v15), sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) p.2.2.2.2.1 p.2.2.2.2.2 (V m c main_v15))

/-- What the output blocks and the scratch hold after each point. -/
def outsAt0 (c : Dev nD) : (n : ℕ) → n < cfg0.N → Vec F S512x1024 .bf16 × Vec F S512x2816 .bf16 × Vec F S512x2816 .bf16 × Vec F S512x1024 .f32 × Vec F S5632x1024 .bf16 × Vec F S2816x1024 .bf16
  | 0, hn => atA m c ⟨0, hn⟩ (Nat.zero_mod _)
  | n + 1, hn =>
    if h0 : (n + 1) % 32 = 0 then
      atA m c ⟨n + 1, hn⟩ h0
    else
      atB m c ⟨n + 1, hn⟩ h0 (outsAt0 c n (Nat.lt_of_succ_lt hn))

/-- The contents after a point of case A. -/
theorem outsAt0_A (c : Dev nD) (t : Fin cfg0.N) (h0 : t.val % 32 = 0) :
    outsAt0 m c t.val t.isLt = atA m c t h0 := by
  obtain ⟨n, hn⟩ := t
  cases n with
  | zero => exact rfl
  | succ n => exact (dif_pos h0).trans rfl

/-- The contents after a point of case B. -/
theorem outsAt0_B (c : Dev nD) (t : Fin cfg0.N) (h0 : ¬t.val % 32 = 0) :
    outsAt0 m c t.val t.isLt = atB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What is carried between the points. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.1) ∗ owns (c : Thread nD τ) scM0_1 fullShare ((outsAt0 m c n hn).2.2.2.2.2)) ∗ (∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) ∗ iprop(hbPt0 c hbM0_0 (V m c main_v15)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2)) ∗ (∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) ∗ iprop(hbPt0 c hbM0_0 (V m c main_v15))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2)) ∗ (∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) ∗ iprop(hbPt0 c hbM0_0 (V m c main_v15))) := by
  cases n with
  | zero => exact absurd rfl hz
  | succ n => rfl

/-- The proof data of the run: what each window holds after each point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
    | ⟨5, _⟩ => (outsAt0 m c t.val t.isLt).2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]
theorem after0_5 (c : Dev nD) (t : Fin cfg0.N) : (dats m 0 c).after 5 t = (outsAt0 m c t.val t.isLt).2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 6400000 in

/-- The body at any point takes the contents before it to those after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = PhiS m c (t.val + 1) t.isLt from rfl, PhiS_succ,
    after0_0, after0_1, after0_2, after0_3, after0_4, after0_5]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases hz : t.val = 0
    · rw [PhiS_castSucc m c t, PhiS_zero m c _ _ hz, PhiD0_eq]
      rw [outsAt0_A m c t h0, atA]
      unfold out0_A_2 out0_A_3 out0_A_4 out0_A_5 sout0_A_0 sout0_A_1; (try dsimp only)
      iintro ⟨⟨⟨HS0, HS1⟩, Hg, ⟨Hq0, Hq1, Hq2, Hq3, Hq4, Hq5, Hq6, Hq7, Hq8, Hq9, Hq10, Hq11, Hq12, Hq13, Hq14, Hq15⟩, Hh0⟩, ⟨%W, -, HW⟩, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (iblk m c 0 t) (iblk m c 1 t) (V m c main_v15)).2.2.2.2.2.2 W _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [HS0]; · iexact HS0
      isplitl [HS1]; · iexact HS1
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hh0]; · iexact Hh0
      isplitl [HW]; · iexact HW
      iintro ⟨H0, H1, ⟨%e2, H2⟩, ⟨%e3, H3⟩, ⟨%e4, H4⟩, ⟨%e5, H5⟩, ⟨%es0, HS0⟩, ⟨%es1, HS1⟩, Hq0, Hq1, Hq2, Hq3, Hq4, Hq5, Hq6, Hq7, Hq8, Hq9, Hq10, Hq11, Hq12, Hq13, Hq14, Hq15, Hh0, ⟨%W', HW'⟩⟩
      isplitl [HS0 HS1 Hg Hq0 Hq1 Hq2 Hq3 Hq4 Hq5 Hq6 Hq7 Hq8 Hq9 Hq10 Hq11 Hq12 Hq13 Hq14 Hq15 Hh0]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _)
        isplitl [Hg]
        · iexact Hg
        isplitl [Hq0 Hq1 Hq2 Hq3 Hq4 Hq5 Hq6 Hq7 Hq8 Hq9 Hq10 Hq11 Hq12 Hq13 Hq14 Hq15]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          iexact Hq15
        iexact Hh0
      isplitl [HW']
      · iexists W'; isplitr; · ipureintro; exact fun _ _ => Or.inl trivial
        iexact HW'
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _ _ _ _ _ _)
      isplitl [H3]
      · unfold owns; iexists _; isplitr
        swap; · iexact H3
        ipureintro; exact View.read_writes_of_cover _ _ _ _ _ (cover0_A_3 c _ _ _ _ _ _ _ _ _ _ _ _ _ _ _ _ _ _ _ _ _)
      isplitl [H4]
      · unfold owns; iexists _; isplitr
        swap; · iexact H4
        ipureintro; exact View.read_writes_of_cover _ _ _ _ _ (cover0_A_4 c _ _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _ _)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0, atB]
      unfold out0_B_2 out0_B_3 out0_B_4 out0_B_5 sout0_B_0 sout0_B_1; (try dsimp only)
      iintro ⟨⟨⟨HS0, HS1⟩, Hg, ⟨Hq0, Hq1, Hq2, Hq3, Hq4, Hq5, Hq6, Hq7, Hq8, Hq9, Hq10, Hq11, Hq12, Hq13, Hq14, Hq15⟩, Hh0⟩, ⟨%W, -, HW⟩, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_0 t).mp h)) (iblk m c 0 t) (iblk m c 1 t) _ _ (V m c main_v15)).2.2.2.2.2.2 W _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [HS0]; · iexact HS0
      isplitl [HS1]; · iexact HS1
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hh0]; · iexact Hh0
      isplitl [HW]; · iexact HW
      iintro ⟨H0, H1, ⟨%e2, H2⟩, ⟨%e3, H3⟩, ⟨%e4, H4⟩, ⟨%e5, H5⟩, HS0, HS1, Hq0, Hq1, Hq2, Hq3, Hq4, Hq5, Hq6, Hq7, Hq8, Hq9, Hq10, Hq11, Hq12, Hq13, Hq14, Hq15, Hh0, ⟨%W', HW'⟩⟩
      isplitl [HS0 HS1 Hg Hq0 Hq1 Hq2 Hq3 Hq4 Hq5 Hq6 Hq7 Hq8 Hq9 Hq10 Hq11 Hq12 Hq13 Hq14 Hq15 Hh0]
      · isplitl [HS0 HS1]
        · isplitl [HS0]; · iexact HS0
          iexact HS1
        isplitl [Hg]
        · iexact Hg
        isplitl [Hq0 Hq1 Hq2 Hq3 Hq4 Hq5 Hq6 Hq7 Hq8 Hq9 Hq10 Hq11 Hq12 Hq13 Hq14 Hq15]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          iexact Hq15
        iexact Hh0
      isplitl [HW']
      · iexists W'; isplitr; · ipureintro; exact fun _ _ => Or.inl trivial
        iexact HW'
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _ _ _ _ _ _ _ _)
      isplitl [H3]
      · unfold owns; iexists _; isplitr
        swap; · iexact H3
        ipureintro; exact View.read_writes_of_cover _ _ _ _ _ (cover0_B_3 c _ _ _ _ _ _ _ _ _ _ _ _ _ _ _ _ _ _ _ _ _ _ _)
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _)
      unfold owns; iexists _; isplitr
      swap; · iexact H5
      ipureintro; exact View.read_writes_of_cover _ _ _ _ _ (cover0_B_5 c _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The obligation of the body at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1⟩, Hg, ⟨Hq0, Hq1, Hq2, Hq3, Hq4, Hq5, Hq6, Hq7, Hq8, Hq9, Hq10, Hq11, Hq12, Hq13, Hq14, Hq15⟩, Hh0⟩
  isplitl [HS0 HS1]
  · isplitl [HS0]
    · iexists _; iexact HS0
    iexists _; iexact HS1
  isplitl [Hg]; · iexact Hg
  isplitl [Hq0 Hq1 Hq2 Hq3 Hq4 Hq5 Hq6 Hq7 Hq8 Hq9 Hq10 Hq11 Hq12 Hq13 Hq14 Hq15]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    iexact Hq15
  iexact Hh0

theorem hout (c : Dev nD) : (dats m 0 c).Φ (Fin.last cfg0.N) ⊢ Pipeline.ΦD osem0 spec0 H0 (V m) c :=
  Phi_out m c _ (by rw [Fin.val_last]; have : cfg0.N = 32 := N_0; omega)

set_option backward.isDefEq.respectTransparency.types false in

/-- The run of the program, with every semaphore counter back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The run of the program. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The argument arrays are unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.FwdIdeal.Launch

end
-- ==== Proof.Fwd.Value.lean ====
/- What every point writes back, and the output arrays of the run block by block. -/
module

public import proofs.«01_k».proof.Proof.Fwd.Frame
public import Idealize.ShloMosaic.Lib.Pipeline.Value

@[expose] public section

noncomputable section

namespace Cert.FwdIdeal.Value

open Cert.FwdIdeal Cert.FwdIdeal.Gen Cert.FwdIdeal.Launch Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem post2 (r : PUnit × MemSt nD τ sig (Elt F)) (h : Pipeline.FramePost cfgs (dats m) 0 (V m) r) (c : Dev nD) :
    r.2.mem ((c : Thread nD τ).loc main_v16_0) = (dats m 0 c).arrAt 2 cfg0.N :=
  (h c).1 2

theorem post3 (r : PUnit × MemSt nD τ sig (Elt F)) (h : Pipeline.FramePost cfgs (dats m) 0 (V m) r) (c : Dev nD) :
    r.2.mem ((c : Thread nD τ).loc main_v16_1) = (dats m 0 c).arrAt 3 cfg0.N :=
  (h c).1 3

theorem post4 (r : PUnit × MemSt nD τ sig (Elt F)) (h : Pipeline.FramePost cfgs (dats m) 0 (V m) r) (c : Dev nD) :
    r.2.mem ((c : Thread nD τ).loc main_v16_2) = (dats m 0 c).arrAt 4 cfg0.N :=
  (h c).1 4

theorem post5 (r : PUnit × MemSt nD τ sig (Elt F)) (h : Pipeline.FramePost cfgs (dats m) 0 (V m) r) (c : Dev nD) :
    r.2.mem ((c : Thread nD τ).loc main_v16_3) = (dats m 0 c).arrAt 5 cfg0.N :=
  (h c).1 5

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The run with each output array named. -/
theorem run_blocks : θ_run defs (onTc (τ := τ) (main (F := F))) ⟨m, fun _ => 0, ρ⟩ fun r => ∀ c : Dev nD,
      r.2.mem ((c : Thread nD τ).loc main_v16_0) = (dats m 0 c).arrAt 2 cfg0.N
      ∧ r.2.mem ((c : Thread nD τ).loc main_v16_1) = (dats m 0 c).arrAt 3 cfg0.N
      ∧ r.2.mem ((c : Thread nD τ).loc main_v16_2) = (dats m 0 c).arrAt 4 cfg0.N
      ∧ r.2.mem ((c : Thread nD τ).loc main_v16_3) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post2 m r h c,
      post3 m r h c,
      post4 m r h c,
      post5 m r h c,
      kept_main_arg0 m r h c,
      kept_main_arg1 m r h c,
      kept_main_arg2 m r h c,
      kept_main_arg3 m r h c,
      kept_main_arg4 m r h c,
      kept_main_arg5 m r h c⟩)
    (run_main m ρ)

end Cert.FwdIdeal.Value

end
-- ==== Proof.Fwd.Val.lean ====
module

public import proofs.«01_k».proof.Proof.Fwd.Value
public import proofs.«01_k».proof.Proof.Gen.FwdRefIdeal.Run
public import Idealize.ShloMosaic.Lib.Pipeline.ValueKit

@[expose] public section

set_option maxRecDepth 16384

noncomputable section

namespace Cert.FwdIdeal.Val

open Cert.FwdIdeal Cert.FwdIdeal.Gen Cert.FwdIdeal.Launch Idealize.ShloMosaic Idealize.ShloMosaic.TcCoe Idealize.SL.Sem
open Idealize.ShloMosaic.Pipeline (Dat)

variable (m : (ℓ : Loc nD τ sig) → Buf (Elt Ideal) ℓ)

theorem gi_pure (X : FVec Ideal S1x1024x5632 .f32) (k : Fin 8) (r : Fin 704) (d : Fin 1024) :
    shapeCast S8x704x1024 (fun i => truncf (F := Ideal) FTy.bf16 (transpose S5632x1024 [1, 0] (shapeCast S1024x5632 X
      shapeCasts_S1x1024x5632_S1024x5632) transposes_S1024x5632_S5632x1024_1_0) bitsLt_bf16_f32 i) shapeCasts_S5632x1024_S8x704x1024 (ix3 k r d) =
      X (ix3 0 d ⟨704 * k.val + r.val, by omega⟩) := by
  pointwise []
  blk_point []

theorem gi_at (c : Dev nD) (k : Fin 8) (r : Fin 704) (d : Fin 1024) :
    (V m c main_v15 : S8x1312x1024.Idx → EReal) (ix3 k ⟨r.val, by omega⟩ d) = m ((c : Thread nD τ).loc main_arg2) (ix3 0 d ⟨704 * k.val + r.val, by omega⟩) := by
  unfold V
  simp only [hostOps0, hostOps0_1, hostOps0_2, List.flatten_cons, List.flatten_nil, List.append_nil, List.cons_append, List.nil_append]
  after_results
  pointwise []
  after_results_simp
  exact gi_pure _ k r d

theorem slabI_read (G : S8x1312x1024.Idx → EReal) (k : Fin 8) (a : Fin 704) (b : Fin 1024)
    (hk : ∀ x, (![k.val, 0, 0] : Fin 3 → Nat) x + (![1, 704, 1024] : Fin 3 → Nat) x ≤ S8x1312x1024.size x) (hn) :
    (View.read (Elt Ideal) (((View.whole main_v15).slice (Rect.unit ![k.val, 0, 0] ![1, 704, 1024] hk)).reshape S704x1024 hn) G : S704x1024.Idx → EReal) (ix2 a b) =
      G (ix3 k ⟨a.val, by omega⟩ b) := by
  have h : Shape.reshapeEquiv (s := S1x704x1024) (s' := S704x1024) hn (ix2 a b) = ix3 0 a b := by
    simp only [reshapeIdx]
  refine (congrArg (fun i => G ((Rect.unit ![k.val, 0, 0] ![1, 704, 1024] hk).emb i)) h).trans (congrArg G ?_)
  funext i
  fin_cases i <;> (apply Fin.ext; simp [Rect.emb, LoadRect.idx, Rect.unit])

theorem slabI_at (c : Dev nD) (k : Fin 8) (j : Fin 5632) (d : Fin 1024) (a : Fin 704) (b : Fin 1024)
    (h0 : j.val = 704 * k.val + a.val) (h1 : d.val = b.val) (hk) (hn) :
    (View.read (Elt Ideal) (((View.whole main_v15).slice (Rect.unit ![k.val, 0, 0] ![1, 704, 1024] hk)).reshape S704x1024 hn) (V m c main_v15) : S704x1024.Idx → EReal) (ix2 a b) =
      m ((c : Thread nD τ).loc main_arg2) (ix3 0 d j) := by
  rw [slabI_read, gi_at m c k a b]
  congr 2
  · exact Fin.ext h1.symm
  · exact Fin.ext h0.symm

theorem wi_A (c : Dev nD) (t : Fin cfg0.N) (h0 : t.val % 32 = 0) (j : Fin 5632) (d : Fin 1024) :
    (outsAt0 m c t.val t.isLt).2.2.2.2.1 (ix2 j d) = m ((c : Thread nD τ).loc main_arg2) (ix3 0 d j) := by
  rw [outsAt0_A m c t h0, atA]
  dsimp only
  frame_out
  canon_tiles y h
  case piece0 =>
    obtain ⟨a, b, rfl⟩ : ∃ (a : Fin 704) (b : Fin 1024), y = ix2 a b := ⟨y 0, y 1, by funext i; fin_cases i <;> rfl⟩
    exact slabI_at m c 7 j d a b h0 h1 _ _
  case piece1 =>
    obtain ⟨a, b, rfl⟩ : ∃ (a : Fin 704) (b : Fin 1024), y = ix2 a b := ⟨y 0, y 1, by funext i; fin_cases i <;> rfl⟩
    exact slabI_at m c 6 j d a b h0 h1 _ _
  case piece2 =>
    obtain ⟨a, b, rfl⟩ : ∃ (a : Fin 704) (b : Fin 1024), y = ix2 a b := ⟨y 0, y 1, by funext i; fin_cases i <;> rfl⟩
    exact slabI_at m c 5 j d a b h0 h1 _ _
  case piece3 =>
    obtain ⟨a, b, rfl⟩ : ∃ (a : Fin 704) (b : Fin 1024), y = ix2 a b := ⟨y 0, y 1, by funext i; fin_cases i <;> rfl⟩
    exact slabI_at m c 4 j d a b h0 h1 _ _
  case piece4 =>
    obtain ⟨a, b, rfl⟩ : ∃ (a : Fin 704) (b : Fin 1024), y = ix2 a b := ⟨y 0, y 1, by funext i; fin_cases i <;> rfl⟩
    exact slabI_at m c 3 j d a b h0 h1 _ _
  case piece5 =>
    obtain ⟨a, b, rfl⟩ : ∃ (a : Fin 704) (b : Fin 1024), y = ix2 a b := ⟨y 0, y 1, by funext i; fin_cases i <;> rfl⟩
    exact slabI_at m c 2 j d a b h0 h1 _ _
  case piece6 =>
    obtain ⟨a, b, rfl⟩ : ∃ (a : Fin 704) (b : Fin 1024), y = ix2 a b := ⟨y 0, y 1, by funext i; fin_cases i <;> rfl⟩
    exact slabI_at m c 1 j d a b h0 h1 _ _
  case piece7 =>
    have h0 : j.val = _ := h0
    obtain ⟨a, b, rfl⟩ : ∃ (a : Fin 704) (b : Fin 1024), y = ix2 a b := ⟨y 0, y 1, by funext i; fin_cases i <;> rfl⟩
    exact slabI_at m c 0 j d a b (h0.trans (by simp)) h1 _ _

theorem go_pure (X : FVec Ideal S1x2816x1024 .f32) (k : Fin 8) (r : Fin 352) (d : Fin 1024) :
    shapeCast S8x352x1024 (fun i => truncf (F := Ideal) FTy.bf16 (shapeCast S2816x1024 X shapeCasts_S1x2816x1024_S2816x1024) bitsLt_bf16_f32 i) shapeCasts_S2816x1024_S8x352x1024 (ix3 k r d) =
      X (ix3 0 ⟨352 * k.val + r.val, by omega⟩ d) := by
  pointwise []
  blk_point []

theorem go_shift (X : FVec Ideal S1x2816x1024 .f32) (k : Fin 8) (r q : Fin 352) (d : Fin 1024) (h : q.val = r.val) :
    shapeCast S8x352x1024 (fun i => truncf (F := Ideal) FTy.bf16 (shapeCast S2816x1024 X shapeCasts_S1x2816x1024_S2816x1024) bitsLt_bf16_f32 i) shapeCasts_S2816x1024_S8x352x1024 (ix3 k q d) =
      X (ix3 0 ⟨352 * k.val + r.val, by omega⟩ d) := by
  obtain rfl : q = r := Fin.ext h
  exact go_pure X k q d

theorem go_at (c : Dev nD) (k : Fin 8) (r : Fin 352) (d : Fin 1024) :
    (V m c main_v15 : S8x1312x1024.Idx → EReal) (ix3 k ⟨832 + r.val, by omega⟩ d) = m ((c : Thread nD τ).loc main_arg3) (ix3 0 ⟨352 * k.val + r.val, by omega⟩ d) := by
  unfold V
  simp only [hostOps0, hostOps0_1, hostOps0_2, List.flatten_cons, List.flatten_nil, List.append_nil, List.cons_append, List.nil_append]
  after_results
  pointwise []
  rw [dif_neg (by omega), dif_neg (by omega), dif_pos (by omega)]
  after_results_simp
  exact go_shift _ k r _ d (by dsimp only; omega)

theorem slabO_read (G : S8x1312x1024.Idx → EReal) (k : Fin 8) (a : Fin 352) (b : Fin 1024)
    (hk : ∀ x, (![k.val, 832, 0] : Fin 3 → Nat) x + (![1, 352, 1024] : Fin 3 → Nat) x ≤ S8x1312x1024.size x) (hn) :
    (View.read (Elt Ideal) (((View.whole main_v15).slice (Rect.unit ![k.val, 832, 0] ![1, 352, 1024] hk)).reshape S352x1024 hn) G : S352x1024.Idx → EReal) (ix2 a b) =
      G (ix3 k ⟨832 + a.val, by omega⟩ b) := by
  have h : Shape.reshapeEquiv (s := S1x352x1024) (s' := S352x1024) hn (ix2 a b) = ix3 0 a b := by
    simp only [reshapeIdx]
  refine (congrArg (fun i => G ((Rect.unit ![k.val, 832, 0] ![1, 352, 1024] hk).emb i)) h).trans (congrArg G ?_)
  funext i
  fin_cases i <;> (apply Fin.ext; simp [Rect.emb, LoadRect.idx, Rect.unit])

theorem slabO_at (c : Dev nD) (k : Fin 8) (j : Fin 2816) (d : Fin 1024) (a : Fin 352) (b : Fin 1024)
    (h0 : j.val = 352 * k.val + a.val) (h1 : d.val = b.val) (hk) (hn) :
    (View.read (Elt Ideal) (((View.whole main_v15).slice (Rect.unit ![k.val, 832, 0] ![1, 352, 1024] hk)).reshape S352x1024 hn) (V m c main_v15) : S352x1024.Idx → EReal) (ix2 a b) =
      m ((c : Thread nD τ).loc main_arg3) (ix3 0 j d) := by
  rw [slabO_read, go_at m c k a b]
  congr 2
  · exact Fin.ext h0.symm
  · exact Fin.ext h1.symm

theorem wo_A (c : Dev nD) (t : Fin cfg0.N) (h0 : t.val % 32 = 0) (j : Fin 2816) (d : Fin 1024) :
    (outsAt0 m c t.val t.isLt).2.2.2.2.2 (ix2 j d) = m ((c : Thread nD τ).loc main_arg3) (ix3 0 j d) := by
  rw [outsAt0_A m c t h0, atA]
  dsimp only
  frame_out
  canon_tiles y h
  case piece0 =>
    obtain ⟨a, b, rfl⟩ : ∃ (a : Fin 352) (b : Fin 1024), y = ix2 a b := ⟨y 0, y 1, by funext i; fin_cases i <;> rfl⟩
    exact slabO_at m c 7 j d a b h0 h1 _ _
  case piece1 =>
    obtain ⟨a, b, rfl⟩ : ∃ (a : Fin 352) (b : Fin 1024), y = ix2 a b := ⟨y 0, y 1, by funext i; fin_cases i <;> rfl⟩
    exact slabO_at m c 6 j d a b h0 h1 _ _
  case piece2 =>
    obtain ⟨a, b, rfl⟩ : ∃ (a : Fin 352) (b : Fin 1024), y = ix2 a b := ⟨y 0, y 1, by funext i; fin_cases i <;> rfl⟩
    exact slabO_at m c 5 j d a b h0 h1 _ _
  case piece3 =>
    obtain ⟨a, b, rfl⟩ : ∃ (a : Fin 352) (b : Fin 1024), y = ix2 a b := ⟨y 0, y 1, by funext i; fin_cases i <;> rfl⟩
    exact slabO_at m c 4 j d a b h0 h1 _ _
  case piece4 =>
    obtain ⟨a, b, rfl⟩ : ∃ (a : Fin 352) (b : Fin 1024), y = ix2 a b := ⟨y 0, y 1, by funext i; fin_cases i <;> rfl⟩
    exact slabO_at m c 3 j d a b h0 h1 _ _
  case piece5 =>
    obtain ⟨a, b, rfl⟩ : ∃ (a : Fin 352) (b : Fin 1024), y = ix2 a b := ⟨y 0, y 1, by funext i; fin_cases i <;> rfl⟩
    exact slabO_at m c 2 j d a b h0 h1 _ _
  case piece6 =>
    obtain ⟨a, b, rfl⟩ : ∃ (a : Fin 352) (b : Fin 1024), y = ix2 a b := ⟨y 0, y 1, by funext i; fin_cases i <;> rfl⟩
    exact slabO_at m c 1 j d a b h0 h1 _ _
  case piece7 =>
    have h0 : j.val = _ := h0
    obtain ⟨a, b, rfl⟩ : ∃ (a : Fin 352) (b : Fin 1024), y = ix2 a b := ⟨y 0, y 1, by funext i; fin_cases i <;> rfl⟩
    exact slabO_at m c 0 j d a b (h0.trans (by simp)) h1 _ _

end Cert.FwdIdeal.Val
-- ==== Proof.Norm.Act.lean ====
module
public import proofs.«01_k».proof.Proof.Norm.Real
@[expose] public section
noncomputable section
/-! The logistic function over the extended reals: the form through the hyperbolic tangent against one over one plus the exponential. -/
namespace Cert.Norm
open Idealize.ShloMosaic

/-- The logistic function through the hyperbolic tangent. -/
def sig (x : EReal) : EReal :=
  Ideal.ofBits FTy.f32 0x3F000000#32 * Ideal.tanh (Ideal.ofBits FTy.f32 0x3F000000#32 * x) + Ideal.ofBits FTy.f32 0x3F000000#32

theorem cone : Ideal.ofBits FTy.f32 0x3F800000#32 = ((1 : ℝ) : EReal) := by
  simp only [Ideal.ofBits, Ideal.ieee]
  simp
  rw [← EReal.coe_mul]
  norm_num

theorem cpos : Ideal.ofBits FTy.f32 0x3F000000#32 = ((1 / 2 : ℝ) : EReal) := by
  simp only [Ideal.ofBits, Ideal.ieee]
  simp
  rw [← EReal.coe_mul]
  norm_num

theorem tanh_half (r : ℝ) : 1 / 2 * Real.tanh (1 / 2 * r) + 1 / 2 = 1 / (1 + Real.exp (-r)) := by
  have h : Real.exp (-r) = Real.exp (-(1 / 2 * r)) * Real.exp (-(1 / 2 * r)) := by rw [← Real.exp_add]; congr 1; ring
  have hb : Real.exp (1 / 2 * r) * Real.exp (-(1 / 2 * r)) = 1 := by rw [← Real.exp_add]; simp
  rw [Real.tanh_eq_sinh_div_cosh, Real.sinh_eq, Real.cosh_eq, h]
  have h1 := Real.exp_pos (1 / 2 * r)
  have h2 := Real.exp_pos (-(1 / 2 * r))
  generalize Real.exp (1 / 2 * r) = a at *
  generalize Real.exp (-(1 / 2 * r)) = b at *
  have h3 : a + b ≠ 0 := by positivity
  have h4 : 1 + b * b ≠ 0 := by positivity
  field_simp
  linear_combination (2 * b) * hb

/-- The two forms of the logistic function are one function, at the infinities too. -/
theorem sig_eq (x : EReal) : sig x = Ideal.div (Ideal.ofBits FTy.f32 0x3F800000#32) (Ideal.ofBits FTy.f32 0x3F800000#32 + Ideal.exp (-x)) := by
  unfold sig
  rw [cone, cpos]
  induction x with
  | bot =>
    rw [EReal.coe_mul_bot_of_pos (by norm_num), EReal.neg_bot, Ideal.exp_top, EReal.coe_add_top]
    simp [Ideal.div]
    norm_num [← EReal.coe_neg, ← EReal.coe_mul, ← EReal.coe_add]
  | top =>
    rw [EReal.coe_mul_top_of_pos (by norm_num), EReal.neg_top]
    simp [Ideal.div]
    norm_num [← EReal.coe_neg, ← EReal.coe_mul, ← EReal.coe_add]
  | coe r =>
    rw [← EReal.coe_mul, Ideal.tanh_coe, ← EReal.coe_neg, Ideal.exp_coe, ← EReal.coe_mul, ← EReal.coe_add, ← EReal.coe_add,
      Ideal.div_coe (by positivity), ← EReal.coe_mul, tanh_half, one_mul]

end Cert.Norm
-- ==== Proof.Fwd.Out.lean ====
module
public import proofs.«01_k».proof.Proof.Fwd.Val
public import proofs.«01_k».proof.Proof.Norm.Act
@[expose] public section
set_option maxRecDepth 16384
noncomputable section
namespace Cert.FwdIdeal.Val
open Cert.FwdIdeal Cert.FwdIdeal.Gen Cert.FwdIdeal.Launch Idealize.ShloMosaic Idealize.ShloMosaic.TcCoe Idealize.SL.Sem
variable (m : (ℓ : Loc nD τ sig) → Buf (Elt Ideal) ℓ)

theorem wi_all (c : Dev nD) : ∀ (n : ℕ) (hn : n < cfg0.N) (j : Fin 5632) (d : Fin 1024),
    (outsAt0 m c n hn).2.2.2.2.1 (ix2 j d) = m ((c : Thread nD τ).loc main_arg2) (ix3 0 d j)
  | 0, hn, j, d => wi_A m c ⟨0, hn⟩ (Nat.zero_mod _) j d
  | n + 1, hn, j, d => by
    by_cases h0 : (n + 1) % 32 = 0
    · exact wi_A m c ⟨n + 1, hn⟩ h0 j d
    · have := outsAt0_B m c ⟨n + 1, hn⟩ h0
      rw [this]
      exact wi_all c n (Nat.lt_of_succ_lt hn) j d

theorem wo_all (c : Dev nD) : ∀ (n : ℕ) (hn : n < cfg0.N) (j : Fin 2816) (d : Fin 1024),
    (outsAt0 m c n hn).2.2.2.2.2 (ix2 j d) = m ((c : Thread nD τ).loc main_arg3) (ix3 0 j d)
  | 0, hn, j, d => wo_A m c ⟨0, hn⟩ (Nat.zero_mod _) j d
  | n + 1, hn, j, d => by
    by_cases h0 : (n + 1) % 32 = 0
    · exact wo_A m c ⟨n + 1, hn⟩ h0 j d
    · have := outsAt0_B m c ⟨n + 1, hn⟩ h0
      rw [this]
      exact wo_all c n (Nat.lt_of_succ_lt hn) j d

theorem readCov_I (L : List (View.Piece (Elt Ideal) S5632x1024 .bf16)) (R : Rect S5632x1024) :
    (View.whole cc0_scratch0).readCov L R.toLoadRect = View.ld (View.canon L) R := View.readCov_eq_canon' _ _ _

theorem readCov_O (L : List (View.Piece (Elt Ideal) S2816x1024 .bf16)) (R : Rect S2816x1024) :
    (View.whole cc0_scratch1).readCov L R.toLoadRect = View.ld (View.canon L) R := View.readCov_eq_canon' _ _ _

/-- 768 rows of the scratch array of 5632 rows, from row o. -/
def rdW768 (W : FVec Ideal S5632x1024 .bf16) (o : ℕ) (h : ∀ a : Fin 2, (![o, 0] : Fin 2 → ℕ) a + S768x1024.size a ≤ S5632x1024.size a) : FVec Ideal S768x1024 .bf16 :=
  View.ld (Val := Elt Ideal) (e' := .bf16) W (Rect.unit (s := S5632x1024) ![o, 0] ![768, 1024] h)

/-- 512 rows of the scratch array of 5632 rows, from row o. -/
def rdW512 (W : FVec Ideal S5632x1024 .bf16) (o : ℕ) (h : ∀ a : Fin 2, (![o, 0] : Fin 2 → ℕ) a + S512x1024.size a ≤ S5632x1024.size a) : FVec Ideal S512x1024 .bf16 :=
  View.ld (Val := Elt Ideal) (e' := .bf16) W (Rect.unit (s := S5632x1024) ![o, 0] ![512, 1024] h)

/-- 768 rows of the scratch array of 2816 rows, from row o. -/
def rdO768 (W : FVec Ideal S2816x1024 .bf16) (o : ℕ) (h : ∀ a : Fin 2, (![o, 0] : Fin 2 → ℕ) a + S768x1024.size a ≤ S2816x1024.size a) : FVec Ideal S768x1024 .bf16 :=
  View.ld (Val := Elt Ideal) (e' := .bf16) W (Rect.unit (s := S2816x1024) ![o, 0] ![768, 1024] h)

/-- 512 rows of the scratch array of 2816 rows, from row o. -/
def rdO512 (W : FVec Ideal S2816x1024 .bf16) (o : ℕ) (h : ∀ a : Fin 2, (![o, 0] : Fin 2 → ℕ) a + S512x1024.size a ≤ S2816x1024.size a) : FVec Ideal S512x1024 .bf16 :=
  View.ld (Val := Elt Ideal) (e' := .bf16) W (Rect.unit (s := S2816x1024) ![o, 0] ![512, 1024] h)

/-- The gate's block: its columns in four pieces. -/
def gAll (x : FVec Ideal S512x1024 .f32) (g : FVec Ideal S1x1024 .f32) (W : FVec Ideal S5632x1024 .bf16) : FVec Ideal S512x2816 .bf16 :=
  View.canon (Val := Elt Ideal) (e := .bf16)
    [⟨Rect.unit ![0, 2304] ![512, 512] inb_S512x2816_S512x512_0_2304, k0_pay15 (F := Ideal) (k0_pay2 (F := Ideal) x g) (rdW512 W 2304 inb_S5632x1024_S512x1024_2304_0)⟩,
      ⟨Rect.unit ![0, 1536] ![512, 768] inb_S512x2816_S512x768_0_1536, k0_pay12 (F := Ideal) (k0_pay11 (F := Ideal) (k0_pay2 (F := Ideal) x g) (rdW768 W 1536 inb_S5632x1024_S768x1024_1536_0))⟩,
      ⟨Rect.unit ![0, 768] ![512, 768] inb_S512x2816_S512x768_0_768, k0_pay8 (F := Ideal) (k0_pay2 (F := Ideal) x g) (rdW768 W 768 inb_S5632x1024_S768x1024_768_0)⟩,
      ⟨Rect.unit ![0, 0] ![512, 768] inb_S512x2816_S512x768_0_0, k0_pay3 (F := Ideal) x g (rdW768 W 0 inb_S5632x1024_S768x1024_0_0)⟩]

/-- The other factor's block: its columns in four pieces. -/
def uAll (x : FVec Ideal S512x1024 .f32) (g : FVec Ideal S1x1024 .f32) (W : FVec Ideal S5632x1024 .bf16) : FVec Ideal S512x2816 .bf16 :=
  View.canon (Val := Elt Ideal) (e := .bf16)
    [⟨Rect.unit ![0, 2304] ![512, 512] inb_S512x2816_S512x512_0_2304, k0_pay16 (F := Ideal) (k0_pay2 (F := Ideal) x g) (rdW512 W 5120 inb_S5632x1024_S512x1024_5120_0)⟩,
      ⟨Rect.unit ![0, 1536] ![512, 768] inb_S512x2816_S512x768_0_1536, k0_pay13 (F := Ideal) (k0_pay2 (F := Ideal) x g) (rdW768 W 4352 inb_S5632x1024_S768x1024_4352_0)⟩,
      ⟨Rect.unit ![0, 768] ![512, 768] inb_S512x2816_S512x768_0_768, k0_pay9 (F := Ideal) (k0_pay2 (F := Ideal) x g) (rdW768 W 3584 inb_S5632x1024_S768x1024_3584_0)⟩,
      ⟨Rect.unit ![0, 0] ![512, 768] inb_S512x2816_S512x768_0_0, k0_pay4 (F := Ideal) x g (rdW768 W 2816 inb_S5632x1024_S768x1024_2816_0)⟩]

/-- The block's result: the rows plus the four pieces of the output product. -/
def hAll (x : FVec Ideal S512x1024 .f32) (g : FVec Ideal S1x1024 .f32) (W : FVec Ideal S5632x1024 .bf16) (O : FVec Ideal S2816x1024 .bf16) : FVec Ideal S512x1024 .f32 :=
  k0_pay1 (F := Ideal)
    (k0_pay14 (F := Ideal) (k0_pay2 (F := Ideal) x g)
      (k0_pay10 (F := Ideal) x (k0_pay2 (F := Ideal) x g)
        (k0_pay4 (F := Ideal) x g (rdW768 W 2816 inb_S5632x1024_S768x1024_2816_0))
        (k0_pay5 (F := Ideal) x g (rdW768 W 0 inb_S5632x1024_S768x1024_0_0))
        (k0_pay6 (F := Ideal) x g (rdW768 W 0 inb_S5632x1024_S768x1024_0_0))
        (k0_pay7 (F := Ideal))
        (rdO768 O 0 inb_S2816x1024_S768x1024_0_0)
        (rdW768 W 768 inb_S5632x1024_S768x1024_768_0)
        (rdW768 W 3584 inb_S5632x1024_S768x1024_3584_0)
        (rdO768 O 768 inb_S2816x1024_S768x1024_768_0))
      (k0_pay11 (F := Ideal) (k0_pay2 (F := Ideal) x g) (rdW768 W 1536 inb_S5632x1024_S768x1024_1536_0))
      (rdW768 W 4352 inb_S5632x1024_S768x1024_4352_0)
      (rdO768 O 1536 inb_S2816x1024_S768x1024_1536_0))
    (k0_pay16 (F := Ideal) (k0_pay2 (F := Ideal) x g) (rdW512 W 5120 inb_S5632x1024_S512x1024_5120_0))
    (k0_pay17 (F := Ideal) (k0_pay2 (F := Ideal) x g) (rdW512 W 2304 inb_S5632x1024_S512x1024_2304_0))
    (k0_pay18 (F := Ideal) (k0_pay2 (F := Ideal) x g) (rdW512 W 2304 inb_S5632x1024_S512x1024_2304_0))
    (rdO512 O 2304 inb_S2816x1024_S512x1024_2304_0)

theorem outV (c : Dev nD) (t : Fin cfg0.N) :
    (outsAt0 m c t.val t.isLt).1 = k0_pay2 (iblk m c 0 t) (iblk m c 1 t) := by
  by_cases h0 : t.val % 32 = 0
  · rw [outsAt0_A m c t h0, atA]
    dsimp only
    frame_out
  · rw [outsAt0_B m c t h0, atB]
    dsimp only
    frame_out

theorem sI_B (c : Dev nD) (t : Fin cfg0.N) (h0 : ¬ t.val % 32 = 0) :
    (outsAt0 m c t.val t.isLt).2.2.2.2.1 = (outsAt0 m c (t.val - 1) (Nat.lt_of_le_of_lt (Nat.sub_le _ _) t.isLt)).2.2.2.2.1 := by
  rw [outsAt0_B m c t h0, atB]
  rfl

theorem sO_B (c : Dev nD) (t : Fin cfg0.N) (h0 : ¬ t.val % 32 = 0) :
    (outsAt0 m c t.val t.isLt).2.2.2.2.2 = (outsAt0 m c (t.val - 1) (Nat.lt_of_le_of_lt (Nat.sub_le _ _) t.isLt)).2.2.2.2.2 := by
  rw [outsAt0_B m c t h0, atB]
  rfl

theorem outG (c : Dev nD) (t : Fin cfg0.N) :
    (outsAt0 m c t.val t.isLt).2.1 = gAll (iblk m c 0 t) (iblk m c 1 t) (outsAt0 m c t.val t.isLt).2.2.2.2.1 := by
  by_cases h0 : t.val % 32 = 0
  · generalize hS : (outsAt0 m c t.val t.isLt).2.2.2.2.1 = S
    rw [outsAt0_A m c t h0, atA] at hS
    dsimp only at hS
    frame_out at hS
    rw [outsAt0_A m c t h0, atA]
    dsimp only
    frame_out
    simp only [readCov_I, hS]
    rfl
  · rw [sI_B m c t h0, outsAt0_B m c t h0, atB]
    dsimp only
    frame_out
    simp only [Memref.IsWhole.read_unread (Memref.isWhole_whole cc0_scratch0)]
    rfl

theorem outU (c : Dev nD) (t : Fin cfg0.N) :
    (outsAt0 m c t.val t.isLt).2.2.1 = uAll (iblk m c 0 t) (iblk m c 1 t) (outsAt0 m c t.val t.isLt).2.2.2.2.1 := by
  by_cases h0 : t.val % 32 = 0
  · generalize hS : (outsAt0 m c t.val t.isLt).2.2.2.2.1 = S
    rw [outsAt0_A m c t h0, atA] at hS
    dsimp only at hS
    frame_out at hS
    rw [outsAt0_A m c t h0, atA]
    dsimp only
    frame_out
    simp only [readCov_I, hS]
    rfl
  · rw [sI_B m c t h0, outsAt0_B m c t h0, atB]
    dsimp only
    frame_out
    simp only [Memref.IsWhole.read_unread (Memref.isWhole_whole cc0_scratch0)]
    rfl

theorem outH (c : Dev nD) (t : Fin cfg0.N) :
    (outsAt0 m c t.val t.isLt).2.2.2.1 = hAll (iblk m c 0 t) (iblk m c 1 t) (outsAt0 m c t.val t.isLt).2.2.2.2.1 (outsAt0 m c t.val t.isLt).2.2.2.2.2 := by
  by_cases h0 : t.val % 32 = 0
  · generalize hS : (outsAt0 m c t.val t.isLt).2.2.2.2.1 = S
    rw [outsAt0_A m c t h0, atA] at hS
    dsimp only at hS
    frame_out at hS
    generalize hO : (outsAt0 m c t.val t.isLt).2.2.2.2.2 = O
    rw [outsAt0_A m c t h0, atA] at hO
    dsimp only at hO
    frame_out at hO
    rw [outsAt0_A m c t h0, atA]
    dsimp only
    frame_out
    simp only [readCov_I, readCov_O, hS, hO]
    rfl
  · rw [sI_B m c t h0, sO_B m c t h0, outsAt0_B m c t h0, atB]
    dsimp only
    frame_out
    simp only [Memref.IsWhole.read_unread (Memref.isWhole_whole cc0_scratch0), Memref.IsWhole.read_unread (Memref.isWhole_whole cc0_scratch1)]
    rfl

end Cert.FwdIdeal.Val
-- ==== Proof.Fwd.Pay.lean ====
module
public import proofs.«01_k».proof.Proof.Fwd.Out
@[expose] public section
set_option maxRecDepth 16384
noncomputable section
/-! What one grid point of the feed-forward kernel computes, entry by entry. -/
namespace Cert.FwdIdeal.Val
open Cert.FwdIdeal Cert.FwdIdeal.Gen Cert.FwdIdeal.Launch Idealize.ShloMosaic Idealize.ShloMosaic.TcCoe Idealize.SL.Sem

/-- The normalised row times the gain. -/
def nv (x : Fin 1024 → EReal) (g : FVec Ideal S1x1024 .f32) (d : Fin 1024) : EReal := x d * Norm.rinv x * g (ix2 0 d)

/-- The gated product of a gate and the other factor. -/
def sw (p q : EReal) : EReal := p * Norm.sig p * q

theorem pay2_at (x : FVec Ideal S512x1024 .f32) (g : FVec Ideal S1x1024 .f32) (a : Fin 512) (d : Fin 1024) :
    (k0_pay2 (F := Ideal) x g (ix2 a d) : EReal) = nv (fun e => x (ix2 a e)) g d := by
  pointwise [k0_pay2, nv, Norm.rinv, Norm.mean]

theorem pay8_at (v : FVec Ideal S512x1024 .bf16) (w : FVec Ideal S768x1024 .bf16) (a : Fin 512) (k : Fin 768) :
    (k0_pay8 (F := Ideal) v w (ix2 a k) : EReal) = ∑ d : Fin 1024, v (ix2 a d) * w (ix2 k d) := by
  pointwise [k0_pay8]

theorem pay9_at (v : FVec Ideal S512x1024 .bf16) (w : FVec Ideal S768x1024 .bf16) (a : Fin 512) (k : Fin 768) :
    (k0_pay9 (F := Ideal) v w (ix2 a k) : EReal) = ∑ d : Fin 1024, v (ix2 a d) * w (ix2 k d) := by
  pointwise [k0_pay9]

theorem pay13_at (v : FVec Ideal S512x1024 .bf16) (w : FVec Ideal S768x1024 .bf16) (a : Fin 512) (k : Fin 768) :
    (k0_pay13 (F := Ideal) v w (ix2 a k) : EReal) = ∑ d : Fin 1024, v (ix2 a d) * w (ix2 k d) := by
  pointwise [k0_pay13]

theorem pay3_at (x : FVec Ideal S512x1024 .f32) (g : FVec Ideal S1x1024 .f32) (w : FVec Ideal S768x1024 .bf16) (a : Fin 512) (k : Fin 768) :
    (k0_pay3 (F := Ideal) x g w (ix2 a k) : EReal) = ∑ d : Fin 1024, k0_pay2 (F := Ideal) x g (ix2 a d) * w (ix2 k d) :=
  pay8_at _ _ _ _

theorem pay4_at (x : FVec Ideal S512x1024 .f32) (g : FVec Ideal S1x1024 .f32) (w : FVec Ideal S768x1024 .bf16) (a : Fin 512) (k : Fin 768) :
    (k0_pay4 (F := Ideal) x g w (ix2 a k) : EReal) = ∑ d : Fin 1024, k0_pay2 (F := Ideal) x g (ix2 a d) * w (ix2 k d) :=
  pay8_at _ _ _ _

theorem pay11_at (v : FVec Ideal S512x1024 .bf16) (w : FVec Ideal S768x1024 .bf16) (a : Fin 512) (k : Fin 768) :
    (k0_pay11 (F := Ideal) v w (ix2 a k) : EReal) = ∑ d : Fin 1024, v (ix2 a d) * w (ix2 k d) :=
  pay8_at _ _ _ _

theorem pay15_at (v : FVec Ideal S512x1024 .bf16) (w : FVec Ideal S512x1024 .bf16) (a : Fin 512) (k : Fin 512) :
    (k0_pay15 (F := Ideal) v w (ix2 a k) : EReal) = ∑ d : Fin 1024, v (ix2 a d) * w (ix2 k d) := by
  pointwise [k0_pay15]

theorem pay16_at (v : FVec Ideal S512x1024 .bf16) (w : FVec Ideal S512x1024 .bf16) (a : Fin 512) (k : Fin 512) :
    (k0_pay16 (F := Ideal) v w (ix2 a k) : EReal) = ∑ d : Fin 1024, v (ix2 a d) * w (ix2 k d) :=
  pay15_at _ _ _ _

theorem pay10_at (x : FVec Ideal S512x1024 .f32) (v : FVec Ideal S512x1024 .bf16) (u0 : FVec Ideal S512x768 .bf16) (g0 : FVec Ideal S512x768 .f32)
    (t0 c0 : FVec Ideal S512x768 .f32) (o0 w1 w2 o1 : FVec Ideal S768x1024 .bf16) (a : Fin 512) (d : Fin 1024) :
    (k0_pay10 (F := Ideal) x v u0 g0 t0 c0 o0 w1 w2 o1 (ix2 a d) : EReal) =
      x (ix2 a d) + (∑ k : Fin 768, g0 (ix2 a k) * (c0 (ix2 a k) * t0 (ix2 a k) + Ideal.ofBits FTy.f32 0x3F000000#32) * u0 (ix2 a k) * o0 (ix2 k d)) +
        ∑ k : Fin 768, sw (k0_pay8 (F := Ideal) v w1 (ix2 a k)) (k0_pay9 (F := Ideal) v w2 (ix2 a k)) * o1 (ix2 k d) := by
  pointwise [k0_pay10, sw, Norm.sig]

theorem pay56_at (x : FVec Ideal S512x1024 .f32) (g : FVec Ideal S1x1024 .f32) (w : FVec Ideal S768x1024 .bf16) (a : Fin 512) (k : Fin 768) :
    (k0_pay5 (F := Ideal) x g w (ix2 a k) * (k0_pay7 (F := Ideal) (ix2 a k) * k0_pay6 (F := Ideal) x g w (ix2 a k) + Ideal.ofBits FTy.f32 0x3F000000#32) : EReal) =
      (k0_pay3 (F := Ideal) x g w (ix2 a k) : EReal) * Norm.sig (k0_pay3 (F := Ideal) x g w (ix2 a k)) := rfl

theorem pay14_at (v : FVec Ideal S512x1024 .bf16) (s : FVec Ideal S512x1024 .f32) (g0 : FVec Ideal S512x768 .f32)
    (w o : FVec Ideal S768x1024 .bf16) (a : Fin 512) (d : Fin 1024) :
    (k0_pay14 (F := Ideal) v s g0 w o (ix2 a d) : EReal) =
      s (ix2 a d) + ∑ k : Fin 768, sw (g0 (ix2 a k)) (k0_pay13 (F := Ideal) v w (ix2 a k)) * o (ix2 k d) := by
  pointwise [k0_pay14, sw, Norm.sig, k0_pay12]

theorem pay1_at (s : FVec Ideal S512x1024 .f32) (u0 : FVec Ideal S512x512 .bf16) (g0 p0 : FVec Ideal S512x512 .f32)
    (o : FVec Ideal S512x1024 .bf16) (a : Fin 512) (d : Fin 1024) :
    (k0_pay1 (F := Ideal) s u0 g0 p0 o (ix2 a d) : EReal) =
      s (ix2 a d) + ∑ k : Fin 512, g0 (ix2 a k) * (Ideal.ofBits FTy.f32 0x3F000000#32 * Ideal.tanh (p0 (ix2 a k)) + Ideal.ofBits FTy.f32 0x3F000000#32) * u0 (ix2 a k) * o (ix2 k d) := by
  pointwise [k0_pay1]

theorem pay178_at (v : FVec Ideal S512x1024 .bf16) (w : FVec Ideal S512x1024 .bf16) (a : Fin 512) (k : Fin 512) :
    (k0_pay17 (F := Ideal) v w (ix2 a k) * (Ideal.ofBits FTy.f32 0x3F000000#32 * Ideal.tanh (k0_pay18 (F := Ideal) v w (ix2 a k)) + Ideal.ofBits FTy.f32 0x3F000000#32) : EReal) =
      (k0_pay15 (F := Ideal) v w (ix2 a k) : EReal) * Norm.sig (k0_pay15 (F := Ideal) v w (ix2 a k)) := rfl

theorem rdW768_at (W : FVec Ideal S5632x1024 .bf16) (o : ℕ) (h) (k : Fin 768) (d : Fin 1024) :
    (rdW768 W o h (ix2 k d) : EReal) = W (ix2 ⟨o + k.val, by have := h 0; change o + 768 ≤ 5632 at this; omega⟩ d) := by
  refine congrArg W ?_
  funext i
  fin_cases i <;> (apply Fin.ext; simp [Rect.unit])

theorem rdW512_at (W : FVec Ideal S5632x1024 .bf16) (o : ℕ) (h) (k : Fin 512) (d : Fin 1024) :
    (rdW512 W o h (ix2 k d) : EReal) = W (ix2 ⟨o + k.val, by have := h 0; change o + 512 ≤ 5632 at this; omega⟩ d) := by
  refine congrArg W ?_
  funext i
  fin_cases i <;> (apply Fin.ext; simp [Rect.unit])

theorem rdO768_at (W : FVec Ideal S2816x1024 .bf16) (o : ℕ) (h) (k : Fin 768) (d : Fin 1024) :
    (rdO768 W o h (ix2 k d) : EReal) = W (ix2 ⟨o + k.val, by have := h 0; change o + 768 ≤ 2816 at this; omega⟩ d) := by
  refine congrArg W ?_
  funext i
  fin_cases i <;> (apply Fin.ext; simp [Rect.unit])

theorem rdO512_at (W : FVec Ideal S2816x1024 .bf16) (o : ℕ) (h) (k : Fin 512) (d : Fin 1024) :
    (rdO512 W o h (ix2 k d) : EReal) = W (ix2 ⟨o + k.val, by have := h 0; change o + 512 ≤ 2816 at this; omega⟩ d) := by
  refine congrArg W ?_
  funext i
  fin_cases i <;> (apply Fin.ext; simp [Rect.unit])

/-- A sum over the hidden width in the kernel's four pieces. -/
theorem sum_chunks (f : Fin 2816 → EReal) :
    ∑ j, f j = (∑ k : Fin 768, f ⟨0 + k.val, by omega⟩) + (∑ k : Fin 768, f ⟨768 + k.val, by omega⟩) + (∑ k : Fin 768, f ⟨1536 + k.val, by omega⟩) +
      ∑ k : Fin 512, f ⟨2304 + k.val, by omega⟩ := by
  have h : ∀ f : Fin (768 + 768 + 768 + 512) → EReal, ∑ j, f j = (∑ k : Fin 768, f ⟨0 + k.val, by omega⟩) + (∑ k : Fin 768, f ⟨768 + k.val, by omega⟩) +
      (∑ k : Fin 768, f ⟨1536 + k.val, by omega⟩) + ∑ k : Fin 512, f ⟨2304 + k.val, by omega⟩ := by
    intro f
    rw [Fin.sum_univ_add, Fin.sum_univ_add, Fin.sum_univ_add]
    refine congrArg₂ _ (congrArg₂ _ (congrArg₂ _ ?_ ?_) ?_) ?_ <;>
      exact Finset.sum_congr rfl fun k _ => congrArg f (Fin.ext (by simp; try omega))
  exact h f

/-- A column of the rows' product with the transposed weight. -/
def col (v : Fin 1024 → EReal) (w : Fin 5632 → Fin 1024 → EReal) (j : Fin 5632) : EReal := ∑ d : Fin 1024, v d * w j d

/-- A hidden column's gate column and the other factor's. -/
def jg (j : Fin 2816) : Fin 5632 := ⟨j.val, by omega⟩
def ju (j : Fin 2816) : Fin 5632 := ⟨2816 + j.val, by omega⟩

theorem gAll_at (x : FVec Ideal S512x1024 .f32) (g : FVec Ideal S1x1024 .f32) (W : FVec Ideal S5632x1024 .bf16) (a : Fin 512) (j : Fin 2816) :
    (gAll x g W (ix2 a j) : EReal) = col (nv (fun e => x (ix2 a e)) g) (fun j d => W (ix2 j d)) (jg j) := by
  unfold gAll col
  canon_tiles y h using View.cover_of_tiledBy _ ![512, 256] (by sl_kernel_rfl) _
  case piece0 =>
    obtain ⟨b, k, rfl⟩ : ∃ (b : Fin 512) (k : Fin 512), y = ix2 b k := ⟨y 0, y 1, by funext i; fin_cases i <;> rfl⟩
    have h0 : a.val = _ := h0
    have h1 : j.val = _ := h1
    obtain rfl : a = b := Fin.ext (h0.trans (by simp))
    refine (pay15_at _ _ _ _).trans (Finset.sum_congr rfl fun d _ => ?_)
    rw [pay2_at, rdW512_at]
    exact congrArg (fun q => nv _ _ d * W (ix2 q d)) (Fin.ext (by dsimp only [jg]; simp at h1; omega))
  case piece1 =>
    obtain ⟨b, k, rfl⟩ : ∃ (b : Fin 512) (k : Fin 768), y = ix2 b k := ⟨y 0, y 1, by funext i; fin_cases i <;> rfl⟩
    have h0 : a.val = _ := h0
    have h1 : j.val = _ := h1
    obtain rfl : a = b := Fin.ext (h0.trans (by simp))
    refine (pay11_at _ _ _ _).trans (Finset.sum_congr rfl fun d _ => ?_)
    rw [pay2_at, rdW768_at]
    exact congrArg (fun q => nv _ _ d * W (ix2 q d)) (Fin.ext (by dsimp only [jg]; simp at h1; omega))
  case piece2 =>
    obtain ⟨b, k, rfl⟩ : ∃ (b : Fin 512) (k : Fin 768), y = ix2 b k := ⟨y 0, y 1, by funext i; fin_cases i <;> rfl⟩
    have h0 : a.val = _ := h0
    have h1 : j.val = _ := h1
    obtain rfl : a = b := Fin.ext (h0.trans (by simp))
    refine (pay8_at _ _ _ _).trans (Finset.sum_congr rfl fun d _ => ?_)
    rw [pay2_at, rdW768_at]
    exact congrArg (fun q => nv _ _ d * W (ix2 q d)) (Fin.ext (by dsimp only [jg]; simp at h1; omega))
  case piece3 =>
    obtain ⟨b, k, rfl⟩ : ∃ (b : Fin 512) (k : Fin 768), y = ix2 b k := ⟨y 0, y 1, by funext i; fin_cases i <;> rfl⟩
    have h0 : a.val = _ := h0
    have h1 : j.val = _ := h1
    obtain rfl : a = b := Fin.ext (h0.trans (by simp))
    refine (pay3_at _ _ _ _ _).trans (Finset.sum_congr rfl fun d _ => ?_)
    rw [pay2_at, rdW768_at]
    exact congrArg (fun q => nv _ _ d * W (ix2 q d)) (Fin.ext (by dsimp only [jg]; simp at h1; omega))

theorem uAll_at (x : FVec Ideal S512x1024 .f32) (g : FVec Ideal S1x1024 .f32) (W : FVec Ideal S5632x1024 .bf16) (a : Fin 512) (j : Fin 2816) :
    (uAll x g W (ix2 a j) : EReal) = col (nv (fun e => x (ix2 a e)) g) (fun j d => W (ix2 j d)) (ju j) := by
  unfold uAll col
  canon_tiles y h using View.cover_of_tiledBy _ ![512, 256] (by sl_kernel_rfl) _
  case piece0 =>
    obtain ⟨b, k, rfl⟩ : ∃ (b : Fin 512) (k : Fin 512), y = ix2 b k := ⟨y 0, y 1, by funext i; fin_cases i <;> rfl⟩
    have h0 : a.val = _ := h0
    have h1 : j.val = _ := h1
    obtain rfl : a = b := Fin.ext (h0.trans (by simp))
    refine (pay16_at _ _ _ _).trans (Finset.sum_congr rfl fun d _ => ?_)
    rw [pay2_at, rdW512_at]
    exact congrArg (fun q => nv _ _ d * W (ix2 q d)) (Fin.ext (by dsimp only [ju]; simp at h1; omega))
  case piece1 =>
    obtain ⟨b, k, rfl⟩ : ∃ (b : Fin 512) (k : Fin 768), y = ix2 b k := ⟨y 0, y 1, by funext i; fin_cases i <;> rfl⟩
    have h0 : a.val = _ := h0
    have h1 : j.val = _ := h1
    obtain rfl : a = b := Fin.ext (h0.trans (by simp))
    refine (pay13_at _ _ _ _).trans (Finset.sum_congr rfl fun d _ => ?_)
    rw [pay2_at, rdW768_at]
    exact congrArg (fun q => nv _ _ d * W (ix2 q d)) (Fin.ext (by dsimp only [ju]; simp at h1; omega))
  case piece2 =>
    obtain ⟨b, k, rfl⟩ : ∃ (b : Fin 512) (k : Fin 768), y = ix2 b k := ⟨y 0, y 1, by funext i; fin_cases i <;> rfl⟩
    have h0 : a.val = _ := h0
    have h1 : j.val = _ := h1
    obtain rfl : a = b := Fin.ext (h0.trans (by simp))
    refine (pay9_at _ _ _ _).trans (Finset.sum_congr rfl fun d _ => ?_)
    rw [pay2_at, rdW768_at]
    exact congrArg (fun q => nv _ _ d * W (ix2 q d)) (Fin.ext (by dsimp only [ju]; simp at h1; omega))
  case piece3 =>
    obtain ⟨b, k, rfl⟩ : ∃ (b : Fin 512) (k : Fin 768), y = ix2 b k := ⟨y 0, y 1, by funext i; fin_cases i <;> rfl⟩
    have h0 : a.val = _ := h0
    have h1 : j.val = _ := h1
    obtain rfl : a = b := Fin.ext (h0.trans (by simp))
    refine (pay4_at _ _ _ _ _).trans (Finset.sum_congr rfl fun d _ => ?_)
    rw [pay2_at, rdW768_at]
    exact congrArg (fun q => nv _ _ d * W (ix2 q d)) (Fin.ext (by dsimp only [ju]; simp at h1; omega))

theorem hAll_at (x : FVec Ideal S512x1024 .f32) (g : FVec Ideal S1x1024 .f32) (W : FVec Ideal S5632x1024 .bf16) (O : FVec Ideal S2816x1024 .bf16)
    (a : Fin 512) (d : Fin 1024) :
    (hAll x g W O (ix2 a d) : EReal) = x (ix2 a d) + ∑ j : Fin 2816,
      sw (col (nv (fun e => x (ix2 a e)) g) (fun j d => W (ix2 j d)) (jg j)) (col (nv (fun e => x (ix2 a e)) g) (fun j d => W (ix2 j d)) (ju j)) * O (ix2 j d) := by
  unfold hAll
  rw [pay1_at, pay14_at, pay10_at, sum_chunks, ← add_assoc, ← add_assoc, ← add_assoc]
  simp only [pay56_at, pay178_at, pay3_at, pay4_at, pay8_at, pay9_at, pay11_at, pay13_at, pay15_at, pay16_at, pay2_at, rdW768_at, rdW512_at, rdO768_at, rdO512_at]
  refine congrArg₂ _ (congrArg₂ _ (congrArg₂ _ (congrArg₂ _ rfl ?_) ?_) ?_) ?_ <;> refine Finset.sum_congr rfl fun k _ => ?_
  all_goals
    simp only [sw, col, jg, ju, ← Nat.add_assoc, Nat.reduceAdd, Nat.zero_add]

end Cert.FwdIdeal.Val
-- ==== Proof.Fwd.Alg.lean ====
module
public import proofs.«01_k».proof.Defs
public import proofs.«01_k».proof.Proof.Fwd.Pay
public import proofs.«01_k».proof.Proof.Norm.Ref
public import proofs.«01_k».proof.Proof.Gen.FwdRefIdeal.Run
@[expose] public section
set_option maxRecDepth 16384
noncomputable section
/-! The feed-forward kernel's four results over whole arrays, and the reference's: the same functions of the arguments. -/
namespace Cert.FwdIdeal.Val
open Cert.FwdIdeal Cert.FwdIdeal.Gen Cert.FwdIdeal.Launch Idealize.ShloMosaic Idealize.ShloMosaic.TcCoe Idealize.SL.Sem
variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 0] ∧
    win0_4.index t = ![t.val, 0] ∧ win0_5.index t = ![t.val, 0] ∧ t.val < 32 :=
  (by decide +kernel : ∀ t : Fin grid0.N, _)

/-- The row of the whole arrays that row `a` of point `t`'s block is. -/
def row (t : Fin cfg0.N) (a : Fin 512) : Fin 16384 := ⟨512 * t.val + a.val, by have := (idx t).2.2.2.2.2.2; omega⟩

theorem blk_x (c : Dev nD) (t : Fin cfg0.N) (a : Fin 512) (k : Fin 1024) :
    (iblk m c 0 t : S512x1024.Idx → EReal) (ix2 a k) = m ((c : Thread nD τ).loc main_arg0) (ix2 (row t a) k) := by
  blk_ext [iblk, V, idx t, row]
theorem blk_g (c : Dev nD) (t : Fin cfg0.N) (k : Fin 1024) :
    (iblk m c 1 t : S1x1024.Idx → EReal) (ix2 0 k) = m ((c : Thread nD τ).loc main_arg1) (ix2 0 k) := by
  blk_ext [iblk, V, idx t]
theorem emb2 (t : Fin cfg0.N) (a : Fin 512) (b : Fin 1024) : ((cfg0.win 2).blk t).view.emb (ix2 a b) = (ix2 (row t a) b : S16384x1024.Idx) := by
  blk_ext [idx t, row]
theorem emb3 (t : Fin cfg0.N) (a : Fin 512) (b : Fin 2816) : ((cfg0.win 3).blk t).view.emb (ix2 a b) = (ix2 (row t a) b : S16384x2816.Idx) := by
  blk_ext [idx t, row]
theorem emb4 (t : Fin cfg0.N) (a : Fin 512) (b : Fin 2816) : ((cfg0.win 4).blk t).view.emb (ix2 a b) = (ix2 (row t a) b : S16384x2816.Idx) := by
  blk_ext [idx t, row]
theorem emb5 (t : Fin cfg0.N) (a : Fin 512) (b : Fin 1024) : ((cfg0.win 5).blk t).view.emb (ix2 a b) = (ix2 (row t a) b : S16384x1024.Idx) := by
  blk_ext [idx t, row]

/-- Row `r` of the normalised rows times the gain. -/
def NV (a0 : FVec Ideal S16384x1024 .f32) (a1 : FVec Ideal S1x1024 .f32) (r : Fin 16384) : Fin 1024 → EReal := nv (fun e => a0 (ix2 r e)) a1

/-- Column `j` of its product with the first weight. -/
def CV (a0 : FVec Ideal S16384x1024 .f32) (a1 : FVec Ideal S1x1024 .f32) (a2 : FVec Ideal S1x1024x5632 .f32) (r : Fin 16384) (j : Fin 5632) : EReal :=
  col (NV a0 a1 r) (fun j d => a2 (ix3 0 d j)) j

/-- The four results over whole arrays. -/
def GV (a0 : FVec Ideal S16384x1024 .f32) (a1 : FVec Ideal S1x1024 .f32) : FVec Ideal S16384x1024 .bf16 := fun i => NV a0 a1 (i 0) (i 1)
def GG (a0 : FVec Ideal S16384x1024 .f32) (a1 : FVec Ideal S1x1024 .f32) (a2 : FVec Ideal S1x1024x5632 .f32) : FVec Ideal S16384x2816 .bf16 :=
  fun i => CV a0 a1 a2 (i 0) (jg (i 1))
def GU (a0 : FVec Ideal S16384x1024 .f32) (a1 : FVec Ideal S1x1024 .f32) (a2 : FVec Ideal S1x1024x5632 .f32) : FVec Ideal S16384x2816 .bf16 :=
  fun i => CV a0 a1 a2 (i 0) (ju (i 1))
def GH (a0 : FVec Ideal S16384x1024 .f32) (a1 : FVec Ideal S1x1024 .f32) (a2 : FVec Ideal S1x1024x5632 .f32) (a3 : FVec Ideal S1x2816x1024 .f32) :
    FVec Ideal S16384x1024 .f32 :=
  fun i => a0 i + ∑ j : Fin 2816, sw (CV a0 a1 a2 (i 0) (jg j)) (CV a0 a1 a2 (i 0) (ju j)) * a3 (ix3 0 j (i 1))

theorem nv_congr (x x' : Fin 1024 → EReal) (g g' : FVec Ideal S1x1024 .f32) (hx : ∀ e, x e = x' e) (hg : ∀ e, g (ix2 0 e) = g' (ix2 0 e)) : nv x g = nv x' g' := by
  obtain rfl : x = x' := funext hx
  funext d
  unfold nv
  rw [hg]

theorem g_row (x : FVec Ideal S512x1024 .f32) (g : FVec Ideal S1x1024 .f32) (W : FVec Ideal S5632x1024 .bf16) (a : Fin 512) (R : Fin 16384)
    (a0 : FVec Ideal S16384x1024 .f32) (a1 : FVec Ideal S1x1024 .f32) (a2 : FVec Ideal S1x1024x5632 .f32)
    (hx : ∀ e, x (ix2 a e) = a0 (ix2 R e)) (hg : ∀ e, g (ix2 0 e) = a1 (ix2 0 e)) (hW : ∀ j d, W (ix2 j d) = a2 (ix3 0 d j)) (j : Fin 5632) :
    col (nv (fun e => x (ix2 a e)) g) (fun j d => W (ix2 j d)) j = CV a0 a1 a2 R j := by
  unfold CV NV
  rw [nv_congr _ (fun e => a0 (ix2 R e)) g a1 hx hg]
  simp only [hW]

theorem finalV (c : Dev nD) : (dats m 0 c).arrAt 2 cfg0.N = GV (m ((c : Thread nD τ).loc main_arg0)) (m ((c : Thread nD τ).loc main_arg1)) := by
  refine (dats m 0 c).arrAt_eq_of_covers 2 _ (by decide +kernel) fun t _ y => ?_
  blk_simp
  rw [after0_2, outV]
  obtain ⟨a, b, rfl⟩ : ∃ (a : Fin 512) (b : Fin 1024), y = ix2 a b := ⟨y 0, y 1, by funext i; fin_cases i <;> rfl⟩
  rw [emb2]
  exact (pay2_at _ _ a b).trans (congrFun (nv_congr _ _ _ _ (blk_x m c t a) (blk_g m c t)) b)

theorem finalG (c : Dev nD) : (dats m 0 c).arrAt 3 cfg0.N = GG (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, outG]
  obtain ⟨a, b, rfl⟩ : ∃ (a : Fin 512) (b : Fin 2816), y = ix2 a b := ⟨y 0, y 1, by funext i; fin_cases i <;> rfl⟩
  rw [emb3]
  exact (gAll_at _ _ _ a b).trans (g_row _ _ _ a (row t a) _ _ _ (blk_x m c t a) (blk_g m c t) (wi_all m c _ _) (jg b))

theorem finalU (c : Dev nD) : (dats m 0 c).arrAt 4 cfg0.N = GU (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4, outU]
  obtain ⟨a, b, rfl⟩ : ∃ (a : Fin 512) (b : Fin 2816), y = ix2 a b := ⟨y 0, y 1, by funext i; fin_cases i <;> rfl⟩
  rw [emb4]
  exact (uAll_at _ _ _ a b).trans (g_row _ _ _ a (row t a) _ _ _ (blk_x m c t a) (blk_g m c t) (wi_all m c _ _) (ju b))

theorem h_row (x : FVec Ideal S512x1024 .f32) (g : FVec Ideal S1x1024 .f32) (W : FVec Ideal S5632x1024 .bf16) (O : FVec Ideal S2816x1024 .bf16) (a : Fin 512) (R : Fin 16384)
    (d : Fin 1024) (a0 : FVec Ideal S16384x1024 .f32) (a1 : FVec Ideal S1x1024 .f32) (a2 : FVec Ideal S1x1024x5632 .f32) (a3 : FVec Ideal S1x2816x1024 .f32)
    (hx : ∀ e, x (ix2 a e) = a0 (ix2 R e)) (hg : ∀ e, g (ix2 0 e) = a1 (ix2 0 e)) (hW : ∀ j d, W (ix2 j d) = a2 (ix3 0 d j)) (hO : ∀ j d, O (ix2 j d) = a3 (ix3 0 j d)) :
    (hAll x g W O (ix2 a d) : EReal) = GH a0 a1 a2 a3 (ix2 R d) := by
  rw [hAll_at]
  refine congrArg₂ _ (hx d) (Finset.sum_congr rfl fun j _ => ?_)
  rw [g_row x g W a R a0 a1 a2 hx hg hW (jg j), g_row x g W a R a0 a1 a2 hx hg hW (ju j), hO]
  rfl

theorem finalH (c : Dev nD) : (dats m 0 c).arrAt 5 cfg0.N = GH (m ((c : Thread nD τ).loc main_arg0)) (m ((c : Thread nD τ).loc main_arg1)) (m ((c : Thread nD τ).loc main_arg2))
      (m ((c : Thread nD τ).loc main_arg3)) := by
  refine (dats m 0 c).arrAt_eq_of_covers 5 _ (by decide +kernel) fun t _ y => ?_
  blk_simp
  rw [after0_5, outH]
  obtain ⟨a, b, rfl⟩ : ∃ (a : Fin 512) (b : Fin 1024), y = ix2 a b := ⟨y 0, y 1, by funext i; fin_cases i <;> rfl⟩
  rw [emb5]
  exact h_row _ _ _ _ a (row t a) b _ _ _ _ (blk_x m c t a) (blk_g m c t) (wi_all m c _ _) (wo_all m c _ _)

end Cert.FwdIdeal.Val
namespace Cert.FwdRefIdeal.Val
open Cert.FwdRefIdeal Cert.FwdRefIdeal.Gen Idealize.ShloMosaic Idealize.ShloMosaic.TcCoe Idealize.SL.Sem
open Cert.FwdIdeal.Val (NV CV GV GG GU GH jg ju sw col nv)

/-- The reference's normalised rows times the gain. -/
def vV (a0 : FVec Ideal S16384x1024 .f32) (a1 : FVec Ideal S1x1024 .f32) : FVec Ideal S16384x1024 .f32 :=
  Norm.gainV a1 (mulf a0 (broadcastInDim S16384x1024 ![0, 1] bcast_S16384x1_S16384x1024_0_1 (Norm.rinvV a0)))

theorem vV_at (a0 : FVec Ideal S16384x1024 .f32) (a1 : FVec Ideal S1x1024 .f32) (r : Fin 16384) (d : Fin 1024) :
    (vV a0 a1 (ix2 r d) : EReal) = NV a0 a1 r d := by
  unfold vV NV nv
  rw [Norm.gainV_at, ← Norm.rinvV_at]
  pointwise []

/-- The reference's first product. -/
def cV (v : FVec Ideal S16384x1024 .f32) (a2 : FVec Ideal S1x1024x5632 .f32) : FVec Ideal S16384x5632 .f32 :=
  Host.dotGeneral dot_S16384x1024_S1024x5632_S16384x5632_1_0_0_1_n_n none v (shapeCast _ a2 shapeCasts_S1x1024x5632_S1024x5632)

theorem cV_at (v : FVec Ideal S16384x1024 .f32) (a2 : FVec Ideal S1x1024x5632 .f32) (r : Fin 16384) (j : Fin 5632) :
    (cV v a2 (ix2 r j) : EReal) = ∑ d : Fin 1024, v (ix2 r d) * a2 (ix3 0 d j) := by
  pointwise [cV]

def gV (v : FVec Ideal S16384x5632 .f32) : FVec Ideal S16384x2816 .f32 := extractStridedSlice S16384x2816 ![0, 0] v slices_S16384x5632_S16384x2816_0_0
def uV (v : FVec Ideal S16384x5632 .f32) : FVec Ideal S16384x2816 .f32 := extractStridedSlice S16384x2816 ![0, 2816] v slices_S16384x5632_S16384x2816_0_2816

theorem gV_at (v : FVec Ideal S16384x5632 .f32) (r : Fin 16384) (j : Fin 2816) : (gV v (ix2 r j) : EReal) = v (ix2 r (jg j)) := by
  pointwise [gV]
  blk_point [jg]
theorem uV_at (v : FVec Ideal S16384x5632 .f32) (r : Fin 16384) (j : Fin 2816) : (uV v (ix2 r j) : EReal) = v (ix2 r (ju j)) := by
  pointwise [uV]
  blk_point [ju]

/-- The reference's gated product, rows added. -/
def hV (a0 : FVec Ideal S16384x1024 .f32) (g u : FVec Ideal S16384x2816 .f32) (a3 : FVec Ideal S1x2816x1024 .f32) : FVec Ideal S16384x1024 .f32 :=
  addf a0 (Host.dotGeneral dot_S16384x2816_S2816x1024_S16384x1024_1_0_0_1_n_n none (mulf (mulf g
    (Host.divf (broadcastInDim S16384x2816 ![] bcast_S_S16384x2816 (constant S_ .f32 0x3F800000#32)) (addf (broadcastInDim S16384x2816 ![] bcast_S_S16384x2816 (constant S_ .f32 0x3F800000#32)) (Host.exp (Host.negf g))))) u)
    (shapeCast _ a3 shapeCasts_S1x2816x1024_S2816x1024))

theorem hV_at (a0 : FVec Ideal S16384x1024 .f32) (g u : FVec Ideal S16384x2816 .f32) (a3 : FVec Ideal S1x2816x1024 .f32) (r : Fin 16384) (d : Fin 1024) :
    (hV a0 g u a3 (ix2 r d) : EReal) = a0 (ix2 r d) + ∑ j : Fin 2816, sw (g (ix2 r j)) (u (ix2 r j)) * a3 (ix3 0 j d) := by
  simp only [sw, Norm.sig_eq]
  pointwise [hV]

theorem refV (a0 : FVec Ideal S16384x1024 .f32) (a1 : FVec Ideal S1x1024 .f32) : truncf .bf16 (vV a0 a1) bitsLt_bf16_f32 = GV a0 a1 := by
  funext i
  obtain ⟨r, d, rfl⟩ : ∃ (r : Fin 16384) (d : Fin 1024), i = ix2 r d := ⟨i 0, i 1, by funext i; fin_cases i <;> rfl⟩
  exact vV_at a0 a1 r d

theorem cv (a0 : FVec Ideal S16384x1024 .f32) (a1 : FVec Ideal S1x1024 .f32) (a2 : FVec Ideal S1x1024x5632 .f32) (r : Fin 16384) (j : Fin 5632) :
    (cV (vV a0 a1) a2 (ix2 r j) : EReal) = CV a0 a1 a2 r j := by
  rw [cV_at]
  unfold CV col
  simp only [vV_at]

theorem refG (a0 : FVec Ideal S16384x1024 .f32) (a1 : FVec Ideal S1x1024 .f32) (a2 : FVec Ideal S1x1024x5632 .f32) :
    truncf .bf16 (gV (cV (vV a0 a1) a2)) bitsLt_bf16_f32 = GG a0 a1 a2 := by
  funext i
  obtain ⟨r, d, rfl⟩ : ∃ (r : Fin 16384) (d : Fin 2816), i = ix2 r d := ⟨i 0, i 1, by funext i; fin_cases i <;> rfl⟩
  exact (gV_at _ r d).trans (cv a0 a1 a2 r (jg d))

theorem refU (a0 : FVec Ideal S16384x1024 .f32) (a1 : FVec Ideal S1x1024 .f32) (a2 : FVec Ideal S1x1024x5632 .f32) :
    truncf .bf16 (uV (cV (vV a0 a1) a2)) bitsLt_bf16_f32 = GU a0 a1 a2 := by
  funext i
  obtain ⟨r, d, rfl⟩ : ∃ (r : Fin 16384) (d : Fin 2816), i = ix2 r d := ⟨i 0, i 1, by funext i; fin_cases i <;> rfl⟩
  exact (uV_at _ r d).trans (cv a0 a1 a2 r (ju d))

theorem refH (a0 : FVec Ideal S16384x1024 .f32) (a1 : FVec Ideal S1x1024 .f32) (a2 : FVec Ideal S1x1024x5632 .f32) (a3 : FVec Ideal S1x2816x1024 .f32) :
    hV a0 (gV (cV (vV a0 a1) a2)) (uV (cV (vV a0 a1) a2)) a3 = GH a0 a1 a2 a3 := by
  funext i
  obtain ⟨r, d, rfl⟩ : ∃ (r : Fin 16384) (d : Fin 1024), i = ix2 r d := ⟨i 0, i 1, by funext i; fin_cases i <;> rfl⟩
  rw [hV_at]
  simp only [gV_at, uV_at, cv]
  rfl

end Cert.FwdRefIdeal.Val
namespace Cert.FwdIdeal.Val
open Idealize.ShloMosaic Idealize.ShloMosaic.TcCoe Idealize.SL.Sem

theorem algebraic : Cert.algebraic_FwdIdeal_FwdRefIdeal (hFwdIdeal := Cert.FwdIdeal.Gen.facts) (hFwdRefIdeal := Cert.FwdRefIdeal.Gen.facts) := by
  intro m g m' g' _ h
  refine ⟨fun c => (Cert.FwdIdeal.Launch.dats m 0 c).arrAt 2 Cert.FwdIdeal.cfg0.N, fun c => (Cert.FwdIdeal.Launch.dats m 0 c).arrAt 3 Cert.FwdIdeal.cfg0.N,
    fun c => (Cert.FwdIdeal.Launch.dats m 0 c).arrAt 4 Cert.FwdIdeal.cfg0.N, fun c => (Cert.FwdIdeal.Launch.dats m 0 c).arrAt 5 Cert.FwdIdeal.cfg0.N,
    Cert.FwdIdeal.Value.run_blocks m g, (θ_run _ _ _).mono (fun r hr c => ?_) (Cert.FwdRefIdeal.Value.run m' g')⟩
  obtain ⟨h0, h1, h2, h3, h4, h5⟩ := h c
  obtain ⟨r0, r1, r2, r3, rest⟩ := hr c
  refine ⟨r0.trans ?_, r1.trans ?_, r2.trans ?_, r3.trans ?_, rest⟩
  · refine Eq.trans ?_ (finalV m c).symm
    rw [h0, h1]
    exact Cert.FwdRefIdeal.Val.refV _ _
  · refine Eq.trans ?_ (finalG m c).symm
    rw [h0, h1, h2]
    exact Cert.FwdRefIdeal.Val.refG _ _ _
  · refine Eq.trans ?_ (finalU m c).symm
    rw [h0, h1, h2]
    exact Cert.FwdRefIdeal.Val.refU _ _ _
  · refine Eq.trans ?_ (finalH m c).symm
    rw [h0, h1, h2, h3]
    exact Cert.FwdRefIdeal.Val.refH _ _ _ _

end Cert.FwdIdeal.Val
-- ==== Proof.Fwd.Frames.lean ====
/- The frames of the call: of its own text, of its idealised text and of its reference. -/
module

public import proofs.«01_k».proof.Defs
public import proofs.«01_k».proof.Proof.Gen.Fwd
public import proofs.«01_k».proof.Proof.Fwd.Frame
public import proofs.«01_k».proof.Proof.Gen.FwdRefIdeal.Run

@[expose] public section

noncomputable section

namespace Cert.FwdIdeal.Val

open Idealize.ShloMosaic Idealize.SL.Sem

set_option smartUnfolding false in
/-- The two texts of the call are the same, so its own text runs as its idealised text does, at the
    machine's numbers. -/
theorem frame_own : Cert.quiescent_Fwd (hFwd := Cert.Fwd.Gen.facts) :=
  fun m ρ _ => Cert.FwdIdeal.Launch.frame (F := Bits) m ρ

theorem frame_ideal : Cert.quiescent_FwdIdeal (hFwdIdeal := Cert.FwdIdeal.Gen.facts) :=
  fun m ρ _ => Cert.FwdIdeal.Launch.frame m ρ

/-- The reference declares no semaphore. -/
theorem frame_ref : Cert.quiescent_FwdRefIdeal (hFwdRefIdeal := Cert.FwdRefIdeal.Gen.facts) := fun m ρ _ =>
  (θ_run Cert.FwdRefIdeal.defs _ _).mono
    (fun r h => ⟨fun c => (h c).2.2.2.2, sem_eq_zero_of_no_sems (by decide) r.2⟩)
    (Cert.FwdRefIdeal.Value.run (F := Ideal) m ρ)

end Cert.FwdIdeal.Val

end
-- ==== Proof.Hidden.RunA.lean ====
/- The body at the first point of the grid, run over its statements. -/
module

public import proofs.«01_k».proof.Proof.Gen.HiddenIdeal.Frame.Runs

@[expose] public section

set_option maxRecDepth 16384

noncomputable section

namespace Cert.HiddenIdeal.Launch

open Cert.HiddenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option sl_exec.dmaWindow true in
set_option sl_exec.dmaWindowSet true in
set_option maxHeartbeats 1000000 in

/-- The pieces each buffer ends with in case A, found by the run of the body, with the proof of the run. -/
noncomputable def kernelRun0_A (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x5632 .bf16) (harg5 : arg5.IsWhole) (arg7 : Memref sig .tc .vmem S2816x1024 .bf16) (harg7 : arg7.IsWhole) (arg8 : Memref sig .tc .vmem S2816x1024 .f32) (harg8 : arg8.IsWhole) (hc0 : cond0_0 i) (hc1 : ¬cond0_1 i)
    (x0 : Vec F S512x1024 .f32) (x1 : Vec F S512x2816 .bf16) (x2 : Vec F S512x2816 .bf16) (fh0 : HbBuf0 (F := F) c hbM0_0) (fw1 : HbBuf0 (F := F) c hbM0_1) :
    Σ' (L3 : List (View.Piece (Elt F) S512x5632 .bf16)), Σ' (LS0 : List (View.Piece (Elt F) S2816x1024 .bf16)), Σ' (LS1 : List (View.Piece (Elt F) S2816x1024 .f32)), { gw1 : HbBuf0 (F := F) c hbM0_1 //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg5 fullShare d) ∗ (∃ d, owns (c : Thread nD τ) arg7 fullShare d) ∗ (∃ d, owns (c : Thread nD τ) arg8 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ hbPt0 c hbM0_1 fw1 ∗ owes (c : Thread nD τ) 0 W
            ∗ (iprop(owns (c : Thread nD τ) arg1 fullShare x0 ∗ owns (c : Thread nD τ) arg2 fullShare x1 ∗ owns (c : Thread nD τ) arg3 fullShare x2 ∗ (∃ f, arg5.view.loc (c : Thread nD τ) ↦[arg5.view.set]{fullShare} arg5.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ hbPt0 c hbM0_1 gw1 ∗ (∃ W', owes (c : Thread nD τ) 0 W')) -∗ K ⟨⟩))
          ⊢ wp frame (wpE (defs₀ (F := F)) Variants.none c none) Set.univ (cc0_ffn_bwd_hidden i arg1 harg1 arg2 harg2 arg3 harg3 (Memref.whole main_v15) (Memref.isWhole_whole _) arg5 harg5 (Memref.whole main_v36_1) (Memref.isWhole_whole _) arg7 harg7 arg8 harg8 cc0_scratch2 cc0_scoped0) K } := by
  refine ⟨?_, ?_, ?_, ?_, fun W K => ?run⟩
  case run =>
    simp only [cc0_ffn_bwd_hidden_eq_skeleton]; unfold cc0_ffn_bwd_hidden_skel
    simp only [k0_part4_eq_skeleton, k0_part1_eq_skeleton, k0_part2_eq_skeleton, k0_part3_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hq0, Hq1, Hq2, Hq3, Hq4, Hq5, Hq6, Hq7, Hq8, Hh0, Hh1, HW, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]; · iexists _; iexact HS0
    isplitl [HS1]; · iexists _; iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hh0]; · iexact Hh0
    isplitl [Hh1]; · iexact Hh1
    iexists _; iexact HW

end Cert.HiddenIdeal.Launch

end
-- ==== Proof.Hidden.RunB.lean ====
/- The body at a later point of the grid, run over its statements. -/
module

public import proofs.«01_k».proof.Proof.Hidden.RunA

@[expose] public section

set_option maxRecDepth 16384

noncomputable section

namespace Cert.HiddenIdeal.Launch

open Cert.HiddenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option sl_exec.dmaWindow true in
set_option sl_exec.dmaWindowSet true in
set_option maxHeartbeats 1000000 in

/-- The pieces each buffer ends with in case B, found by the run of the body, with the proof of the run. -/
noncomputable def kernelRun0_B (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x5632 .bf16) (harg5 : arg5.IsWhole) (arg7 : Memref sig .tc .vmem S2816x1024 .bf16) (harg7 : arg7.IsWhole) (arg8 : Memref sig .tc .vmem S2816x1024 .f32) (harg8 : arg8.IsWhole) (hc0 : ¬cond0_0 i) (hc1 : ¬cond0_1 i)
    (x0 : Vec F S512x1024 .f32) (x1 : Vec F S512x2816 .bf16) (x2 : Vec F S512x2816 .bf16) (xs0 : Vec F S2816x1024 .bf16) (xs1 : Vec F S2816x1024 .f32) (fh0 : HbBuf0 (F := F) c hbM0_0) (fw1 : HbBuf0 (F := F) c hbM0_1) :
    Σ' (L3 : List (View.Piece (Elt F) S512x5632 .bf16)), Σ' (LS0 : List (View.Piece (Elt F) S2816x1024 .bf16)), Σ' (LS1 : List (View.Piece (Elt F) S2816x1024 .f32)), { gw1 : HbBuf0 (F := F) c hbM0_1 //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg5 fullShare d) ∗ owns (c : Thread nD τ) arg7 fullShare xs0 ∗ owns (c : Thread nD τ) arg8 fullShare xs1 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ hbPt0 c hbM0_1 fw1 ∗ owes (c : Thread nD τ) 0 W
            ∗ (iprop(owns (c : Thread nD τ) arg1 fullShare x0 ∗ owns (c : Thread nD τ) arg2 fullShare x1 ∗ owns (c : Thread nD τ) arg3 fullShare x2 ∗ (∃ f, arg5.view.loc (c : Thread nD τ) ↦[arg5.view.set]{fullShare} arg5.view.writes (Elt F) f L3) ∗ owns (c : Thread nD τ) arg7 fullShare xs0 ∗ (∃ f, arg8.view.loc (c : Thread nD τ) ↦[arg8.view.set]{fullShare} arg8.view.writes (Elt F) f LS1) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ hbPt0 c hbM0_1 gw1 ∗ (∃ W', owes (c : Thread nD τ) 0 W')) -∗ K ⟨⟩))
          ⊢ wp frame (wpE (defs₀ (F := F)) Variants.none c none) Set.univ (cc0_ffn_bwd_hidden i arg1 harg1 arg2 harg2 arg3 harg3 (Memref.whole main_v15) (Memref.isWhole_whole _) arg5 harg5 (Memref.whole main_v36_1) (Memref.isWhole_whole _) arg7 harg7 arg8 harg8 cc0_scratch2 cc0_scoped0) K } := by
  refine ⟨?_, [], ?_, ?_, fun W K => ?run⟩
  case run =>
    simp only [cc0_ffn_bwd_hidden_eq_skeleton]; unfold cc0_ffn_bwd_hidden_skel
    simp only [k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hq0, Hq1, Hq2, Hq3, Hq4, Hq5, Hq6, Hq7, Hq8, Hh0, Hh1, HW, Hk⟩
    obtain rfl := harg1.eq_unread hf0; obtain rfl := harg2.eq_unread hf1; obtain rfl := harg3.eq_unread hf2; obtain rfl := harg7.eq_unread hfs0; obtain rfl := harg8.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]
    · iexists _; isplitr; · ipureintro; exact harg7.read_unread _
      iexact HS0
    isplitl [HS1]; · iexists _; iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hh0]; · iexact Hh0
    isplitl [Hh1]; · iexact Hh1
    iexists _; iexact HW

end Cert.HiddenIdeal.Launch

end
-- ==== Proof.Hidden.RunC.lean ====
/- The body at a further case of its conditionals, run over its statements. -/
module

public import proofs.«01_k».proof.Proof.Hidden.RunB

@[expose] public section

set_option maxRecDepth 16384

noncomputable section

namespace Cert.HiddenIdeal.Launch

open Cert.HiddenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option sl_exec.dmaWindow true in
set_option sl_exec.dmaWindowSet true in
set_option maxHeartbeats 1000000 in

/-- The pieces each buffer ends with in case C, found by the run of the body, with the proof of the run. -/
noncomputable def kernelRun0_C (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x5632 .bf16) (harg5 : arg5.IsWhole) (arg7 : Memref sig .tc .vmem S2816x1024 .bf16) (harg7 : arg7.IsWhole) (arg8 : Memref sig .tc .vmem S2816x1024 .f32) (harg8 : arg8.IsWhole) (hc0 : ¬cond0_0 i) (hc1 : cond0_1 i)
    (x0 : Vec F S512x1024 .f32) (x1 : Vec F S512x2816 .bf16) (x2 : Vec F S512x2816 .bf16) (xs0 : Vec F S2816x1024 .bf16) (xs1 : Vec F S2816x1024 .f32) (fh0 : HbBuf0 (F := F) c hbM0_0) (fw1 : HbBuf0 (F := F) c hbM0_1) :
    Σ' (L3 : List (View.Piece (Elt F) S512x5632 .bf16)), Σ' (LS0 : List (View.Piece (Elt F) S2816x1024 .bf16)), Σ' (LS1 : List (View.Piece (Elt F) S2816x1024 .f32)), { gw1 : HbBuf0 (F := F) c hbM0_1 //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg5 fullShare d) ∗ owns (c : Thread nD τ) arg7 fullShare xs0 ∗ owns (c : Thread nD τ) arg8 fullShare xs1 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ hbPt0 c hbM0_1 fw1 ∗ owes (c : Thread nD τ) 0 W
            ∗ (iprop(owns (c : Thread nD τ) arg1 fullShare x0 ∗ owns (c : Thread nD τ) arg2 fullShare x1 ∗ owns (c : Thread nD τ) arg3 fullShare x2 ∗ (∃ f, arg5.view.loc (c : Thread nD τ) ↦[arg5.view.set]{fullShare} arg5.view.writes (Elt F) f L3) ∗ owns (c : Thread nD τ) arg7 fullShare xs0 ∗ (∃ f, arg8.view.loc (c : Thread nD τ) ↦[arg8.view.set]{fullShare} arg8.view.writes (Elt F) f LS1) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ hbPt0 c hbM0_1 gw1 ∗ (∃ W', owes (c : Thread nD τ) 0 W')) -∗ K ⟨⟩))
          ⊢ wp frame (wpE (defs₀ (F := F)) Variants.none c none) Set.univ (cc0_ffn_bwd_hidden i arg1 harg1 arg2 harg2 arg3 harg3 (Memref.whole main_v15) (Memref.isWhole_whole _) arg5 harg5 (Memref.whole main_v36_1) (Memref.isWhole_whole _) arg7 harg7 arg8 harg8 cc0_scratch2 cc0_scoped0) K } := by
  refine ⟨?_, [], ?_, ?_, fun W K => ?run⟩
  case run =>
    simp only [cc0_ffn_bwd_hidden_eq_skeleton]; unfold cc0_ffn_bwd_hidden_skel
    simp only [k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hq0, Hq1, Hq2, Hq3, Hq4, Hq5, Hq6, Hq7, Hq8, Hh0, Hh1, HW, Hk⟩
    obtain rfl := harg1.eq_unread hf0; obtain rfl := harg2.eq_unread hf1; obtain rfl := harg3.eq_unread hf2; obtain rfl := harg7.eq_unread hfs0; obtain rfl := harg8.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]
    · iexists _; isplitr; · ipureintro; exact harg7.read_unread _
      iexact HS0
    isplitl [HS1]; · iexists _; iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hh0]; · iexact Hh0
    isplitl [Hh1]; · iexact Hh1
    iexists _; iexact HW

end Cert.HiddenIdeal.Launch

end
-- ==== Proof.Hidden.Frame.lean ====
/- What the body leaves at every point, the run of the whole program, and its frame. -/
module

public import proofs.«01_k».proof.Proof.Hidden.RunC
public import Idealize.ShloMosaic.Lib.Claim

@[expose] public section

set_option maxRecDepth 16384

noncomputable section

namespace Cert.HiddenIdeal.Launch

open Cert.HiddenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section CaseA

variable (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x5632 .bf16) (harg5 : arg5.IsWhole) (arg7 : Memref sig .tc .vmem S2816x1024 .bf16) (harg7 : arg7.IsWhole) (arg8 : Memref sig .tc .vmem S2816x1024 .f32) (harg8 : arg8.IsWhole) (hc0 : cond0_0 i) (hc1 : ¬cond0_1 i)
  (x0 : Vec F S512x1024 .f32) (x1 : Vec F S512x2816 .bf16) (x2 : Vec F S512x2816 .bf16) (fh0 : HbBuf0 (F := F) c hbM0_0) (fw1 : HbBuf0 (F := F) c hbM0_1)

/-- Case A's stores cover the block of window 3. -/
theorem cover0_A_3 (y : S512x5632.Idx) :
    ∃ pc ∈ (kernelRun0_A c i arg1 harg1 arg2 harg2 arg3 harg3 arg5 harg5 arg7 harg7 arg8 harg8 hc0 hc1 x0 x1 x2 fh0 fw1).1, y ∈ pc.1.set :=
  View.cover_of_tiledBy (kernelRun0_A c i arg1 harg1 arg2 harg2 arg3 harg3 arg5 harg5 arg7 harg7 arg8 harg8 hc0 hc1 x0 x1 x2 fh0 fw1).1 ![512, 256] (by sl_kernel_rfl) y

/-- What case A leaves in the block of window 3. -/
def out0_A_3 : Vec F S512x5632 .bf16 :=
  VO0_3.read (Elt F) (VO0_3.writes (Elt F) VO0_3.junk (kernelRun0_A c i arg1 harg1 arg2 harg2 arg3 harg3 arg5 harg5 arg7 harg7 arg8 harg8 hc0 hc1 x0 x1 x2 fh0 fw1).1)

/-- Case A's stores cover scratch 0. -/
theorem scover0_A_0 (y : S2816x1024.Idx) :
    ∃ pc ∈ (kernelRun0_A c i arg1 harg1 arg2 harg2 arg3 harg3 arg5 harg5 arg7 harg7 arg8 harg8 hc0 hc1 x0 x1 x2 fh0 fw1).2.1, y ∈ pc.1.set :=
  View.cover_of_tiledL (kernelRun0_A c i arg1 harg1 arg2 harg2 arg3 harg3 arg5 harg5 arg7 harg7 arg8 harg8 hc0 hc1 x0 x1 x2 fh0 fw1).2.1 S352x1024.size (by sl_kernel_rfl) y

/-- What case A leaves in scratch 0. -/
def sout0_A_0 : Vec F S2816x1024 .bf16 :=
  VS0_0.read (Elt F) (VS0_0.writes (Elt F) VS0_0.junk (kernelRun0_A c i arg1 harg1 arg2 harg2 arg3 harg3 arg5 harg5 arg7 harg7 arg8 harg8 hc0 hc1 x0 x1 x2 fh0 fw1).2.1)

/-- Case A's stores cover scratch 1. -/
theorem scover0_A_1 (y : S2816x1024.Idx) :
    ∃ pc ∈ (kernelRun0_A c i arg1 harg1 arg2 harg2 arg3 harg3 arg5 harg5 arg7 harg7 arg8 harg8 hc0 hc1 x0 x1 x2 fh0 fw1).2.2.1, y ∈ pc.1.set :=
  View.cover_of_wholeMem (kernelRun0_A c i arg1 harg1 arg2 harg2 arg3 harg3 arg5 harg5 arg7 harg7 arg8 harg8 hc0 hc1 x0 x1 x2 fh0 fw1).2.2.1 (by sl_whole_mem) y

/-- What case A leaves in scratch 1. -/
def sout0_A_1 : Vec F S2816x1024 .f32 :=
  VS0_1.read (Elt F) (VS0_1.writes (Elt F) VS0_1.junk (kernelRun0_A c i arg1 harg1 arg2 harg2 arg3 harg3 arg5 harg5 arg7 harg7 arg8 harg8 hc0 hc1 x0 x1 x2 fh0 fw1).2.2.1)

def hbw0_A_1 : HbBuf0 (F := F) c hbM0_1 := (kernelRun0_A c i arg1 harg1 arg2 harg2 arg3 harg3 arg5 harg5 arg7 harg7 arg8 harg8 hc0 hc1 x0 x1 x2 fh0 fw1).2.2.2.1

end CaseA

section CaseB

variable (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x5632 .bf16) (harg5 : arg5.IsWhole) (arg7 : Memref sig .tc .vmem S2816x1024 .bf16) (harg7 : arg7.IsWhole) (arg8 : Memref sig .tc .vmem S2816x1024 .f32) (harg8 : arg8.IsWhole) (hc0 : ¬cond0_0 i) (hc1 : ¬cond0_1 i)
  (x0 : Vec F S512x1024 .f32) (x1 : Vec F S512x2816 .bf16) (x2 : Vec F S512x2816 .bf16) (xs0 : Vec F S2816x1024 .bf16) (xs1 : Vec F S2816x1024 .f32) (fh0 : HbBuf0 (F := F) c hbM0_0) (fw1 : HbBuf0 (F := F) c hbM0_1)

/-- Case B's stores cover the block of window 3. -/
theorem cover0_B_3 (y : S512x5632.Idx) :
    ∃ pc ∈ (kernelRun0_B c i arg1 harg1 arg2 harg2 arg3 harg3 arg5 harg5 arg7 harg7 arg8 harg8 hc0 hc1 x0 x1 x2 xs0 xs1 fh0 fw1).1, y ∈ pc.1.set :=
  View.cover_of_tiledBy (kernelRun0_B c i arg1 harg1 arg2 harg2 arg3 harg3 arg5 harg5 arg7 harg7 arg8 harg8 hc0 hc1 x0 x1 x2 xs0 xs1 fh0 fw1).1 ![512, 256] (by sl_kernel_rfl) y

/-- What case B leaves in the block of window 3. -/
def out0_B_3 : Vec F S512x5632 .bf16 :=
  VO0_3.read (Elt F) (VO0_3.writes (Elt F) VO0_3.junk (kernelRun0_B c i arg1 harg1 arg2 harg2 arg3 harg3 arg5 harg5 arg7 harg7 arg8 harg8 hc0 hc1 x0 x1 x2 xs0 xs1 fh0 fw1).1)

end CaseB

/-- What case B leaves in scratch 0. -/
def sout0_B_0 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x5632 .bf16) (harg5 : arg5.IsWhole) (arg7 : Memref sig .tc .vmem S2816x1024 .bf16) (harg7 : arg7.IsWhole) (arg8 : Memref sig .tc .vmem S2816x1024 .f32) (harg8 : arg8.IsWhole) (hc0 : ¬cond0_0 i) (hc1 : ¬cond0_1 i)
    (x0 : Vec F S512x1024 .f32) (x1 : Vec F S512x2816 .bf16) (x2 : Vec F S512x2816 .bf16) (xs0 : Vec F S2816x1024 .bf16) (xs1 : Vec F S2816x1024 .f32) (fh0 : HbBuf0 (F := F) c hbM0_0) (fw1 : HbBuf0 (F := F) c hbM0_1) : Vec F S2816x1024 .bf16 := xs0

section CaseB

variable (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x5632 .bf16) (harg5 : arg5.IsWhole) (arg7 : Memref sig .tc .vmem S2816x1024 .bf16) (harg7 : arg7.IsWhole) (arg8 : Memref sig .tc .vmem S2816x1024 .f32) (harg8 : arg8.IsWhole) (hc0 : ¬cond0_0 i) (hc1 : ¬cond0_1 i)
  (x0 : Vec F S512x1024 .f32) (x1 : Vec F S512x2816 .bf16) (x2 : Vec F S512x2816 .bf16) (xs0 : Vec F S2816x1024 .bf16) (xs1 : Vec F S2816x1024 .f32) (fh0 : HbBuf0 (F := F) c hbM0_0) (fw1 : HbBuf0 (F := F) c hbM0_1)

/-- Case B's stores cover scratch 1. -/
theorem scover0_B_1 (y : S2816x1024.Idx) :
    ∃ pc ∈ (kernelRun0_B c i arg1 harg1 arg2 harg2 arg3 harg3 arg5 harg5 arg7 harg7 arg8 harg8 hc0 hc1 x0 x1 x2 xs0 xs1 fh0 fw1).2.2.1, y ∈ pc.1.set :=
  View.cover_of_tiledBy (kernelRun0_B c i arg1 harg1 arg2 harg2 arg3 harg3 arg5 harg5 arg7 harg7 arg8 harg8 hc0 hc1 x0 x1 x2 xs0 xs1 fh0 fw1).2.2.1 ![256, 1024] (by sl_kernel_rfl) y

/-- What case B leaves in scratch 1. -/
def sout0_B_1 : Vec F S2816x1024 .f32 :=
  VS0_1.read (Elt F) (VS0_1.writes (Elt F) VS0_1.junk (kernelRun0_B c i arg1 harg1 arg2 harg2 arg3 harg3 arg5 harg5 arg7 harg7 arg8 harg8 hc0 hc1 x0 x1 x2 xs0 xs1 fh0 fw1).2.2.1)

def hbw0_B_1 : HbBuf0 (F := F) c hbM0_1 := (kernelRun0_B c i arg1 harg1 arg2 harg2 arg3 harg3 arg5 harg5 arg7 harg7 arg8 harg8 hc0 hc1 x0 x1 x2 xs0 xs1 fh0 fw1).2.2.2.1

end CaseB

section CaseC

variable (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x5632 .bf16) (harg5 : arg5.IsWhole) (arg7 : Memref sig .tc .vmem S2816x1024 .bf16) (harg7 : arg7.IsWhole) (arg8 : Memref sig .tc .vmem S2816x1024 .f32) (harg8 : arg8.IsWhole) (hc0 : ¬cond0_0 i) (hc1 : cond0_1 i)
  (x0 : Vec F S512x1024 .f32) (x1 : Vec F S512x2816 .bf16) (x2 : Vec F S512x2816 .bf16) (xs0 : Vec F S2816x1024 .bf16) (xs1 : Vec F S2816x1024 .f32) (fh0 : HbBuf0 (F := F) c hbM0_0) (fw1 : HbBuf0 (F := F) c hbM0_1)

/-- Case C's stores cover the block of window 3. -/
theorem cover0_C_3 (y : S512x5632.Idx) :
    ∃ pc ∈ (kernelRun0_C c i arg1 harg1 arg2 harg2 arg3 harg3 arg5 harg5 arg7 harg7 arg8 harg8 hc0 hc1 x0 x1 x2 xs0 xs1 fh0 fw1).1, y ∈ pc.1.set :=
  View.cover_of_tiledBy (kernelRun0_C c i arg1 harg1 arg2 harg2 arg3 harg3 arg5 harg5 arg7 harg7 arg8 harg8 hc0 hc1 x0 x1 x2 xs0 xs1 fh0 fw1).1 ![512, 256] (by sl_kernel_rfl) y

/-- What case C leaves in the block of window 3. -/
def out0_C_3 : Vec F S512x5632 .bf16 :=
  VO0_3.read (Elt F) (VO0_3.writes (Elt F) VO0_3.junk (kernelRun0_C c i arg1 harg1 arg2 harg2 arg3 harg3 arg5 harg5 arg7 harg7 arg8 harg8 hc0 hc1 x0 x1 x2 xs0 xs1 fh0 fw1).1)

end CaseC

/-- What case C leaves in scratch 0. -/
def sout0_C_0 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x5632 .bf16) (harg5 : arg5.IsWhole) (arg7 : Memref sig .tc .vmem S2816x1024 .bf16) (harg7 : arg7.IsWhole) (arg8 : Memref sig .tc .vmem S2816x1024 .f32) (harg8 : arg8.IsWhole) (hc0 : ¬cond0_0 i) (hc1 : cond0_1 i)
    (x0 : Vec F S512x1024 .f32) (x1 : Vec F S512x2816 .bf16) (x2 : Vec F S512x2816 .bf16) (xs0 : Vec F S2816x1024 .bf16) (xs1 : Vec F S2816x1024 .f32) (fh0 : HbBuf0 (F := F) c hbM0_0) (fw1 : HbBuf0 (F := F) c hbM0_1) : Vec F S2816x1024 .bf16 := xs0

section CaseC

variable (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x5632 .bf16) (harg5 : arg5.IsWhole) (arg7 : Memref sig .tc .vmem S2816x1024 .bf16) (harg7 : arg7.IsWhole) (arg8 : Memref sig .tc .vmem S2816x1024 .f32) (harg8 : arg8.IsWhole) (hc0 : ¬cond0_0 i) (hc1 : cond0_1 i)
  (x0 : Vec F S512x1024 .f32) (x1 : Vec F S512x2816 .bf16) (x2 : Vec F S512x2816 .bf16) (xs0 : Vec F S2816x1024 .bf16) (xs1 : Vec F S2816x1024 .f32) (fh0 : HbBuf0 (F := F) c hbM0_0) (fw1 : HbBuf0 (F := F) c hbM0_1)

/-- Case C's stores cover scratch 1. -/
theorem scover0_C_1 (y : S2816x1024.Idx) :
    ∃ pc ∈ (kernelRun0_C c i arg1 harg1 arg2 harg2 arg3 harg3 arg5 harg5 arg7 harg7 arg8 harg8 hc0 hc1 x0 x1 x2 xs0 xs1 fh0 fw1).2.2.1, y ∈ pc.1.set :=
  View.cover_of_tiledBy (kernelRun0_C c i arg1 harg1 arg2 harg2 arg3 harg3 arg5 harg5 arg7 harg7 arg8 harg8 hc0 hc1 x0 x1 x2 xs0 xs1 fh0 fw1).2.2.1 ![256, 1024] (by sl_kernel_rfl) y

/-- What case C leaves in scratch 1. -/
def sout0_C_1 : Vec F S2816x1024 .f32 :=
  VS0_1.read (Elt F) (VS0_1.writes (Elt F) VS0_1.junk (kernelRun0_C c i arg1 harg1 arg2 harg2 arg3 harg3 arg5 harg5 arg7 harg7 arg8 harg8 hc0 hc1 x0 x1 x2 xs0 xs1 fh0 fw1).2.2.1)

def hbw0_C_1 : HbBuf0 (F := F) c hbM0_1 := (kernelRun0_C c i arg1 harg1 arg2 harg2 arg3 harg3 arg5 harg5 arg7 harg7 arg8 harg8 hc0 hc1 x0 x1 x2 xs0 xs1 fh0 fw1).2.2.2.1

end CaseC

/-- The contents a point of case A leaves. -/
def atA (c : Dev nD) (t : Fin cfg0.N) (h0 : t.val % 32 = 0) (h1 : ¬t.val % 32 = 31) : Vec F S512x5632 .bf16 × Vec F S2816x1024 .bf16 × Vec F S2816x1024 .f32 × HbBuf0 (F := F) c hbM0_1 :=
  (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t) (V m c main_v15) (V m c main_v36_1), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t) (V m c main_v15) (V m c main_v36_1), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t) (V m c main_v15) (V m c main_v36_1), hbw0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t) (V m c main_v15) (V m c main_v36_1))

/-- The contents a point of case B leaves, from the contents `p` before it. -/
def atB (c : Dev nD) (t : Fin cfg0.N) (h0 : ¬t.val % 32 = 0) (h1 : ¬t.val % 32 = 31) (p : Vec F S512x5632 .bf16 × Vec F S2816x1024 .bf16 × Vec F S2816x1024 .f32 × HbBuf0 (F := F) c hbM0_1) : Vec F S512x5632 .bf16 × Vec F S2816x1024 .bf16 × Vec F S2816x1024 .f32 × HbBuf0 (F := F) c hbM0_1 :=
  (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) p.2.1 p.2.2.1 (V m c main_v15) p.2.2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) p.2.1 p.2.2.1 (V m c main_v15) p.2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) p.2.1 p.2.2.1 (V m c main_v15) p.2.2.2, hbw0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) p.2.1 p.2.2.1 (V m c main_v15) p.2.2.2)

/-- The contents a point of case C leaves, from the contents `p` before it. -/
def atC (c : Dev nD) (t : Fin cfg0.N) (h0 : ¬t.val % 32 = 0) (h1 : t.val % 32 = 31) (p : Vec F S512x5632 .bf16 × Vec F S2816x1024 .bf16 × Vec F S2816x1024 .f32 × HbBuf0 (F := F) c hbM0_1) : Vec F S512x5632 .bf16 × Vec F S2816x1024 .bf16 × Vec F S2816x1024 .f32 × HbBuf0 (F := F) c hbM0_1 :=
  (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) p.2.1 p.2.2.1 (V m c main_v15) p.2.2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) p.2.1 p.2.2.1 (V m c main_v15) p.2.2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) p.2.1 p.2.2.1 (V m c main_v15) p.2.2.2, hbw0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) p.2.1 p.2.2.1 (V m c main_v15) p.2.2.2)

/-- What the output blocks and the scratch hold after each point. -/
def outsAt0 (c : Dev nD) : (n : ℕ) → n < cfg0.N → Vec F S512x5632 .bf16 × Vec F S2816x1024 .bf16 × Vec F S2816x1024 .f32 × HbBuf0 (F := F) c hbM0_1
  | 0, hn => atA m c ⟨0, hn⟩ (Nat.zero_mod _) (by dsimp only; omega)
  | n + 1, hn =>
    if h0 : (n + 1) % 32 = 0 then
      if h1 : (n + 1) % 32 = 31 then
        False.elim (by have hN : n + 1 < 32 := lt_of_lt_of_eq hn (show cfg0.N = 32 from N_0); omega)
      else
        atA m c ⟨n + 1, hn⟩ h0 h1
    else
      if h1 : (n + 1) % 32 = 31 then
        atC m c ⟨n + 1, hn⟩ h0 h1 (outsAt0 c n (Nat.lt_of_succ_lt hn))
      else
        atB m c ⟨n + 1, hn⟩ h0 h1 (outsAt0 c n (Nat.lt_of_succ_lt hn))

/-- The contents after a point of case A. -/
theorem outsAt0_A (c : Dev nD) (t : Fin cfg0.N) (h0 : t.val % 32 = 0) (h1 : ¬t.val % 32 = 31) :
    outsAt0 m c t.val t.isLt = atA m c t h0 h1 := by
  obtain ⟨n, hn⟩ := t
  cases n with
  | zero => exact rfl
  | succ n => exact (dif_pos h0).trans ((dif_neg h1).trans rfl)

/-- The contents after a point of case B. -/
theorem outsAt0_B (c : Dev nD) (t : Fin cfg0.N) (h0 : ¬t.val % 32 = 0) (h1 : ¬t.val % 32 = 31) :
    outsAt0 m c t.val t.isLt = atB m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- The contents after a point of case C. -/
theorem outsAt0_C (c : Dev nD) (t : Fin cfg0.N) (h0 : ¬t.val % 32 = 0) (h1 : t.val % 32 = 31) :
    outsAt0 m c t.val t.isLt = atC m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What is carried between the points. -/
def PhiS (c : Dev nD) : (n : ℕ) → n ≤ cfg0.N → sProp 𝕄
  | 0, _ => Pipeline.ΦDRG osem0 spec0 H0 R0 (V m) (V m) c
  | n + 1, hn => iprop(iprop(owns (c : Thread nD τ) scM0_0 fullShare ((outsAt0 m c n hn).2.1) ∗ owns (c : Thread nD τ) scM0_1 fullShare ((outsAt0 m c n hn).2.2.1)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ iprop(hbPt0 c hbM0_0 (V m c main_v15)) ∗ iprop(hbPt0 c hbM0_1 ((outsAt0 m c n hn).2.2.2)))

theorem PhiS_zero (c : Dev nD) (n : ℕ) (h : n ≤ cfg0.N) (hz : n = 0) : PhiS m c n h = Pipeline.ΦDRG osem0 spec0 H0 R0 (V m) (V m) c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ iprop(hbPt0 c hbM0_0 (V m c main_v15)) ∗ iprop(hbPt0 c hbM0_1 ((outsAt0 m c n hn).2.2.2))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ iprop(hbPt0 c hbM0_0 (V m c main_v15)) ∗ iprop(hbPt0 c hbM0_1 ((outsAt0 m c (n - 1) (by omega)).2.2.2))) := by
  cases n with
  | zero => exact absurd rfl hz
  | succ n => rfl

/-- The proof data of the run: what each window holds after each point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 4800000 in

/-- The body at any point takes the contents before it to those after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = PhiS m c (t.val + 1) t.isLt from rfl, PhiS_succ,
    after0_0, after0_1, after0_2, after0_3]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases h1 : t.val % 32 = 31
    · exfalso; omega
    · by_cases hz : t.val = 0
      · rw [PhiS_castSucc m c t, PhiS_zero m c _ _ hz, PhiDRG0_in_eq]
        rw [outsAt0_A m c t h0 h1, atA]
        unfold out0_A_3 sout0_A_0 sout0_A_1 hbw0_A_1; (try dsimp only)
        iintro ⟨⟨⟨HS0, HS1⟩, Hg, ⟨Hq0, Hq1, Hq2, Hq3, Hq4, Hq5, Hq6, Hq7, Hq8⟩, Hh0, Hh1⟩, ⟨%W, -, HW⟩, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (V m c main_v15) _).2.2.2.2 W _)
        isplitl [H0]; · iexact H0
        isplitl [H1]; · iexact H1
        isplitl [H2]; · iexact H2
        isplitl [H3]; · iexists _; iexact H3
        isplitl [HS0]; · iexact HS0
        isplitl [HS1]; · iexact HS1
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hh0]; · iexact Hh0
        isplitl [Hh1]; · iexact Hh1
        isplitl [HW]; · iexact HW
        iintro ⟨H0, H1, H2, ⟨%e3, H3⟩, ⟨%es0, HS0⟩, ⟨%es1, HS1⟩, Hq0, Hq1, Hq2, Hq3, Hq4, Hq5, Hq6, Hq7, Hq8, Hh0, Hh1, ⟨%W', HW'⟩⟩
        isplitl [HS0 HS1 Hg Hq0 Hq1 Hq2 Hq3 Hq4 Hq5 Hq6 Hq7 Hq8 Hh0 Hh1]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _)
          isplitl [Hg]
          · iexact Hg
          isplitl [Hq0 Hq1 Hq2 Hq3 Hq4 Hq5 Hq6 Hq7 Hq8]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            iexact Hq8
          isplitl [Hh0]
          · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        unfold owns; iexists _; isplitr
        swap; · iexact H3
        ipureintro; exact View.read_writes_of_cover _ _ _ _ _ (cover0_A_3 c _ _ _ _ _ _ _ _ _ _ _ _ _ _ _ _ _ _ _ _)
      · exfalso; have hN : t.val < 32 := lt_of_lt_of_eq t.isLt (show cfg0.N = 32 from N_0); omega
  · by_cases h1 : t.val % 32 = 31
    · by_cases hz : t.val = 0
      · exfalso; have hN : t.val < 32 := lt_of_lt_of_eq t.isLt (show cfg0.N = 32 from N_0); omega
      · rw [PhiS_castSucc m c t, PhiS_pos m c _ _ hz]
        rw [outsAt0_C m c t h0 h1, atC]
        unfold out0_C_3 sout0_C_0 sout0_C_1 hbw0_C_1; (try dsimp only)
        iintro ⟨⟨⟨HS0, HS1⟩, Hg, ⟨Hq0, Hq1, Hq2, Hq3, Hq4, Hq5, Hq6, Hq7, Hq8⟩, Hh0, Hh1⟩, ⟨%W, -, HW⟩, ⟨%d0, H0⟩, ⟨%d1, H1⟩, ⟨%d2, H2⟩, ⟨%d3, H3⟩⟩
        iapply ((kernelRun0_C c (grid0.coords t) _ _ _ _ _ _ _ _ _ _ _ _ (fun h => h0 ((hcond0_0 t).mp h)) ((hcond0_1 t).mpr h1) (iblk m c 0 t) (iblk m c 1 t) (iblk m c 2 t) _ _ (V m c main_v15) _).2.2.2.2 W _)
        isplitl [H0]; · iexact H0
        isplitl [H1]; · iexact H1
        isplitl [H2]; · iexact H2
        isplitl [H3]; · iexists _; iexact H3
        isplitl [HS0]; · iexact HS0
        isplitl [HS1]; · iexact HS1
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hh0]; · iexact Hh0
        isplitl [Hh1]; · iexact Hh1
        isplitl [HW]; · iexact HW
        iintro ⟨H0, H1, H2, ⟨%e3, H3⟩, HS0, ⟨%es1, HS1⟩, Hq0, Hq1, Hq2, Hq3, Hq4, Hq5, Hq6, Hq7, Hq8, Hh0, Hh1, ⟨%W', HW'⟩⟩
        isplitl [HS0 HS1 Hg Hq0 Hq1 Hq2 Hq3 Hq4 Hq5 Hq6 Hq7 Hq8 Hh0 Hh1]
        · isplitl [HS0 HS1]
          · isplitl [HS0]; · iexact HS0
            unfold owns; iexists _; isplitr
            swap; · iexact HS1
            ipureintro; exact View.read_writes_of_cover _ _ _ _ _ (scover0_C_1 c _ _ _ _ _ _ _ _ _ _ _ _ _ _ _ _ _ _ _ _ _ _)
          isplitl [Hg]
          · iexact Hg
          isplitl [Hq0 Hq1 Hq2 Hq3 Hq4 Hq5 Hq6 Hq7 Hq8]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            iexact Hq8
          isplitl [Hh0]
          · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _ _ _ _ _ _)
    · by_cases hz : t.val = 0
      · exfalso; have hN : t.val < 32 := lt_of_lt_of_eq t.isLt (show cfg0.N = 32 from N_0); omega
      · rw [PhiS_castSucc m c t, PhiS_pos m c _ _ hz]
        rw [outsAt0_B m c t h0 h1, atB]
        unfold out0_B_3 sout0_B_0 sout0_B_1 hbw0_B_1; (try dsimp only)
        iintro ⟨⟨⟨HS0, HS1⟩, Hg, ⟨Hq0, Hq1, Hq2, Hq3, Hq4, Hq5, Hq6, Hq7, Hq8⟩, Hh0, Hh1⟩, ⟨%W, -, HW⟩, ⟨%d0, H0⟩, ⟨%d1, H1⟩, ⟨%d2, H2⟩, ⟨%d3, H3⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) _ _ (V m c main_v15) _).2.2.2.2 W _)
        isplitl [H0]; · iexact H0
        isplitl [H1]; · iexact H1
        isplitl [H2]; · iexact H2
        isplitl [H3]; · iexists _; iexact H3
        isplitl [HS0]; · iexact HS0
        isplitl [HS1]; · iexact HS1
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hh0]; · iexact Hh0
        isplitl [Hh1]; · iexact Hh1
        isplitl [HW]; · iexact HW
        iintro ⟨H0, H1, H2, ⟨%e3, H3⟩, HS0, ⟨%es1, HS1⟩, Hq0, Hq1, Hq2, Hq3, Hq4, Hq5, Hq6, Hq7, Hq8, Hh0, Hh1, ⟨%W', HW'⟩⟩
        isplitl [HS0 HS1 Hg Hq0 Hq1 Hq2 Hq3 Hq4 Hq5 Hq6 Hq7 Hq8 Hh0 Hh1]
        · isplitl [HS0 HS1]
          · isplitl [HS0]; · iexact HS0
            unfold owns; iexists _; isplitr
            swap; · iexact HS1
            ipureintro; exact View.read_writes_of_cover _ _ _ _ _ (scover0_B_1 c _ _ _ _ _ _ _ _ _ _ _ _ _ _ _ _ _ _ _ _ _ _)
          isplitl [Hg]
          · iexact Hg
          isplitl [Hq0 Hq1 Hq2 Hq3 Hq4 Hq5 Hq6 Hq7 Hq8]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            iexact Hq8
          isplitl [Hh0]
          · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        unfold owns; iexists _; isplitr
        swap; · iexact H3
        ipureintro; exact View.read_writes_of_cover _ _ _ _ _ (cover0_B_3 c _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The obligation of the body at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

def hbG0 (c : Dev nD) : (b : Ref sig .tc) → Buf (Elt F) ((c : Thread nD τ).loc b) :=
  Function.update ((V m) c) main_v36_1 (outsAt0 m c ((Fin.last cfg0.N).val - 1) (by rw [Fin.val_last]; have : cfg0.N = 32 := N_0; omega)).2.2.2

theorem hbG0_1 (c : Dev nD) : hbG0 m c main_v36_1 = (outsAt0 m c ((Fin.last cfg0.N).val - 1) (by rw [Fin.val_last]; have : cfg0.N = 32 := N_0; omega)).2.2.2 := by
  unfold hbG0; simp only [Function.update_self]

theorem heldG0_eq (c : Dev nD) :
    (Pipeline.routed R0 c (hbG0 m c) : sProp 𝕄) = iprop(hbPt0 c hbM0_1 ((outsAt0 m c ((Fin.last cfg0.N).val - 1) (by rw [Fin.val_last]; have : cfg0.N = 32 := N_0; omega)).2.2.2)) := by
  unfold Pipeline.routed; rw [BI.bigSep_eq_bigSepL_of_eq [main_v36_1] (by decide) (by decide)]
  simp only [BI.bigSepL_singleton, hbG0_1]; try rfl

theorem PhiDRG0_out_eq (c : Dev nD) :
    (Pipeline.ΦDRG osem0 spec0 H0 R0 (V m) (hbG0 m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ iprop(hbPt0 c hbM0_0 (V m c main_v15)) ∗ iprop(hbPt0 c hbM0_1 ((outsAt0 m c ((Fin.last cfg0.N).val - 1) (by rw [Fin.val_last]; have : cfg0.N = 32 := N_0; omega)).2.2.2))) := by
  rw [Pipeline.ΦDRG_eq, scopedRest0_eq, ownSems00_eq, hbmPts0_eq, heldG0_eq]; simp only [scM0_0, scM0_1, owns_whole]; try rfl

theorem hin (c : Dev nD) : Pipeline.ΦDRG osem0 spec0 H0 R0 (V m) (V m) c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦDRG osem0 spec0 H0 R0 (V m) (hbG0 m) c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiDRG0_out_eq]
  iintro ⟨⟨HS0, HS1⟩, Hg, ⟨Hq0, Hq1, Hq2, Hq3, Hq4, Hq5, Hq6, Hq7, Hq8⟩, Hh0, Hh1⟩
  isplitl [HS0 HS1]
  · isplitl [HS0]
    · iexists _; iexact HS0
    iexists _; iexact HS1
  isplitl [Hg]; · iexact Hg
  isplitl [Hq0 Hq1 Hq2 Hq3 Hq4 Hq5 Hq6 Hq7 Hq8]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    iexact Hq8
  isplitl [Hh0]
  · iexact Hh0
  iexact Hh1

set_option backward.isDefEq.respectTransparency.types false in

/-- The run of the program, with every semaphore counter back at zero. -/
theorem run_main_quiescent : θ_run defs (onTc (τ := τ) (main (F := F))) (s₀ m ρ) (fun r => (Pipeline.FramePostRG cfgs (dats m) 0 R0 (V m) (hbG0 m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := hbG0 m)
    (hin := hin m) (hout := hout m)

/-- The run of the program. -/
theorem run_main : θ_run defs (onTc (τ := τ) (main (F := F))) (s₀ m ρ) (Pipeline.FramePostRG cfgs (dats m) 0 R0 (V m) (hbG0 m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) ((θ_run defs _ _).mono (fun _ h => h.toR) (run_main m ρ))

/-- The argument arrays are unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.HiddenIdeal.Launch

end
-- ==== Proof.Hidden.Value.lean ====
/- What every point writes back, and the output arrays of the run block by block. -/
module

public import proofs.«01_k».proof.Proof.Hidden.Frame
public import Idealize.ShloMosaic.Lib.Pipeline.Value

@[expose] public section

noncomputable section

namespace Cert.HiddenIdeal.Value

open Cert.HiddenIdeal Cert.HiddenIdeal.Gen Cert.HiddenIdeal.Launch Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem post3 (r : PUnit × MemSt nD τ sig (Elt F)) (h : Pipeline.FramePostRG cfgs (dats m) 0 R0 (V m) (hbG0 m) r) (c : Dev nD) :
    r.2.mem ((c : Thread nD τ).loc main_v36_0) = (dats m 0 c).arrAt 3 cfg0.N :=
  (h.toR c).1 3

theorem kept_main_arg0 (r : PUnit × MemSt nD τ sig (Elt F)) (h : Pipeline.FramePostRG cfgs (dats m) 0 R0 (V m) (hbG0 m) r) (c : Dev nD) :
    r.2.mem ((c : Thread nD τ).loc main_arg0) = m ((c : Thread nD τ).loc main_arg0) :=
  ((h.toR c).2 main_arg0 (Finset.mem_sdiff.mpr ⟨Pipeline.mem_restRefs_of main_arg0 (by decide) (by decide), by decide⟩)).trans (V_main_arg0 m c)

theorem kept_main_arg1 (r : PUnit × MemSt nD τ sig (Elt F)) (h : Pipeline.FramePostRG cfgs (dats m) 0 R0 (V m) (hbG0 m) r) (c : Dev nD) :
    r.2.mem ((c : Thread nD τ).loc main_arg1) = m ((c : Thread nD τ).loc main_arg1) :=
  ((h.toR c).2 main_arg1 (Finset.mem_sdiff.mpr ⟨Pipeline.mem_restRefs_of main_arg1 (by decide) (by decide), by decide⟩)).trans (V_main_arg1 m c)

theorem kept_main_arg2 (r : PUnit × MemSt nD τ sig (Elt F)) (h : Pipeline.FramePostRG cfgs (dats m) 0 R0 (V m) (hbG0 m) r) (c : Dev nD) :
    r.2.mem ((c : Thread nD τ).loc main_arg2) = m ((c : Thread nD τ).loc main_arg2) :=
  ((h.toR c).2 main_arg2 (Finset.mem_sdiff.mpr ⟨Pipeline.mem_restRefs_of main_arg2 (by decide) (by decide), by decide⟩)).trans (V_main_arg2 m c)

theorem kept_main_arg3 (r : PUnit × MemSt nD τ sig (Elt F)) (h : Pipeline.FramePostRG cfgs (dats m) 0 R0 (V m) (hbG0 m) r) (c : Dev nD) :
    r.2.mem ((c : Thread nD τ).loc main_arg3) = m ((c : Thread nD τ).loc main_arg3) :=
  ((h.toR c).2 main_arg3 (Finset.mem_sdiff.mpr ⟨Pipeline.mem_restRefs_of main_arg3 (by decide) (by decide), by decide⟩)).trans (V_main_arg3 m c)

theorem kept_main_arg4 (r : PUnit × MemSt nD τ sig (Elt F)) (h : Pipeline.FramePostRG cfgs (dats m) 0 R0 (V m) (hbG0 m) r) (c : Dev nD) :
    r.2.mem ((c : Thread nD τ).loc main_arg4) = m ((c : Thread nD τ).loc main_arg4) :=
  ((h.toR c).2 main_arg4 (Finset.mem_sdiff.mpr ⟨Pipeline.mem_restRefs_of main_arg4 (by decide) (by decide), by decide⟩)).trans (V_main_arg4 m c)

theorem kept_main_arg5 (r : PUnit × MemSt nD τ sig (Elt F)) (h : Pipeline.FramePostRG cfgs (dats m) 0 R0 (V m) (hbG0 m) r) (c : Dev nD) :
    r.2.mem ((c : Thread nD τ).loc main_arg5) = m ((c : Thread nD τ).loc main_arg5) :=
  ((h.toR c).2 main_arg5 (Finset.mem_sdiff.mpr ⟨Pipeline.mem_restRefs_of main_arg5 (by decide) (by decide), by decide⟩)).trans (V_main_arg5 m c)

theorem kept_main_arg6 (r : PUnit × MemSt nD τ sig (Elt F)) (h : Pipeline.FramePostRG cfgs (dats m) 0 R0 (V m) (hbG0 m) r) (c : Dev nD) :
    r.2.mem ((c : Thread nD τ).loc main_arg6) = m ((c : Thread nD τ).loc main_arg6) :=
  ((h.toR c).1 0).trans (((dats m 0 c).arrAt_in 0 rfl _).trans ((A_eq m c 0).trans (V_main_arg6 m c)))

theorem held_main_v36_1 (r : PUnit × MemSt nD τ sig (Elt F)) (h : Pipeline.FramePostRG cfgs (dats m) 0 R0 (V m) (hbG0 m) r) (c : Dev nD) :
    r.2.mem ((c : Thread nD τ).loc main_v36_1) = (outsAt0 m c ((Fin.last cfg0.N).val - 1) (by rw [Fin.val_last]; have : cfg0.N = 32 := N_0; omega)).2.2.2 :=
  (h.written c (by decide : main_v36_1 ∈ R0)).trans (hbG0_1 m c)

/-- The run with each output array named. -/
theorem run_blocks : θ_run defs (onTc (τ := τ) (main (F := F))) ⟨m, fun _ => 0, ρ⟩ fun r => ∀ c : Dev nD,
      r.2.mem ((c : Thread nD τ).loc main_v36_0) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_v36_1) = (outsAt0 m c ((Fin.last cfg0.N).val - 1) (by rw [Fin.val_last]; have : cfg0.N = 32 := N_0; omega)).2.2.2 :=
  (θ_run defs _ _).mono (fun r h c => ⟨post3 m r h c,
      kept_main_arg0 m r h c,
      kept_main_arg1 m r h c,
      kept_main_arg2 m r h c,
      kept_main_arg3 m r h c,
      kept_main_arg4 m r h c,
      kept_main_arg5 m r h c,
      kept_main_arg6 m r h c,
      held_main_v36_1 m r h c⟩)
    (run_main m ρ)

end Cert.HiddenIdeal.Value

end
-- ==== Proof.Hidden.Val.lean ====
module

public import proofs.«01_k».proof.Proof.Hidden.Value
public import proofs.«01_k».proof.Proof.Norm.Ref
public import Idealize.ShloMosaic.Lib.Pipeline.ValueKit

@[expose] public section

set_option maxRecDepth 16384

noncomputable section

/-! The arrays the call is launched on: the output weight inside the gathered weights, the gate and the other factor. -/
namespace Cert.HiddenIdeal.Val

open Cert.HiddenIdeal Cert.HiddenIdeal.Gen Cert.HiddenIdeal.Launch Idealize.ShloMosaic Idealize.ShloMosaic.TcCoe Idealize.SL.Sem
open Idealize.ShloMosaic.Pipeline (Dat)

variable (m : (ℓ : Loc nD τ sig) → Buf (Elt Ideal) ℓ)

theorem go_pure (X : FVec Ideal S1x2816x1024 .f32) (k : Fin 8) (r : Fin 352) (d : Fin 1024) :
    shapeCast S8x352x1024 (fun i => truncf (F := Ideal) FTy.bf16 (shapeCast S2816x1024 X shapeCasts_S1x2816x1024_S2816x1024) bitsLt_bf16_f32 i) shapeCasts_S2816x1024_S8x352x1024 (ix3 k r d) =
      X (ix3 0 ⟨352 * k.val + r.val, by omega⟩ d) := by
  pointwise []
  blk_point []

theorem go_shift (X : FVec Ideal S1x2816x1024 .f32) (k : Fin 8) (r q : Fin 352) (d : Fin 1024) (h : q.val = r.val) :
    shapeCast S8x352x1024 (fun i => truncf (F := Ideal) FTy.bf16 (shapeCast S2816x1024 X shapeCasts_S1x2816x1024_S2816x1024) bitsLt_bf16_f32 i) shapeCasts_S2816x1024_S8x352x1024 (ix3 k q d) =
      X (ix3 0 ⟨352 * k.val + r.val, by omega⟩ d) := by
  obtain rfl : q = r := Fin.ext h
  exact go_pure X k q d

theorem go_at (c : Dev nD) (k : Fin 8) (r : Fin 352) (d : Fin 1024) :
    (V m c main_v15 : S8x1312x1024.Idx → EReal) (ix3 k ⟨832 + r.val, by omega⟩ d) = m ((c : Thread nD τ).loc main_arg3) (ix3 0 ⟨352 * k.val + r.val, by omega⟩ d) := by
  unfold V
  simp only [hostOps0, hostOps0_1, hostOps0_2, List.flatten_cons, List.flatten_nil, List.append_nil, List.cons_append, List.nil_append]
  after_results
  pointwise []
  rw [dif_neg (by omega), dif_neg (by omega), dif_pos (by omega)]
  after_results_simp
  exact go_shift _ k r _ d (by dsimp only; omega)

theorem slabO_read (G : S8x1312x1024.Idx → EReal) (k : Fin 8) (a : Fin 352) (b : Fin 1024)
    (hk : ∀ x, (![k.val, 832, 0] : Fin 3 → Nat) x + (![1, 352, 1024] : Fin 3 → Nat) x ≤ S8x1312x1024.size x) (hn) :
    (View.read (Elt Ideal) (((View.whole main_v15).slice (Rect.unit ![k.val, 832, 0] ![1, 352, 1024] hk)).reshape S352x1024 hn) G : S352x1024.Idx → EReal) (ix2 a b) =
      G (ix3 k ⟨832 + a.val, by omega⟩ b) := by
  have h : Shape.reshapeEquiv (s := S1x352x1024) (s' := S352x1024) hn (ix2 a b) = ix3 0 a b := by
    simp only [reshapeIdx]
  refine (congrArg (fun i => G ((Rect.unit ![k.val, 832, 0] ![1, 352, 1024] hk).emb i)) h).trans (congrArg G ?_)
  funext i
  fin_cases i <;> (apply Fin.ext; simp [Rect.emb, LoadRect.idx, Rect.unit])

theorem slabO_at (c : Dev nD) (k : Fin 8) (j : Fin 2816) (d : Fin 1024) (a : Fin 352) (b : Fin 1024)
    (h0 : j.val = 352 * k.val + a.val) (h1 : d.val = b.val) (hk) (hn) :
    (View.read (Elt Ideal) (((View.whole main_v15).slice (Rect.unit ![k.val, 832, 0] ![1, 352, 1024] hk)).reshape S352x1024 hn) (V m c main_v15) : S352x1024.Idx → EReal) (ix2 a b) =
      m ((c : Thread nD τ).loc main_arg3) (ix3 0 j d) := by
  rw [slabO_read, go_at m c k a b]
  congr 2
  · exact Fin.ext h0.symm
  · exact Fin.ext h1.symm

theorem wo_A (c : Dev nD) (t : Fin cfg0.N) (h0 : t.val % 32 = 0) (j : Fin 2816) (d : Fin 1024) :
    (outsAt0 m c t.val t.isLt).2.1 (ix2 j d) = m ((c : Thread nD τ).loc main_arg3) (ix3 0 j d) := by
  rw [outsAt0_A m c t h0 (by omega), atA]
  dsimp only
  frame_out
  canon_tiles y h
  case piece0 =>
    obtain ⟨a, b, rfl⟩ : ∃ (a : Fin 352) (b : Fin 1024), y = ix2 a b := ⟨y 0, y 1, by funext i; fin_cases i <;> rfl⟩
    exact slabO_at m c 7 j d a b h0 h1 _ _
  case piece1 =>
    obtain ⟨a, b, rfl⟩ : ∃ (a : Fin 352) (b : Fin 1024), y = ix2 a b := ⟨y 0, y 1, by funext i; fin_cases i <;> rfl⟩
    exact slabO_at m c 6 j d a b h0 h1 _ _
  case piece2 =>
    obtain ⟨a, b, rfl⟩ : ∃ (a : Fin 352) (b : Fin 1024), y = ix2 a b := ⟨y 0, y 1, by funext i; fin_cases i <;> rfl⟩
    exact slabO_at m c 5 j d a b h0 h1 _ _
  case piece3 =>
    obtain ⟨a, b, rfl⟩ : ∃ (a : Fin 352) (b : Fin 1024), y = ix2 a b := ⟨y 0, y 1, by funext i; fin_cases i <;> rfl⟩
    exact slabO_at m c 4 j d a b h0 h1 _ _
  case piece4 =>
    obtain ⟨a, b, rfl⟩ : ∃ (a : Fin 352) (b : Fin 1024), y = ix2 a b := ⟨y 0, y 1, by funext i; fin_cases i <;> rfl⟩
    exact slabO_at m c 3 j d a b h0 h1 _ _
  case piece5 =>
    obtain ⟨a, b, rfl⟩ : ∃ (a : Fin 352) (b : Fin 1024), y = ix2 a b := ⟨y 0, y 1, by funext i; fin_cases i <;> rfl⟩
    exact slabO_at m c 2 j d a b h0 h1 _ _
  case piece6 =>
    obtain ⟨a, b, rfl⟩ : ∃ (a : Fin 352) (b : Fin 1024), y = ix2 a b := ⟨y 0, y 1, by funext i; fin_cases i <;> rfl⟩
    exact slabO_at m c 1 j d a b h0 h1 _ _
  case piece7 =>
    have h0 : j.val = _ := h0
    obtain ⟨a, b, rfl⟩ : ∃ (a : Fin 352) (b : Fin 1024), y = ix2 a b := ⟨y 0, y 1, by funext i; fin_cases i <;> rfl⟩
    exact slabO_at m c 0 j d a b (h0.trans (by simp)) h1 _ _

/-- The rows normalised, times the gain. -/
def vV (a0 : FVec Ideal S16384x1024 .f32) (a1 : FVec Ideal S1x1024 .f32) : FVec Ideal S16384x1024 .f32 :=
  Norm.gainV a1 (mulf a0 (broadcastInDim S16384x1024 ![0, 1] bcast_S16384x1_S16384x1024_0_1 (Norm.rinvV a0)))

/-- Their product with the first weight. -/
def cV (v : FVec Ideal S16384x1024 .f32) (a2 : FVec Ideal S1x1024x5632 .f32) : FVec Ideal S16384x5632 .f32 :=
  Host.dotGeneral dot_S16384x1024_S1024x5632_S16384x5632_1_0_0_1_n_n none v (shapeCast _ a2 shapeCasts_S1x1024x5632_S1024x5632)

/-- The gate, and the factor beside it. -/
def gV (v : FVec Ideal S16384x5632 .f32) : FVec Ideal S16384x2816 .f32 := extractStridedSlice S16384x2816 ![0, 0] v slices_S16384x5632_S16384x2816_0_0
def uV (v : FVec Ideal S16384x5632 .f32) : FVec Ideal S16384x2816 .f32 := extractStridedSlice S16384x2816 ![0, 2816] v slices_S16384x5632_S16384x2816_0_2816

/-- The gate over whole arrays, and the factor beside it. -/
def G (c : Dev nD) : FVec Ideal S16384x2816 .f32 := gV (cV (vV (m ((c : Thread nD τ).loc main_arg0)) (m ((c : Thread nD τ).loc main_arg1))) (m ((c : Thread nD τ).loc main_arg2)))
def U (c : Dev nD) : FVec Ideal S16384x2816 .f32 := uV (cV (vV (m ((c : Thread nD τ).loc main_arg0)) (m ((c : Thread nD τ).loc main_arg1))) (m ((c : Thread nD τ).loc main_arg2)))

theorem hostG (c : Dev nD) : (V m c main_v34 : S16384x2816.Idx → EReal) = G m c := by
  unfold V
  simp only [hostOps0, hostOps0_1, hostOps0_2, List.flatten_cons, List.flatten_nil, List.append_nil, List.cons_append, List.nil_append]
  after_results_simp
  rfl

theorem hostU (c : Dev nD) : (V m c main_v35 : S16384x2816.Idx → EReal) = U m c := by
  unfold V
  simp only [hostOps0, hostOps0_1, hostOps0_2, List.flatten_cons, List.flatten_nil, List.append_nil, List.cons_append, List.nil_append]
  after_results_simp
  rfl

end Cert.HiddenIdeal.Val
-- ==== Proof.Hidden.Out.lean ====
module
public import proofs.«01_k».proof.Proof.Hidden.Val
public import proofs.«01_k».proof.Proof.Norm.Act
public import Idealize.ShloMosaic.Lib.Pipeline.ReadBack
@[expose] public section
set_option maxRecDepth 16384
noncomputable section
/-! What one grid point of the backward kernel leaves in its blocks, over typed readers of what it read. -/
namespace Cert.HiddenIdeal.Val
open Cert.HiddenIdeal Cert.HiddenIdeal.Gen Cert.HiddenIdeal.Launch Idealize.ShloMosaic Idealize.ShloMosaic.TcCoe Idealize.SL.Sem
variable (m : (ℓ : Loc nD τ sig) → Buf (Elt Ideal) ℓ)

theorem sO_B (c : Dev nD) (t : Fin cfg0.N) (h0 : ¬ t.val % 32 = 0) :
    (outsAt0 m c t.val t.isLt).2.1 = (outsAt0 m c (t.val - 1) (Nat.lt_of_le_of_lt (Nat.sub_le _ _) t.isLt)).2.1 := by
  by_cases h1 : t.val % 32 = 31
  · rw [outsAt0_C m c t h0 h1, atC]
    rfl
  · rw [outsAt0_B m c t h0 h1, atB]
    rfl

theorem wo_all (c : Dev nD) : ∀ (n : ℕ) (hn : n < cfg0.N) (j : Fin 2816) (d : Fin 1024),
    (outsAt0 m c n hn).2.1 (ix2 j d) = m ((c : Thread nD τ).loc main_arg3) (ix3 0 j d)
  | 0, hn, j, d => wo_A m c ⟨0, hn⟩ (Nat.zero_mod _) j d
  | n + 1, hn, j, d => by
    by_cases h0 : (n + 1) % 32 = 0
    · exact wo_A m c ⟨n + 1, hn⟩ h0 j d
    · have := sO_B m c ⟨n + 1, hn⟩ h0
      rw [this]
      exact wo_all c n (Nat.lt_of_succ_lt hn) j d

theorem readCov_O (L : List (View.Piece (Elt Ideal) S2816x1024 .bf16)) (R : Rect S2816x1024) :
    (View.whole cc0_scratch0).readCov L R.toLoadRect = View.ld (View.canon L) R := View.readCov_eq_canon' _ _ _

/-- 768 rows of the output weight, from row o. -/
def rdO768 (W : FVec Ideal S2816x1024 .bf16) (o : ℕ) (h : ∀ a : Fin 2, (![o, 0] : Fin 2 → ℕ) a + S768x1024.size a ≤ S2816x1024.size a) : FVec Ideal S768x1024 .bf16 :=
  View.ld (Val := Elt Ideal) (e' := .bf16) W (Rect.unit (s := S2816x1024) ![o, 0] ![768, 1024] h)

/-- 512 rows of the output weight, from row o. -/
def rdO512 (W : FVec Ideal S2816x1024 .bf16) (o : ℕ) (h : ∀ a : Fin 2, (![o, 0] : Fin 2 → ℕ) a + S512x1024.size a ≤ S2816x1024.size a) : FVec Ideal S512x1024 .bf16 :=
  View.ld (Val := Elt Ideal) (e' := .bf16) W (Rect.unit (s := S2816x1024) ![o, 0] ![512, 1024] h)

/-- 768 rows of the accumulator, from row o. -/
def rdS768 (W : FVec Ideal S2816x1024 .f32) (o : ℕ) (h : ∀ a : Fin 2, (![o, 0] : Fin 2 → ℕ) a + S768x1024.size a ≤ S2816x1024.size a) : FVec Ideal S768x1024 .f32 :=
  View.ld (Val := Elt Ideal) (e' := .f32) W (Rect.unit (s := S2816x1024) ![o, 0] ![768, 1024] h)

/-- 512 rows of the accumulator, from row o. -/
def rdS512 (W : FVec Ideal S2816x1024 .f32) (o : ℕ) (h : ∀ a : Fin 2, (![o, 0] : Fin 2 → ℕ) a + S512x1024.size a ≤ S2816x1024.size a) : FVec Ideal S512x1024 .f32 :=
  View.ld (Val := Elt Ideal) (e' := .f32) W (Rect.unit (s := S2816x1024) ![o, 0] ![512, 1024] h)

/-- 768 columns of a block of the gate or of the other factor, from column o. -/
def rdG768 (g : FVec Ideal S512x2816 .bf16) (o : ℕ) (h : ∀ a : Fin 2, (![0, o] : Fin 2 → ℕ) a + S512x768.size a ≤ S512x2816.size a) : FVec Ideal S512x768 .bf16 :=
  View.ld (Val := Elt Ideal) (e' := .bf16) g (Rect.unit (s := S512x2816) ![0, o] ![512, 768] h)

/-- 512 columns of a block of the gate or of the other factor, from column o. -/
def rdG512 (g : FVec Ideal S512x2816 .bf16) (o : ℕ) (h : ∀ a : Fin 2, (![0, o] : Fin 2 → ℕ) a + S512x512.size a ≤ S512x2816.size a) : FVec Ideal S512x512 .bf16 :=
  View.ld (Val := Elt Ideal) (e' := .bf16) g (Rect.unit (s := S512x2816) ![0, o] ![512, 512] h)

/-- The block of the gradient before the gate: four pieces for the gate and four for the other factor. -/
def dffAll (x : FVec Ideal S512x1024 .f32) (g u : FVec Ideal S512x2816 .bf16) (W : FVec Ideal S2816x1024 .bf16) : FVec Ideal S512x5632 .bf16 :=
  View.canon (Val := Elt Ideal) (e := .bf16)
    [⟨Rect.unit ![0, 5120] ![512, 512] inb_S512x5632_S512x512_0_5120, k0_pay2 (F := Ideal) (k0_pay8 (F := Ideal) x (rdO512 W 2304 inb_S2816x1024_S512x1024_2304_0)) (k0_pay36 (F := Ideal) (rdG512 g 2304 inb_S512x2816_S512x512_0_2304))⟩,
      ⟨Rect.unit ![0, 2304] ![512, 512] inb_S512x5632_S512x512_0_2304, k0_pay1 (F := Ideal) (k0_pay35 (F := Ideal) (rdG512 g 2304 inb_S512x2816_S512x512_0_2304)) (k0_pay38 (F := Ideal) (k0_pay8 (F := Ideal) x (rdO512 W 2304 inb_S2816x1024_S512x1024_2304_0)) (rdG512 u 2304 inb_S512x2816_S512x512_0_2304)) (k0_pay39 (F := Ideal) (rdG512 g 2304 inb_S512x2816_S512x512_0_2304)) (FloatOps.ofBits (F := Ideal) FTy.f32 1065353216#32)⟩,
      ⟨Rect.unit ![0, 4352] ![512, 768] inb_S512x5632_S512x768_0_4352, k0_pay32 (F := Ideal) (k0_pay7 (F := Ideal) x (rdO768 W 1536 inb_S2816x1024_S768x1024_1536_0)) (k0_pay28 (F := Ideal) (rdG768 g 1536 inb_S512x2816_S512x768_0_1536))⟩,
      ⟨Rect.unit ![0, 1536] ![512, 768] inb_S512x5632_S512x768_0_1536, k0_pay31 (F := Ideal) (k0_pay25 (F := Ideal) (rdG768 g 1536 inb_S512x2816_S512x768_0_1536)) (k0_pay27 (F := Ideal) (rdG768 g 1536 inb_S512x2816_S512x768_0_1536)) (k0_pay30 (F := Ideal) (k0_pay7 (F := Ideal) x (rdO768 W 1536 inb_S2816x1024_S768x1024_1536_0)) (rdG768 u 1536 inb_S512x2816_S512x768_0_1536)) (FloatOps.ofBits (F := Ideal) FTy.f32 1065353216#32)⟩,
      ⟨Rect.unit ![0, 3584] ![512, 768] inb_S512x5632_S512x768_0_3584, k0_pay24 (F := Ideal) (k0_pay6 (F := Ideal) x (rdO768 W 768 inb_S2816x1024_S768x1024_768_0)) (k0_pay20 (F := Ideal) (rdG768 g 768 inb_S512x2816_S512x768_0_768))⟩,
      ⟨Rect.unit ![0, 768] ![512, 768] inb_S512x5632_S512x768_0_768, k0_pay23 (F := Ideal) (k0_pay6 (F := Ideal) x (rdO768 W 768 inb_S2816x1024_S768x1024_768_0)) (k0_pay17 (F := Ideal) (rdG768 g 768 inb_S512x2816_S512x768_0_768)) (k0_pay18 (F := Ideal) (rdG768 u 768 inb_S512x2816_S512x768_0_768)) (k0_pay19 (F := Ideal) (rdG768 g 768 inb_S512x2816_S512x768_0_768))⟩,
      ⟨Rect.unit ![0, 2816] ![512, 768] inb_S512x5632_S512x768_0_2816, k0_pay16 (F := Ideal) (k0_pay5 (F := Ideal) x (rdO768 W 0 inb_S2816x1024_S768x1024_0_0)) (k0_pay12 (F := Ideal) (rdG768 g 0 inb_S512x2816_S512x768_0_0))⟩,
      ⟨Rect.unit ![0, 0] ![512, 768] inb_S512x5632_S512x768_0_0, k0_pay15 (F := Ideal) (k0_pay5 (F := Ideal) x (rdO768 W 0 inb_S2816x1024_S768x1024_0_0)) (k0_pay9 (F := Ideal) (rdG768 g 0 inb_S512x2816_S512x768_0_0)) (k0_pay10 (F := Ideal) (rdG768 u 0 inb_S512x2816_S512x768_0_0)) (k0_pay11 (F := Ideal) (rdG768 g 0 inb_S512x2816_S512x768_0_0))⟩]

/-- The accumulator's four pieces over what it held. -/
def accL (x : FVec Ideal S512x1024 .f32) (g u : FVec Ideal S512x2816 .bf16) (S : FVec Ideal S2816x1024 .f32) : List (View.Piece (Elt Ideal) S2816x1024 .f32) :=
    [⟨Rect.unit ![2304, 0] ![512, 1024] inb_S2816x1024_S512x1024_2304_0, k0_pay37 (F := Ideal) (k0_pay4 (F := Ideal) x) (rdG512 g 2304 inb_S512x2816_S512x512_0_2304) (rdG512 u 2304 inb_S512x2816_S512x512_0_2304) (rdS512 S 2304 inb_S2816x1024_S512x1024_2304_0)⟩,
      ⟨Rect.unit ![1536, 0] ![768, 1024] inb_S2816x1024_S768x1024_1536_0, k0_pay29 (F := Ideal) (k0_pay4 (F := Ideal) x) (rdG768 g 1536 inb_S512x2816_S512x768_0_1536) (rdG768 u 1536 inb_S512x2816_S512x768_0_1536) (rdS768 S 1536 inb_S2816x1024_S768x1024_1536_0)⟩,
      ⟨Rect.unit ![768, 0] ![768, 1024] inb_S2816x1024_S768x1024_768_0, k0_pay22 (F := Ideal) (k0_pay21 (F := Ideal) (k0_pay4 (F := Ideal) x) (rdG768 g 768 inb_S512x2816_S512x768_0_768) (rdG768 u 768 inb_S512x2816_S512x768_0_768) (rdS768 S 768 inb_S2816x1024_S768x1024_768_0))⟩,
      ⟨Rect.unit ![0, 0] ![768, 1024] inb_S2816x1024_S768x1024_0_0, k0_pay14 (F := Ideal) (k0_pay13 (F := Ideal) x (rdG768 g 0 inb_S512x2816_S512x768_0_0) (rdG768 u 0 inb_S512x2816_S512x768_0_0) (rdS768 S 0 inb_S2816x1024_S768x1024_0_0))⟩]

/-- The accumulator after a point that found S in it. -/
def accAll (x : FVec Ideal S512x1024 .f32) (g u : FVec Ideal S512x2816 .bf16) (S : FVec Ideal S2816x1024 .f32) : FVec Ideal S2816x1024 .f32 :=
  View.canon (Val := Elt Ideal) (e := .f32) (accL x g u S)

/-- The accumulator after the first point, which clears it. -/
def acc0 (x : FVec Ideal S512x1024 .f32) (g u : FVec Ideal S512x2816 .bf16) : FVec Ideal S2816x1024 .f32 :=
  View.canon (Val := Elt Ideal) (e := .f32) (accL x g u (k0_pay3 (F := Ideal)) ++ [⟨Rect.unit ![0, 0] ![2816, 1024] inb_S2816x1024_S2816x1024_0_0, k0_pay3 (F := Ideal)⟩])

theorem outD (c : Dev nD) (t : Fin cfg0.N) :
    (outsAt0 m c t.val t.isLt).1 = dffAll (iblk m c 0 t) (iblk m c 1 t) (iblk m c 2 t) (outsAt0 m c t.val t.isLt).2.1 := by
  by_cases h0 : t.val % 32 = 0
  · generalize hS : (outsAt0 m c t.val t.isLt).2.1 = S
    rw [outsAt0_A m c t h0 (by omega), atA] at hS
    dsimp only at hS
    frame_out at hS
    rw [outsAt0_A m c t h0 (by omega), atA]
    dsimp only
    frame_out
    simp only [readCov_O, hS]
    rfl
  · by_cases h1 : t.val % 32 = 31
    · rw [sO_B m c t h0, outsAt0_C m c t h0 h1, atC]
      dsimp only
      frame_out
      simp only [Memref.IsWhole.read_unread (Memref.isWhole_whole cc0_scratch0)]
      rfl
    · rw [sO_B m c t h0, outsAt0_B m c t h0 h1, atB]
      dsimp only
      frame_out
      simp only [Memref.IsWhole.read_unread (Memref.isWhole_whole cc0_scratch0)]
      rfl

theorem outS_B (c : Dev nD) (t : Fin cfg0.N) (h0 : ¬ t.val % 32 = 0) :
    (outsAt0 m c t.val t.isLt).2.2.1 = accAll (iblk m c 0 t) (iblk m c 1 t) (iblk m c 2 t) (outsAt0 m c (t.val - 1) (Nat.lt_of_le_of_lt (Nat.sub_le _ _) t.isLt)).2.2.1 := by
  by_cases h1 : t.val % 32 = 31
  · rw [outsAt0_C m c t h0 h1, atC]
    dsimp only
    frame_out
    simp only [Memref.IsWhole.read_unread (Memref.isWhole_whole cc0_scratch1)]
    rfl
  · rw [outsAt0_B m c t h0 h1, atB]
    dsimp only
    frame_out
    simp only [Memref.IsWhole.read_unread (Memref.isWhole_whole cc0_scratch1)]
    rfl

theorem outS_A (c : Dev nD) (t : Fin cfg0.N) (h0 : t.val % 32 = 0) :
    (outsAt0 m c t.val t.isLt).2.2.1 = acc0 (iblk m c 0 t) (iblk m c 1 t) (iblk m c 2 t) := by
  rw [outsAt0_A m c t h0 (by omega), atA]
  dsimp only
  frame_out
  simp (disch := decide) only [View.readCov_skip, View.readCov_fill]
  rfl

theorem outW (c : Dev nD) (t : Fin cfg0.N) (h0 : ¬ t.val % 32 = 0) (h1 : t.val % 32 = 31) :
    (outsAt0 m c t.val t.isLt).2.2.2 = (outsAt0 m c t.val t.isLt).2.2.1 := by
  rw [outsAt0_C m c t h0 h1, atC]
  dsimp only
  unfold hbw0_C_1 kernelRun0_C
  dsimp only
  refine (View.write_whole_univ _ _ _).trans ?_
  unfold kernelRun0_C.sl.dma41 sout0_C_1
  exact (View.read_writes_eq_canon _ _ _ (scover0_C_1 c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (fun h => h0 ((hcond0_0 t).mp h)) ((hcond0_1 t).mpr h1) _ _ _ _ _ _ _)).trans
    (View.read_writes_junk_eq_canon _ _).symm

end Cert.HiddenIdeal.Val
-- ==== Proof.Hidden.Pay.lean ====
module
public import proofs.«01_k».proof.Proof.Hidden.Out
@[expose] public section
set_option maxRecDepth 16384
noncomputable section
/-! What one grid point of the backward kernel computes, entry by entry. -/
namespace Cert.HiddenIdeal.Val
open Cert.HiddenIdeal Cert.HiddenIdeal.Gen Cert.HiddenIdeal.Launch Idealize.ShloMosaic Idealize.ShloMosaic.TcCoe Idealize.SL.Sem

/-- The number one, as the kernel writes it. -/
def one : EReal := Ideal.ofBits FTy.f32 0x3F800000#32

/-- The gradient at the gate in the kernel's form, from the gradient at the product. -/
def dgk (d u g : EReal) : EReal := d * u * (Norm.sig g * (one + g * (one - Norm.sig g)))

/-- The gradient at the other factor. -/
def duk (d g : EReal) : EReal := d * (g * Norm.sig g)

/-- The gated product of a gate and the other factor. -/
def sw (g u : EReal) : EReal := g * Norm.sig g * u

theorem dgA_at (x : FVec Ideal S512x1024 .f32) (w : FVec Ideal S768x1024 .bf16) (g u : FVec Ideal S512x768 .bf16) (a : Fin 512) (k : Fin 768) :
    (k0_pay15 (F := Ideal) (k0_pay5 (F := Ideal) x w) (k0_pay9 (F := Ideal) g) (k0_pay10 (F := Ideal) u) (k0_pay11 (F := Ideal) g) (ix2 a k) : EReal) =
      dgk (∑ d : Fin 1024, x (ix2 a d) * w (ix2 k d)) (u (ix2 a k)) (g (ix2 a k)) := by
  pointwise [k0_pay15, k0_pay5, k0_pay4, k0_pay9, k0_pay10, k0_pay11, dgk, one, Norm.sig]

theorem dgA2_at (x : FVec Ideal S512x1024 .f32) (w : FVec Ideal S768x1024 .bf16) (g u : FVec Ideal S512x768 .bf16) (a : Fin 512) (k : Fin 768) :
    (k0_pay23 (F := Ideal) (k0_pay6 (F := Ideal) x w) (k0_pay17 (F := Ideal) g) (k0_pay18 (F := Ideal) u) (k0_pay19 (F := Ideal) g) (ix2 a k) : EReal) =
      dgk (∑ d : Fin 1024, x (ix2 a d) * w (ix2 k d)) (u (ix2 a k)) (g (ix2 a k)) :=
  dgA_at x w g u a k

theorem dgA3_at (x : FVec Ideal S512x1024 .f32) (w : FVec Ideal S768x1024 .bf16) (g u : FVec Ideal S512x768 .bf16) (a : Fin 512) (k : Fin 768) :
    (k0_pay31 (F := Ideal) (k0_pay25 (F := Ideal) g) (k0_pay27 (F := Ideal) g) (k0_pay30 (F := Ideal) (k0_pay7 (F := Ideal) x w) u) (FloatOps.ofBits (F := Ideal) FTy.f32 1065353216#32) (ix2 a k) : EReal) =
      dgk (∑ d : Fin 1024, x (ix2 a d) * w (ix2 k d)) (u (ix2 a k)) (g (ix2 a k)) :=
  dgA_at x w g u a k

theorem dgB_at (x : FVec Ideal S512x1024 .f32) (w : FVec Ideal S512x1024 .bf16) (g u : FVec Ideal S512x512 .bf16) (a : Fin 512) (k : Fin 512) :
    (k0_pay1 (F := Ideal) (k0_pay35 (F := Ideal) g) (k0_pay38 (F := Ideal) (k0_pay8 (F := Ideal) x w) u) (k0_pay39 (F := Ideal) g) (FloatOps.ofBits (F := Ideal) FTy.f32 1065353216#32) (ix2 a k) : EReal) =
      dgk (∑ d : Fin 1024, x (ix2 a d) * w (ix2 k d)) (u (ix2 a k)) (g (ix2 a k)) := by
  pointwise [k0_pay1, k0_pay35, k0_pay38, k0_pay8, k0_pay4, k0_pay33, k0_pay34, k0_pay39, dgk, one, Norm.sig]

theorem duA_at (x : FVec Ideal S512x1024 .f32) (w : FVec Ideal S768x1024 .bf16) (g : FVec Ideal S512x768 .bf16) (a : Fin 512) (k : Fin 768) :
    (k0_pay16 (F := Ideal) (k0_pay5 (F := Ideal) x w) (k0_pay12 (F := Ideal) g) (ix2 a k) : EReal) = duk (∑ d : Fin 1024, x (ix2 a d) * w (ix2 k d)) (g (ix2 a k)) := by
  pointwise [k0_pay16, k0_pay5, k0_pay4, k0_pay12, k0_pay9, k0_pay11, duk, Norm.sig]

theorem duA2_at (x : FVec Ideal S512x1024 .f32) (w : FVec Ideal S768x1024 .bf16) (g : FVec Ideal S512x768 .bf16) (a : Fin 512) (k : Fin 768) :
    (k0_pay24 (F := Ideal) (k0_pay6 (F := Ideal) x w) (k0_pay20 (F := Ideal) g) (ix2 a k) : EReal) = duk (∑ d : Fin 1024, x (ix2 a d) * w (ix2 k d)) (g (ix2 a k)) :=
  duA_at x w g a k

theorem duA3_at (x : FVec Ideal S512x1024 .f32) (w : FVec Ideal S768x1024 .bf16) (g : FVec Ideal S512x768 .bf16) (a : Fin 512) (k : Fin 768) :
    (k0_pay32 (F := Ideal) (k0_pay7 (F := Ideal) x w) (k0_pay28 (F := Ideal) g) (ix2 a k) : EReal) = duk (∑ d : Fin 1024, x (ix2 a d) * w (ix2 k d)) (g (ix2 a k)) :=
  duA_at x w g a k

theorem duB_at (x : FVec Ideal S512x1024 .f32) (w : FVec Ideal S512x1024 .bf16) (g : FVec Ideal S512x512 .bf16) (a : Fin 512) (k : Fin 512) :
    (k0_pay2 (F := Ideal) (k0_pay8 (F := Ideal) x w) (k0_pay36 (F := Ideal) g) (ix2 a k) : EReal) = duk (∑ d : Fin 1024, x (ix2 a d) * w (ix2 k d)) (g (ix2 a k)) := by
  pointwise [k0_pay2, k0_pay8, k0_pay4, k0_pay36, k0_pay33, k0_pay35, duk, Norm.sig]

theorem acA_at (x : FVec Ideal S512x1024 .f32) (g u : FVec Ideal S512x768 .bf16) (s : FVec Ideal S768x1024 .f32) (k : Fin 768) (d : Fin 1024) :
    (k0_pay14 (F := Ideal) (k0_pay13 (F := Ideal) x g u s) (ix2 k d) : EReal) = s (ix2 k d) + ∑ r : Fin 512, sw (g (ix2 r k)) (u (ix2 r k)) * x (ix2 r d) := by
  pointwise [k0_pay14, k0_pay13, k0_pay12, k0_pay9, k0_pay10, k0_pay11, k0_pay4, sw, Norm.sig]

theorem acA2_at (x : FVec Ideal S512x1024 .f32) (g u : FVec Ideal S512x768 .bf16) (s : FVec Ideal S768x1024 .f32) (k : Fin 768) (d : Fin 1024) :
    (k0_pay22 (F := Ideal) (k0_pay21 (F := Ideal) (k0_pay4 (F := Ideal) x) g u s) (ix2 k d) : EReal) = s (ix2 k d) + ∑ r : Fin 512, sw (g (ix2 r k)) (u (ix2 r k)) * x (ix2 r d) :=
  acA_at x g u s k d

theorem acA3_at (x : FVec Ideal S512x1024 .f32) (g u : FVec Ideal S512x768 .bf16) (s : FVec Ideal S768x1024 .f32) (k : Fin 768) (d : Fin 1024) :
    (k0_pay29 (F := Ideal) (k0_pay4 (F := Ideal) x) g u s (ix2 k d) : EReal) = s (ix2 k d) + ∑ r : Fin 512, sw (g (ix2 r k)) (u (ix2 r k)) * x (ix2 r d) :=
  acA_at x g u s k d

theorem acB_at (x : FVec Ideal S512x1024 .f32) (g u : FVec Ideal S512x512 .bf16) (s : FVec Ideal S512x1024 .f32) (k : Fin 512) (d : Fin 1024) :
    (k0_pay37 (F := Ideal) (k0_pay4 (F := Ideal) x) g u s (ix2 k d) : EReal) = s (ix2 k d) + ∑ r : Fin 512, sw (g (ix2 r k)) (u (ix2 r k)) * x (ix2 r d) := by
  pointwise [k0_pay37, k0_pay36, k0_pay33, k0_pay34, k0_pay35, k0_pay4, sw, Norm.sig]

theorem pay3_at (j : Fin 2816) (d : Fin 1024) : (k0_pay3 (F := Ideal) (ix2 j d) : EReal) = 0 := by pointwise [k0_pay3]

theorem rdO768_at (W : FVec Ideal S2816x1024 .bf16) (o : ℕ) (h) (k : Fin 768) (d : Fin 1024) :
    (rdO768 W o h (ix2 k d) : EReal) = W (ix2 ⟨o + k.val, by have := h 0; change o + 768 ≤ 2816 at this; omega⟩ d) := by
  refine congrArg W ?_
  funext i
  fin_cases i <;> (apply Fin.ext; simp [Rect.unit])

theorem rdO512_at (W : FVec Ideal S2816x1024 .bf16) (o : ℕ) (h) (k : Fin 512) (d : Fin 1024) :
    (rdO512 W o h (ix2 k d) : EReal) = W (ix2 ⟨o + k.val, by have := h 0; change o + 512 ≤ 2816 at this; omega⟩ d) := by
  refine congrArg W ?_
  funext i
  fin_cases i <;> (apply Fin.ext; simp [Rect.unit])

theorem rdS768_at (W : FVec Ideal S2816x1024 .f32) (o : ℕ) (h) (k : Fin 768) (d : Fin 1024) :
    (rdS768 W o h (ix2 k d) : EReal) = W (ix2 ⟨o + k.val, by have := h 0; change o + 768 ≤ 2816 at this; omega⟩ d) := by
  refine congrArg W ?_
  funext i
  fin_cases i <;> (apply Fin.ext; simp [Rect.unit])

theorem rdS512_at (W : FVec Ideal S2816x1024 .f32) (o : ℕ) (h) (k : Fin 512) (d : Fin 1024) :
    (rdS512 W o h (ix2 k d) : EReal) = W (ix2 ⟨o + k.val, by have := h 0; change o + 512 ≤ 2816 at this; omega⟩ d) := by
  refine congrArg W ?_
  funext i
  fin_cases i <;> (apply Fin.ext; simp [Rect.unit])

theorem rdG768_at (g : FVec Ideal S512x2816 .bf16) (o : ℕ) (h) (a : Fin 512) (k : Fin 768) :
    (rdG768 g o h (ix2 a k) : EReal) = g (ix2 a ⟨o + k.val, by have := h 1; change o + 768 ≤ 2816 at this; omega⟩) := by
  refine congrArg g ?_
  funext i
  fin_cases i <;> (apply Fin.ext; simp [Rect.unit])

theorem rdG512_at (g : FVec Ideal S512x2816 .bf16) (o : ℕ) (h) (a : Fin 512) (k : Fin 512) :
    (rdG512 g o h (ix2 a k) : EReal) = g (ix2 a ⟨o + k.val, by have := h 1; change o + 512 ≤ 2816 at this; omega⟩) := by
  refine congrArg g ?_
  funext i
  fin_cases i <;> (apply Fin.ext; simp [Rect.unit])

/-- A row of the gradient before the gate: the gate's columns, then the other factor's. -/
def dff (D G U : Fin 2816 → EReal) (q : Fin 5632) : EReal :=
  if h : q.val < 2816 then dgk (D ⟨q.val, h⟩) (U ⟨q.val, h⟩) (G ⟨q.val, h⟩) else duk (D ⟨q.val - 2816, by omega⟩) (G ⟨q.val - 2816, by omega⟩)

theorem dff_lo (D G U : Fin 2816 → EReal) (q : Fin 5632) (j : Fin 2816) (h : q.val = j.val) : dff D G U q = dgk (D j) (U j) (G j) := by
  unfold dff
  rw [dif_pos (by omega)]
  have : (⟨q.val, by omega⟩ : Fin 2816) = j := Fin.ext h
  rw [this]

theorem dff_hi (D G U : Fin 2816 → EReal) (q : Fin 5632) (j : Fin 2816) (h : q.val = 2816 + j.val) : dff D G U q = duk (D j) (G j) := by
  unfold dff
  rw [dif_neg (by omega)]
  have : (⟨q.val - 2816, by omega⟩ : Fin 2816) = j := Fin.ext (by dsimp only; omega)
  rw [this]

/-- A row of the incoming gradient times the output weight transposed. -/
def dd (x : Fin 1024 → EReal) (W : Fin 2816 → Fin 1024 → EReal) (j : Fin 2816) : EReal := ∑ d : Fin 1024, x d * W j d

theorem dffAll_at (x : FVec Ideal S512x1024 .f32) (g u : FVec Ideal S512x2816 .bf16) (W : FVec Ideal S2816x1024 .bf16) (a : Fin 512) (q : Fin 5632) :
    (dffAll x g u W (ix2 a q) : EReal) = dff (dd (fun e => x (ix2 a e)) (fun j d => W (ix2 j d))) (fun j => g (ix2 a j)) (fun j => u (ix2 a j)) q := by
  unfold dffAll
  canon_tiles y h using View.cover_of_tiledBy _ ![512, 256] (by sl_kernel_rfl) _
  case piece0 =>
    obtain ⟨b, k, rfl⟩ : ∃ (b : Fin 512) (k : Fin 512), y = ix2 b k := ⟨y 0, y 1, by funext i; fin_cases i <;> rfl⟩
    have h0 : a.val = _ := h0
    have h1 : q.val = _ := h1
    obtain rfl : a = b := Fin.ext (h0.trans (by simp))
    simp at h1
    refine Eq.trans ?_ (dff_hi _ _ _ q ⟨2304 + k.val, by omega⟩ (by dsimp only; omega)).symm
    refine (duB_at _ _ _ _ _).trans ?_
    simp only [rdO512_at, rdG512_at, dd]
  case piece1 =>
    obtain ⟨b, k, rfl⟩ : ∃ (b : Fin 512) (k : Fin 512), y = ix2 b k := ⟨y 0, y 1, by funext i; fin_cases i <;> rfl⟩
    have h0 : a.val = _ := h0
    have h1 : q.val = _ := h1
    obtain rfl : a = b := Fin.ext (h0.trans (by simp))
    simp at h1
    refine Eq.trans ?_ (dff_lo _ _ _ q ⟨2304 + k.val, by omega⟩ (by dsimp only; omega)).symm
    refine (dgB_at _ _ _ _ _ _).trans ?_
    simp only [rdO512_at, rdG512_at, dd]
  case piece2 =>
    obtain ⟨b, k, rfl⟩ : ∃ (b : Fin 512) (k : Fin 768), y = ix2 b k := ⟨y 0, y 1, by funext i; fin_cases i <;> rfl⟩
    have h0 : a.val = _ := h0
    have h1 : q.val = _ := h1
    obtain rfl : a = b := Fin.ext (h0.trans (by simp))
    simp at h1
    refine Eq.trans ?_ (dff_hi _ _ _ q ⟨1536 + k.val, by omega⟩ (by dsimp only; omega)).symm
    refine (duA3_at _ _ _ _ _).trans ?_
    simp only [rdO768_at, rdG768_at, dd]
  case piece3 =>
    obtain ⟨b, k, rfl⟩ : ∃ (b : Fin 512) (k : Fin 768), y = ix2 b k := ⟨y 0, y 1, by funext i; fin_cases i <;> rfl⟩
    have h0 : a.val = _ := h0
    have h1 : q.val = _ := h1
    obtain rfl : a = b := Fin.ext (h0.trans (by simp))
    simp at h1
    refine Eq.trans ?_ (dff_lo _ _ _ q ⟨1536 + k.val, by omega⟩ (by dsimp only; omega)).symm
    refine (dgA3_at _ _ _ _ _ _).trans ?_
    simp only [rdO768_at, rdG768_at, dd]
  case piece4 =>
    obtain ⟨b, k, rfl⟩ : ∃ (b : Fin 512) (k : Fin 768), y = ix2 b k := ⟨y 0, y 1, by funext i; fin_cases i <;> rfl⟩
    have h0 : a.val = _ := h0
    have h1 : q.val = _ := h1
    obtain rfl : a = b := Fin.ext (h0.trans (by simp))
    simp at h1
    refine Eq.trans ?_ (dff_hi _ _ _ q ⟨768 + k.val, by omega⟩ (by dsimp only; omega)).symm
    refine (duA2_at _ _ _ _ _).trans ?_
    simp only [rdO768_at, rdG768_at, dd]
  case piece5 =>
    obtain ⟨b, k, rfl⟩ : ∃ (b : Fin 512) (k : Fin 768), y = ix2 b k := ⟨y 0, y 1, by funext i; fin_cases i <;> rfl⟩
    have h0 : a.val = _ := h0
    have h1 : q.val = _ := h1
    obtain rfl : a = b := Fin.ext (h0.trans (by simp))
    simp at h1
    refine Eq.trans ?_ (dff_lo _ _ _ q ⟨768 + k.val, by omega⟩ (by dsimp only; omega)).symm
    refine (dgA2_at _ _ _ _ _ _).trans ?_
    simp only [rdO768_at, rdG768_at, dd]
  case piece6 =>
    obtain ⟨b, k, rfl⟩ : ∃ (b : Fin 512) (k : Fin 768), y = ix2 b k := ⟨y 0, y 1, by funext i; fin_cases i <;> rfl⟩
    have h0 : a.val = _ := h0
    have h1 : q.val = _ := h1
    obtain rfl : a = b := Fin.ext (h0.trans (by simp))
    simp at h1
    refine Eq.trans ?_ (dff_hi _ _ _ q ⟨0 + k.val, by omega⟩ (by dsimp only; omega)).symm
    refine (duA_at _ _ _ _ _).trans ?_
    simp only [rdO768_at, rdG768_at, dd]
  case piece7 =>
    obtain ⟨b, k, rfl⟩ : ∃ (b : Fin 512) (k : Fin 768), y = ix2 b k := ⟨y 0, y 1, by funext i; fin_cases i <;> rfl⟩
    have h0 : a.val = _ := h0
    have h1 : q.val = _ := h1
    obtain rfl : a = b := Fin.ext (h0.trans (by simp))
    simp at h1
    refine Eq.trans ?_ (dff_lo _ _ _ q ⟨0 + k.val, by omega⟩ (by dsimp only; omega)).symm
    refine (dgA_at _ _ _ _ _ _).trans ?_
    simp only [rdO768_at, rdG768_at, dd]

theorem accAll_at (x : FVec Ideal S512x1024 .f32) (g u : FVec Ideal S512x2816 .bf16) (S : FVec Ideal S2816x1024 .f32) (j : Fin 2816) (d : Fin 1024) :
    (accAll x g u S (ix2 j d) : EReal) = S (ix2 j d) + ∑ r : Fin 512, sw (g (ix2 r j)) (u (ix2 r j)) * x (ix2 r d) := by
  unfold accAll accL
  canon_tiles y h using View.cover_of_tiledBy _ ![256, 1024] (by sl_kernel_rfl) _
  case piece0 =>
    obtain ⟨k, b, rfl⟩ : ∃ (k : Fin 512) (b : Fin 1024), y = ix2 k b := ⟨y 0, y 1, by funext i; fin_cases i <;> rfl⟩
    have h0 : j.val = _ := h0
    have h1 : d.val = _ := h1
    obtain rfl : d = b := Fin.ext (h1.trans (by simp))
    simp at h0
    have e : j = ⟨2304 + k.val, by omega⟩ := Fin.ext (by dsimp only; omega)
    rw [e]
    refine (acB_at _ _ _ _ _ _).trans ?_
    simp only [rdS512_at, rdG512_at]
  case piece1 =>
    obtain ⟨k, b, rfl⟩ : ∃ (k : Fin 768) (b : Fin 1024), y = ix2 k b := ⟨y 0, y 1, by funext i; fin_cases i <;> rfl⟩
    have h0 : j.val = _ := h0
    have h1 : d.val = _ := h1
    obtain rfl : d = b := Fin.ext (h1.trans (by simp))
    simp at h0
    have e : j = ⟨1536 + k.val, by omega⟩ := Fin.ext (by dsimp only; omega)
    rw [e]
    refine (acA3_at _ _ _ _ _ _).trans ?_
    simp only [rdS768_at, rdG768_at]
  case piece2 =>
    obtain ⟨k, b, rfl⟩ : ∃ (k : Fin 768) (b : Fin 1024), y = ix2 k b := ⟨y 0, y 1, by funext i; fin_cases i <;> rfl⟩
    have h0 : j.val = _ := h0
    have h1 : d.val = _ := h1
    obtain rfl : d = b := Fin.ext (h1.trans (by simp))
    simp at h0
    have e : j = ⟨768 + k.val, by omega⟩ := Fin.ext (by dsimp only; omega)
    rw [e]
    refine (acA2_at _ _ _ _ _ _).trans ?_
    simp only [rdS768_at, rdG768_at]
  case piece3 =>
    obtain ⟨k, b, rfl⟩ : ∃ (k : Fin 768) (b : Fin 1024), y = ix2 k b := ⟨y 0, y 1, by funext i; fin_cases i <;> rfl⟩
    have h0 : j.val = _ := h0
    have h1 : d.val = _ := h1
    obtain rfl : d = b := Fin.ext (h1.trans (by simp))
    simp at h0
    have e : j = ⟨0 + k.val, by omega⟩ := Fin.ext (by dsimp only; omega)
    rw [e]
    refine (acA_at _ _ _ _ _ _).trans ?_
    simp only [rdS768_at, rdG768_at]

/-- What earlier stores left is not read where later stores cover. -/
theorem canon_later (L L' : List (View.Piece (Elt Ideal) S2816x1024 .f32)) (y : S2816x1024.Idx) (h : ∃ p ∈ L, y ∈ p.1.set) :
    View.canon (L ++ L') y = View.canon L y := by
  induction L with
  | nil => obtain ⟨_, hm, _⟩ := h; exact absurd hm List.not_mem_nil
  | cons p L ih =>
    by_cases hy : y ∈ p.1.set
    · obtain ⟨x, rfl⟩ : ∃ x, p.1.emb x = y := p.1.exists_idx_of_mem hy
      exact (View.canon_cons_emb p.1 p.2 (L ++ L') x).trans (View.canon_cons_emb p.1 p.2 L x).symm
    · obtain ⟨q, hq, hm⟩ := h
      have hL : q ∈ L := (List.mem_cons.mp hq).resolve_left fun e => hy (e ▸ hm)
      exact (View.canon_cons_of_not_mem p (L ++ L') hy).trans ((ih ⟨q, hL, hm⟩).trans (View.canon_cons_of_not_mem p L hy).symm)

theorem acc0_eq (x : FVec Ideal S512x1024 .f32) (g u : FVec Ideal S512x2816 .bf16) : acc0 x g u = accAll x g u (k0_pay3 (F := Ideal)) := by
  funext y
  exact canon_later _ _ y (View.cover_of_tiledBy (accL x g u (k0_pay3 (F := Ideal))) ![256, 1024] (by sl_kernel_rfl) y)

end Cert.HiddenIdeal.Val
-- ==== Proof.Norm.Finite.lean ====
module
public import proofs.«01_k».proof.Proof.Norm.Act
public import Idealize.ShloMosaic.Lib.Pipeline.ValueKit
@[expose] public section
noncomputable section
/-! Which numbers are finite: a normalised row always is, and what a comparison of the size with infinity says. Where the gradient
    at the gated product is finite, the two forms of the gate's derivative are one number. -/
namespace Cert.Norm
open Idealize.ShloMosaic

/-- An entry of a row times the row's factor is a finite number, whatever the row holds. -/
theorem mul_rinv_real (x : Fin 1024 → EReal) (d : Fin 1024) : ∃ r : ℝ, x d * rinv x = (r : EReal) := by
  obtain ⟨a, ha, hr, -⟩ := rinv_real x
  by_cases hd : x d * x d = ⊤
  · have hS : ∑ e, x e * x e = ⊤ :=
      top_le_iff.mp (hd.symm.le.trans (Finset.single_le_sum (f := fun e => x e * x e) (fun e _ => sq_nonneg' (x e)) (Finset.mem_univ d)))
    obtain ⟨e, he, hE⟩ := ceps
    have hm : mean x = ⊤ := by
      unfold mean
      rw [hS, hE, c1024, Ideal.div_coe (by norm_num), EReal.top_mul_of_pos (by exact_mod_cast (by norm_num : (0 : ℝ) < 1 / 1024)), EReal.top_add_coe]
    have h0 : rinv x = 0 := by
      unfold rinv
      rw [hm]
      simp
    exact ⟨0, by rw [h0]; simp⟩
  · rw [hr]
    generalize x d = y at hd
    induction y with
    | bot => exact absurd (by simp) hd
    | top => exact absurd (by simp) hd
    | coe s => exact ⟨s * a, (EReal.coe_mul s a).symm⟩

/-- A sum of finite numbers is one. -/
theorem sum_real {ι : Type} (s : Finset ι) (f : ι → EReal) (h : ∀ e, ∃ r : ℝ, f e = (r : EReal)) : ∃ r : ℝ, ∑ e ∈ s, f e = (r : EReal) := by
  classical
  induction s using Finset.induction_on with
  | empty => exact ⟨0, by simp⟩
  | insert i s hi ih =>
    obtain ⟨a, ha⟩ := h i
    obtain ⟨b, hb⟩ := ih
    exact ⟨a + b, by rw [Finset.sum_insert hi, ha, hb, EReal.coe_add]⟩

/-- A product of finite numbers is one. -/
theorem mul_real {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

theorem cinf : Ideal.ofBits FTy.f32 0x7F800000#32 = ⊤ := by
  simp only [Ideal.ofBits, Ideal.ieee]
  simp

/-- A number whose size compares below infinity is finite. -/
theorem real_of_lt (x : EReal) (h : Ideal.cmp .olt (max x (-x)) (Ideal.ofBits FTy.f32 0x7F800000#32) = 1#1) : ∃ r : ℝ, x = (r : EReal) := by
  rw [cinf] at h
  induction x with
  | bot => simp [Ideal.cmp] at h
  | top => simp [Ideal.cmp] at h
  | coe r => exact ⟨r, rfl⟩

theorem sig_bot : sig ⊥ = 0 := by
  rw [sig_eq, cone, EReal.neg_bot, Ideal.exp_top, EReal.coe_add_top]
  simp [Ideal.div]

theorem sig_top : sig ⊤ = 1 := by
  rw [sig_eq, cone, EReal.neg_top]
  simp [Ideal.div]

theorem sig_coe (r : ℝ) : ∃ s : ℝ, sig (r : EReal) = (s : EReal) := by
  unfold sig
  rw [cpos, ← EReal.coe_mul, Ideal.tanh_coe, ← EReal.coe_mul, ← EReal.coe_add]
  exact ⟨_, rfl⟩

/-- The gate's derivative, factored and expanded, times a finite number. -/
theorem gate_eq (z g : EReal) (hz : ∃ r : ℝ, z = (r : EReal)) :
    z * (sig g * (Ideal.ofBits FTy.f32 0x3F800000#32 + g * (Ideal.ofBits FTy.f32 0x3F800000#32 - sig g))) =
      z * sig g + g * z * (sig g * (Ideal.ofBits FTy.f32 0x3F800000#32 - sig g)) := by
  obtain ⟨r, rfl⟩ := hz
  rw [cone]
  induction g with
  | bot => simp [sig_bot]
  | top =>
    rw [sig_top]
    have h : ((1 : ℝ) : EReal) - 1 = 0 := by
      change ((1 : ℝ) : EReal) - ((1 : ℝ) : EReal) = 0
      rw [← EReal.coe_sub]
      simp
    rw [h]
    simp
  | coe g =>
    obtain ⟨s, hs⟩ := sig_coe g
    rw [hs]
    simp only [← EReal.coe_mul, ← EReal.coe_sub, ← EReal.coe_add]
    congr 1
    ring

end Cert.Norm
-- ==== Proof.Hidden.Alg.lean ====
module
public import proofs.«01_k».proof.Defs
public import proofs.«01_k».proof.Proof.Hidden.Pay
public import proofs.«01_k».proof.Proof.Norm.Ref
public import proofs.«01_k».proof.Proof.Norm.Finite
public import proofs.«01_k».proof.Proof.Gen.Pre_finite
public import proofs.«01_k».proof.Proof.Gen.HiddenRefIdeal.Run
@[expose] public section
set_option maxRecDepth 16384
noncomputable section
/-! The backward kernel's two results over whole arrays, and the reference's: the same functions of the arguments, where the
    gradient at the gated product is finite. -/
namespace Cert.HiddenIdeal.Val
open Cert.HiddenIdeal Cert.HiddenIdeal.Gen Cert.HiddenIdeal.Launch Idealize.ShloMosaic Idealize.ShloMosaic.TcCoe Idealize.SL.Sem
variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ t.val < 32 :=
  (by decide +kernel : ∀ t : Fin grid0.N, _)

/-- The row of the whole arrays that row `a` of point `t`'s block is. -/
def row (t : Fin cfg0.N) (a : Fin 512) : Fin 16384 := ⟨512 * t.val + a.val, by have := (idx t).2.2.2.2; omega⟩

theorem blk_x (c : Dev nD) (t : Fin cfg0.N) (a : Fin 512) (k : Fin 1024) :
    (iblk m c 0 t : S512x1024.Idx → EReal) (ix2 a k) = m ((c : Thread nD τ).loc main_arg6) (ix2 (row t a) k) := by
  blk_ext [iblk, V, idx t, row]
theorem blk_g (c : Dev nD) (t : Fin cfg0.N) (a : Fin 512) (k : Fin 2816) :
    (iblk m c 1 t : S512x2816.Idx → EReal) (ix2 a k) = G m c (ix2 (row t a) k) := by
  refine Eq.trans ?_ (congrFun (hostG m c) (ix2 (row t a) k))
  blk_ext [iblk, idx t, row]
theorem blk_u (c : Dev nD) (t : Fin cfg0.N) (a : Fin 512) (k : Fin 2816) :
    (iblk m c 2 t : S512x2816.Idx → EReal) (ix2 a k) = U m c (ix2 (row t a) k) := by
  refine Eq.trans ?_ (congrFun (hostU m c) (ix2 (row t a) k))
  blk_ext [iblk, idx t, row]
theorem emb3 (t : Fin cfg0.N) (a : Fin 512) (b : Fin 5632) : ((cfg0.win 3).blk t).view.emb (ix2 a b) = (ix2 (row t a) b : S16384x5632.Idx) := by
  blk_ext [idx t, row]

/-- The gradient at the gated product: the incoming gradient's row times the output weight transposed. -/
def DA (a6 : FVec Ideal S16384x1024 .f32) (a3 : FVec Ideal S1x2816x1024 .f32) (r : Fin 16384) : Fin 2816 → EReal :=
  dd (fun e => a6 (ix2 r e)) (fun j d => a3 (ix3 0 j d))

/-- The first result over whole arrays. -/
def GD (a6 : FVec Ideal S16384x1024 .f32) (a3 : FVec Ideal S1x2816x1024 .f32) (g u : FVec Ideal S16384x2816 .f32) : FVec Ideal S16384x5632 .bf16 :=
  fun i => dff (DA a6 a3 (i 0)) (fun j => g (ix2 (i 0) j)) (fun j => u (ix2 (i 0) j)) (i 1)

theorem d_row (x : FVec Ideal S512x1024 .f32) (g u : FVec Ideal S512x2816 .bf16) (W : FVec Ideal S2816x1024 .bf16) (a : Fin 512) (R : Fin 16384) (q : Fin 5632)
    (a6 : FVec Ideal S16384x1024 .f32) (a3 : FVec Ideal S1x2816x1024 .f32) (g' u' : FVec Ideal S16384x2816 .f32)
    (hx : ∀ e, x (ix2 a e) = a6 (ix2 R e)) (hg : ∀ j, g (ix2 a j) = g' (ix2 R j)) (hu : ∀ j, u (ix2 a j) = u' (ix2 R j)) (hW : ∀ j d, W (ix2 j d) = a3 (ix3 0 j d)) :
    (dffAll x g u W (ix2 a q) : EReal) = GD a6 a3 g' u' (ix2 R q) := by
  rw [dffAll_at]
  simp only [hx, hg, hu, hW]
  rfl

theorem finalD (c : Dev nD) : (dats m 0 c).arrAt 3 cfg0.N = GD (m ((c : Thread nD τ).loc main_arg6)) (m ((c : Thread nD τ).loc main_arg3)) (G m c) (U m c) := by
  refine (dats m 0 c).arrAt_eq_of_covers 3 _ (by decide +kernel) fun t _ y => ?_
  blk_simp
  rw [after0_3, outD]
  obtain ⟨a, b, rfl⟩ : ∃ (a : Fin 512) (b : Fin 5632), y = ix2 a b := ⟨y 0, y 1, by funext i; fin_cases i <;> rfl⟩
  rw [emb3]
  exact d_row _ _ _ _ a (row t a) b _ _ _ _ (blk_x m c t a) (blk_g m c t a) (blk_u m c t a) (wo_all m c _ _)

/-- What row `R` of the whole arrays adds to the gradient of the output weight at `(j, d)`. -/
def part (a6 : FVec Ideal S16384x1024 .f32) (g u : FVec Ideal S16384x2816 .f32) (j : Fin 2816) (d : Fin 1024) (R : Fin 16384) : EReal :=
  sw (g (ix2 R j)) (u (ix2 R j)) * a6 (ix2 R d)

/-- The second result over whole arrays: the gated product, transposed, times the incoming gradient. -/
def GW (a6 : FVec Ideal S16384x1024 .f32) (g u : FVec Ideal S16384x2816 .f32) : FVec Ideal S2816x1024 .f32 := fun i => ∑ R : Fin 16384, part a6 g u (i 0) (i 1) R

theorem w_row (x : FVec Ideal S512x1024 .f32) (g u : FVec Ideal S512x2816 .bf16) (S : FVec Ideal S2816x1024 .f32) (i : S2816x1024.Idx)
    (a6 : FVec Ideal S16384x1024 .f32) (g' u' : FVec Ideal S16384x2816 .f32) (t : Fin cfg0.N)
    (hx : ∀ a e, x (ix2 a e) = a6 (ix2 (row t a) e)) (hg : ∀ a j, g (ix2 a j) = g' (ix2 (row t a) j)) (hu : ∀ a j, u (ix2 a j) = u' (ix2 (row t a) j)) :
    (accAll x g u S i : EReal) = S i + ∑ r : Fin 512, part a6 g' u' (i 0) (i 1) (row t r) := by
  obtain ⟨j, d, rfl⟩ : ∃ (j : Fin 2816) (d : Fin 1024), i = ix2 j d := ⟨i 0, i 1, by funext i; fin_cases i <;> rfl⟩
  rw [accAll_at]
  simp only [hx, hg, hu]
  rfl

theorem pay3_zero (i : S2816x1024.Idx) : (k0_pay3 (F := Ideal) i : EReal) = 0 := by
  obtain ⟨j, d, rfl⟩ : ∃ (j : Fin 2816) (d : Fin 1024), i = ix2 j d := ⟨i 0, i 1, by funext i; fin_cases i <;> rfl⟩
  exact pay3_at j d

theorem finalW (c : Dev nD) (t : Fin cfg0.N) (h1 : t.val % 32 = 31) :
    (outsAt0 m c t.val t.isLt).2.2.2 = GW (m ((c : Thread nD τ).loc main_arg6)) (G m c) (U m c) := by
  rw [outW m c t (by omega) h1]
  funext y
  refine (Pipeline.eq_sum_fin_of_reset_step_apply_of_flush (N := cfg0.N) (M := EReal) (ι := S2816x1024.Idx) (fun n h => (outsAt0 m c n h).2.2.1) 32 (fun _ => 0)
    (fun p i => ∑ r : Fin 512, part (m ((c : Thread nD τ).loc main_arg6)) (G m c) (U m c) (i 0) (i 1) (row p r))
    (fun p h j => ?_) (fun p h j => ?_) t h1 y).trans ?_
  · rw [outS_A m c p h, acc0_eq]
    refine (w_row _ _ _ _ j _ _ _ p (blk_x m c p) (blk_g m c p) (blk_u m c p)).trans ?_
    rw [pay3_zero]
  · rw [outS_B m c p h]
    exact w_row _ _ _ _ j _ _ _ p (blk_x m c p) (blk_g m c p) (blk_u m c p)
  · rw [zero_add]
    have ht : t.val / 32 = 0 := by have := (idx t).2.2.2.2; omega
    unfold GW
    refine Fin.sum_mul_add_congr fun s k hl => congrArg _ (Fin.ext ?_)
    simp only [row, ht]
    omega

end Cert.HiddenIdeal.Val
namespace Cert.HiddenRefIdeal.Val
open Cert.HiddenRefIdeal Cert.HiddenRefIdeal.Gen Idealize.ShloMosaic Idealize.ShloMosaic.TcCoe Idealize.SL.Sem
open Cert.HiddenIdeal.Val (DA GD GW dd dff dgk duk sw one part dff_lo dff_hi)

/-- The reference's gradient at the gated product. -/
def daV (a6 : FVec Ideal S16384x1024 .f32) (a3 : FVec Ideal S1x2816x1024 .f32) : FVec Ideal S16384x2816 .f32 :=
  Host.dotGeneral dot_S16384x1024_S2816x1024_S16384x2816_1_1_0_0_n_n none a6 (shapeCast _ a3 shapeCasts_S1x2816x1024_S2816x1024)

theorem daV_at (a6 : FVec Ideal S16384x1024 .f32) (a3 : FVec Ideal S1x2816x1024 .f32) (r : Fin 16384) (j : Fin 2816) :
    (daV a6 a3 (ix2 r j) : EReal) = DA a6 a3 r j := by
  unfold DA dd
  pointwise [daV]

/-- The reference's logistic function of the gate. -/
def sgV (g : FVec Ideal S16384x2816 .f32) : FVec Ideal S16384x2816 .f32 :=
  Host.divf (broadcastInDim S16384x2816 ![] bcast_S_S16384x2816 (constant S_ .f32 0x3F800000#32)) (addf (broadcastInDim S16384x2816 ![] bcast_S_S16384x2816 (constant S_ .f32 0x3F800000#32)) (Host.exp (Host.negf g)))

theorem sgV_at (g : FVec Ideal S16384x2816 .f32) (r : Fin 16384) (j : Fin 2816) : (sgV g (ix2 r j) : EReal) = Norm.sig (g (ix2 r j)) := by
  rw [Norm.sig_eq]
  pointwise [sgV]

/-- The reference's gradient at the gate. -/
def dgV (da u s g : FVec Ideal S16384x2816 .f32) : FVec Ideal S16384x2816 .f32 :=
  addf (mulf (mulf da u) s) (mulf (mulf g (mulf da u)) (mulf s (subf (broadcastInDim S16384x2816 ![] bcast_S_S16384x2816 (constant S_ .f32 0x3F800000#32)) s)))

theorem dgV_at (da u s g : FVec Ideal S16384x2816 .f32) (r : Fin 16384) (j : Fin 2816) :
    (dgV da u s g (ix2 r j) : EReal) = da (ix2 r j) * u (ix2 r j) * s (ix2 r j) + g (ix2 r j) * (da (ix2 r j) * u (ix2 r j)) * (s (ix2 r j) * (one - s (ix2 r j))) := by
  unfold one
  pointwise [dgV]

/-- The gate's gradient and the other factor's, side by side. -/
def catV (p q : FVec Ideal S16384x2816 .f32) : FVec Ideal S16384x5632 .f32 :=
  concatenate S16384x5632 1 [⟨S16384x2816, p⟩, ⟨S16384x2816, q⟩] concatenates_S16384x2816_S16384x2816_S16384x5632_d1

theorem catV_lo (p q : FVec Ideal S16384x2816 .f32) (r : Fin 16384) (k : Fin 5632) (h : k.val < 2816) : (catV p q (ix2 r k) : EReal) = p (ix2 r ⟨k.val, h⟩) := by
  pointwise [catV]
  rw [dif_pos (by omega)]

theorem catV_hi (p q : FVec Ideal S16384x2816 .f32) (r : Fin 16384) (k : Fin 5632) (h : ¬ k.val < 2816) : (catV p q (ix2 r k) : EReal) = q (ix2 r ⟨k.val - 2816, by omega⟩) := by
  pointwise [catV]
  rw [dif_neg (by omega)]

theorem refD (a6 : FVec Ideal S16384x1024 .f32) (a3 : FVec Ideal S1x2816x1024 .f32) (g u : FVec Ideal S16384x2816 .f32)
    (hz : ∀ r j, ∃ z : ℝ, (DA a6 a3 r j * u (ix2 r j) : EReal) = (z : EReal)) :
    truncf .bf16 (catV (dgV (daV a6 a3) u (sgV g) g) (mulf (mulf g (sgV g)) (daV a6 a3))) bitsLt_bf16_f32 = GD a6 a3 g u := by
  funext i
  obtain ⟨r, k, rfl⟩ : ∃ (r : Fin 16384) (k : Fin 5632), i = ix2 r k := ⟨i 0, i 1, by funext i; fin_cases i <;> rfl⟩
  by_cases h : k.val < 2816
  · refine (catV_lo _ _ r k h).trans (Eq.trans ?_ (dff_lo _ _ _ k ⟨k.val, h⟩ rfl).symm)
    rw [dgV_at, daV_at, sgV_at]
    exact (Norm.gate_eq _ _ (hz r ⟨k.val, h⟩)).symm
  · refine (catV_hi _ _ r k h).trans (Eq.trans ?_ (dff_hi _ _ _ k ⟨k.val - 2816, by omega⟩ (by dsimp only; omega)).symm)
    refine (mul_comm (g (ix2 r _) * sgV g (ix2 r _) : EReal) (daV a6 a3 (ix2 r _))).trans ?_
    rw [daV_at, sgV_at]
    rfl

/-- The reference's gradient of the output weight. -/
def gwV (a6 : FVec Ideal S16384x1024 .f32) (g s u : FVec Ideal S16384x2816 .f32) : FVec Ideal S2816x1024 .f32 :=
  transpose S2816x1024 [1, 0] (Host.dotGeneral dot_S16384x1024_S16384x2816_S1024x2816_0_0_1_1_n_n none a6 (mulf (mulf g s) u)) transposes_S1024x2816_S2816x1024_1_0

theorem gwV_at (a6 : FVec Ideal S16384x1024 .f32) (g s u : FVec Ideal S16384x2816 .f32) (j : Fin 2816) (d : Fin 1024) :
    (gwV a6 g s u (ix2 j d) : EReal) = ∑ r : Fin 16384, a6 (ix2 r d) * (g (ix2 r j) * s (ix2 r j) * u (ix2 r j)) := by
  pointwise [gwV]

theorem refW (a6 : FVec Ideal S16384x1024 .f32) (g u : FVec Ideal S16384x2816 .f32) : gwV a6 g (sgV g) u = GW a6 g u := by
  funext i
  obtain ⟨j, d, rfl⟩ : ∃ (j : Fin 2816) (d : Fin 1024), i = ix2 j d := ⟨i 0, i 1, by funext i; fin_cases i <;> rfl⟩
  rw [gwV_at]
  refine Finset.sum_congr rfl fun r _ => ?_
  rw [sgV_at, mul_comm]
  rfl

end Cert.HiddenRefIdeal.Val
namespace Cert.HiddenIdeal.Val
open Cert.HiddenIdeal Cert.HiddenIdeal.Gen Idealize.ShloMosaic Idealize.ShloMosaic.TcCoe Idealize.SL.Sem

theorem vV_at (a0 : FVec Ideal S16384x1024 .f32) (a1 : FVec Ideal S1x1024 .f32) (r : Fin 16384) (d : Fin 1024) :
    (vV a0 a1 (ix2 r d) : EReal) = a0 (ix2 r d) * Norm.rinv (fun e => a0 (ix2 r e)) * a1 (ix2 0 d) := by
  unfold vV
  rw [Norm.gainV_at, ← Norm.rinvV_at]
  pointwise []

theorem uV_at (v : FVec Ideal S16384x1024 .f32) (a2 : FVec Ideal S1x1024x5632 .f32) (r : Fin 16384) (j : Fin 2816) :
    (uV (cV v a2) (ix2 r j) : EReal) = ∑ d : Fin 1024, v (ix2 r d) * a2 (ix3 0 d ⟨2816 + j.val, by omega⟩) := by
  pointwise [uV, cV]

/-- The gradient at the gated product times the other factor is finite where the gain, the other factor's weight, the output
    weight and the incoming gradient are. -/
theorem finite_du (a0 a6 : FVec Ideal S16384x1024 .f32) (a1 : FVec Ideal S1x1024 .f32) (a2 : FVec Ideal S1x1024x5632 .f32) (a3 : FVec Ideal S1x2816x1024 .f32)
    (h1 : ∀ d, ∃ z : ℝ, (a1 (ix2 0 d) : EReal) = (z : EReal)) (h2 : ∀ d (j : Fin 2816), ∃ z : ℝ, (a2 (ix3 0 d ⟨2816 + j.val, by omega⟩) : EReal) = (z : EReal))
    (h3 : ∀ j d, ∃ z : ℝ, (a3 (ix3 0 j d) : EReal) = (z : EReal)) (h6 : ∀ r d, ∃ z : ℝ, (a6 (ix2 r d) : EReal) = (z : EReal)) (r : Fin 16384) (j : Fin 2816) :
    ∃ z : ℝ, (DA a6 a3 r j * uV (cV (vV a0 a1) a2) (ix2 r j) : EReal) = (z : EReal) := by
  have hd : ∃ z : ℝ, DA a6 a3 r j = (z : EReal) := by
    unfold DA dd
    exact Norm.sum_real _ _ fun d => Norm.mul_real (h6 r d) (h3 j d)
  refine Norm.mul_real hd ?_
  rw [uV_at]
  refine Norm.sum_real _ _ fun d => Norm.mul_real ?_ (h2 d j)
  rw [vV_at]
  exact Norm.mul_real (Norm.mul_rinv_real (fun e => a0 (ix2 r e)) d) (h1 d)

/-- The four tests of the precondition, read at an index. -/
theorem finite_at (a0 a6 : FVec Ideal S16384x1024 .f32) (a1 : FVec Ideal S1x1024 .f32) (a2 : FVec Ideal S1x1024x5632 .f32) (a3 : FVec Ideal S1x2816x1024 .f32)
    (a4 : FVec Ideal S1x1024x1024 .f32) (a5 : FVec Ideal S1x256x1024 .f32)
    (p : (Cert.Pre_finite.fn a0 a1 a2 a3 a4 a5 a6).1 = (fun _ => 1#1) ∧ (Cert.Pre_finite.fn a0 a1 a2 a3 a4 a5 a6).2.1 = (fun _ => 1#1)
      ∧ (Cert.Pre_finite.fn a0 a1 a2 a3 a4 a5 a6).2.2.1 = (fun _ => 1#1) ∧ (Cert.Pre_finite.fn a0 a1 a2 a3 a4 a5 a6).2.2.2 = (fun _ => 1#1)) (r : Fin 16384) (j : Fin 2816) :
    ∃ z : ℝ, (DA a6 a3 r j * uV (cV (vV a0 a1) a2) (ix2 r j) : EReal) = (z : EReal) := by
  obtain ⟨p1, p2, p3, p6⟩ := p
  refine finite_du a0 a6 a1 a2 a3 (fun d => ?_) (fun d j => ?_) (fun j d => ?_) (fun r d => ?_) r j
  · exact Norm.real_of_lt _ (congrFun p1 (ix2 0 d))
  · refine Norm.real_of_lt _ (Eq.trans ?_ (congrFun p2 (ix3 0 d j)))
    have hs : (extractStridedSlice Cert.Pre_finite.S1x1024x2816 ![0, 0, 2816] a2 Cert.Pre_finite.Facts.slices_S1x1024x5632_S1x1024x2816_0_0_2816 (ix3 0 d j) : EReal)
        = a2 (ix3 0 d ⟨2816 + j.val, by omega⟩) := by
      pointwise []
    rw [← hs]
    rfl
  · exact Norm.real_of_lt _ (congrFun p3 (ix3 0 j d))
  · exact Norm.real_of_lt _ (congrFun p6 (ix2 r d))

theorem algebraic : Cert.algebraic_HiddenIdeal_HiddenRefIdeal_pre_finite (hHiddenIdeal := Cert.HiddenIdeal.Gen.facts) (hHiddenRefIdeal := Cert.HiddenRefIdeal.Gen.facts)
    (hPre_finite := Cert.Pre_finite.Gen.facts) := by
  intro m g m' g' hpre h
  have hN : Cert.HiddenIdeal.cfg0.N = 32 := Cert.HiddenIdeal.Gen.N_0
  refine ⟨fun c => (Cert.HiddenIdeal.Launch.dats m 0 c).arrAt 3 Cert.HiddenIdeal.cfg0.N,
    fun c => GW (m ((c.tc : Thread Cert.HiddenIdeal.nD Cert.HiddenIdeal.τ).loc Cert.HiddenIdeal.main_arg6)) (G m c) (U m c),
    (θ_run _ _ _).mono (fun r hr c => ?_) (Cert.HiddenIdeal.Value.run_blocks m g), (θ_run _ _ _).mono (fun r hr c => ?_) (Cert.HiddenRefIdeal.Value.run m' g')⟩
  · obtain ⟨r0, k0, k1, k2, k3, k4, k5, k6, r1⟩ := hr c
    exact ⟨r0, r1.trans (finalW m c ⟨31, by omega⟩ (by norm_num)), k0, k1, k2, k3, k4, k5, k6⟩
  · obtain ⟨h0, h1, h2, h3, h4, h5, h6⟩ := h c
    obtain ⟨r0, r1, rest⟩ := hr c
    refine ⟨r0.trans ?_, r1.trans ?_, rest⟩
    · refine Eq.trans ?_ (finalD m c).symm
      unfold Cert.HiddenRefIdeal.Value.res_main_v29
      rw [h0, h1, h2, h3, h6]
      exact Cert.HiddenRefIdeal.Val.refD _ _ _ _ fun r j => finite_at _ _ _ _ _ _ _ (hpre c) r j
    · rw [h0, h1, h2, h6]
      exact Cert.HiddenRefIdeal.Val.refW _ _ _

end Cert.HiddenIdeal.Val
-- ==== Proof.Hidden.Frames.lean ====
/- The frames of the call: of its own text, of its idealised text and of its reference. -/
module

public import proofs.«01_k».proof.Defs
public import proofs.«01_k».proof.Proof.Gen.Hidden
public import proofs.«01_k».proof.Proof.Hidden.Frame
public import proofs.«01_k».proof.Proof.Gen.HiddenRefIdeal.Run
public import proofs.«01_k».proof.Proof.Gen.Pre_finite

@[expose] public section

noncomputable section

namespace Cert.HiddenIdeal.Val

open Idealize.ShloMosaic Idealize.SL.Sem

set_option maxHeartbeats 8000000 in
set_option smartUnfolding false in
/-- The two texts of the call are the same, so its own text runs as its idealised text does, at the
    machine's numbers. -/
theorem frame_own : Cert.quiescent_Hidden (hHidden := Cert.Hidden.Gen.facts) :=
  fun m ρ _ => Cert.HiddenIdeal.Launch.frame (F := Bits) m ρ

theorem frame_ideal : Cert.quiescent_HiddenIdeal (hHiddenIdeal := Cert.HiddenIdeal.Gen.facts) :=
  fun m ρ _ => Cert.HiddenIdeal.Launch.frame m ρ

/-- The reference declares no semaphore. -/
theorem frame_ref : Cert.quiescent_HiddenRefIdeal (hHiddenRefIdeal := Cert.HiddenRefIdeal.Gen.facts) := fun m ρ _ =>
  (θ_run Cert.HiddenRefIdeal.defs _ _).mono
    (fun r h => ⟨fun c => (h c).2.2, sem_eq_zero_of_no_sems (by decide) r.2⟩)
    (Cert.HiddenRefIdeal.Value.run (F := Ideal) m ρ)

theorem frame_ideal_finite : Cert.quiescent_HiddenIdeal_pre_finite (hHiddenIdeal := Cert.HiddenIdeal.Gen.facts) (hPre_finite := Cert.Pre_finite.Gen.facts) :=
  fun m ρ _ => Cert.HiddenIdeal.Launch.frame m ρ

theorem frame_ref_finite : Cert.quiescent_HiddenRefIdeal_pre_finite (hHiddenRefIdeal := Cert.HiddenRefIdeal.Gen.facts) (hPre_finite := Cert.Pre_finite.Gen.facts) :=
  fun m ρ _ => frame_ref m ρ trivial

end Cert.HiddenIdeal.Val

end
-- ==== Proof.LruProj.lean ====
/- The gradient of the recurrent branch's projection: the accumulated products of the blocks of rows are the product of the whole
   arrays. -/
module

public import proofs.«01_k».proof.Defs
public import proofs.«01_k».proof.Proof.Gen.LruProjIdeal.Value
public import proofs.«01_k».proof.Proof.Gen.LruProjRefIdeal.Run
public import Idealize.ShloMosaic.Lib.Pipeline.ValueKit

@[expose] public section

noncomputable section

namespace Cert.LruProjIdeal.Val

open Cert.LruProjIdeal Cert.LruProjIdeal.Gen Cert.LruProjIdeal.Value Idealize.ShloMosaic Idealize.ShloMosaic.TcCoe Idealize.SL.Sem

variable (m : (ℓ : Loc nD τ sig) → Buf (Elt Ideal) ℓ)

theorem idx : ∀ t : Fin cfg0.N, win0_0.index t = ![t.val, 0] ∧ win0_1.index t = ![t.val, 0] ∧ win0_2.index t = ![0, 0] ∧ t.val < 8 :=
  (by decide +kernel : ∀ t : Fin grid0.N, _)

/-- The row of the whole arrays that row `a` of point `t`'s block is. -/
def row (t : Fin cfg0.N) (a : Fin 2048) : Fin 16384 := ⟨2048 * t.val + a.val, by have := (idx t).2.2.2; omega⟩

theorem blk_y (c : Dev nD) (t : Fin cfg0.N) (a : Fin 2048) (k : Fin 1024) :
    (iblk m c 0 t : S2048x1024.Idx → EReal) (ix2 a k) = m ((c : Thread nD τ).loc main_arg0) (ix2 (row t a) k) := by
  blk_ext [iblk, V, idx t, row]
theorem blk_d (c : Dev nD) (t : Fin cfg0.N) (a : Fin 2048) (k : Fin 1024) :
    (iblk m c 1 t : S2048x1024.Idx → EReal) (ix2 a k) = m ((c : Thread nD τ).loc main_arg1) (ix2 (row t a) k) := by
  blk_ext [iblk, V, idx t, row]

/-- What row `R` adds to the gradient at `(i, j)`. -/
def part (y d : FVec Ideal S16384x1024 .bf16) (i j : Fin 1024) (R : Fin 16384) : EReal := y (ix2 R i) * d (ix2 R j)

/-- The gradient: the first array transposed times the second. -/
def G (y d : FVec Ideal S16384x1024 .bf16) : FVec Ideal S1024x1024 .f32 := fun i => ∑ R : Fin 16384, part y d (i 0) (i 1) R

theorem pay_at (acc : FVec Ideal S1024x1024 .f32) (x y : FVec Ideal S2048x1024 .bf16) (a b : Fin 1024) :
    (k0_pay2 (F := Ideal) acc x y (ix2 a b) : EReal) = acc (ix2 a b) + ∑ r : Fin 2048, x (ix2 r a) * y (ix2 r b) := by
  pointwise [k0_pay2]

theorem zero_at (a b : Fin 1024) : (k0_pay1 (F := Ideal) (ix2 a b) : EReal) = 0 := by pointwise [k0_pay1]

theorem pay_row (acc : FVec Ideal S1024x1024 .f32) (x y : FVec Ideal S2048x1024 .bf16) (i : S1024x1024.Idx) (y' d' : FVec Ideal S16384x1024 .bf16) (t : Fin cfg0.N)
    (hx : ∀ a k, x (ix2 a k) = y' (ix2 (row t a) k)) (hy : ∀ a k, y (ix2 a k) = d' (ix2 (row t a) k)) :
    (k0_pay2 (F := Ideal) acc x y i : EReal) = acc i + ∑ r : Fin 2048, part y' d' (i 0) (i 1) (row t r) := by
  obtain ⟨a, b, rfl⟩ : ∃ (a : Fin 1024) (b : Fin 1024), i = ix2 a b := ⟨i 0, i 1, by funext i; fin_cases i <;> rfl⟩
  rw [pay_at]
  simp only [hx, hy]
  rfl

theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  refine (Pipeline.eq_sum_fin_of_reset_step_apply_of_flush (N := cfg0.N) (M := EReal) (ι := S1024x1024.Idx) (fun n h => outsAt0 m c n h) 8 (fun _ => 0)
    (fun p j => ∑ r : Fin 2048, part (m ((c : Thread nD τ).loc main_arg0)) (m ((c : Thread nD τ).loc main_arg1)) (j 0) (j 1) (row p r))
    (fun p h j => ?_) (fun p h j => ?_) t ((flush0_2 t).mp hf) y).trans ?_
  · rw [outsAt0_A m c p h, out_A_2_eq]
    refine (pay_row _ _ _ j _ _ p (blk_y m c p) (blk_d m c p)).trans ?_
    obtain ⟨a, b, rfl⟩ : ∃ (a : Fin 1024) (b : Fin 1024), j = ix2 a b := ⟨j 0, j 1, by funext i; fin_cases i <;> rfl⟩
    rw [zero_at]
  · rw [outsAt0_B m c p h, out_B_2_eq]
    exact pay_row _ _ _ j _ _ p (blk_y m c p) (blk_d m c p)
  · rw [zero_add]
    have ht : t.val / 8 = 0 := by have := (idx t).2.2.2; omega
    have he : ((cfg0.win 2).blk t).view.emb y = (y : S1024x1024.Idx) := by blk_ext [idx t]
    rw [he]
    unfold G
    refine Fin.sum_mul_add_congr fun s k hl => congrArg _ (Fin.ext ?_)
    simp only [row, ht]
    omega

end Cert.LruProjIdeal.Val

namespace Cert.LruProjRefIdeal.Val

open Cert.LruProjRefIdeal Cert.LruProjRefIdeal.Gen Idealize.ShloMosaic Idealize.ShloMosaic.TcCoe Idealize.SL.Sem

/-- The reference's gradient. -/
def refT (y d : FVec Ideal S16384x1024 .bf16) : FVec Ideal S1024x1024 .f32 :=
  transpose S1024x1024 [1, 0] (Host.dotGeneral dot_S16384x1024_S16384x1024_S1024x1024_0_0_1_1_n_n none (extf .f32 d bitsLt_bf16_f32) (extf .f32 y bitsLt_bf16_f32)) transposes_S1024x1024_S1024x1024_1_0

theorem refT_at (y d : FVec Ideal S16384x1024 .bf16) (a b : Fin 1024) : (refT y d (ix2 a b) : EReal) = ∑ r : Fin 16384, (d (ix2 r b) : EReal) * y (ix2 r a) := by
  pointwise [refT]

theorem ref (y d : FVec Ideal S16384x1024 .bf16) : refT y d = Cert.LruProjIdeal.Val.G y d := by
  funext i
  obtain ⟨a, b, rfl⟩ : ∃ (a : Fin 1024) (b : Fin 1024), i = ix2 a b := ⟨i 0, i 1, by funext i; fin_cases i <;> rfl⟩
  rw [refT_at]
  exact Finset.sum_congr rfl fun r _ => mul_comm _ _

end Cert.LruProjRefIdeal.Val

namespace Cert.LruProjIdeal.Val

open Idealize.ShloMosaic Idealize.ShloMosaic.TcCoe Idealize.SL.Sem

/-- The reference declares no semaphore. -/
theorem frame_ref : Cert.quiescent_LruProjRefIdeal (hLruProjRefIdeal := Cert.LruProjRefIdeal.Gen.facts) := fun m ρ _ =>
  (θ_run Cert.LruProjRefIdeal.defs _ _).mono (fun r h => ⟨fun c => (h c).2, sem_eq_zero_of_no_sems (by decide) r.2⟩)
    (Cert.LruProjRefIdeal.Value.run (F := Ideal) m ρ)

theorem algebraic : Cert.algebraic_LruProjIdeal_LruProjRefIdeal (hLruProjIdeal := Cert.LruProjIdeal.Gen.facts) (hLruProjRefIdeal := Cert.LruProjRefIdeal.Gen.facts) := by
  intro m g m' g' _ h
  refine ⟨fun c => (Cert.LruProjIdeal.Gen.dats m 0 c).arrAt 2 Cert.LruProjIdeal.cfg0.N, Cert.LruProjIdeal.Value.run_blocks m g,
    (θ_run _ _ _).mono (fun r hr c => ?_) (Cert.LruProjRefIdeal.Value.run m' g')⟩
  obtain ⟨h0, h1⟩ := h c
  obtain ⟨r0, rest⟩ := hr c
  refine ⟨r0.trans (Eq.trans ?_ (final m c).symm), rest⟩
  rw [h0, h1]
  exact Cert.LruProjRefIdeal.Val.ref _ _

end Cert.LruProjIdeal.Val

end
-- ==== Proof.PoolProj.lean ====
/- The gradient of the pooling branch's projection: the accumulated products of the blocks of rows fill the first columns with the
   product of the whole arrays, and the other columns stay zero. -/
module

public import proofs.«01_k».proof.Defs
public import proofs.«01_k».proof.Proof.Gen.PoolProjIdeal.Value
public import proofs.«01_k».proof.Proof.Gen.PoolProjRefIdeal.Run
public import Idealize.ShloMosaic.Lib.Pipeline.ValueKit
public import Idealize.ShloMosaic.Lib.Pipeline.ReadBack
public import Idealize.ShloMosaic.Lib.VecWindow

@[expose] public section

noncomputable section

namespace Cert.PoolProjIdeal.Val

open Cert.PoolProjIdeal Cert.PoolProjIdeal.Gen Cert.PoolProjIdeal.Value Idealize.ShloMosaic Idealize.ShloMosaic.TcCoe Idealize.SL.Sem

variable (m : (ℓ : Loc nD τ sig) → Buf (Elt Ideal) ℓ)

theorem idx : ∀ t : Fin cfg0.N, win0_0.index t = ![t.val, 0] ∧ win0_1.index t = ![t.val, 0] ∧ win0_2.index t = ![0, 0] ∧ t.val < 8 :=
  (by decide +kernel : ∀ t : Fin grid0.N, _)

/-- The row of the whole arrays that row `a` of point `t`'s block is. -/
def row (t : Fin cfg0.N) (a : Fin 2048) : Fin 16384 := ⟨2048 * t.val + a.val, by have := (idx t).2.2.2; omega⟩

theorem blk_d (c : Dev nD) (t : Fin cfg0.N) (a : Fin 2048) (k : Fin 1024) :
    (iblk m c 0 t : S2048x1024.Idx → EReal) (ix2 a k) = m ((c : Thread nD τ).loc main_arg0) (ix2 (row t a) k) := by
  blk_ext [iblk, V, idx t, row]
theorem blk_x (c : Dev nD) (t : Fin cfg0.N) (a : Fin 2048) (k : Fin 512) :
    (iblk m c 1 t : S2048x512.Idx → EReal) (ix2 a k) = m ((c : Thread nD τ).loc main_arg1) (ix2 (row t a) k) := by
  blk_ext [iblk, V, idx t, row]

/-- The accumulator's first columns. -/
def left (A : FVec Ideal S1024x1024 .f32) : FVec Ideal S1024x512 .f32 := View.ld (Val := Elt Ideal) (e' := .f32) A (Rect.unit (s := S1024x1024) ![0, 0] ![1024, 512] inb_S1024x1024_S1024x512_0_0)

/-- What a point leaves in the accumulator `A`: the product of its blocks added to the first columns. -/
def accAll (A : FVec Ideal S1024x1024 .f32) (x : FVec Ideal S2048x1024 .bf16) (y : FVec Ideal S2048x512 .bf16) : FVec Ideal S1024x1024 .f32 :=
  VecWindow.put (s := S1024x1024) A ![0, 0] ![1024, 512] (k0_pay2 (F := Ideal) (left A) x y)

theorem hz : (![0, 0] : Fin 2 → Nat) = fun _ => 0 := funext fun a => by fin_cases a <;> rfl

theorem out_B (c : Dev nD) (t : Fin cfg0.N) (h0 : ¬t.val % 8 = 0) :
    outsAt0 m c t.val t.isLt = accAll (outsAt0 m c (t.val - 1) (Nat.lt_of_le_of_lt (Nat.sub_le _ _) t.isLt)) (iblk m c 0 t) (iblk m c 1 t) := by
  rw [outsAt0_B m c t h0]
  unfold out0_B_2 kernelRun0_B
  dsimp only
  simp only [View.readAt_eq_ld, Memref.IsWhole.read_unread]
  refine (View.read_writes_cons_put _ _ _ _ _ rfl).trans ?_
  rw [View.writes_nil, Memref.IsWhole.read_unread]
  unfold accAll left
  rw [View.ld_unit_zero (S := S2048x1024) hz, View.ld_unit_zero (S := S2048x512) hz]

theorem out_A (c : Dev nD) (t : Fin cfg0.N) (h0 : t.val % 8 = 0) :
    outsAt0 m c t.val t.isLt = accAll (k0_pay1 (F := Ideal)) (iblk m c 0 t) (iblk m c 1 t) := by
  rw [outsAt0_A m c t h0]
  unfold out0_A_2 kernelRun0_A
  dsimp only
  simp only [View.readAt_eq_ld, Memref.IsWhole.read_unread]
  refine (View.read_writes_cons_put _ _ _ _ _ rfl).trans ?_
  unfold kernelRun0_A.sl.v3 kernelRun0_A.sl.H2_1
  rw [View.read_writes_full]
  simp (disch := decide) only [View.readCov_skip, View.readCov_fill]
  unfold accAll left
  rw [View.ld_unit_zero (S := S2048x1024) hz, View.ld_unit_zero (S := S2048x512) hz]

/-- What row `R` adds to the accumulator at `(i, j)`: nothing outside the first columns. -/
def part (d : FVec Ideal S16384x1024 .bf16) (x : FVec Ideal S16384x512 .bf16) (i j : Fin 1024) (R : Fin 16384) : EReal :=
  if h : j.val < 512 then d (ix2 R i) * x (ix2 R ⟨j.val, h⟩) else 0

/-- The transposed gradient in the first columns, zero in the others. -/
def G (d : FVec Ideal S16384x1024 .bf16) (x : FVec Ideal S16384x512 .bf16) : FVec Ideal S1024x1024 .f32 := fun i => ∑ R : Fin 16384, part d x (i 0) (i 1) R

theorem left_at (A : FVec Ideal S1024x1024 .f32) (a : Fin 1024) (b : Fin 512) : (left A (ix2 a b) : EReal) = A (ix2 a ⟨b.val, by omega⟩) := by
  refine congrArg A ?_
  funext i
  fin_cases i <;> (apply Fin.ext; simp [Rect.unit])

theorem pay_at (acc : FVec Ideal S1024x512 .f32) (x : FVec Ideal S2048x1024 .bf16) (y : FVec Ideal S2048x512 .bf16) (a : Fin 1024) (b : Fin 512) :
    (k0_pay2 (F := Ideal) acc x y (ix2 a b) : EReal) = acc (ix2 a b) + ∑ r : Fin 2048, x (ix2 r a) * y (ix2 r b) := by
  pointwise [k0_pay2]

theorem zero_at (a b : Fin 1024) : (k0_pay1 (F := Ideal) (ix2 a b) : EReal) = 0 := by pointwise [k0_pay1]

theorem acc_row (A : FVec Ideal S1024x1024 .f32) (x : FVec Ideal S2048x1024 .bf16) (y : FVec Ideal S2048x512 .bf16) (i : S1024x1024.Idx)
    (d' : FVec Ideal S16384x1024 .bf16) (x' : FVec Ideal S16384x512 .bf16) (t : Fin cfg0.N)
    (hx : ∀ a k, x (ix2 a k) = d' (ix2 (row t a) k)) (hy : ∀ a k, y (ix2 a k) = x' (ix2 (row t a) k)) :
    (accAll A x y i : EReal) = A i + ∑ r : Fin 2048, part d' x' (i 0) (i 1) (row t r) := by
  obtain ⟨a, b, rfl⟩ : ∃ (a : Fin 1024) (b : Fin 1024), i = ix2 a b := ⟨i 0, i 1, by funext i; fin_cases i <;> rfl⟩
  change _ = A (ix2 a b) + ∑ r : Fin 2048, part d' x' a b (row t r)
  unfold accAll VecWindow.put part
  by_cases h : b.val < 512
  · rw [dif_pos (by intro i; fin_cases i <;> simp <;> omega)]
    have e : (Rect.unitLocal (s := S1024x1024) (off := ![0, 0]) (size := ![1024, 512]) (ix2 a b) (by intro i; fin_cases i <;> simp <;> omega) : S1024x512.Idx) = ix2 a ⟨b.val, h⟩ := by
      funext i
      fin_cases i <;> (apply Fin.ext; simp [Rect.unitLocal])
    refine (congrArg (k0_pay2 (F := Ideal) (left A) x y) e).trans ?_
    rw [pay_at, left_at]
    simp only [hx, hy, dif_pos h]
  · rw [dif_neg (fun k => h (by have := (k 1).2; simp at this; omega))]
    simp only [dif_neg h, Finset.sum_const_zero, add_zero]

theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  refine (Pipeline.eq_sum_fin_of_reset_step_apply_of_flush (N := cfg0.N) (M := EReal) (ι := S1024x1024.Idx) (fun n h => outsAt0 m c n h) 8 (fun _ => 0)
    (fun p j => ∑ r : Fin 2048, part (m ((c : Thread nD τ).loc main_arg0)) (m ((c : Thread nD τ).loc main_arg1)) (j 0) (j 1) (row p r))
    (fun p h j => ?_) (fun p h j => ?_) t ((flush0_2 t).mp hf) y).trans ?_
  · rw [out_A m c p h]
    refine (acc_row _ _ _ j _ _ p (blk_d m c p) (blk_x m c p)).trans ?_
    obtain ⟨a, b, rfl⟩ : ∃ (a : Fin 1024) (b : Fin 1024), j = ix2 a b := ⟨j 0, j 1, by funext i; fin_cases i <;> rfl⟩
    rw [zero_at]
  · rw [out_B m c p h]
    exact acc_row _ _ _ j _ _ p (blk_d m c p) (blk_x m c p)
  · rw [zero_add]
    have ht : t.val / 8 = 0 := by have := (idx t).2.2.2; omega
    have he : ((cfg0.win 2).blk t).view.emb y = (y : S1024x1024.Idx) := by blk_ext [idx t]
    rw [he]
    unfold G
    refine Fin.sum_mul_add_congr fun s k hl => congrArg _ (Fin.ext ?_)
    simp only [row, ht]
    omega

end Cert.PoolProjIdeal.Val

namespace Cert.PoolProjRefIdeal.Val

open Cert.PoolProjRefIdeal Cert.PoolProjRefIdeal.Gen Idealize.ShloMosaic Idealize.ShloMosaic.TcCoe Idealize.SL.Sem

/-- The reference's gradient, transposed. -/
def dwT (d : FVec Ideal S16384x1024 .bf16) (x : FVec Ideal S16384x512 .bf16) : FVec Ideal S1024x512 .f32 :=
  transpose S1024x512 [1, 0] (transpose S512x1024 [1, 0] (Host.dotGeneral dot_S16384x1024_S16384x512_S1024x512_0_0_1_1_n_n none (extf .f32 d bitsLt_bf16_f32) (extf .f32 x bitsLt_bf16_f32)) transposes_S1024x512_S512x1024_1_0) transposes_S512x1024_S1024x512_1_0

theorem dwT_at (d : FVec Ideal S16384x1024 .bf16) (x : FVec Ideal S16384x512 .bf16) (a : Fin 1024) (b : Fin 512) :
    (dwT d x (ix2 a b) : EReal) = ∑ r : Fin 16384, (d (ix2 r a) : EReal) * x (ix2 r b) := by
  pointwise [dwT]

/-- Zero columns after the transposed gradient. -/
def refT (w : FVec Ideal S1024x512 .f32) : FVec Ideal S1024x1024 .f32 :=
  pad S1024x1024 ![0, 0] ![0, 512] ![0, 0] w (sitofp .f32 (constantI S_ 32 0#32)) pads_S1024x512_S1024x1024_000_05120 h_S_

theorem refT_at (w : FVec Ideal S1024x512 .f32) (a b : Fin 1024) : (refT w (ix2 a b) : EReal) = if h : b.val < 512 then w (ix2 a ⟨b.val, h⟩) else 0 := by
  have z : (FloatOps.sitofp (F := Ideal) FTy.f32 0#32 : EReal) = 0 := by
    change (((0#32 : BitVec 32).toInt : ℝ) : EReal) = 0
    simp
  pointwise [refT]
  rw [z]

theorem ref (d : FVec Ideal S16384x1024 .bf16) (x : FVec Ideal S16384x512 .bf16) : refT (dwT d x) = Cert.PoolProjIdeal.Val.G d x := by
  funext i
  obtain ⟨a, b, rfl⟩ : ∃ (a : Fin 1024) (b : Fin 1024), i = ix2 a b := ⟨i 0, i 1, by funext i; fin_cases i <;> rfl⟩
  rw [refT_at]
  change _ = ∑ R : Fin 16384, Cert.PoolProjIdeal.Val.part d x a b R
  unfold Cert.PoolProjIdeal.Val.part
  by_cases h : b.val < 512
  · simp only [dif_pos h, dwT_at]
  · simp only [dif_neg h, Finset.sum_const_zero]

end Cert.PoolProjRefIdeal.Val

namespace Cert.PoolProjIdeal.Val

open Idealize.ShloMosaic Idealize.ShloMosaic.TcCoe Idealize.SL.Sem

/-- The reference declares no semaphore. -/
theorem frame_ref : Cert.quiescent_PoolProjRefIdeal (hPoolProjRefIdeal := Cert.PoolProjRefIdeal.Gen.facts) := fun m ρ _ =>
  (θ_run Cert.PoolProjRefIdeal.defs _ _).mono (fun r h => ⟨fun c => (h c).2, sem_eq_zero_of_no_sems (by decide) r.2⟩)
    (Cert.PoolProjRefIdeal.Value.run (F := Ideal) m ρ)

theorem algebraic : Cert.algebraic_PoolProjIdeal_PoolProjRefIdeal (hPoolProjIdeal := Cert.PoolProjIdeal.Gen.facts) (hPoolProjRefIdeal := Cert.PoolProjRefIdeal.Gen.facts) := by
  intro m g m' g' _ h
  refine ⟨fun c => (Cert.PoolProjIdeal.Gen.dats m 0 c).arrAt 2 Cert.PoolProjIdeal.cfg0.N, Cert.PoolProjIdeal.Value.run_blocks m g,
    (θ_run _ _ _).mono (fun r hr c => ?_) (Cert.PoolProjRefIdeal.Value.run m' g')⟩
  obtain ⟨h0, h1⟩ := h c
  obtain ⟨r0, rest⟩ := hr c
  refine ⟨r0.trans (Eq.trans ?_ (final m c).symm), rest⟩
  rw [h0, h1]
  exact Cert.PoolProjRefIdeal.Val.ref _ _

end Cert.PoolProjIdeal.Val

end
-- ==== Proof.Head.RunA.lean ====
/- The body at the first point of the grid, run over its statements. -/
module

public import proofs.«01_k».proof.Proof.Gen.HeadIdeal.Frame.Runs

@[expose] public section

set_option maxRecDepth 16384

noncomputable section

namespace Cert.HeadIdeal.Launch

open Cert.HeadIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option sl_exec.dmaWindow true in
set_option sl_exec.dmaWindowSet true in
set_option maxHeartbeats 1060000 in

/-- The pieces each buffer ends with in case A, found by the run of the body, with the proof of the run. -/
noncomputable def kernelRun0_A (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S8x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S1024x256 .bf16) (harg14 : arg14.IsWhole) (hc0 : cond0_0 i)
    (x0 : Vec F S512x1024 .f32) (x1 : Vec F S512x256 .f32) (x2 : Vec F S512x1024 .f32) (x3 : Vec F S1x1024 .f32) (x4 : Vec F S1x1024 .f32) (fh0 : HbBuf0 (F := F) c hbM0_0) :
    Σ' (L5 : List (View.Piece (Elt F) S512x1024 .f32)), Σ' (L6 : List (View.Piece (Elt F) S8x128 .f32)), Σ' (L7 : List (View.Piece (Elt F) S1x1024 .f32)), Σ' (L8 : List (View.Piece (Elt F) S1x1024 .f32)), Σ' (L9 : List (View.Piece (Elt F) S1024x1024 .f32)), Σ' (L10 : List (View.Piece (Elt F) S1024x1024 .f32)), Σ' (LS0 : List (View.Piece (Elt F) S1024x1024 .bf16)), { LS1 : List (View.Piece (Elt F) S1024x256 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ hbPt0 c hbM0_0 fh0 ∗ (∃ W', owes (c : Thread nD τ) 0 W')) -∗ K ⟨⟩))
          ⊢ wp frame (wpE (defs₀ (F := F)) Variants.none c none) Set.univ (cc0_ple_loss i arg1 harg1 arg2 harg2 arg3 harg3 arg4 harg4 arg5 harg5 (Memref.whole main_v15) (Memref.isWhole_whole _) arg7 harg7 arg8 harg8 arg9 harg9 arg10 harg10 arg11 harg11 arg12 harg12 arg13 harg13 arg14 harg14 cc0_scratch2) K } := by
  refine ⟨?_, ?_, ?_, ?_, ?_, ?_, ?_, ?_, fun W K => ?run⟩
  case run =>
    simp only [cc0_ple_loss_eq_skeleton]; unfold cc0_ple_loss_skel
    simp only [k0_part8_eq_skeleton, k0_part7_eq_skeleton, k0_part1_eq_skeleton, k0_part2_eq_skeleton, k0_part3_eq_skeleton, k0_part4_eq_skeleton, k0_part5_eq_skeleton, k0_part6_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, Hq0, Hq1, Hq2, Hq3, Hq4, Hq5, Hq6, Hq7, Hq8, Hq9, Hq10, Hq11, Hq12, Hq13, Hq14, Hq15, Hh0, HW, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexists _; iexact HS0
    isplitl [HS1]; · iexists _; iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    iexists _; iexact HW

end Cert.HeadIdeal.Launch

end
-- ==== Proof.Head.RunB.lean ====
/- The body at a later point of the grid, run over its statements. -/
module

public import proofs.«01_k».proof.Proof.Head.RunA

@[expose] public section

set_option maxRecDepth 16384

noncomputable section

namespace Cert.HeadIdeal.Launch

open Cert.HeadIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option sl_exec.dmaWindow true in
set_option sl_exec.dmaWindowSet true in
set_option maxHeartbeats 1000000 in

/-- The pieces each buffer ends with in case B, found by the run of the body, with the proof of the run. -/
noncomputable def kernelRun0_B (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S8x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S1024x256 .bf16) (harg14 : arg14.IsWhole) (hc0 : ¬cond0_0 i)
    (x0 : Vec F S512x1024 .f32) (x1 : Vec F S512x256 .f32) (x2 : Vec F S512x1024 .f32) (x3 : Vec F S1x1024 .f32) (x4 : Vec F S1x1024 .f32) (xo6 : Vec F S8x128 .f32) (xo7 : Vec F S1x1024 .f32) (xo8 : Vec F S1x1024 .f32) (xo9 : Vec F S1024x1024 .f32) (xo10 : Vec F S1024x1024 .f32) (xs0 : Vec F S1024x1024 .bf16) (xs1 : Vec F S1024x256 .bf16) (fh0 : HbBuf0 (F := F) c hbM0_0) :
    Σ' (L5 : List (View.Piece (Elt F) S512x1024 .f32)), Σ' (L6 : List (View.Piece (Elt F) S8x128 .f32)), Σ' (L7 : List (View.Piece (Elt F) S1x1024 .f32)), Σ' (L8 : List (View.Piece (Elt F) S1x1024 .f32)), Σ' (L9 : List (View.Piece (Elt F) S1024x1024 .f32)), Σ' (L10 : List (View.Piece (Elt F) S1024x1024 .f32)), Σ' (LS0 : List (View.Piece (Elt F) S1024x1024 .bf16)), { LS1 : List (View.Piece (Elt F) S1024x256 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ owns (c : Thread nD τ) arg8 fullShare xo6 ∗ owns (c : Thread nD τ) arg9 fullShare xo7 ∗ owns (c : Thread nD τ) arg10 fullShare xo8 ∗ owns (c : Thread nD τ) arg11 fullShare xo9 ∗ owns (c : Thread nD τ) arg12 fullShare xo10 ∗ owns (c : Thread nD τ) arg13 fullShare xs0 ∗ owns (c : Thread nD τ) arg14 fullShare xs1 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread xo10) L10) ∗ owns (c : Thread nD τ) arg13 fullShare xs0 ∗ owns (c : Thread nD τ) arg14 fullShare xs1 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ hbPt0 c hbM0_0 fh0 ∗ (∃ W', owes (c : Thread nD τ) 0 W')) -∗ K ⟨⟩))
          ⊢ wp frame (wpE (defs₀ (F := F)) Variants.none c none) Set.univ (cc0_ple_loss i arg1 harg1 arg2 harg2 arg3 harg3 arg4 harg4 arg5 harg5 (Memref.whole main_v15) (Memref.isWhole_whole _) arg7 harg7 arg8 harg8 arg9 harg9 arg10 harg10 arg11 harg11 arg12 harg12 arg13 harg13 arg14 harg14 cc0_scratch2) K } := by
  refine ⟨?_, ?_, ?_, ?_, ?_, ?_, [], [], fun W K => ?run⟩
  case run =>
    simp only [cc0_ple_loss_eq_skeleton]; unfold cc0_ple_loss_skel
    simp only [k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, Hq0, Hq1, Hq2, Hq3, Hq4, Hq5, Hq6, Hq7, Hq8, Hq9, Hq10, Hq11, Hq12, Hq13, Hq14, Hq15, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hf6; obtain rfl := harg9.eq_unread hf7; obtain rfl := harg10.eq_unread hf8; obtain rfl := harg11.eq_unread hf9; obtain rfl := harg12.eq_unread hf10; obtain rfl := harg13.eq_unread hfs0; obtain rfl := harg14.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexact H10
    isplitl [HS0]
    · iexists _; isplitr; · ipureintro; exact harg13.read_unread _
      iexact HS0
    isplitl [HS1]
    · iexists _; isplitr; · ipureintro; exact harg14.read_unread _
      iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    iexists _; iexact HW

end Cert.HeadIdeal.Launch

end
-- ==== Proof.Head.Frame.lean ====
/- What the body leaves at every point, the run of the whole program, and its frame. -/
module

public import proofs.«01_k».proof.Proof.Head.RunB
public import Idealize.ShloMosaic.Lib.Claim

@[expose] public section

set_option maxRecDepth 16384

noncomputable section

namespace Cert.HeadIdeal.Launch

open Cert.HeadIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section CaseA

variable (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S8x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S1024x256 .bf16) (harg14 : arg14.IsWhole) (hc0 : cond0_0 i)
  (x0 : Vec F S512x1024 .f32) (x1 : Vec F S512x256 .f32) (x2 : Vec F S512x1024 .f32) (x3 : Vec F S1x1024 .f32) (x4 : Vec F S1x1024 .f32) (fh0 : HbBuf0 (F := F) c hbM0_0)

/-- Case A's stores cover the block of window 5. -/
theorem cover0_A_5 (y : S512x1024.Idx) :
    ∃ pc ∈ (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).1, y ∈ pc.1.set :=
  View.cover_of_tiledL _ S512x1024.size (by sl_kernel_rfl) y

/-- What case A leaves in the block of window 5. -/
def out0_A_5 : Vec F S512x1024 .f32 :=
  VO0_5.read (Elt F) (VO0_5.writes (Elt F) VO0_5.junk (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).1)

/-- Case A's stores cover the block of window 6. -/
theorem cover0_A_6 (y : S8x128.Idx) :
    ∃ pc ∈ (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.1, y ∈ pc.1.set :=
  View.cover_of_tiledL _ S8x128.size (by sl_kernel_rfl) y

/-- What case A leaves in the block of window 6. -/
def out0_A_6 : Vec F S8x128 .f32 :=
  VO0_6.read (Elt F) (VO0_6.writes (Elt F) VO0_6.junk (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.1)

/-- Case A's stores cover the block of window 7. -/
theorem cover0_A_7 (y : S1x1024.Idx) :
    ∃ pc ∈ (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.1, y ∈ pc.1.set :=
  View.cover_of_tiledL _ S1x1024.size (by sl_kernel_rfl) y

/-- What case A leaves in the block of window 7. -/
def out0_A_7 : Vec F S1x1024 .f32 :=
  VO0_7.read (Elt F) (VO0_7.writes (Elt F) VO0_7.junk (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.1)

/-- Case A's stores cover the block of window 8. -/
theorem cover0_A_8 (y : S1x1024.Idx) :
    ∃ pc ∈ (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.2.1, y ∈ pc.1.set :=
  View.cover_of_tiledL _ S1x1024.size (by sl_kernel_rfl) y

/-- What case A leaves in the block of window 8. -/
def out0_A_8 : Vec F S1x1024 .f32 :=
  VO0_8.read (Elt F) (VO0_8.writes (Elt F) VO0_8.junk (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.2.1)

/-- Case A's stores cover the block of window 9. -/
theorem cover0_A_9 (y : S1024x1024.Idx) :
    ∃ pc ∈ (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.2.2.1, y ∈ pc.1.set :=
  View.cover_of_tiledL _ S1024x1024.size (by sl_kernel_rfl) y

/-- What case A leaves in the block of window 9. -/
def out0_A_9 : Vec F S1024x1024 .f32 :=
  VO0_9.read (Elt F) (VO0_9.writes (Elt F) VO0_9.junk (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.2.2.1)

theorem cover0_A_10 (y : S1024x1024.Idx) :
    ∃ pc ∈ (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.2.2.2.1, y ∈ pc.1.set :=
  View.cover_of_tiledBy (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.2.2.2.1 ![1024, 256] (by sl_kernel_rfl) y

def out0_A_10 : Vec F S1024x1024 .f32 :=
  VO0_10.read (Elt F) (VO0_10.writes (Elt F) VO0_10.junk (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.2.2.2.1)

/-- Case A's stores cover scratch 0. -/
theorem scover0_A_0 (y : S1024x1024.Idx) :
    ∃ pc ∈ (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.2.2.2.2.1, y ∈ pc.1.set :=
  View.cover_of_tiledL (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.2.2.2.2.1 S128x1024.size (by sl_kernel_rfl) y

/-- What case A leaves in scratch 0. -/
def sout0_A_0 : Vec F S1024x1024 .bf16 :=
  VS0_0.read (Elt F) (VS0_0.writes (Elt F) VS0_0.junk (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.2.2.2.2.1)

/-- Case A's stores cover scratch 1. -/
theorem scover0_A_1 (y : S1024x256.Idx) :
    ∃ pc ∈ (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.2.2.2.2.2.1, y ∈ pc.1.set :=
  View.cover_of_tiledL (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.2.2.2.2.2.1 S128x256.size (by sl_kernel_rfl) y

/-- What case A leaves in scratch 1. -/
def sout0_A_1 : Vec F S1024x256 .bf16 :=
  VS0_1.read (Elt F) (VS0_1.writes (Elt F) VS0_1.junk (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.2.2.2.2.2.1)

end CaseA

section CaseB

variable (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S8x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S1024x256 .bf16) (harg14 : arg14.IsWhole) (hc0 : ¬cond0_0 i)
  (x0 : Vec F S512x1024 .f32) (x1 : Vec F S512x256 .f32) (x2 : Vec F S512x1024 .f32) (x3 : Vec F S1x1024 .f32) (x4 : Vec F S1x1024 .f32) (xo6 : Vec F S8x128 .f32) (xo7 : Vec F S1x1024 .f32) (xo8 : Vec F S1x1024 .f32) (xo9 : Vec F S1024x1024 .f32) (xo10 : Vec F S1024x1024 .f32) (xs0 : Vec F S1024x1024 .bf16) (xs1 : Vec F S1024x256 .bf16) (fh0 : HbBuf0 (F := F) c hbM0_0)

/-- Case B's stores cover the block of window 5. -/
theorem cover0_B_5 (y : S512x1024.Idx) :
    ∃ pc ∈ (kernelRun0_B c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 xo6 xo7 xo8 xo9 xo10 xs0 xs1 fh0).1, y ∈ pc.1.set :=
  View.cover_of_tiledL _ S512x1024.size (by sl_kernel_rfl) y

/-- What case B leaves in the block of window 5. -/
def out0_B_5 : Vec F S512x1024 .f32 :=
  VO0_5.read (Elt F) (VO0_5.writes (Elt F) VO0_5.junk (kernelRun0_B c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 xo6 xo7 xo8 xo9 xo10 xs0 xs1 fh0).1)

/-- Case B's stores cover the block of window 6. -/
theorem cover0_B_6 (y : S8x128.Idx) :
    ∃ pc ∈ (kernelRun0_B c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 xo6 xo7 xo8 xo9 xo10 xs0 xs1 fh0).2.1, y ∈ pc.1.set :=
  View.cover_of_tiledL _ S8x128.size (by sl_kernel_rfl) y

/-- What case B leaves in the block of window 6. -/
def out0_B_6 : Vec F S8x128 .f32 :=
  VO0_6.read (Elt F) (VO0_6.writes (Elt F) VO0_6.junk (kernelRun0_B c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 xo6 xo7 xo8 xo9 xo10 xs0 xs1 fh0).2.1)

/-- Case B's stores cover the block of window 7. -/
theorem cover0_B_7 (y : S1x1024.Idx) :
    ∃ pc ∈ (kernelRun0_B c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 xo6 xo7 xo8 xo9 xo10 xs0 xs1 fh0).2.2.1, y ∈ pc.1.set :=
  View.cover_of_tiledL _ S1x1024.size (by sl_kernel_rfl) y

/-- What case B leaves in the block of window 7. -/
def out0_B_7 : Vec F S1x1024 .f32 :=
  VO0_7.read (Elt F) (VO0_7.writes (Elt F) VO0_7.junk (kernelRun0_B c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 xo6 xo7 xo8 xo9 xo10 xs0 xs1 fh0).2.2.1)

/-- Case B's stores cover the block of window 8. -/
theorem cover0_B_8 (y : S1x1024.Idx) :
    ∃ pc ∈ (kernelRun0_B c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 xo6 xo7 xo8 xo9 xo10 xs0 xs1 fh0).2.2.2.1, y ∈ pc.1.set :=
  View.cover_of_tiledL _ S1x1024.size (by sl_kernel_rfl) y

/-- What case B leaves in the block of window 8. -/
def out0_B_8 : Vec F S1x1024 .f32 :=
  VO0_8.read (Elt F) (VO0_8.writes (Elt F) VO0_8.junk (kernelRun0_B c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 xo6 xo7 xo8 xo9 xo10 xs0 xs1 fh0).2.2.2.1)

/-- Case B's stores cover the block of window 9. -/
theorem cover0_B_9 (y : S1024x1024.Idx) :
    ∃ pc ∈ (kernelRun0_B c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 xo6 xo7 xo8 xo9 xo10 xs0 xs1 fh0).2.2.2.2.1, y ∈ pc.1.set :=
  View.cover_of_tiledL _ S1024x1024.size (by sl_kernel_rfl) y

/-- What case B leaves in the block of window 9. -/
def out0_B_9 : Vec F S1024x1024 .f32 :=
  VO0_9.read (Elt F) (VO0_9.writes (Elt F) VO0_9.junk (kernelRun0_B c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 xo6 xo7 xo8 xo9 xo10 xs0 xs1 fh0).2.2.2.2.1)

def out0_B_10 : Vec F S1024x1024 .f32 :=
  arg12.view.read (Elt F) (arg12.view.writes (Elt F) (harg12.unread xo10) (kernelRun0_B c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 xo6 xo7 xo8 xo9 xo10 xs0 xs1 fh0).2.2.2.2.2.1)

end CaseB

/-- What case B leaves in scratch 0. -/
def sout0_B_0 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S8x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S1024x256 .bf16) (harg14 : arg14.IsWhole) (hc0 : ¬cond0_0 i)
    (x0 : Vec F S512x1024 .f32) (x1 : Vec F S512x256 .f32) (x2 : Vec F S512x1024 .f32) (x3 : Vec F S1x1024 .f32) (x4 : Vec F S1x1024 .f32) (xo6 : Vec F S8x128 .f32) (xo7 : Vec F S1x1024 .f32) (xo8 : Vec F S1x1024 .f32) (xo9 : Vec F S1024x1024 .f32) (xo10 : Vec F S1024x1024 .f32) (xs0 : Vec F S1024x1024 .bf16) (xs1 : Vec F S1024x256 .bf16) (fh0 : HbBuf0 (F := F) c hbM0_0) : Vec F S1024x1024 .bf16 := xs0

/-- What case B leaves in scratch 1. -/
def sout0_B_1 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S8x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S1024x256 .bf16) (harg14 : arg14.IsWhole) (hc0 : ¬cond0_0 i)
    (x0 : Vec F S512x1024 .f32) (x1 : Vec F S512x256 .f32) (x2 : Vec F S512x1024 .f32) (x3 : Vec F S1x1024 .f32) (x4 : Vec F S1x1024 .f32) (xo6 : Vec F S8x128 .f32) (xo7 : Vec F S1x1024 .f32) (xo8 : Vec F S1x1024 .f32) (xo9 : Vec F S1024x1024 .f32) (xo10 : Vec F S1024x1024 .f32) (xs0 : Vec F S1024x1024 .bf16) (xs1 : Vec F S1024x256 .bf16) (fh0 : HbBuf0 (F := F) c hbM0_0) : Vec F S1024x256 .bf16 := xs1

/-- The contents a point of case A leaves. -/
def atA (c : Dev nD) (t : Fin cfg0.N) (h0 : t.val % 32 = 0) : Vec F S512x1024 .f32 × Vec F S8x128 .f32 × Vec F S1x1024 .f32 × Vec F S1x1024 .f32 × Vec F S1024x1024 .f32 × Vec F S1024x1024 .f32 × Vec F S1024x1024 .bf16 × Vec F S1024x256 .bf16 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (V m c main_v15), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (V m c main_v15), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (V m c main_v15), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (V m c main_v15), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (V m c main_v15), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (V m c main_v15), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (V m c main_v15), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (V m c main_v15))

/-- The contents a point of case B leaves, from the contents `p` before it. -/
def atB (c : Dev nD) (t : Fin cfg0.N) (h0 : ¬t.val % 32 = 0) (p : Vec F S512x1024 .f32 × Vec F S8x128 .f32 × Vec F S1x1024 .f32 × Vec F S1x1024 .f32 × Vec F S1024x1024 .f32 × Vec F S1024x1024 .f32 × Vec F S1024x1024 .bf16 × Vec F S1024x256 .bf16) : Vec F S512x1024 .f32 × Vec F S8x128 .f32 × Vec F S1x1024 .f32 × Vec F S1x1024 .f32 × Vec F S1024x1024 .f32 × Vec F S1024x1024 .f32 × Vec F S1024x1024 .bf16 × Vec F S1024x256 .bf16 :=
  (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) p.2.1 p.2.2.1 p.2.2.2.1 p.2.2.2.2.1 p.2.2.2.2.2.1 p.2.2.2.2.2.2.1 p.2.2.2.2.2.2.2 (V m c main_v15), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) p.2.1 p.2.2.1 p.2.2.2.1 p.2.2.2.2.1 p.2.2.2.2.2.1 p.2.2.2.2.2.2.1 p.2.2.2.2.2.2.2 (V m c main_v15), out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) p.2.1 p.2.2.1 p.2.2.2.1 p.2.2.2.2.1 p.2.2.2.2.2.1 p.2.2.2.2.2.2.1 p.2.2.2.2.2.2.2 (V m c main_v15), out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) p.2.1 p.2.2.1 p.2.2.2.1 p.2.2.2.2.1 p.2.2.2.2.2.1 p.2.2.2.2.2.2.1 p.2.2.2.2.2.2.2 (V m c main_v15), out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) p.2.1 p.2.2.1 p.2.2.2.1 p.2.2.2.2.1 p.2.2.2.2.2.1 p.2.2.2.2.2.2.1 p.2.2.2.2.2.2.2 (V m c main_v15), out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) p.2.1 p.2.2.1 p.2.2.2.1 p.2.2.2.2.1 p.2.2.2.2.2.1 p.2.2.2.2.2.2.1 p.2.2.2.2.2.2.2 (V m c main_v15), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) p.2.1 p.2.2.1 p.2.2.2.1 p.2.2.2.2.1 p.2.2.2.2.2.1 p.2.2.2.2.2.2.1 p.2.2.2.2.2.2.2 (V m c main_v15), sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) p.2.1 p.2.2.1 p.2.2.2.1 p.2.2.2.2.1 p.2.2.2.2.2.1 p.2.2.2.2.2.2.1 p.2.2.2.2.2.2.2 (V m c main_v15))

/-- What the output blocks and the scratch hold after each point. -/
def outsAt0 (c : Dev nD) : (n : ℕ) → n < cfg0.N → Vec F S512x1024 .f32 × Vec F S8x128 .f32 × Vec F S1x1024 .f32 × Vec F S1x1024 .f32 × Vec F S1024x1024 .f32 × Vec F S1024x1024 .f32 × Vec F S1024x1024 .bf16 × Vec F S1024x256 .bf16
  | 0, hn => atA m c ⟨0, hn⟩ (Nat.zero_mod _)
  | n + 1, hn =>
    if h0 : (n + 1) % 32 = 0 then
      atA m c ⟨n + 1, hn⟩ h0
    else
      atB m c ⟨n + 1, hn⟩ h0 (outsAt0 c n (Nat.lt_of_succ_lt hn))

/-- The contents after a point of case A. -/
theorem outsAt0_A (c : Dev nD) (t : Fin cfg0.N) (h0 : t.val % 32 = 0) :
    outsAt0 m c t.val t.isLt = atA m c t h0 := by
  obtain ⟨n, hn⟩ := t
  cases n with
  | zero => exact rfl
  | succ n => exact (dif_pos h0).trans rfl

/-- The contents after a point of case B. -/
theorem outsAt0_B (c : Dev nD) (t : Fin cfg0.N) (h0 : ¬t.val % 32 = 0) :
    outsAt0 m c t.val t.isLt = atB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What is carried between the points. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.2.2.1) ∗ owns (c : Thread nD τ) scM0_1 fullShare ((outsAt0 m c n hn).2.2.2.2.2.2.2)) ∗ (∃ r, prngReg c r) ∗ iprop(semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0) ∗ iprop(hbPt0 c hbM0_0 (V m c main_v15)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.1) ∗ owns (c : Thread nD τ) scM0_1 fullShare ((outsAt0 m c n hn).2.2.2.2.2.2.2)) ∗ (∃ r, prngReg c r) ∗ iprop(semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0) ∗ iprop(hbPt0 c hbM0_0 (V m c main_v15))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.1) ∗ owns (c : Thread nD τ) scM0_1 fullShare ((outsAt0 m c (n - 1) (by omega)).2.2.2.2.2.2.2)) ∗ (∃ r, prngReg c r) ∗ iprop(semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0) ∗ iprop(hbPt0 c hbM0_0 (V m c main_v15))) := by
  cases n with
  | zero => exact absurd rfl hz
  | succ n => rfl

/-- The proof data of the run: what each window holds after each point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
    | ⟨9, _⟩ => (outsAt0 m c t.val t.isLt).2.2.2.2.1
    | ⟨10, _⟩ => (outsAt0 m c t.val t.isLt).2.2.2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]
theorem after0_9 (c : Dev nD) (t : Fin cfg0.N) : (dats m 0 c).after 9 t = (outsAt0 m c t.val t.isLt).2.2.2.2.1 := by dsimp only [dats]
theorem after0_10 (c : Dev nD) (t : Fin cfg0.N) : (dats m 0 c).after 10 t = (outsAt0 m c t.val t.isLt).2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem before0_6_B (c : Dev nD) (t : Fin cfg0.N) (h0 : ¬t.val % 32 = 0) (d) :
    (dats m 0 c).before 6 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 6 rfl t (by omega) (Bool.eq_false_iff.mpr fun h => by have := (flush0_6 _).mp h; dsimp only at this; omega)
    (fun _ => rfl) (fun _ _ => rfl)]
  dsimp only [dats]

theorem before0_7_B (c : Dev nD) (t : Fin cfg0.N) (h0 : ¬t.val % 32 = 0) (d) :
    (dats m 0 c).before 7 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 7 rfl t (by omega) (Bool.eq_false_iff.mpr fun h => by have := (flush0_7 _).mp h; dsimp only at this; omega)
    (fun _ => rfl) (fun _ _ => rfl)]
  dsimp only [dats]

theorem before0_8_B (c : Dev nD) (t : Fin cfg0.N) (h0 : ¬t.val % 32 = 0) (d) :
    (dats m 0 c).before 8 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 8 rfl t (by omega) (Bool.eq_false_iff.mpr fun h => by have := (flush0_8 _).mp h; dsimp only at this; omega)
    (fun _ => rfl) (fun _ _ => rfl)]
  dsimp only [dats]

theorem before0_9_B (c : Dev nD) (t : Fin cfg0.N) (h0 : ¬t.val % 32 = 0) (d) :
    (dats m 0 c).before 9 t d = (outsAt0 m c (t.val - 1) (Nat.lt_of_le_of_lt (Nat.sub_le _ _) t.isLt)).2.2.2.2.1 := by
  have hN : t.val < 32 := lt_of_lt_of_eq t.isLt (show cfg0.N = 32 from N_0)
  rw [Dat.before_out_kept _ 9 rfl t (by omega) (Bool.eq_false_iff.mpr fun h => by have := (flush0_9 _).mp h; dsimp only at this; omega)
    (fun _ => rfl) (fun _ _ => rfl)]
  dsimp only [dats]

theorem before0_10_B (c : Dev nD) (t : Fin cfg0.N) (h0 : ¬t.val % 32 = 0) (d) :
    (dats m 0 c).before 10 t d = (outsAt0 m c (t.val - 1) (Nat.lt_of_le_of_lt (Nat.sub_le _ _) t.isLt)).2.2.2.2.2.1 := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 9600000 in

/-- The body at any point takes the contents before it to those after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ,
    after0_0, after0_1, after0_2, after0_3, after0_4, after0_5, after0_6, after0_7, after0_8, after0_9, after0_10]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases hz : t.val = 0
    · rw [PhiS_castSucc m c t, PhiS_zero m c _ _ hz, PhiD0_eq]
      rw [outsAt0_A m c t h0, atA]
      unfold out0_A_5 out0_A_6 out0_A_7 out0_A_8 out0_A_9 out0_A_10 sout0_A_0 sout0_A_1; (try dsimp only)
      iintro ⟨⟨⟨HS0, HS1⟩, Hg, ⟨Hq0, Hq1, Hq2, Hq3, Hq4, Hq5, Hq6, Hq7, Hq8, Hq9, Hq10, Hq11, Hq12, Hq13, Hq14, Hq15⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (V m c main_v15)).2.2.2.2.2.2.2.2 W _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      isplitl [HS0]; · iexact HS0
      isplitl [HS1]; · iexact HS1
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hh0]; · iexact Hh0
      isplitl [HW]; · iexact HW
      iintro ⟨H0, H1, H2, H3, H4, ⟨%e5, H5⟩, ⟨%e6, H6⟩, ⟨%e7, H7⟩, ⟨%e8, H8⟩, ⟨%e9, H9⟩, ⟨%e10, H10⟩, ⟨%es0, HS0⟩, ⟨%es1, HS1⟩, Hq0, Hq1, Hq2, Hq3, Hq4, Hq5, Hq6, Hq7, Hq8, Hq9, Hq10, Hq11, Hq12, Hq13, Hq14, Hq15, Hh0, ⟨%W', HW'⟩⟩
      isplitl [HS0 HS1 Hg Hq0 Hq1 Hq2 Hq3 Hq4 Hq5 Hq6 Hq7 Hq8 Hq9 Hq10 Hq11 Hq12 Hq13 Hq14 Hq15 Hh0]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _)
        isplitl [Hg]
        · iexact Hg
        isplitl [Hq0 Hq1 Hq2 Hq3 Hq4 Hq5 Hq6 Hq7 Hq8 Hq9 Hq10 Hq11 Hq12 Hq13 Hq14 Hq15]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          iexact Hq15
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0, atB]
      simp only [before0_6_B m c t h0, before0_7_B m c t h0, before0_8_B m c t h0, before0_9_B m c t h0, before0_10_B m c t h0]
      unfold out0_B_5 out0_B_6 out0_B_7 out0_B_8 out0_B_9 out0_B_10 sout0_B_0 sout0_B_1; (try dsimp only)
      iintro ⟨⟨⟨HS0, HS1⟩, Hg, ⟨Hq0, Hq1, Hq2, Hq3, Hq4, Hq5, Hq6, Hq7, Hq8, Hq9, Hq10, Hq11, Hq12, Hq13, Hq14, Hq15⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) _ _ _ _ _ _ _ (V m c main_v15)).2.2.2.2.2.2.2.2 W _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hh0]; · iexact Hh0
      isplitl [HW]; · iexact HW
      iintro ⟨H0, H1, H2, H3, H4, ⟨%e5, H5⟩, ⟨%e6, H6⟩, ⟨%e7, H7⟩, ⟨%e8, H8⟩, ⟨%e9, H9⟩, H10, HS0, HS1, Hq0, Hq1, Hq2, Hq3, Hq4, Hq5, Hq6, Hq7, Hq8, Hq9, Hq10, Hq11, Hq12, Hq13, Hq14, Hq15, Hh0, ⟨%W', HW'⟩⟩
      isplitl [HS0 HS1 Hg Hq0 Hq1 Hq2 Hq3 Hq4 Hq5 Hq6 Hq7 Hq8 Hq9 Hq10 Hq11 Hq12 Hq13 Hq14 Hq15 Hh0]
      · isplitl [HS0 HS1]
        · isplitl [HS0]; · iexact HS0
          iexact HS1
        isplitl [Hg]
        · iexact Hg
        isplitl [Hq0 Hq1 Hq2 Hq3 Hq4 Hq5 Hq6 Hq7 Hq8 Hq9 Hq10 Hq11 Hq12 Hq13 Hq14 Hq15]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          iexact Hq15
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _ _ _)
      unfold owns; iexists _; isplitr
      swap; · iexact H10
      ipureintro; rfl

theorem defs₀_row (t : Fin cfg0.N) :
    defs₀ (F := F) .tc cfg0.body (cfg0.bodyArgs t (cfg0.slots t)) = bodyAt0 t := by
  unfold defs₀; rw [Defs.onTc_tc]

/-- The obligation of the body at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1⟩, Hg, ⟨Hq0, Hq1, Hq2, Hq3, Hq4, Hq5, Hq6, Hq7, Hq8, Hq9, Hq10, Hq11, Hq12, Hq13, Hq14, Hq15⟩, Hh0⟩
  isplitl [HS0 HS1]
  · isplitl [HS0]
    · iexists _; iexact HS0
    iexists _; iexact HS1
  isplitl [Hg]; · iexact Hg
  isplitl [Hq0 Hq1 Hq2 Hq3 Hq4 Hq5 Hq6 Hq7 Hq8 Hq9 Hq10 Hq11 Hq12 Hq13 Hq14 Hq15]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    iexact Hq15
  iexact Hh0

theorem hout (c : Dev nD) : (dats m 0 c).Φ (Fin.last cfg0.N) ⊢ Pipeline.ΦD osem0 spec0 H0 (V m) c :=
  Phi_out m c _ (by rw [Fin.val_last]; have : cfg0.N = 32 := N_0; omega)

set_option backward.isDefEq.respectTransparency.types false in

/-- The run of the program, with every semaphore counter back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The run of the program. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The argument arrays are unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.HeadIdeal.Launch

end
-- ==== Proof.Head.Value.lean ====
/- What every point writes back, and the output arrays of the run block by block. -/
module

public import proofs.«01_k».proof.Proof.Head.Frame
public import Idealize.ShloMosaic.Lib.Pipeline.Value

@[expose] public section

noncomputable section

namespace Cert.HeadIdeal.Value

open Cert.HeadIdeal Cert.HeadIdeal.Gen Cert.HeadIdeal.Launch Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem post5 (r : PUnit × MemSt nD τ sig (Elt F)) (h : Pipeline.FramePost cfgs (dats m) 0 (V m) r) (c : Dev nD) :
    r.2.mem ((c : Thread nD τ).loc main_v17_0) = (dats m 0 c).arrAt 5 cfg0.N :=
  (h c).1 5

theorem post6 (r : PUnit × MemSt nD τ sig (Elt F)) (h : Pipeline.FramePost cfgs (dats m) 0 (V m) r) (c : Dev nD) :
    r.2.mem ((c : Thread nD τ).loc main_v17_1) = (dats m 0 c).arrAt 6 cfg0.N :=
  (h c).1 6

theorem post7 (r : PUnit × MemSt nD τ sig (Elt F)) (h : Pipeline.FramePost cfgs (dats m) 0 (V m) r) (c : Dev nD) :
    r.2.mem ((c : Thread nD τ).loc main_v17_2) = (dats m 0 c).arrAt 7 cfg0.N :=
  (h c).1 7

theorem post8 (r : PUnit × MemSt nD τ sig (Elt F)) (h : Pipeline.FramePost cfgs (dats m) 0 (V m) r) (c : Dev nD) :
    r.2.mem ((c : Thread nD τ).loc main_v17_3) = (dats m 0 c).arrAt 8 cfg0.N :=
  (h c).1 8

theorem post9 (r : PUnit × MemSt nD τ sig (Elt F)) (h : Pipeline.FramePost cfgs (dats m) 0 (V m) r) (c : Dev nD) :
    r.2.mem ((c : Thread nD τ).loc main_v17_4) = (dats m 0 c).arrAt 9 cfg0.N :=
  (h c).1 9

theorem post10 (r : PUnit × MemSt nD τ sig (Elt F)) (h : Pipeline.FramePost cfgs (dats m) 0 (V m) r) (c : Dev nD) :
    r.2.mem ((c : Thread nD τ).loc main_v17_5) = (dats m 0 c).arrAt 10 cfg0.N :=
  (h c).1 10

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- The run with each output array named. -/
theorem run_blocks : θ_run defs (onTc (τ := τ) (main (F := F))) ⟨m, fun _ => 0, ρ⟩ fun r => ∀ c : Dev nD,
      r.2.mem ((c : Thread nD τ).loc main_v17_0) = (dats m 0 c).arrAt 5 cfg0.N
      ∧ r.2.mem ((c : Thread nD τ).loc main_v17_1) = (dats m 0 c).arrAt 6 cfg0.N
      ∧ r.2.mem ((c : Thread nD τ).loc main_v17_2) = (dats m 0 c).arrAt 7 cfg0.N
      ∧ r.2.mem ((c : Thread nD τ).loc main_v17_3) = (dats m 0 c).arrAt 8 cfg0.N
      ∧ r.2.mem ((c : Thread nD τ).loc main_v17_4) = (dats m 0 c).arrAt 9 cfg0.N
      ∧ r.2.mem ((c : Thread nD τ).loc main_v17_5) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post5 m r h c,
      post6 m r h c,
      post7 m r h c,
      post8 m r h c,
      post9 m r h c,
      post10 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.HeadIdeal.Value

end
-- ==== Proof.Head.Val.lean ====
module

public import proofs.«01_k».proof.Proof.Head.Value
public import proofs.«01_k».proof.Proof.Gen.HeadRefIdeal.Run
public import Idealize.ShloMosaic.Lib.Pipeline.ValueKit

@[expose] public section

set_option maxRecDepth 16384

noncomputable section

/-! The two weights the first point copies into scratch memory: the gate's and the transposed projection's. -/

namespace Cert.HeadIdeal.Val

open Cert.HeadIdeal Cert.HeadIdeal.Gen Cert.HeadIdeal.Launch Idealize.ShloMosaic Idealize.ShloMosaic.TcCoe Idealize.SL.Sem
open Idealize.ShloMosaic.Pipeline (Dat)

variable (m : (ℓ : Loc nD τ sig) → Buf (Elt Ideal) ℓ)

theorem gg_pure (X : FVec Ideal S1x1024x1024 .f32) (k : Fin 8) (r q : Fin 128) (d : Fin 1024) (h : q.val = r.val) :
    shapeCast S8x128x1024 (fun i => truncf (F := Ideal) FTy.bf16 (shapeCast S1024x1024 X shapeCasts_S1x1024x1024_S1024x1024) bitsLt_bf16_f32 i) shapeCasts_S1024x1024_S8x128x1024 (ix3 k q d) =
      X (ix3 0 ⟨128 * k.val + r.val, by omega⟩ d) := by
  obtain rfl : q = r := Fin.ext h
  pointwise []
  blk_point []

theorem gg_at (c : Dev nD) (k : Fin 8) (r : Fin 128) (d : Fin 1024) :
    (V m c main_v15 : S8x1312x1024.Idx → EReal) (ix3 k ⟨1184 + r.val, by omega⟩ d) = m ((c : Thread nD τ).loc main_arg7) (ix3 0 ⟨128 * k.val + r.val, by omega⟩ d) := by
  unfold V
  simp only [hostOps0, hostOps0_1, hostOps0_2, List.flatten_cons, List.flatten_nil, List.append_nil, List.cons_append, List.nil_append]
  after_results
  pointwise []
  rw [dif_neg (by omega), dif_neg (by omega), dif_neg (by omega)]
  after_results_simp
  exact gg_pure _ k r _ d (by dsimp only; omega)

theorem slabG_read (G : S8x1312x1024.Idx → EReal) (k : Fin 8) (a : Fin 128) (b : Fin 1024)
    (hk : ∀ x, (![k.val, 1184, 0] : Fin 3 → Nat) x + (![1, 128, 1024] : Fin 3 → Nat) x ≤ S8x1312x1024.size x) (hn) :
    (View.read (Elt Ideal) (((View.whole main_v15).slice (Rect.unit ![k.val, 1184, 0] ![1, 128, 1024] hk)).reshape S128x1024 hn) G : S128x1024.Idx → EReal) (ix2 a b) =
      G (ix3 k ⟨1184 + a.val, by omega⟩ b) := by
  have h : Shape.reshapeEquiv (s := S1x128x1024) (s' := S128x1024) hn (ix2 a b) = ix3 0 a b := by
    simp only [reshapeIdx]
  refine (congrArg (fun i => G ((Rect.unit ![k.val, 1184, 0] ![1, 128, 1024] hk).emb i)) h).trans (congrArg G ?_)
  funext i
  fin_cases i <;> (apply Fin.ext; simp [Rect.emb, LoadRect.idx, Rect.unit])

theorem slabG_at (c : Dev nD) (k : Fin 8) (j d : Fin 1024) (a : Fin 128) (b : Fin 1024)
    (h0 : j.val = 128 * k.val + a.val) (h1 : d.val = b.val) (hk) (hn) :
    (View.read (Elt Ideal) (((View.whole main_v15).slice (Rect.unit ![k.val, 1184, 0] ![1, 128, 1024] hk)).reshape S128x1024 hn) (V m c main_v15) : S128x1024.Idx → EReal) (ix2 a b) =
      m ((c : Thread nD τ).loc main_arg7) (ix3 0 j d) := by
  rw [slabG_read, gg_at m c k a b]
  congr 2
  · exact Fin.ext h0.symm
  · exact Fin.ext h1.symm

theorem wg_A (c : Dev nD) (t : Fin cfg0.N) (h0 : t.val % 32 = 0) (j d : Fin 1024) :
    (outsAt0 m c t.val t.isLt).2.2.2.2.2.2.1 (ix2 j d) = m ((c : Thread nD τ).loc main_arg7) (ix3 0 j d) := by
  rw [outsAt0_A m c t h0, atA]
  dsimp only
  frame_out
  canon_tiles y h
  case piece0 =>
    obtain ⟨a, b, rfl⟩ : ∃ (a : Fin 128) (b : Fin 1024), y = ix2 a b := ⟨y 0, y 1, by funext i; fin_cases i <;> rfl⟩
    exact slabG_at m c 7 j d a b h0 h1 _ _
  case piece1 =>
    obtain ⟨a, b, rfl⟩ : ∃ (a : Fin 128) (b : Fin 1024), y = ix2 a b := ⟨y 0, y 1, by funext i; fin_cases i <;> rfl⟩
    exact slabG_at m c 6 j d a b h0 h1 _ _
  case piece2 =>
    obtain ⟨a, b, rfl⟩ : ∃ (a : Fin 128) (b : Fin 1024), y = ix2 a b := ⟨y 0, y 1, by funext i; fin_cases i <;> rfl⟩
    exact slabG_at m c 5 j d a b h0 h1 _ _
  case piece3 =>
    obtain ⟨a, b, rfl⟩ : ∃ (a : Fin 128) (b : Fin 1024), y = ix2 a b := ⟨y 0, y 1, by funext i; fin_cases i <;> rfl⟩
    exact slabG_at m c 4 j d a b h0 h1 _ _
  case piece4 =>
    obtain ⟨a, b, rfl⟩ : ∃ (a : Fin 128) (b : Fin 1024), y = ix2 a b := ⟨y 0, y 1, by funext i; fin_cases i <;> rfl⟩
    exact slabG_at m c 3 j d a b h0 h1 _ _
  case piece5 =>
    obtain ⟨a, b, rfl⟩ : ∃ (a : Fin 128) (b : Fin 1024), y = ix2 a b := ⟨y 0, y 1, by funext i; fin_cases i <;> rfl⟩
    exact slabG_at m c 2 j d a b h0 h1 _ _
  case piece6 =>
    obtain ⟨a, b, rfl⟩ : ∃ (a : Fin 128) (b : Fin 1024), y = ix2 a b := ⟨y 0, y 1, by funext i; fin_cases i <;> rfl⟩
    exact slabG_at m c 1 j d a b h0 h1 _ _
  case piece7 =>
    have h0 : j.val = _ := h0
    obtain ⟨a, b, rfl⟩ : ∃ (a : Fin 128) (b : Fin 1024), y = ix2 a b := ⟨y 0, y 1, by funext i; fin_cases i <;> rfl⟩
    exact slabG_at m c 0 j d a b (h0.trans (by simp)) h1 _ _

theorem pe_pure (X : FVec Ideal S1x256x1024 .f32) (z : FVec Ideal S_ .f32) (k : Fin 8) (r q : Fin 128) (d : Fin 256) (h : q.val = r.val) :
    shapeCast S8x128x1024 (fun i => truncf (F := Ideal) FTy.bf16 (pad S1024x1024 ![0, 0] ![0, 768] ![0, 0] (transpose S1024x256 [1, 0] (shapeCast S256x1024 X shapeCasts_S1x256x1024_S256x1024) transposes_S256x1024_S1024x256_1_0) z pads_S1024x256_S1024x1024_000_07680 h_S_) bitsLt_bf16_f32 i) shapeCasts_S1024x1024_S8x128x1024 (ix3 k q ⟨d.val, by omega⟩) =
      X (ix3 0 d ⟨128 * k.val + r.val, by omega⟩) := by
  obtain rfl : q = r := Fin.ext h
  pointwise []
  blk_point []

theorem pe_at (c : Dev nD) (k : Fin 8) (r : Fin 128) (d : Fin 256) :
    (V m c main_v15 : S8x1312x1024.Idx → EReal) (ix3 k ⟨704 + r.val, by omega⟩ ⟨d.val, by omega⟩) = m ((c : Thread nD τ).loc main_arg8) (ix3 0 d ⟨128 * k.val + r.val, by omega⟩) := by
  unfold V
  simp only [hostOps0, hostOps0_1, hostOps0_2, List.flatten_cons, List.flatten_nil, List.append_nil, List.cons_append, List.nil_append]
  after_results
  pointwise []
  after_results_simp
  exact pe_pure _ _ k r _ d rfl

theorem slabP_read (G : S8x1312x1024.Idx → EReal) (k : Fin 8) (a : Fin 128) (b : Fin 256)
    (hk : ∀ x, (![k.val, 704, 0] : Fin 3 → Nat) x + (![1, 128, 256] : Fin 3 → Nat) x ≤ S8x1312x1024.size x) (hn) :
    (View.read (Elt Ideal) (((View.whole main_v15).slice (Rect.unit ![k.val, 704, 0] ![1, 128, 256] hk)).reshape S128x256 hn) G : S128x256.Idx → EReal) (ix2 a b) =
      G (ix3 k ⟨704 + a.val, by omega⟩ ⟨b.val, by omega⟩) := by
  have h : Shape.reshapeEquiv (s := S1x128x256) (s' := S128x256) hn (ix2 a b) = ix3 0 a b := by
    simp only [reshapeIdx]
  refine (congrArg (fun i => G ((Rect.unit ![k.val, 704, 0] ![1, 128, 256] hk).emb i)) h).trans (congrArg G ?_)
  funext i
  fin_cases i <;> (apply Fin.ext; simp [Rect.emb, LoadRect.idx, Rect.unit])

theorem slabP_at (c : Dev nD) (k : Fin 8) (j : Fin 1024) (d : Fin 256) (a : Fin 128) (b : Fin 256)
    (h0 : j.val = 128 * k.val + a.val) (h1 : d.val = b.val) (hk) (hn) :
    (View.read (Elt Ideal) (((View.whole main_v15).slice (Rect.unit ![k.val, 704, 0] ![1, 128, 256] hk)).reshape S128x256 hn) (V m c main_v15) : S128x256.Idx → EReal) (ix2 a b) =
      m ((c : Thread nD τ).loc main_arg8) (ix3 0 d j) := by
  rw [slabP_read, pe_at m c k a b]
  congr 2
  · exact Fin.ext h1.symm
  · exact Fin.ext h0.symm

theorem wp_A (c : Dev nD) (t : Fin cfg0.N) (h0 : t.val % 32 = 0) (j : Fin 1024) (d : Fin 256) :
    (outsAt0 m c t.val t.isLt).2.2.2.2.2.2.2 (ix2 j d) = m ((c : Thread nD τ).loc main_arg8) (ix3 0 d j) := by
  rw [outsAt0_A m c t h0, atA]
  dsimp only
  frame_out
  canon_tiles y h
  case piece0 =>
    obtain ⟨a, b, rfl⟩ : ∃ (a : Fin 128) (b : Fin 256), y = ix2 a b := ⟨y 0, y 1, by funext i; fin_cases i <;> rfl⟩
    exact slabP_at m c 7 j d a b h0 h1 _ _
  case piece1 =>
    obtain ⟨a, b, rfl⟩ : ∃ (a : Fin 128) (b : Fin 256), y = ix2 a b := ⟨y 0, y 1, by funext i; fin_cases i <;> rfl⟩
    exact slabP_at m c 6 j d a b h0 h1 _ _
  case piece2 =>
    obtain ⟨a, b, rfl⟩ : ∃ (a : Fin 128) (b : Fin 256), y = ix2 a b := ⟨y 0, y 1, by funext i; fin_cases i <;> rfl⟩
    exact slabP_at m c 5 j d a b h0 h1 _ _
  case piece3 =>
    obtain ⟨a, b, rfl⟩ : ∃ (a : Fin 128) (b : Fin 256), y = ix2 a b := ⟨y 0, y 1, by funext i; fin_cases i <;> rfl⟩
    exact slabP_at m c 4 j d a b h0 h1 _ _
  case piece4 =>
    obtain ⟨a, b, rfl⟩ : ∃ (a : Fin 128) (b : Fin 256), y = ix2 a b := ⟨y 0, y 1, by funext i; fin_cases i <;> rfl⟩
    exact slabP_at m c 3 j d a b h0 h1 _ _
  case piece5 =>
    obtain ⟨a, b, rfl⟩ : ∃ (a : Fin 128) (b : Fin 256), y = ix2 a b := ⟨y 0, y 1, by funext i; fin_cases i <;> rfl⟩
    exact slabP_at m c 2 j d a b h0 h1 _ _
  case piece6 =>
    obtain ⟨a, b, rfl⟩ : ∃ (a : Fin 128) (b : Fin 256), y = ix2 a b := ⟨y 0, y 1, by funext i; fin_cases i <;> rfl⟩
    exact slabP_at m c 1 j d a b h0 h1 _ _
  case piece7 =>
    have h0 : j.val = _ := h0
    obtain ⟨a, b, rfl⟩ : ∃ (a : Fin 128) (b : Fin 256), y = ix2 a b := ⟨y 0, y 1, by funext i; fin_cases i <;> rfl⟩
    exact slabP_at m c 0 j d a b (h0.trans (by simp)) h1 _ _

theorem wg_all (c : Dev nD) : ∀ (n : ℕ) (hn : n < cfg0.N) (j d : Fin 1024),
    (outsAt0 m c n hn).2.2.2.2.2.2.1 (ix2 j d) = m ((c : Thread nD τ).loc main_arg7) (ix3 0 j d)
  | 0, hn, j, d => wg_A m c ⟨0, hn⟩ (Nat.zero_mod _) j d
  | n + 1, hn, j, d => by
    by_cases h0 : (n + 1) % 32 = 0
    · exact wg_A m c ⟨n + 1, hn⟩ h0 j d
    · have := outsAt0_B m c ⟨n + 1, hn⟩ h0
      rw [this]
      exact wg_all c n (Nat.lt_of_succ_lt hn) j d

theorem wp_all (c : Dev nD) : ∀ (n : ℕ) (hn : n < cfg0.N) (j : Fin 1024) (d : Fin 256),
    (outsAt0 m c n hn).2.2.2.2.2.2.2 (ix2 j d) = m ((c : Thread nD τ).loc main_arg8) (ix3 0 d j)
  | 0, hn, j, d => wp_A m c ⟨0, hn⟩ (Nat.zero_mod _) j d
  | n + 1, hn, j, d => by
    by_cases h0 : (n + 1) % 32 = 0
    · exact wp_A m c ⟨n + 1, hn⟩ h0 j d
    · have := outsAt0_B m c ⟨n + 1, hn⟩ h0
      rw [this]
      exact wp_all c n (Nat.lt_of_succ_lt hn) j d

end Cert.HeadIdeal.Val
-- ==== Proof.Head.Row.lean ====
module
public import proofs.«01_k».proof.Proof.Norm.Act
@[expose] public section
noncomputable section
/-! One row of the loss head over the extended reals: the per-layer embedding, the last norm, the loss and the gradient back. -/
namespace Cert.HeadIdeal.Val
open Idealize.ShloMosaic

/-- What one row is computed from. -/
structure Ctx where
  /-- the residual row -/
  x : Fin 1024 → EReal
  /-- the embedding's row -/
  p : Fin 256 → EReal
  /-- the target's row -/
  tg : Fin 1024 → EReal
  /-- the gain of the first norm -/
  g3 : Fin 1024 → EReal
  /-- the gain of the last norm -/
  gf : Fin 1024 → EReal
  /-- the gate's weight -/
  W : Fin 1024 → Fin 1024 → EReal
  /-- the projection -/
  P : Fin 256 → Fin 1024 → EReal

namespace Ctx
variable (c : Ctx)

/-- The normalised row times the first gain. -/
def nr (d : Fin 1024) : EReal := c.x d * Norm.rinv c.x * c.g3 d
/-- The gate. -/
def gt (j : Fin 1024) : EReal := Norm.sig (∑ d, c.nr d * c.W d j)
/-- The projected embedding. -/
def em (j : Fin 1024) : EReal := ∑ k, c.p k * c.P k j
/-- The row with the gated embedding added. -/
def h3 (j : Fin 1024) : EReal := c.x j + c.gt j * c.em j
/-- The last norm's row minus the target. -/
def df (j : Fin 1024) : EReal := c.h3 j * Norm.rinv c.h3 * c.gf j - c.tg j
/-- The loss's gradient at the last norm's row. -/
def dy (j : Fin 1024) : EReal := c.df j * Ideal.ofBits FTy.f32 0x3A800000#32
/-- The gradient at the row with the embedding added. -/
def dh (j : Fin 1024) : EReal := Norm.back c.h3 (fun e => c.dy e * c.gf e) j
/-- The gradient before the gate's logistic function. -/
def dp (j : Fin 1024) : EReal := c.dh j * c.em j * c.gt j * (Ideal.ofBits FTy.f32 0x3F800000#32 - c.gt j)
/-- The gradient at the first norm's row. -/
def dn (d : Fin 1024) : EReal := ∑ j, c.dp j * c.W d j
/-- The gradient at the residual row. -/
def dx (d : Fin 1024) : EReal := c.dh d + Norm.back c.x (fun e => c.dn e * c.g3 e) d
/-- The sum of the squares the loss adds up. -/
def sq : EReal := ∑ j, c.df j * c.df j

end Ctx

theorem c1_1024 : Ideal.ofBits FTy.f32 0x3A800000#32 = ((1 / 1024 : ℝ) : EReal) := by
  simp only [Ideal.ofBits, Ideal.ieee]
  simp
  rw [← EReal.coe_mul]
  norm_num

theorem c1_2048 : Ideal.ofBits FTy.f32 0x3A000000#32 = ((1 / 2048 : ℝ) : EReal) := by
  simp only [Ideal.ofBits, Ideal.ieee]
  simp
  rw [← EReal.coe_mul]
  norm_num

theorem c2 : Ideal.ofBits FTy.f32 0x40000000#32 = ((2 : ℝ) : EReal) := by
  simp only [Ideal.ofBits, Ideal.ieee]
  simp
  rw [← EReal.coe_mul]
  norm_num

/-- The reference's factors before the difference make one over 1024. -/
theorem dy_eq (y : EReal) : Ideal.div (Ideal.ofBits FTy.f32 0x3F000000#32 * Ideal.ofBits FTy.f32 0x3F800000#32) (Ideal.ofBits FTy.f32 0x44800000#32) *
    (Ideal.ofBits FTy.f32 0x40000000#32 * y) = y * Ideal.ofBits FTy.f32 0x3A800000#32 := by
  rw [Norm.cpos, Norm.cone, Norm.c1024, c2, c1_1024, Ideal.div_coe (by norm_num), ← EReal.coe_mul, ← EReal.coe_mul, ← mul_assoc, ← EReal.coe_mul, mul_comm]
  congr 2
  norm_num

/-- Half the sum of the rows' means is the sum of the blocks' sums, each over 2048. -/
theorem loss_eq {ι : Type} (s : Finset ι) (f : ι → EReal) :
    Ideal.ofBits FTy.f32 0x3F000000#32 * ∑ r ∈ s, Ideal.div (f r) (Ideal.ofBits FTy.f32 0x44800000#32) = ∑ r ∈ s, f r * Ideal.ofBits FTy.f32 0x3A000000#32 := by
  rw [Norm.cpos, Norm.c1024, c1_2048]
  simp only [Ideal.div_coe (by norm_num : (1024 : ℝ) ≠ 0)]
  rw [Norm.sum_mul_real _ _ (by norm_num), Norm.sum_mul_real _ _ (by norm_num), mul_comm, mul_assoc, ← EReal.coe_mul]
  congr 2
  norm_num

end Cert.HeadIdeal.Val
-- ==== Proof.Head.Pay.lean ====
module
public import proofs.«01_k».proof.Proof.Gen.HeadIdeal.Skeleton
public import proofs.«01_k».proof.Proof.Head.Row
public import Idealize.ShloMosaic.Lib.Pipeline.ValueKit
@[expose] public section
set_option maxRecDepth 16384
noncomputable section
/-! What one grid point of the loss head computes, entry by entry. -/
namespace Cert.HeadIdeal.Val
open Cert.HeadIdeal Cert.HeadIdeal.Gen Idealize.ShloMosaic Idealize.ShloMosaic.TcCoe Idealize.SL.Sem

/-- Row `a` of a point's blocks. -/
def bc (x : FVec Ideal S512x1024 .f32) (p : FVec Ideal S512x256 .f32) (tg : FVec Ideal S512x1024 .f32) (g3 gf : FVec Ideal S1x1024 .f32)
    (W : FVec Ideal S1024x1024 .bf16) (P : FVec Ideal S1024x256 .bf16) (a : Fin 512) : Ctx :=
  ⟨fun e => x (ix2 a e), fun k => p (ix2 a k), fun e => tg (ix2 a e), fun e => g3 (ix2 0 e), fun e => gf (ix2 0 e), fun d j => W (ix2 d j), fun k j => P (ix2 j k)⟩

/-- Row `r` of the whole arrays. -/
def wc (a0 : FVec Ideal S16384x1024 .f32) (a1 : FVec Ideal S16384x256 .f32) (a2 : FVec Ideal S16384x1024 .f32) (a3 : FVec Ideal S1x1024 .f32) (a4 : FVec Ideal S1024 .f32)
    (a7 : FVec Ideal S1x1024x1024 .f32) (a8 : FVec Ideal S1x256x1024 .f32) (r : Fin 16384) : Ctx :=
  ⟨fun e => a0 (ix2 r e), fun k => a1 (ix2 r k), fun e => a2 (ix2 r e), fun e => a3 (ix2 0 e), fun e => a4 (ix1 e), fun d j => a7 (ix3 0 d j), fun k j => a8 (ix3 0 k j)⟩

/-- What row `R` adds to the loss, to the gradients of the two gains and to those of the two weights, the last in its first columns only. -/
def pL (c : Fin 16384 → Ctx) (R : Fin 16384) : EReal := (c R).sq * Ideal.ofBits FTy.f32 0x3A000000#32
def pG3 (c : Fin 16384 → Ctx) (d : Fin 1024) (R : Fin 16384) : EReal := (c R).dn d * ((c R).x d * Norm.rinv (c R).x)
def pGf (c : Fin 16384 → Ctx) (d : Fin 1024) (R : Fin 16384) : EReal := (c R).dy d * ((c R).h3 d * Norm.rinv (c R).h3)
def pWg (c : Fin 16384 → Ctx) (i j : Fin 1024) (R : Fin 16384) : EReal := (c R).nr i * (c R).dp j
def pWp (c : Fin 16384 → Ctx) (i j : Fin 1024) (R : Fin 16384) : EReal := if h : j.val < 256 then (c R).dh i * (c R).gt i * (c R).p ⟨j.val, h⟩ else 0

/-- The six results over whole arrays. -/
def GDx (c : Fin 16384 → Ctx) : FVec Ideal S16384x1024 .f32 := fun i => (c (i 0)).dx (i 1)
def GLo (c : Fin 16384 → Ctx) : FVec Ideal S8x128 .f32 := fun _ => ∑ R : Fin 16384, pL c R
def GG3 (c : Fin 16384 → Ctx) : FVec Ideal S1x1024 .f32 := fun i => ∑ R : Fin 16384, pG3 c (i 1) R
def GGf (c : Fin 16384 → Ctx) : FVec Ideal S1x1024 .f32 := fun i => ∑ R : Fin 16384, pGf c (i 1) R
def GWg (c : Fin 16384 → Ctx) : FVec Ideal S1024x1024 .f32 := fun i => ∑ R : Fin 16384, pWg c (i 0) (i 1) R
def GWp (c : Fin 16384 → Ctx) : FVec Ideal S1024x1024 .f32 := fun i => ∑ R : Fin 16384, pWp c (i 0) (i 1) R

theorem gain_idx (j : S1x1024.Idx) : ∃ d : Fin 1024, j = ix2 0 d := by
  refine ⟨j 1, ?_⟩
  funext i
  fin_cases i
  · refine Fin.ext ?_
    have := (j 0).isLt
    change (j 0).val < 1 at this
    change (j 0).val = 0
    omega
  · rfl

/-- The number of columns, as the kernel's constant. -/
abbrev kc : Ideal .f32 := FloatOps.ofBits (F := Ideal) FTy.f32 1149239296#32

variable (x : FVec Ideal S512x1024 .f32) (p : FVec Ideal S512x256 .f32) (tg : FVec Ideal S512x1024 .f32) (g3 gf : FVec Ideal S1x1024 .f32)
  (W : FVec Ideal S1024x1024 .bf16) (P : FVec Ideal S1024x256 .bf16)

theorem pay8_at (a : Fin 512) : (k0_pay8 (F := Ideal) x (ix2 a 0) : EReal) = Norm.rinv fun e => x (ix2 a e) := by
  pointwise [k0_pay8, Norm.rinv, Norm.mean]

theorem pay9_at (a : Fin 512) (d : Fin 1024) : (k0_pay9 (F := Ideal) x (ix2 a d) : EReal) = x (ix2 a d) * Norm.rinv fun e => x (ix2 a e) := by
  rw [← pay8_at]
  pointwise [k0_pay9]

theorem pay10_at (a : Fin 512) (d : Fin 1024) : (k0_pay10 (F := Ideal) x g3 (ix2 a d) : EReal) = (bc x p tg g3 gf W P a).nr d := by
  refine Eq.trans (b := (k0_pay9 (F := Ideal) x (ix2 a d) : EReal) * g3 (ix2 0 d)) ?_ ?_
  · pointwise [k0_pay10]
  · rw [pay9_at]; rfl

theorem pay11_at (a : Fin 512) (j : Fin 1024) : (k0_pay11 (F := Ideal) x g3 W (ix2 a j) : EReal) = (bc x p tg g3 gf W P a).gt j := by
  refine Eq.trans (b := Norm.sig (∑ d : Fin 1024, (k0_pay10 (F := Ideal) x g3 (ix2 a d) : EReal) * W (ix2 d j))) ?_ ?_
  · pointwise [k0_pay11, Norm.sig]
  · simp only [pay10_at x p tg g3 gf W P]; rfl

theorem pay13_at (a : Fin 512) (j : Fin 1024) : (k0_pay13 (F := Ideal) p P (ix2 a j) : EReal) = (bc x p tg g3 gf W P a).em j := by
  unfold Ctx.em bc
  pointwise [k0_pay13, k0_pay12]

theorem pay14_at (a : Fin 512) (j : Fin 1024) : (k0_pay14 (F := Ideal) x g3 W p P (ix2 a j) : EReal) = (bc x p tg g3 gf W P a).h3 j := by
  refine Eq.trans (b := x (ix2 a j) + (k0_pay11 (F := Ideal) x g3 W (ix2 a j) : EReal) * k0_pay13 (F := Ideal) p P (ix2 a j)) rfl ?_
  rw [pay11_at x p tg g3 gf W P, pay13_at x p tg g3 gf W P]; rfl

theorem pay15_at (a : Fin 512) : (k0_pay15 (F := Ideal) x g3 W p P (ix2 a 0) : EReal) = ∑ e, (bc x p tg g3 gf W P a).h3 e * (bc x p tg g3 gf W P a).h3 e := by
  simp only [← pay14_at]
  pointwise [k0_pay15]

theorem pay16_at (a : Fin 512) : (k0_pay16 (F := Ideal) (k0_pay15 (F := Ideal) x g3 W p P) kc (ix2 a 0) : EReal) = Norm.rinv (bc x p tg g3 gf W P a).h3 := by
  unfold Norm.rinv Norm.mean
  rw [← pay15_at]
  pointwise [k0_pay16]

theorem pay17_at (a : Fin 512) (j : Fin 1024) : (k0_pay17 (F := Ideal) (k0_pay14 (F := Ideal) x g3 W p P) (k0_pay15 (F := Ideal) x g3 W p P) kc (ix2 a j) : EReal) =
    (bc x p tg g3 gf W P a).h3 j * Norm.rinv (bc x p tg g3 gf W P a).h3 := by
  rw [← pay16_at, ← pay14_at]
  pointwise [k0_pay17]

theorem pay18_at (a : Fin 512) (j : Fin 1024) : (k0_pay18 (F := Ideal) (k0_pay14 (F := Ideal) x g3 W p P) (k0_pay15 (F := Ideal) x g3 W p P) kc gf tg (ix2 a j) : EReal) =
    (bc x p tg g3 gf W P a).df j := by
  unfold Ctx.df
  rw [← pay17_at]
  pointwise [k0_pay18]
  rfl

theorem pay20_at (a : Fin 512) (j : Fin 1024) : (k0_pay20 (F := Ideal) (k0_pay14 (F := Ideal) x g3 W p P) (k0_pay15 (F := Ideal) x g3 W p P) kc gf tg (ix2 a j) : EReal) =
    (bc x p tg g3 gf W P a).dy j := by
  unfold Ctx.dy
  rw [← pay18_at]
  rfl

theorem pay19_at (L : FVec Ideal S8x128 .f32) (u : Fin 8) (v : Fin 128) :
    (k0_pay19 (F := Ideal) (k0_pay14 (F := Ideal) x g3 W p P) (k0_pay15 (F := Ideal) x g3 W p P) kc gf tg L (ix2 u v) : EReal) =
      L (ix2 u v) + (∑ a : Fin 512, (bc x p tg g3 gf W P a).sq) * Ideal.ofBits FTy.f32 0x3A000000#32 := by
  unfold Ctx.sq
  simp only [← pay18_at]
  pointwise [k0_pay19]

theorem pay21_at (d : Fin 1024) (s : FVec Ideal S1x1024 .f32) :
    (k0_pay25 (F := Ideal) (k0_pay21 (F := Ideal) (k0_pay14 (F := Ideal) x g3 W p P) (k0_pay15 (F := Ideal) x g3 W p P) kc gf tg) s (ix2 0 d) : EReal) =
      s (ix2 0 d) + ∑ a : Fin 512, (bc x p tg g3 gf W P a).dy d * ((bc x p tg g3 gf W P a).h3 d * Norm.rinv (bc x p tg g3 gf W P a).h3) := by
  simp only [← pay20_at, ← pay17_at]
  pointwise [k0_pay25, k0_pay21]

theorem pay24_at (a : Fin 512) (j : Fin 1024) :
    (k0_pay24 (F := Ideal) (k0_pay22 (F := Ideal) (k0_pay14 (F := Ideal) x g3 W p P) (k0_pay15 (F := Ideal) x g3 W p P) kc gf tg gf)
      (k0_pay23 (F := Ideal) (k0_pay15 (F := Ideal) x g3 W p P) kc) (ix2 a j) : EReal) = (bc x p tg g3 gf W P a).dh j := by
  unfold Ctx.dh Norm.back
  simp only [← pay20_at, ← pay17_at]
  rw [← pay16_at]
  pointwise [k0_pay24, k0_pay22, k0_pay23]
  rfl

section
variable (D E : FVec Ideal S512x1024 .f32) (hD : ∀ a j, k0_pay24 (F := Ideal) D E (ix2 a j) = (bc x p tg g3 gf W P a).dh j)
include hD

theorem pay26_at (s : FVec Ideal S1024x256 .f32) (i : Fin 1024) (b : Fin 256) :
    (k0_pay26 (F := Ideal) (k0_pay11 (F := Ideal) x g3 W) (k0_pay12 (F := Ideal) p) D E s (ix2 i b) : EReal) =
      s (ix2 i b) + ∑ a : Fin 512, (bc x p tg g3 gf W P a).dh i * (bc x p tg g3 gf W P a).gt i * (bc x p tg g3 gf W P a).p b := by
  simp only [← hD, ← pay11_at]
  pointwise [k0_pay26, k0_pay12]
  rfl

theorem pay27_at (a : Fin 512) (j : Fin 1024) :
    (k0_pay27 (F := Ideal) (k0_pay11 (F := Ideal) x g3 W) (k0_pay13 (F := Ideal) p P) D E (ix2 a j) : EReal) = (bc x p tg g3 gf W P a).dp j := by
  unfold Ctx.dp
  rw [← hD, ← pay11_at, ← pay13_at]
  rfl

theorem pay28_at (s : FVec Ideal S1024x1024 .f32) (i j : Fin 1024) :
    (k0_pay28 (F := Ideal) (k0_pay10 (F := Ideal) x g3) (k0_pay11 (F := Ideal) x g3 W) (k0_pay13 (F := Ideal) p P) D E s (ix2 i j) : EReal) =
      s (ix2 i j) + ∑ a : Fin 512, (bc x p tg g3 gf W P a).nr i * (bc x p tg g3 gf W P a).dp j := by
  simp only [← pay27_at x p tg g3 gf W P D E hD, ← pay10_at]
  pointwise [k0_pay28]

theorem pay29_at (a : Fin 512) (d : Fin 1024) :
    (k0_pay29 (F := Ideal) (k0_pay11 (F := Ideal) x g3 W) (k0_pay13 (F := Ideal) p P) D E W (ix2 a d) : EReal) = (bc x p tg g3 gf W P a).dn d := by
  unfold Ctx.dn
  simp only [← pay27_at x p tg g3 gf W P D E hD]
  pointwise [k0_pay29]
  rfl

theorem pay30_at (d : Fin 1024) (s : FVec Ideal S1x1024 .f32) :
    (k0_pay1 (F := Ideal) (k0_pay30 (F := Ideal) (k0_pay9 (F := Ideal) x) (k0_pay11 (F := Ideal) x g3 W) (k0_pay13 (F := Ideal) p P) D E W) s (ix2 0 d) : EReal) =
      s (ix2 0 d) + ∑ a : Fin 512, (bc x p tg g3 gf W P a).dn d * ((bc x p tg g3 gf W P a).x d * Norm.rinv (bc x p tg g3 gf W P a).x) := by
  refine Eq.trans (b := (s (ix2 0 d) + ∑ a : Fin 512, (k0_pay29 (F := Ideal) (k0_pay11 (F := Ideal) x g3 W) (k0_pay13 (F := Ideal) p P) D E W (ix2 a d) : EReal) * k0_pay9 (F := Ideal) x (ix2 a d))) ?_ ?_
  · pointwise [k0_pay1, k0_pay30]
  · simp only [pay29_at x p tg g3 gf W P D E hD, pay9_at]
    rfl

theorem pay2_at (a : Fin 512) (d : Fin 1024) :
    (k0_pay2 (F := Ideal) (k0_pay8 (F := Ideal) x) (k0_pay9 (F := Ideal) x) (k0_pay24 (F := Ideal) D E)
      (k0_pay31 (F := Ideal) (k0_pay11 (F := Ideal) x g3 W) (k0_pay13 (F := Ideal) p P) D E W g3)
      (k0_pay32 (F := Ideal) (k0_pay9 (F := Ideal) x) (k0_pay11 (F := Ideal) x g3 W) (k0_pay13 (F := Ideal) p P) D E W g3) kc (ix2 a d) : EReal) =
      (bc x p tg g3 gf W P a).dx d := by
  unfold Ctx.dx Norm.back
  simp only [← hD, ← pay29_at x p tg g3 gf W P D E hD]
  change _ = _ + Norm.rinv (fun e => x (ix2 a e)) * (_ - x (ix2 a d) * Norm.rinv (fun e => x (ix2 a e)) * Ideal.div (∑ e, _ * (x (ix2 a e) * Norm.rinv (fun e => x (ix2 a e)))) _)
  simp only [← pay8_at]
  pointwise [k0_pay2, k0_pay31, k0_pay32, k0_pay9]
  rfl

end

end Cert.HeadIdeal.Val
-- ==== Proof.Head.Out.lean ====
module
public import proofs.«01_k».proof.Proof.Head.Val
public import proofs.«01_k».proof.Proof.Head.Pay
public import Idealize.ShloMosaic.Lib.Pipeline.ReadBack
public import Idealize.ShloMosaic.Lib.VecWindow
@[expose] public section
set_option maxRecDepth 16384
noncomputable section
/-! What one grid point of the loss head leaves in its blocks, over the blocks it read and the two weights in scratch memory. -/
namespace Cert.HeadIdeal.Val
open Cert.HeadIdeal Cert.HeadIdeal.Gen Cert.HeadIdeal.Launch Idealize.ShloMosaic Idealize.ShloMosaic.TcCoe Idealize.SL.Sem

section
variable (x : FVec Ideal S512x1024 .f32) (p : FVec Ideal S512x256 .f32) (tg : FVec Ideal S512x1024 .f32) (g3 gf : FVec Ideal S1x1024 .f32)
  (W : FVec Ideal S1024x1024 .bf16) (P : FVec Ideal S1024x256 .bf16)

abbrev dA : FVec Ideal S512x1024 .f32 :=
  k0_pay22 (F := Ideal) (k0_pay14 (F := Ideal) x g3 W p P) (k0_pay15 (F := Ideal) x g3 W p P) kc gf tg gf
abbrev dB : FVec Ideal S512x1024 .f32 := k0_pay23 (F := Ideal) (k0_pay15 (F := Ideal) x g3 W p P) kc

/-- The gradient's block. -/
def oX : FVec Ideal S512x1024 .f32 :=
  k0_pay2 (F := Ideal) (k0_pay8 (F := Ideal) x) (k0_pay9 (F := Ideal) x) (k0_pay24 (F := Ideal) (dA x p tg g3 gf W P) (dB x p g3 W P))
    (k0_pay31 (F := Ideal) (k0_pay11 (F := Ideal) x g3 W) (k0_pay13 (F := Ideal) p P) (dA x p tg g3 gf W P) (dB x p g3 W P) W g3)
    (k0_pay32 (F := Ideal) (k0_pay9 (F := Ideal) x) (k0_pay11 (F := Ideal) x g3 W) (k0_pay13 (F := Ideal) p P) (dA x p tg g3 gf W P) (dB x p g3 W P) W g3) kc
/-- The loss's block over what it held. -/
def oL (L : FVec Ideal S8x128 .f32) : FVec Ideal S8x128 .f32 :=
  k0_pay19 (F := Ideal) (k0_pay14 (F := Ideal) x g3 W p P) (k0_pay15 (F := Ideal) x g3 W p P) kc gf tg L
/-- The first gain's gradient over what it held. -/
def oG3 (s : FVec Ideal S1x1024 .f32) : FVec Ideal S1x1024 .f32 :=
  k0_pay1 (F := Ideal) (k0_pay30 (F := Ideal) (k0_pay9 (F := Ideal) x) (k0_pay11 (F := Ideal) x g3 W) (k0_pay13 (F := Ideal) p P) (dA x p tg g3 gf W P) (dB x p g3 W P) W) s
/-- The last gain's gradient over what it held. -/
def oGf (s : FVec Ideal S1x1024 .f32) : FVec Ideal S1x1024 .f32 :=
  k0_pay25 (F := Ideal) (k0_pay21 (F := Ideal) (k0_pay14 (F := Ideal) x g3 W p P) (k0_pay15 (F := Ideal) x g3 W p P) kc gf tg) s
/-- The gate's gradient over what it held. -/
def oWg (s : FVec Ideal S1024x1024 .f32) : FVec Ideal S1024x1024 .f32 :=
  k0_pay28 (F := Ideal) (k0_pay10 (F := Ideal) x g3) (k0_pay11 (F := Ideal) x g3 W) (k0_pay13 (F := Ideal) p P) (dA x p tg g3 gf W P) (dB x p g3 W P) s
/-- The first columns of an accumulator. -/
def left (A : FVec Ideal S1024x1024 .f32) : FVec Ideal S1024x256 .f32 :=
  View.ld (Val := Elt Ideal) (e' := .f32) A (Rect.unit (s := S1024x1024) ![0, 0] ![1024, 256] inb_S1024x1024_S1024x256_0_0)
/-- The projection's gradient, in the first columns, over what it held. -/
def oWp (A : FVec Ideal S1024x1024 .f32) : FVec Ideal S1024x1024 .f32 :=
  VecWindow.put (s := S1024x1024) A ![0, 0] ![1024, 256] (k0_pay26 (F := Ideal) (k0_pay11 (F := Ideal) x g3 W) (k0_pay12 (F := Ideal) p) (dA x p tg g3 gf W P) (dB x p g3 W P) (left A))
end

variable (m : (ℓ : Loc nD τ sig) → Buf (Elt Ideal) ℓ)

/-- What a point found in the first scratch array, and in the second. -/
abbrev sW (c : Dev nD) (t : Fin cfg0.N) : FVec Ideal S1024x1024 .bf16 := (outsAt0 m c t.val t.isLt).2.2.2.2.2.2.1
abbrev sP (c : Dev nD) (t : Fin cfg0.N) : FVec Ideal S1024x256 .bf16 := (outsAt0 m c t.val t.isLt).2.2.2.2.2.2.2

theorem readCov_W (L : List (View.Piece (Elt Ideal) S1024x1024 .bf16)) (inb) :
    (View.whole cc0_scratch0).readCov L (Rect.unit ![0, 0] ![1024, 1024] inb).toLoadRect = View.canon L := by
  rw [View.readCov_eq_canon']
  funext j
  refine congrArg (View.canon L) ?_
  funext i
  fin_cases i <;> (apply Fin.ext; simp [LoadRect.idx, Rect.unit])

theorem readCov_P (L : List (View.Piece (Elt Ideal) S1024x256 .bf16)) (inb) :
    (View.whole cc0_scratch1).readCov L (Rect.unit ![0, 0] ![1024, 256] inb).toLoadRect = View.canon L := by
  rw [View.readCov_eq_canon']
  funext j
  refine congrArg (View.canon L) ?_
  funext i
  fin_cases i <;> (apply Fin.ext; simp [LoadRect.idx, Rect.unit])

theorem outX (c : Dev nD) (t : Fin cfg0.N) :
    (outsAt0 m c t.val t.isLt).1 = oX (iblk m c 0 t) (iblk m c 1 t) (iblk m c 2 t) (iblk m c 3 t) (iblk m c 4 t) (sW m c t) (sP m c t) := by
  by_cases h0 : t.val % 32 = 0
  · generalize hW : sW m c t = W
    generalize hP : sP m c t = P
    unfold sW at hW
    unfold sP at hP
    rw [outsAt0_A m c t h0, atA] at hW hP ⊢
    dsimp only at hW hP ⊢
    frame_out at hW
    frame_out at hP
    frame_out
    simp only [readCov_W, readCov_P, hW, hP]
    rfl
  · unfold sW sP
    rw [outsAt0_B m c t h0, atB]
    dsimp only
    frame_out
    simp only [Memref.IsWhole.read_unread (Memref.isWhole_whole cc0_scratch0), Memref.IsWhole.read_unread (Memref.isWhole_whole cc0_scratch1)]
    rfl

theorem outL_A (c : Dev nD) (t : Fin cfg0.N) (h0 : t.val % 32 = 0) :
    (outsAt0 m c t.val t.isLt).2.1 = oL (iblk m c 0 t) (iblk m c 1 t) (iblk m c 2 t) (iblk m c 3 t) (iblk m c 4 t) (sW m c t) (sP m c t) (k0_pay3 (F := Ideal)) := by
  generalize hW : sW m c t = W
  generalize hP : sP m c t = P
  unfold sW at hW
  unfold sP at hP
  rw [outsAt0_A m c t h0, atA] at hW hP ⊢
  dsimp only at hW hP ⊢
  frame_out at hW
  frame_out at hP
  frame_out
  simp only [readCov_W, readCov_P, hW, hP]
  rfl

theorem outL_B (c : Dev nD) (t : Fin cfg0.N) (h0 : ¬ t.val % 32 = 0) :
    (outsAt0 m c t.val t.isLt).2.1 = oL (iblk m c 0 t) (iblk m c 1 t) (iblk m c 2 t) (iblk m c 3 t) (iblk m c 4 t) (sW m c t) (sP m c t) (outsAt0 m c (t.val - 1) (Nat.lt_of_le_of_lt (Nat.sub_le _ _) t.isLt)).2.1 := by
  unfold sW sP
  rw [outsAt0_B m c t h0, atB]
  dsimp only
  frame_out
  simp only [Memref.IsWhole.read_unread (Memref.isWhole_whole cc0_scratch0), Memref.IsWhole.read_unread (Memref.isWhole_whole cc0_scratch1)]
  rfl

theorem outG3_A (c : Dev nD) (t : Fin cfg0.N) (h0 : t.val % 32 = 0) :
    (outsAt0 m c t.val t.isLt).2.2.1 = oG3 (iblk m c 0 t) (iblk m c 1 t) (iblk m c 2 t) (iblk m c 3 t) (iblk m c 4 t) (sW m c t) (sP m c t) (k0_pay4 (F := Ideal)) := by
  generalize hW : sW m c t = W
  generalize hP : sP m c t = P
  unfold sW at hW
  unfold sP at hP
  rw [outsAt0_A m c t h0, atA] at hW hP ⊢
  dsimp only at hW hP ⊢
  frame_out at hW
  frame_out at hP
  frame_out
  simp only [readCov_W, readCov_P, hW, hP]
  rfl

theorem outG3_B (c : Dev nD) (t : Fin cfg0.N) (h0 : ¬ t.val % 32 = 0) :
    (outsAt0 m c t.val t.isLt).2.2.1 = oG3 (iblk m c 0 t) (iblk m c 1 t) (iblk m c 2 t) (iblk m c 3 t) (iblk m c 4 t) (sW m c t) (sP m c t) (outsAt0 m c (t.val - 1) (Nat.lt_of_le_of_lt (Nat.sub_le _ _) t.isLt)).2.2.1 := by
  unfold sW sP
  rw [outsAt0_B m c t h0, atB]
  dsimp only
  frame_out
  simp only [Memref.IsWhole.read_unread (Memref.isWhole_whole cc0_scratch0), Memref.IsWhole.read_unread (Memref.isWhole_whole cc0_scratch1)]
  rfl

theorem outGf_A (c : Dev nD) (t : Fin cfg0.N) (h0 : t.val % 32 = 0) :
    (outsAt0 m c t.val t.isLt).2.2.2.1 = oGf (iblk m c 0 t) (iblk m c 1 t) (iblk m c 2 t) (iblk m c 3 t) (iblk m c 4 t) (sW m c t) (sP m c t) (k0_pay5 (F := Ideal)) := by
  generalize hW : sW m c t = W
  generalize hP : sP m c t = P
  unfold sW at hW
  unfold sP at hP
  rw [outsAt0_A m c t h0, atA] at hW hP ⊢
  dsimp only at hW hP ⊢
  frame_out at hW
  frame_out at hP
  frame_out
  simp only [readCov_W, readCov_P, hW, hP]
  rfl

theorem outGf_B (c : Dev nD) (t : Fin cfg0.N) (h0 : ¬ t.val % 32 = 0) :
    (outsAt0 m c t.val t.isLt).2.2.2.1 = oGf (iblk m c 0 t) (iblk m c 1 t) (iblk m c 2 t) (iblk m c 3 t) (iblk m c 4 t) (sW m c t) (sP m c t) (outsAt0 m c (t.val - 1) (Nat.lt_of_le_of_lt (Nat.sub_le _ _) t.isLt)).2.2.2.1 := by
  unfold sW sP
  rw [outsAt0_B m c t h0, atB]
  dsimp only
  frame_out
  simp only [Memref.IsWhole.read_unread (Memref.isWhole_whole cc0_scratch0), Memref.IsWhole.read_unread (Memref.isWhole_whole cc0_scratch1)]
  rfl

theorem outWg_A (c : Dev nD) (t : Fin cfg0.N) (h0 : t.val % 32 = 0) :
    (outsAt0 m c t.val t.isLt).2.2.2.2.1 = oWg (iblk m c 0 t) (iblk m c 1 t) (iblk m c 2 t) (iblk m c 3 t) (iblk m c 4 t) (sW m c t) (sP m c t) (k0_pay6 (F := Ideal)) := by
  generalize hW : sW m c t = W
  generalize hP : sP m c t = P
  unfold sW at hW
  unfold sP at hP
  rw [outsAt0_A m c t h0, atA] at hW hP ⊢
  dsimp only at hW hP ⊢
  frame_out at hW
  frame_out at hP
  frame_out
  simp only [readCov_W, readCov_P, hW, hP]
  rfl

theorem outWg_B (c : Dev nD) (t : Fin cfg0.N) (h0 : ¬ t.val % 32 = 0) :
    (outsAt0 m c t.val t.isLt).2.2.2.2.1 = oWg (iblk m c 0 t) (iblk m c 1 t) (iblk m c 2 t) (iblk m c 3 t) (iblk m c 4 t) (sW m c t) (sP m c t) (outsAt0 m c (t.val - 1) (Nat.lt_of_le_of_lt (Nat.sub_le _ _) t.isLt)).2.2.2.2.1 := by
  unfold sW sP
  rw [outsAt0_B m c t h0, atB]
  dsimp only
  frame_out
  simp only [Memref.IsWhole.read_unread (Memref.isWhole_whole cc0_scratch0), Memref.IsWhole.read_unread (Memref.isWhole_whole cc0_scratch1)]
  rfl

theorem outWp_B (c : Dev nD) (t : Fin cfg0.N) (h0 : ¬ t.val % 32 = 0) :
    (outsAt0 m c t.val t.isLt).2.2.2.2.2.1 = oWp (iblk m c 0 t) (iblk m c 1 t) (iblk m c 2 t) (iblk m c 3 t) (iblk m c 4 t) (sW m c t) (sP m c t) (outsAt0 m c (t.val - 1) (Nat.lt_of_le_of_lt (Nat.sub_le _ _) t.isLt)).2.2.2.2.2.1 := by
  unfold sW sP
  rw [outsAt0_B m c t h0, atB]
  dsimp only
  frame_out
  refine (View.read_writes_cons_put _ _ _ _ _ rfl).trans ?_
  rw [View.writes_nil, Memref.IsWhole.read_unread]
  simp only [Memref.IsWhole.read_unread (Memref.isWhole_whole cc0_scratch0), Memref.IsWhole.read_unread (Memref.isWhole_whole cc0_scratch1)]
  rfl

theorem outWp_A (c : Dev nD) (t : Fin cfg0.N) (h0 : t.val % 32 = 0) :
    (outsAt0 m c t.val t.isLt).2.2.2.2.2.1 = oWp (iblk m c 0 t) (iblk m c 1 t) (iblk m c 2 t) (iblk m c 3 t) (iblk m c 4 t) (sW m c t) (sP m c t) (k0_pay7 (F := Ideal)) := by
  generalize hW : sW m c t = W
  generalize hP : sP m c t = P
  unfold sW at hW
  unfold sP at hP
  rw [outsAt0_A m c t h0, atA] at hW hP ⊢
  dsimp only at hW hP ⊢
  frame_out at hW
  frame_out at hP
  unfold out0_A_10 kernelRun0_A
  dsimp only
  refine (View.read_writes_cons_put _ _ _ _ _ rfl).trans ?_
  frame_out
  simp only [readCov_W, readCov_P, hW, hP]
  simp (disch := decide) only [View.readCov_skip, View.readCov_fill]
  rfl

end Cert.HeadIdeal.Val
-- ==== Proof.Head.RefVal.lean ====
module
public import proofs.«01_k».proof.Proof.Head.Pay
public import proofs.«01_k».proof.Proof.Norm.Ref
public import proofs.«01_k».proof.Proof.Gen.HeadRefIdeal.Run
@[expose] public section
set_option maxRecDepth 16384
noncomputable section
/-! The reference's lines over whole arrays, read at an index: the row's functions of the loss head. -/
namespace Cert.HeadRefIdeal.Val
open Cert.HeadRefIdeal Cert.HeadRefIdeal.Gen Cert.HeadIdeal.Val Idealize.ShloMosaic Idealize.ShloMosaic.TcCoe Idealize.SL.Sem

variable (a0 : FVec Ideal S16384x1024 .f32) (a1 : FVec Ideal S16384x256 .f32) (a2 : FVec Ideal S16384x1024 .f32) (a3 : FVec Ideal S1x1024 .f32)
  (a4 : FVec Ideal S1024 .f32) (a7 : FVec Ideal S1x1024x1024 .f32) (a8 : FVec Ideal S1x256x1024 .f32)

def wV : FVec Ideal S1024x1024 .f32 := shapeCast _ a7 shapeCasts_S1x1024x1024_S1024x1024
def emV : FVec Ideal S16384x1024 .f32 :=
  Host.dotGeneral (F := Ideal) (φ₁ := .f32) (φ₂ := .f32) dot_S16384x256_S256x1024_S16384x1024_1_0_0_1_n_n none a1 (shapeCast _ a8 shapeCasts_S1x256x1024_S256x1024)
def nrV : FVec Ideal S16384x1024 .f32 :=
  Norm.gainV a3 (mulf a0 (broadcastInDim S16384x1024 ![0, 1] bcast_S16384x1_S16384x1024_0_1 (Norm.rinvV a0)))
def gtV : FVec Ideal S16384x1024 .f32 :=
  Host.divf (broadcastInDim S16384x1024 ![] bcast_S_S16384x1024 (constant S_ .f32 0x3F800000#32)) (addf (broadcastInDim S16384x1024 ![] bcast_S_S16384x1024 (constant S_ .f32 0x3F800000#32)) (Host.exp (Host.negf (Host.dotGeneral (F := Ideal) (φ₁ := .f32) (φ₂ := .f32) dot_S16384x1024_S1024x1024_S16384x1024_1_0_0_1_n_n none (nrV a0 a3) (wV a7)))))
def h3V : FVec Ideal S16384x1024 .f32 := addf a0 (mulf (gtV a0 a3 a7) (emV a1 a8))
def xfV : FVec Ideal S16384x1024 .f32 :=
  mulf (h3V a0 a1 a3 a7 a8) (broadcastInDim S16384x1024 ![0, 1] bcast_S16384x1_S16384x1024_0_1 (Norm.rinvV (h3V a0 a1 a3 a7 a8)))
def gfV (q : FVec Ideal S16384x1024 .f32) : FVec Ideal S16384x1024 .f32 :=
  mulf q (broadcastInDim S16384x1024 ![0, 1] bcast_S1x1024_S16384x1024_0_1 (broadcastInDim S1x1024 ![1] bcast_S1024_S1x1024_1 a4))
def dfV : FVec Ideal S16384x1024 .f32 := subf (gfV a4 (xfV a0 a1 a3 a7 a8)) a2
def dyV : FVec Ideal S16384x1024 .f32 :=
  mulf (broadcastInDim S16384x1024 ![0] bcast_S16384_S16384x1024_0 (Host.divf (broadcastInDim S16384 ![] bcast_S_S16384 (mulf (constant S_ .f32 0x3F000000#32) (constant S_ .f32 0x3F800000#32))) (broadcastInDim S16384 ![] bcast_S_S16384 (constant S_ .f32 0x44800000#32)))) (mulf (broadcastInDim S16384x1024 ![] bcast_S_S16384x1024 (constant S_ .f32 0x40000000#32)) (dfV a0 a1 a2 a3 a4 a7 a8))
def dhV : FVec Ideal S16384x1024 .f32 :=
  let y := gfV a4 (dyV a0 a1 a2 a3 a4 a7 a8)
  let h := h3V a0 a1 a3 a7 a8
  addf (addf (mulf y (broadcastInDim S16384x1024 ![0, 1] bcast_S16384x1_S16384x1024_0_1 (Norm.rinvV h))) (mulf h (Norm.coefV h y))) (mulf (Norm.coefV h y) h)
def dpV : FVec Ideal S16384x1024 .f32 :=
  mulf (mulf (dhV a0 a1 a2 a3 a4 a7 a8) (emV a1 a8)) (mulf (gtV a0 a3 a7) (subf (broadcastInDim S16384x1024 ![] bcast_S_S16384x1024 (constant S_ .f32 0x3F800000#32)) (gtV a0 a3 a7)))
def dnV : FVec Ideal S16384x1024 .f32 :=
  Host.dotGeneral (F := Ideal) (φ₁ := .f32) (φ₂ := .f32) dot_S16384x1024_S1024x1024_S16384x1024_1_1_0_0_n_n none (dpV a0 a1 a2 a3 a4 a7 a8) (wV a7)
def lossV : FVec Ideal S8x128 .f32 :=
  broadcastInDim S8x128 ![] bcast_S_S8x128 (mulf (constant S_ .f32 0x3F000000#32) (Host.reduceAdd (Host.divf (Host.reduceAdd (mulf (dfV a0 a1 a2 a3 a4 a7 a8) (dfV a0 a1 a2 a3 a4 a7 a8)) (constant S_ .f32 0x00000000#32) reducesTo_S16384x1024_S16384_d1 h_S_) (broadcastInDim S16384 ![] bcast_S_S16384 (constant S_ .f32 0x44800000#32))) (constant S_ .f32 0x00000000#32) reducesTo_S16384_S_d0 h_S_))
def dgfV : FVec Ideal S1x1024 .f32 :=
  shapeCast _ (Host.reduceAdd (shapeCast _ (Host.reduceAdd (mulf (xfV a0 a1 a3 a7 a8) (dyV a0 a1 a2 a3 a4 a7 a8)) (constant S_ .f32 0x00000000#32) reducesTo_S16384x1024_S1024_d0 h_S_) shapeCasts_S1024_S1x1024) (constant S_ .f32 0x00000000#32) reducesTo_S1x1024_S1024_d0 h_S_) shapeCasts_S1024_S1x1024
def dwgV : FVec Ideal S1024x1024 .f32 :=
  transpose S1024x1024 [1, 0] (Host.dotGeneral (F := Ideal) (φ₁ := .f32) (φ₂ := .f32) dot_S16384x1024_S16384x1024_S1024x1024_0_0_1_1_n_n none (dpV a0 a1 a2 a3 a4 a7 a8) (nrV a0 a3)) transposes_S1024x1024_S1024x1024_1_0
def dwpT : FVec Ideal S1024x256 .f32 :=
  transpose S1024x256 [1, 0] (transpose S256x1024 [1, 0] (Host.dotGeneral (F := Ideal) (φ₁ := .f32) (φ₂ := .f32) dot_S16384x1024_S16384x256_S1024x256_0_0_1_1_n_n none (mulf (gtV a0 a3 a7) (dhV a0 a1 a2 a3 a4 a7 a8)) a1) transposes_S1024x256_S256x1024_1_0) transposes_S256x1024_S1024x256_1_0
def padT (w : FVec Ideal S1024x256 .f32) : FVec Ideal S1024x1024 .f32 :=
  pad S1024x1024 ![0, 0] ![0, 768] ![0, 0] w (sitofp .f32 (constantI S_ 32 0#32)) pads_S1024x256_S1024x1024_000_07680 h_S_

theorem emV_at (r : Fin 16384) (j : Fin 1024) : (emV a1 a8 (ix2 r j) : EReal) = (wc a0 a1 a2 a3 a4 a7 a8 r).em j := by
  unfold Ctx.em wc
  pointwise [emV]

theorem nrV_at (r : Fin 16384) (d : Fin 1024) : (nrV a0 a3 (ix2 r d) : EReal) = (wc a0 a1 a2 a3 a4 a7 a8 r).nr d := by
  unfold nrV
  rw [Norm.gainV_at]
  unfold Ctx.nr wc
  dsimp only
  rw [← Norm.rinvV_at]
  pointwise []

theorem gtV_at (r : Fin 16384) (j : Fin 1024) : (gtV a0 a3 a7 (ix2 r j) : EReal) = (wc a0 a1 a2 a3 a4 a7 a8 r).gt j := by
  unfold Ctx.gt
  rw [Norm.sig_eq]
  simp only [← nrV_at]
  unfold wc
  pointwise [gtV, wV]

theorem h3V_at (r : Fin 16384) (j : Fin 1024) : (h3V a0 a1 a3 a7 a8 (ix2 r j) : EReal) = (wc a0 a1 a2 a3 a4 a7 a8 r).h3 j := by
  unfold Ctx.h3
  rw [← gtV_at, ← emV_at]
  rfl

theorem rinv3 (r : Fin 16384) : (Norm.rinvV (h3V a0 a1 a3 a7 a8) (ix2 r 0) : EReal) = Norm.rinv (wc a0 a1 a2 a3 a4 a7 a8 r).h3 := by
  rw [Norm.rinvV_at]
  exact congrArg Norm.rinv (funext fun e => h3V_at a0 a1 a2 a3 a4 a7 a8 r e)

theorem xfV_at (r : Fin 16384) (j : Fin 1024) : (xfV a0 a1 a3 a7 a8 (ix2 r j) : EReal) = (wc a0 a1 a2 a3 a4 a7 a8 r).h3 j * Norm.rinv (wc a0 a1 a2 a3 a4 a7 a8 r).h3 := by
  rw [← h3V_at, ← rinv3]
  pointwise [xfV]

theorem gfV_at (q : FVec Ideal S16384x1024 .f32) (r : Fin 16384) (j : Fin 1024) : (gfV a4 q (ix2 r j) : EReal) = q (ix2 r j) * (wc a0 a1 a2 a3 a4 a7 a8 r).gf j := by
  unfold wc
  pointwise [gfV]

theorem dfV_at (r : Fin 16384) (j : Fin 1024) : (dfV a0 a1 a2 a3 a4 a7 a8 (ix2 r j) : EReal) = (wc a0 a1 a2 a3 a4 a7 a8 r).df j := by
  unfold Ctx.df
  rw [← xfV_at, ← gfV_at]
  rfl

theorem dyV_at (r : Fin 16384) (j : Fin 1024) : (dyV a0 a1 a2 a3 a4 a7 a8 (ix2 r j) : EReal) = (wc a0 a1 a2 a3 a4 a7 a8 r).dy j := by
  unfold Ctx.dy
  rw [← dfV_at, ← dy_eq]
  pointwise [dyV]

theorem dhV_at (r : Fin 16384) (j : Fin 1024) : (dhV a0 a1 a2 a3 a4 a7 a8 (ix2 r j) : EReal) = (wc a0 a1 a2 a3 a4 a7 a8 r).dh j := by
  have h := Norm.back_eq (wc a0 a1 a2 a3 a4 a7 a8 r).h3 (fun e => (wc a0 a1 a2 a3 a4 a7 a8 r).dy e * (wc a0 a1 a2 a3 a4 a7 a8 r).gf e) j 0
  rw [zero_add, zero_add] at h
  refine Eq.trans ?_ h
  have hy : (fun e => (gfV a4 (dyV a0 a1 a2 a3 a4 a7 a8) (ix2 r e) : EReal)) = fun e => (wc a0 a1 a2 a3 a4 a7 a8 r).dy e * (wc a0 a1 a2 a3 a4 a7 a8 r).gf e :=
    funext fun e => by rw [gfV_at a0 a1 a2 a3 a4 a7 a8, dyV_at]
  have hh : (fun e => (h3V a0 a1 a3 a7 a8 (ix2 r e) : EReal)) = (wc a0 a1 a2 a3 a4 a7 a8 r).h3 := funext fun e => h3V_at a0 a1 a2 a3 a4 a7 a8 r e
  have hc := Norm.coefV_at (h3V a0 a1 a3 a7 a8) (gfV a4 (dyV a0 a1 a2 a3 a4 a7 a8)) r j
  rw [hy, hh] at hc
  rw [← hc, ← rinv3, ← congrFun hh j, ← congrFun hy j]
  pointwise [dhV]

theorem dpV_at (r : Fin 16384) (j : Fin 1024) : (dpV a0 a1 a2 a3 a4 a7 a8 (ix2 r j) : EReal) = (wc a0 a1 a2 a3 a4 a7 a8 r).dp j := by
  unfold Ctx.dp
  rw [mul_assoc, ← dhV_at, ← emV_at, ← gtV_at]
  pointwise [dpV]

theorem dnV_at (r : Fin 16384) (d : Fin 1024) : (dnV a0 a1 a2 a3 a4 a7 a8 (ix2 r d) : EReal) = (wc a0 a1 a2 a3 a4 a7 a8 r).dn d := by
  unfold Ctx.dn
  simp only [← dpV_at]
  unfold wc
  pointwise [dnV, wV]

theorem lossV_at (u : Fin 8) (v : Fin 128) : (lossV a0 a1 a2 a3 a4 a7 a8 (ix2 u v) : EReal) =
    ∑ r : Fin 16384, (wc a0 a1 a2 a3 a4 a7 a8 r).sq * Ideal.ofBits FTy.f32 0x3A000000#32 := by
  rw [← loss_eq]
  unfold Ctx.sq
  simp only [← dfV_at]
  pointwise [lossV]

theorem dgfV_at (d : Fin 1024) : (dgfV a0 a1 a2 a3 a4 a7 a8 (ix2 0 d) : EReal) =
    ∑ r : Fin 16384, (wc a0 a1 a2 a3 a4 a7 a8 r).dy d * ((wc a0 a1 a2 a3 a4 a7 a8 r).h3 d * Norm.rinv (wc a0 a1 a2 a3 a4 a7 a8 r).h3) := by
  simp only [← dyV_at, ← xfV_at]
  simp only [mul_comm (dyV a0 a1 a2 a3 a4 a7 a8 _ : EReal)]
  pointwise [dgfV]
  exact Fin.sum_univ_one _

theorem dwgV_at (i j : Fin 1024) : (dwgV a0 a1 a2 a3 a4 a7 a8 (ix2 i j) : EReal) =
    ∑ r : Fin 16384, (wc a0 a1 a2 a3 a4 a7 a8 r).nr i * (wc a0 a1 a2 a3 a4 a7 a8 r).dp j := by
  simp only [← dpV_at, ← nrV_at]
  simp only [mul_comm (nrV a0 a3 _ : EReal)]
  pointwise [dwgV]

theorem dwpT_at (i : Fin 1024) (b : Fin 256) : (dwpT a0 a1 a2 a3 a4 a7 a8 (ix2 i b) : EReal) =
    ∑ r : Fin 16384, (wc a0 a1 a2 a3 a4 a7 a8 r).dh i * (wc a0 a1 a2 a3 a4 a7 a8 r).gt i * (wc a0 a1 a2 a3 a4 a7 a8 r).p b := by
  simp only [← dhV_at, ← gtV_at]
  simp only [mul_comm (dhV a0 a1 a2 a3 a4 a7 a8 _ : EReal)]
  unfold wc
  pointwise [dwpT]

theorem padT_at (w : FVec Ideal S1024x256 .f32) (a b : Fin 1024) : (padT w (ix2 a b) : EReal) = if h : b.val < 256 then w (ix2 a ⟨b.val, h⟩) else 0 := by
  have z : (FloatOps.sitofp (F := Ideal) FTy.f32 0#32 : EReal) = 0 := by
    change (((0#32 : BitVec 32).toInt : ℝ) : EReal) = 0
    simp
  pointwise [padT]
  rw [z]

theorem refDx : Norm.dxV (dhV a0 a1 a2 a3 a4 a7 a8) a0 (Norm.gainV a3 (dnV a0 a1 a2 a3 a4 a7 a8)) = GDx (wc a0 a1 a2 a3 a4 a7 a8) := by
  funext i
  obtain ⟨r, d, rfl⟩ : ∃ (r : Fin 16384) (d : Fin 1024), i = ix2 r d := ⟨i 0, i 1, by funext i; fin_cases i <;> rfl⟩
  rw [Norm.dxV_at]
  simp only [Norm.gainV_at, dnV_at, dhV_at]
  exact Norm.back_eq _ (fun e => (wc a0 a1 a2 a3 a4 a7 a8 r).dn e * a3 (ix2 0 e)) d _

theorem refL : lossV a0 a1 a2 a3 a4 a7 a8 = GLo (wc a0 a1 a2 a3 a4 a7 a8) := by
  funext i
  obtain ⟨u, v, rfl⟩ : ∃ (u : Fin 8) (v : Fin 128), i = ix2 u v := ⟨i 0, i 1, by funext i; fin_cases i <;> rfl⟩
  exact lossV_at a0 a1 a2 a3 a4 a7 a8 u v

theorem refG3 : Norm.dgV a0 (dnV a0 a1 a2 a3 a4 a7 a8) = GG3 (wc a0 a1 a2 a3 a4 a7 a8) := by
  funext j
  obtain ⟨d, rfl⟩ : ∃ d : Fin 1024, j = ix2 0 d := gain_idx j
  rw [Norm.dgV_at]
  refine Finset.sum_congr rfl fun r _ => ?_
  rw [dnV_at, mul_comm]
  rfl

theorem refGf : dgfV a0 a1 a2 a3 a4 a7 a8 = GGf (wc a0 a1 a2 a3 a4 a7 a8) := by
  funext j
  obtain ⟨d, rfl⟩ : ∃ d : Fin 1024, j = ix2 0 d := gain_idx j
  exact dgfV_at a0 a1 a2 a3 a4 a7 a8 d

theorem refWg : dwgV a0 a1 a2 a3 a4 a7 a8 = GWg (wc a0 a1 a2 a3 a4 a7 a8) := by
  funext i
  obtain ⟨a, b, rfl⟩ : ∃ (a b : Fin 1024), i = ix2 a b := ⟨i 0, i 1, by funext i; fin_cases i <;> rfl⟩
  exact dwgV_at a0 a1 a2 a3 a4 a7 a8 a b

theorem refWp : padT (dwpT a0 a1 a2 a3 a4 a7 a8) = GWp (wc a0 a1 a2 a3 a4 a7 a8) := by
  funext i
  obtain ⟨a, b, rfl⟩ : ∃ (a b : Fin 1024), i = ix2 a b := ⟨i 0, i 1, by funext i; fin_cases i <;> rfl⟩
  rw [padT_at]
  change _ = ∑ R : Fin 16384, pWp (wc a0 a1 a2 a3 a4 a7 a8) a b R
  unfold pWp
  by_cases h : b.val < 256
  · simp only [dif_pos h, dwpT_at]
  · simp only [dif_neg h, Finset.sum_const_zero]

end Cert.HeadRefIdeal.Val
-- ==== Proof.Head.RefRun.lean ====
module
public import proofs.«01_k».proof.Proof.Head.RefVal
@[expose] public section
set_option maxRecDepth 16384
noncomputable section
/-! The reference's run: its six results are the row's functions over whole arrays. -/
namespace Cert.HeadRefIdeal.Val
open Cert.HeadRefIdeal Cert.HeadRefIdeal.Gen Cert.HeadIdeal.Val Idealize.ShloMosaic Idealize.ShloMosaic.TcCoe Idealize.SL.Sem
open Idealize.ShloMosaic.StableHlo

variable (m : (ℓ : Loc nD τ sig) → Buf (Elt Ideal) ℓ) (c : Dev nD)
open Cert.HeadRefIdeal.Value

theorem e0 : res_main_v0 (F := Ideal) (launchContents m c) = wV (m ((c.tc : Thread nD τ).loc main_arg7)) := by
  rfl

theorem e2 : res_main_v2 (F := Ideal) (launchContents m c) = emV (m ((c.tc : Thread nD τ).loc main_arg1)) (m ((c.tc : Thread nD τ).loc main_arg8)) := by
  rfl

theorem e10 : res_main_v10 (F := Ideal) (launchContents m c) = Norm.meanV (m ((c.tc : Thread nD τ).loc main_arg0)) := by
  rfl

theorem e11 : res_main_v11 (F := Ideal) (launchContents m c) = Norm.rinvV (m ((c.tc : Thread nD τ).loc main_arg0)) := by
  unfold res_main_v11
  rw [e10]
  rfl

theorem e19 : res_main_v19 (F := Ideal) (launchContents m c) = nrV (m ((c.tc : Thread nD τ).loc main_arg0)) (m ((c.tc : Thread nD τ).loc main_arg3)) := by
  unfold res_main_v19 res_main_v16 res_main_v17
  rw [e11]
  rfl

theorem e26 : res_main_v26 (F := Ideal) (launchContents m c) = gtV (m ((c.tc : Thread nD τ).loc main_arg0)) (m ((c.tc : Thread nD τ).loc main_arg3)) (m ((c.tc : Thread nD τ).loc main_arg7)) := by
  unfold res_main_v26
  rw [e19, e0]
  rfl

theorem e31 : res_main_v31 (F := Ideal) (launchContents m c) = h3V (m ((c.tc : Thread nD τ).loc main_arg0)) (m ((c.tc : Thread nD τ).loc main_arg1)) (m ((c.tc : Thread nD τ).loc main_arg3)) (m ((c.tc : Thread nD τ).loc main_arg7)) (m ((c.tc : Thread nD τ).loc main_arg8)) := by
  unfold res_main_v31
  rw [e26, e2]
  rfl

theorem e38 : res_main_v38 (F := Ideal) (launchContents m c) = Norm.meanV (h3V (m ((c.tc : Thread nD τ).loc main_arg0)) (m ((c.tc : Thread nD τ).loc main_arg1)) (m ((c.tc : Thread nD τ).loc main_arg3)) (m ((c.tc : Thread nD τ).loc main_arg7)) (m ((c.tc : Thread nD τ).loc main_arg8))) := by
  unfold res_main_v38
  rw [e31]
  rfl

theorem e39 : res_main_v39 (F := Ideal) (launchContents m c) = Norm.rinvV (h3V (m ((c.tc : Thread nD τ).loc main_arg0)) (m ((c.tc : Thread nD τ).loc main_arg1)) (m ((c.tc : Thread nD τ).loc main_arg3)) (m ((c.tc : Thread nD τ).loc main_arg7)) (m ((c.tc : Thread nD τ).loc main_arg8))) := by
  unfold res_main_v39
  rw [e38]
  rfl

theorem e44 : res_main_v44 (F := Ideal) (launchContents m c) = xfV (m ((c.tc : Thread nD τ).loc main_arg0)) (m ((c.tc : Thread nD τ).loc main_arg1)) (m ((c.tc : Thread nD τ).loc main_arg3)) (m ((c.tc : Thread nD τ).loc main_arg7)) (m ((c.tc : Thread nD τ).loc main_arg8)) := by
  unfold res_main_v44
  rw [e31, e39]
  rfl

theorem e48 : res_main_v48 (F := Ideal) (launchContents m c) = dfV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) := by
  unfold res_main_v48 res_main_v45
  rw [e44]
  rfl

theorem e62 : res_main_v62 (F := Ideal) (launchContents m c) = dyV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) := by
  unfold res_main_v62
  rw [e48]
  rfl

theorem e67 : res_main_v67 (F := Ideal) (launchContents m c) = gfV (m ((c.tc : Thread nD τ).loc main_arg4)) (dyV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8))) := by
  unfold res_main_v67 res_main_v45
  rw [e62]
  rfl

theorem e78 : res_main_v78 (F := Ideal) (launchContents m c) = Norm.coefV (h3V (m ((c.tc : Thread nD τ).loc main_arg0)) (m ((c.tc : Thread nD τ).loc main_arg1)) (m ((c.tc : Thread nD τ).loc main_arg3)) (m ((c.tc : Thread nD τ).loc main_arg7)) (m ((c.tc : Thread nD τ).loc main_arg8))) (gfV (m ((c.tc : Thread nD τ).loc main_arg4)) (dyV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)))) := by
  unfold res_main_v78
  rw [e31, e67, e39, e38]
  rfl

theorem e82 : res_main_v82 (F := Ideal) (launchContents m c) = dhV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) := by
  unfold res_main_v82
  rw [e67, e39, e31, e78]
  rfl

theorem e85 : res_main_v85 (F := Ideal) (launchContents m c) = dpV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) := by
  unfold res_main_v85
  rw [e82, e2, e26]
  rfl

theorem e88 : res_main_v88 (F := Ideal) (launchContents m c) = dnV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) := by
  unfold res_main_v88
  rw [e85, e0]
  rfl

theorem e93 : res_main_v93 (F := Ideal) (launchContents m c) = Norm.gainV (m ((c.tc : Thread nD τ).loc main_arg3)) (dnV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8))) := by
  unfold res_main_v93 res_main_v17
  rw [e88]
  rfl

theorem e105 : res_main_v105 (F := Ideal) (launchContents m c) = Norm.coefV (m ((c.tc : Thread nD τ).loc main_arg0)) (Norm.gainV (m ((c.tc : Thread nD τ).loc main_arg3)) (dnV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)))) := by
  unfold res_main_v105
  rw [e93, e11, e10]
  rfl

/-- The reference's run leaves the six results over whole arrays. -/
theorem run_vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v109) = GDx (wc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)))
      ∧ r.2.mem ((c.tc : Thread nD τ).loc main_v113) = GLo (wc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)))
      ∧ r.2.mem ((c.tc : Thread nD τ).loc main_v110) = GG3 (wc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)))
      ∧ r.2.mem ((c.tc : Thread nD τ).loc main_v114) = GGf (wc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)))
      ∧ r.2.mem ((c.tc : Thread nD τ).loc main_v87) = GWg (wc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)))
      ∧ r.2.mem ((c.tc : Thread nD τ).loc main_v116) = GWp (wc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run _ _ _).mono (fun r hr c => ?_) (run m ρ)
  obtain ⟨r0, r1, r2, r3, r4, r5, rest⟩ := hr c
  refine ⟨r0.trans ?_, r1.trans ?_, r2.trans ?_, r3.trans ?_, r4.trans ?_, r5.trans ?_, rest⟩
  · refine Eq.trans ?_ (refDx _ _ _ _ _ _ _)
    rw [e82, e93, e11, e105]
    rfl
  · refine Eq.trans ?_ (refL _ _ _ _ _ _ _)
    rw [e48]
    rfl
  · refine Eq.trans ?_ (refG3 _ _ _ _ _ _ _)
    unfold res_main_v16
    rw [e88, e11]
    rfl
  · refine Eq.trans ?_ (refGf _ _ _ _ _ _ _)
    rw [e44, e62]
    rfl
  · refine Eq.trans ?_ (refWg _ _ _ _ _ _ _)
    rw [e85, e19]
    rfl
  · refine Eq.trans ?_ (refWp _ _ _ _ _ _ _)
    rw [e26, e82]
    rfl

end Cert.HeadRefIdeal.Val
-- ==== Proof.Head.Alg.lean ====
module
public import proofs.«01_k».proof.Defs
public import proofs.«01_k».proof.Proof.Head.Out
public import proofs.«01_k».proof.Proof.Head.RefRun
@[expose] public section
set_option maxRecDepth 16384
noncomputable section
/-! The loss head's six results over whole arrays, and their equality with the reference's. -/
namespace Cert.HeadIdeal.Val
open Cert.HeadIdeal Cert.HeadIdeal.Gen Cert.HeadIdeal.Launch Idealize.ShloMosaic Idealize.ShloMosaic.TcCoe Idealize.SL.Sem
variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0] ∧
    win0_4.index t = ![0, 0] ∧ win0_5.index t = ![t.val, 0] ∧ win0_6.index t = ![0, 0] ∧ win0_7.index t = ![0, 0] ∧ win0_8.index t = ![0, 0] ∧
    win0_9.index t = ![0, 0] ∧ win0_10.index t = ![0, 0] ∧ t.val < 32 :=
  (by decide +kernel : ∀ t : Fin grid0.N, _)

theorem lt (t : Fin cfg0.N) : t.val < 32 := (idx t).2.2.2.2.2.2.2.2.2.2.2

/-- The row of the whole arrays that row `a` of point `t`'s block is. -/
def row (t : Fin cfg0.N) (a : Fin 512) : Fin 16384 := ⟨512 * t.val + a.val, by have := lt t; omega⟩

theorem blk_x (c : Dev nD) (t : Fin cfg0.N) (a : Fin 512) (k : Fin 1024) :
    (iblk m c 0 t : S512x1024.Idx → EReal) (ix2 a k) = m ((c : Thread nD τ).loc main_arg0) (ix2 (row t a) k) := by
  blk_ext [iblk, V, idx t, row]
theorem blk_p (c : Dev nD) (t : Fin cfg0.N) (a : Fin 512) (k : Fin 256) :
    (iblk m c 1 t : S512x256.Idx → EReal) (ix2 a k) = m ((c : Thread nD τ).loc main_arg1) (ix2 (row t a) k) := by
  blk_ext [iblk, V, idx t, row]
theorem blk_tg (c : Dev nD) (t : Fin cfg0.N) (a : Fin 512) (k : Fin 1024) :
    (iblk m c 2 t : S512x1024.Idx → EReal) (ix2 a k) = m ((c : Thread nD τ).loc main_arg2) (ix2 (row t a) k) := by
  blk_ext [iblk, V, idx t, row]
theorem blk_g3 (c : Dev nD) (t : Fin cfg0.N) (k : Fin 1024) :
    (iblk m c 3 t : S1x1024.Idx → EReal) (ix2 0 k) = m ((c : Thread nD τ).loc main_arg3) (ix2 0 k) := by
  blk_ext [iblk, V, idx t]

theorem gf_pure (X : FVec Ideal S1024 .f32) (k : Fin 1024) : (shapeCast S1x1024 X shapeCasts_S1024_S1x1024 (ix2 0 k) : EReal) = X (ix1 k) := by
  pointwise []

theorem gf_at (c : Dev nD) (k : Fin 1024) : (V m c main_v16 : S1x1024.Idx → EReal) (ix2 0 k) = m ((c : Thread nD τ).loc main_arg4) (ix1 k) := by
  unfold V
  simp only [hostOps0, hostOps0_1, hostOps0_2, List.flatten_cons, List.flatten_nil, List.append_nil, List.cons_append, List.nil_append]
  after_results
  exact gf_pure _ k

theorem blk_gf (c : Dev nD) (t : Fin cfg0.N) (k : Fin 1024) :
    (iblk m c 4 t : S1x1024.Idx → EReal) (ix2 0 k) = m ((c : Thread nD τ).loc main_arg4) (ix1 k) := by
  refine Eq.trans ?_ (gf_at m c k)
  blk_ext [iblk, idx t]

/-- The rows of the arrays of one device. -/
abbrev rows (c : Dev nD) : Fin 16384 → Ctx :=
  wc (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg7)) (m ((c : Thread nD τ).loc main_arg8))

theorem ctx_congr {x x' : Fin 1024 → EReal} {p p' : Fin 256 → EReal} {t t' g g' f f' : Fin 1024 → EReal} {W W' : Fin 1024 → Fin 1024 → EReal}
    {P P' : Fin 256 → Fin 1024 → EReal} (h0 : x = x') (h1 : p = p') (h2 : t = t') (h3 : g = g') (h4 : f = f') (h5 : W = W') (h6 : P = P') :
    (⟨x, p, t, g, f, W, P⟩ : Ctx) = ⟨x', p', t', g', f', W', P'⟩ := by
  subst h0 h1 h2 h3 h4 h5 h6
  rfl

/-- Row `a` of a point's blocks is its row of the whole arrays. -/
theorem bc_row (c : Dev nD) (t : Fin cfg0.N) (a : Fin 512) :
    bc (iblk m c 0 t) (iblk m c 1 t) (iblk m c 2 t) (iblk m c 3 t) (iblk m c 4 t) (sW m c t) (sP m c t) a = rows m c (row t a) := by
  unfold bc rows wc
  exact ctx_congr (funext fun e => blk_x m c t a e) (funext fun k => blk_p m c t a k) (funext fun e => blk_tg m c t a e) (funext fun e => blk_g3 m c t e)
    (funext fun e => blk_gf m c t e) (funext fun d => funext fun j => wg_all m c _ _ d j) (funext fun k => funext fun j => wp_all m c _ _ j k)

/-- An output that starts at nothing and takes up a block of rows at each point holds the sum over all rows at the last. -/
theorem accum {ι : Type} (f : (n : ℕ) → n < cfg0.N → ι → EReal) (part : ι → Fin 16384 → EReal)
    (hA : ∀ (p : Fin cfg0.N), p.val % 32 = 0 → ∀ j, f p.val p.isLt j = 0 + ∑ a : Fin 512, part j (row p a))
    (hB : ∀ (p : Fin cfg0.N), ¬ p.val % 32 = 0 → ∀ j, f p.val p.isLt j = f (p.val - 1) (Nat.lt_of_le_of_lt (Nat.sub_le _ _) p.isLt) j + ∑ a : Fin 512, part j (row p a))
    (t : Fin cfg0.N) (hf : t.val % 32 = 31) (y : ι) : f t.val t.isLt y = ∑ R : Fin 16384, part y R := by
  refine (Pipeline.eq_sum_fin_of_reset_step_apply_of_flush (N := cfg0.N) (M := EReal) (ι := ι) f 32 (fun _ => 0)
    (fun p j => ∑ a : Fin 512, part j (row p a)) hA hB t hf y).trans ?_
  rw [zero_add]
  have ht : t.val / 32 = 0 := by have := lt t; omega
  refine Fin.sum_mul_add_congr fun s k hl => congrArg _ (Fin.ext ?_)
  simp only [row, ht]
  omega

variable (x : FVec Ideal S512x1024 .f32) (p : FVec Ideal S512x256 .f32) (tg : FVec Ideal S512x1024 .f32) (g3 gf : FVec Ideal S1x1024 .f32)
  (W : FVec Ideal S1024x1024 .bf16) (P : FVec Ideal S1024x256 .bf16) (C : Fin 16384 → Ctx) (t : Fin cfg0.N)

section
variable (h : ∀ a, bc x p tg g3 gf W P a = C (row t a))
include h

theorem oX_row (a : Fin 512) (d : Fin 1024) : (oX x p tg g3 gf W P (ix2 a d) : EReal) = GDx C (ix2 (row t a) d) :=
  (pay2_at x p tg g3 gf W P _ _ (pay24_at x p tg g3 gf W P) a d).trans (by rw [h]; rfl)

theorem oL_row (L : FVec Ideal S8x128 .f32) (j : S8x128.Idx) : (oL x p tg g3 gf W P L j : EReal) = L j + ∑ a : Fin 512, pL C (row t a) := by
  obtain ⟨u, v, rfl⟩ : ∃ (u : Fin 8) (v : Fin 128), j = ix2 u v := ⟨j 0, j 1, by funext i; fin_cases i <;> rfl⟩
  refine (pay19_at x p tg g3 gf W P L u v).trans (congrArg _ ?_)
  unfold pL
  rw [c1_2048, Norm.sum_mul_real _ _ (by norm_num)]
  simp only [h]

theorem oG3_row (s : FVec Ideal S1x1024 .f32) (j : S1x1024.Idx) : (oG3 x p tg g3 gf W P s j : EReal) = s j + ∑ a : Fin 512, pG3 C (j 1) (row t a) := by
  obtain ⟨d, rfl⟩ := gain_idx j
  refine (pay30_at x p tg g3 gf W P _ _ (pay24_at x p tg g3 gf W P) d s).trans ?_
  simp only [h]
  rfl

theorem oGf_row (s : FVec Ideal S1x1024 .f32) (j : S1x1024.Idx) : (oGf x p tg g3 gf W P s j : EReal) = s j + ∑ a : Fin 512, pGf C (j 1) (row t a) := by
  obtain ⟨d, rfl⟩ := gain_idx j
  refine (pay21_at x p tg g3 gf W P d s).trans ?_
  simp only [h]
  rfl

theorem oWg_row (s : FVec Ideal S1024x1024 .f32) (j : S1024x1024.Idx) : (oWg x p tg g3 gf W P s j : EReal) = s j + ∑ a : Fin 512, pWg C (j 0) (j 1) (row t a) := by
  obtain ⟨a, b, rfl⟩ : ∃ (a : Fin 1024) (b : Fin 1024), j = ix2 a b := ⟨j 0, j 1, by funext i; fin_cases i <;> rfl⟩
  refine (pay28_at x p tg g3 gf W P _ _ (pay24_at x p tg g3 gf W P) s a b).trans ?_
  simp only [h]
  rfl

omit h in
theorem left_at (A : FVec Ideal S1024x1024 .f32) (a : Fin 1024) (b : Fin 256) : (left A (ix2 a b) : EReal) = A (ix2 a ⟨b.val, by omega⟩) := by
  refine congrArg A ?_
  funext i
  fin_cases i <;> (apply Fin.ext; simp [Rect.unit])

theorem oWp_row (A : FVec Ideal S1024x1024 .f32) (i : S1024x1024.Idx) : (oWp x p tg g3 gf W P A i : EReal) = A i + ∑ r : Fin 512, pWp C (i 0) (i 1) (row t r) := by
  obtain ⟨a, b, rfl⟩ : ∃ (a : Fin 1024) (b : Fin 1024), i = ix2 a b := ⟨i 0, i 1, by funext i; fin_cases i <;> rfl⟩
  change _ = A (ix2 a b) + ∑ r : Fin 512, pWp C a b (row t r)
  unfold oWp VecWindow.put pWp
  by_cases hb : b.val < 256
  · rw [dif_pos (by intro i; fin_cases i <;> simp <;> omega)]
    have e : (Rect.unitLocal (s := S1024x1024) (off := ![0, 0]) (size := ![1024, 256]) (ix2 a b) (by intro i; fin_cases i <;> simp <;> omega) : S1024x256.Idx) = ix2 a ⟨b.val, hb⟩ := by
      funext i
      fin_cases i <;> (apply Fin.ext; simp [Rect.unitLocal])
    refine (congrArg (k0_pay26 (F := Ideal) _ _ _ _ (left A)) e).trans ?_
    rw [pay26_at x p tg g3 gf W P _ _ (pay24_at x p tg g3 gf W P), left_at]
    simp only [h, dif_pos hb]
  · rw [dif_neg (fun k => hb (by have := (k 1).2; simp at this; omega))]
    simp only [dif_neg hb, Finset.sum_const_zero, add_zero]

end

theorem finalX (c : Dev nD) : (dats m 0 c).arrAt 5 cfg0.N = GDx (rows m c) := by
  refine (dats m 0 c).arrAt_eq_of_covers 5 _ (by decide +kernel) fun t _ y => ?_
  blk_simp
  rw [after0_5, outX]
  obtain ⟨a, b, rfl⟩ : ∃ (a : Fin 512) (b : Fin 1024), y = ix2 a b := ⟨y 0, y 1, by funext i; fin_cases i <;> rfl⟩
  have he : ((cfg0.win 5).blk t).view.emb (ix2 a b) = (ix2 (row t a) b : S16384x1024.Idx) := by blk_ext [idx t, row]
  rw [he]
  exact oX_row _ _ _ _ _ _ _ _ t (bc_row m c t) a b

theorem pay3_zero (j : S8x128.Idx) : (k0_pay3 (F := Ideal) j : EReal) = 0 := by pointwise [k0_pay3]

theorem finalL (c : Dev nD) : (dats m 0 c).arrAt 6 cfg0.N = GLo (rows m c) := by
  refine (dats m 0 c).arrAt_eq_of_covers 6 _ (by decide +kernel) fun t hf y => ?_
  blk_simp
  rw [after0_6]
  have he : ((cfg0.win 6).blk t).view.emb y = (y : S8x128.Idx) := by blk_ext [idx t]
  rw [he]
  refine accum (ι := S8x128.Idx) (fun n hn => (outsAt0 m c n hn).2.1) (fun _ => pL (rows m c)) (fun q hq j => ?_) (fun q hq j => ?_) t ((flush0_6 t).mp hf) y
  · rw [outL_A m c q hq]
    exact (oL_row _ _ _ _ _ _ _ _ q (bc_row m c q) _ j).trans (by rw [pay3_zero])
  · rw [outL_B m c q hq]
    exact oL_row _ _ _ _ _ _ _ _ q (bc_row m c q) _ j

theorem pay4_zero (j : S1x1024.Idx) : (k0_pay4 (F := Ideal) j : EReal) = 0 := by pointwise [k0_pay4]

theorem finalG3 (c : Dev nD) : (dats m 0 c).arrAt 7 cfg0.N = GG3 (rows m c) := by
  refine (dats m 0 c).arrAt_eq_of_covers 7 _ (by decide +kernel) fun t hf y => ?_
  blk_simp
  rw [after0_7]
  have he : ((cfg0.win 7).blk t).view.emb y = (y : S1x1024.Idx) := by blk_ext [idx t]
  rw [he]
  refine accum (ι := S1x1024.Idx) (fun n hn => (outsAt0 m c n hn).2.2.1) (fun j => pG3 (rows m c) (j 1)) (fun q hq j => ?_) (fun q hq j => ?_) t ((flush0_7 t).mp hf) y
  · rw [outG3_A m c q hq]
    exact (oG3_row _ _ _ _ _ _ _ _ q (bc_row m c q) _ j).trans (by rw [pay4_zero])
  · rw [outG3_B m c q hq]
    exact oG3_row _ _ _ _ _ _ _ _ q (bc_row m c q) _ j

theorem pay5_zero (j : S1x1024.Idx) : (k0_pay5 (F := Ideal) j : EReal) = 0 := by pointwise [k0_pay5]

theorem finalGf (c : Dev nD) : (dats m 0 c).arrAt 8 cfg0.N = GGf (rows m c) := by
  refine (dats m 0 c).arrAt_eq_of_covers 8 _ (by decide +kernel) fun t hf y => ?_
  blk_simp
  rw [after0_8]
  have he : ((cfg0.win 8).blk t).view.emb y = (y : S1x1024.Idx) := by blk_ext [idx t]
  rw [he]
  refine accum (ι := S1x1024.Idx) (fun n hn => (outsAt0 m c n hn).2.2.2.1) (fun j => pGf (rows m c) (j 1)) (fun q hq j => ?_) (fun q hq j => ?_) t ((flush0_8 t).mp hf) y
  · rw [outGf_A m c q hq]
    exact (oGf_row _ _ _ _ _ _ _ _ q (bc_row m c q) _ j).trans (by rw [pay5_zero])
  · rw [outGf_B m c q hq]
    exact oGf_row _ _ _ _ _ _ _ _ q (bc_row m c q) _ j

theorem pay6_zero (j : S1024x1024.Idx) : (k0_pay6 (F := Ideal) j : EReal) = 0 := by pointwise [k0_pay6]

theorem finalWg (c : Dev nD) : (dats m 0 c).arrAt 9 cfg0.N = GWg (rows m c) := by
  refine (dats m 0 c).arrAt_eq_of_covers 9 _ (by decide +kernel) fun t hf y => ?_
  blk_simp
  rw [after0_9]
  have he : ((cfg0.win 9).blk t).view.emb y = (y : S1024x1024.Idx) := by blk_ext [idx t]
  rw [he]
  refine accum (ι := S1024x1024.Idx) (fun n hn => (outsAt0 m c n hn).2.2.2.2.1) (fun j => pWg (rows m c) (j 0) (j 1)) (fun q hq j => ?_) (fun q hq j => ?_) t ((flush0_9 t).mp hf) y
  · rw [outWg_A m c q hq]
    exact (oWg_row _ _ _ _ _ _ _ _ q (bc_row m c q) _ j).trans (by rw [pay6_zero])
  · rw [outWg_B m c q hq]
    exact oWg_row _ _ _ _ _ _ _ _ q (bc_row m c q) _ j

theorem pay7_zero (j : S1024x1024.Idx) : (k0_pay7 (F := Ideal) j : EReal) = 0 := by pointwise [k0_pay7]

theorem finalWp (c : Dev nD) : (dats m 0 c).arrAt 10 cfg0.N = GWp (rows m c) := by
  refine (dats m 0 c).arrAt_eq_of_covers 10 _ (by decide +kernel) fun t hf y => ?_
  blk_simp
  rw [after0_10]
  have he : ((cfg0.win 10).blk t).view.emb y = (y : S1024x1024.Idx) := by blk_ext [idx t]
  rw [he]
  refine accum (ι := S1024x1024.Idx) (fun n hn => (outsAt0 m c n hn).2.2.2.2.2.1) (fun j => pWp (rows m c) (j 0) (j 1)) (fun q hq j => ?_) (fun q hq j => ?_) t ((flush0_10 t).mp hf) y
  · rw [outWp_A m c q hq]
    exact (oWp_row _ _ _ _ _ _ _ _ q (bc_row m c q) _ j).trans (by rw [pay7_zero])
  · rw [outWp_B m c q hq]
    exact oWp_row _ _ _ _ _ _ _ _ q (bc_row m c q) _ j

theorem algebraic : Cert.algebraic_HeadIdeal_HeadRefIdeal (hHeadIdeal := Cert.HeadIdeal.Gen.facts) (hHeadRefIdeal := Cert.HeadRefIdeal.Gen.facts) := by
  intro m g m' g' _ h
  refine ⟨fun c => (Cert.HeadIdeal.Launch.dats m 0 c).arrAt 5 Cert.HeadIdeal.cfg0.N, fun c => (Cert.HeadIdeal.Launch.dats m 0 c).arrAt 6 Cert.HeadIdeal.cfg0.N, fun c => (Cert.HeadIdeal.Launch.dats m 0 c).arrAt 7 Cert.HeadIdeal.cfg0.N, fun c => (Cert.HeadIdeal.Launch.dats m 0 c).arrAt 8 Cert.HeadIdeal.cfg0.N, fun c => (Cert.HeadIdeal.Launch.dats m 0 c).arrAt 9 Cert.HeadIdeal.cfg0.N, fun c => (Cert.HeadIdeal.Launch.dats m 0 c).arrAt 10 Cert.HeadIdeal.cfg0.N,
    Cert.HeadIdeal.Value.run_blocks m g, (θ_run _ _ _).mono (fun r hr c => ?_) (Cert.HeadRefIdeal.Val.run_vals m' g')⟩
  obtain ⟨h0, h1, h2, h3, h4, h5, h6, h7, h8⟩ := h c
  obtain ⟨r0, r1, r2, r3, r4, r5, rest⟩ := hr c
  rw [h0, h1, h2, h3, h4, h7, h8] at r0 r1 r2 r3 r4 r5
  exact ⟨r0.trans (finalX m c).symm, r1.trans (finalL m c).symm, r2.trans (finalG3 m c).symm, r3.trans (finalGf m c).symm, r4.trans (finalWg m c).symm,
    r5.trans (finalWp m c).symm, rest⟩

end Cert.HeadIdeal.Val
-- ==== Proof.Head.Frames.lean ====
/- The frames of the call: of its own text, of its idealised text and of its reference. -/
module

public import proofs.«01_k».proof.Defs
public import proofs.«01_k».proof.Proof.Gen.Head
public import proofs.«01_k».proof.Proof.Head.Frame
public import proofs.«01_k».proof.Proof.Gen.HeadRefIdeal.Run

@[expose] public section

noncomputable section

namespace Cert.HeadIdeal.Val

open Idealize.ShloMosaic Idealize.SL.Sem

set_option maxHeartbeats 8000000 in
set_option smartUnfolding false in
/-- The two texts of the call are the same, so its own text runs as its idealised text does, at the
    machine's numbers. -/
theorem frame_own : Cert.quiescent_Head (hHead := Cert.Head.Gen.facts) :=
  fun m ρ _ => Cert.HeadIdeal.Launch.frame (F := Bits) m ρ

theorem frame_ideal : Cert.quiescent_HeadIdeal (hHeadIdeal := Cert.HeadIdeal.Gen.facts) :=
  fun m ρ _ => Cert.HeadIdeal.Launch.frame m ρ

/-- The reference declares no semaphore. -/
theorem frame_ref : Cert.quiescent_HeadRefIdeal (hHeadRefIdeal := Cert.HeadRefIdeal.Gen.facts) := fun m ρ _ =>
  (θ_run Cert.HeadRefIdeal.defs _ _).mono
    (fun r h => ⟨fun c => (h c).2.2.2.2.2.2, sem_eq_zero_of_no_sems (by decide) r.2⟩)
    (Cert.HeadRefIdeal.Value.run (F := Ideal) m ρ)

end Cert.HeadIdeal.Val

end
-- ==== Proof.Norm.Adam.lean ====
module
public import proofs.«01_k».proof.Proof.Norm.Real
public import Idealize.ShloMosaic.Lib.Pipeline.ValueKit
@[expose] public section
noncomputable section
/-! The optimiser's step of a weight: the two new moments and the change, of the weight, its gradient and the two old moments. -/
namespace Cert.Norm
open Idealize.ShloMosaic

/-- The new first moment of one entry. -/
def newM (g m : EReal) : EReal := Ideal.ofBits FTy.f32 0x3F666666#32 * m + Ideal.ofBits FTy.f32 0x3DCCCCCD#32 * g

/-- The new second moment of one entry. -/
def newV (g v : EReal) : EReal := Ideal.ofBits FTy.f32 0x3F7FBE77#32 * v + Ideal.ofBits FTy.f32 0x3A83126F#32 * (g * g)

/-- The change of one entry of the weight. -/
def delta (w g m v : EReal) : EReal :=
  Ideal.ofBits FTy.f32 0xBA83126F#32 * (Ideal.div (Ideal.div (newM g m) (Ideal.ofBits FTy.f32 0x3F26BD02#32))
    (Ideal.sqrt (Ideal.div (newV g v) (Ideal.ofBits FTy.f32 0x3C231ACC#32)) + Ideal.ofBits FTy.f32 0x322BCC77#32) + Ideal.ofBits FTy.f32 0x3C23D70A#32 * w)

/-- The new first moment of an array. -/
def arrM {s : Shape} (g m : FVec Ideal s .f32) : FVec Ideal s .f32 := fun i => newM (g i) (m i)
/-- The new second moment of an array. -/
def arrV {s : Shape} (g v : FVec Ideal s .f32) : FVec Ideal s .f32 := fun i => newV (g i) (v i)
/-- The change of an array. -/
def arrD {s : Shape} (w g m v : FVec Ideal s .f32) : FVec Ideal s .f32 := fun i => delta (w i) (g i) (m i) (v i)

/-- A stack of one matrix as the matrix. -/
def mat {n k : Nat} (X : FVec Ideal ⟨3, ![1, n, k]⟩ .f32) : FVec Ideal ⟨2, ![n, k]⟩ .f32 := fun i => X (ix3 0 (i 0) (i 1))
/-- A stack of one matrix as the transposed matrix. -/
def matT {n k : Nat} (X : FVec Ideal ⟨3, ![1, n, k]⟩ .f32) : FVec Ideal ⟨2, ![k, n]⟩ .f32 := fun i => X (ix3 0 (i 1) (i 0))

theorem hz2 : (![0, 0] : Fin 2 → Nat) = fun _ => 0 := funext fun a => by fin_cases a <;> rfl

/-- Two matrices that agree entry by entry are one. -/
theorem ext2 {n k : Nat} {X Y : FVec Ideal ⟨2, ![n, k]⟩ .f32} (h : ∀ (a : Fin n) (b : Fin k), X (ix2 a b) = Y (ix2 a b)) : X = Y := by
  funext i
  obtain ⟨a, b, rfl⟩ : ∃ (a : Fin n) (b : Fin k), i = ix2 a b := ⟨i 0, i 1, by funext i; fin_cases i <;> rfl⟩
  exact h a b

end Cert.Norm
-- ==== Proof.AdamWin.lean ====
/- The optimiser's step of the input projection, from the transposed gradient: every block of rows of the change and the new moments is the reference's. -/
module

public import proofs.«01_k».proof.Defs
public import proofs.«01_k».proof.Proof.Norm.Adam
public import proofs.«01_k».proof.Proof.Gen.AdamWinIdeal.Value
public import proofs.«01_k».proof.Proof.Gen.AdamWinRefIdeal.Run

@[expose] public section

noncomputable section

namespace Cert.AdamWinRefIdeal.Val

open Cert.AdamWinRefIdeal Cert.AdamWinRefIdeal.Gen Cert.Norm Idealize.ShloMosaic

/-- The gradient in the shape of the weight, transposed twice, is the gradient. -/
theorem twice (g : FVec Ideal S576x1024 .f32) :
    matT (broadcastInDim S1x1024x576 ![1, 2] bcast_S1024x576_S1x1024x576_1_2 (transpose S1024x576 [1, 0] g transposes_S576x1024_S1024x576_1_0)) = g :=
  ext2 fun a b => by
    unfold matT
    pointwise []

end Cert.AdamWinRefIdeal.Val

namespace Cert.AdamWinIdeal.Val

open Cert.AdamWinIdeal Cert.AdamWinIdeal.Gen Cert.Norm Idealize.ShloMosaic Idealize.ShloMosaic.TcCoe Idealize.SL.Sem

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧
    win0_4.index t = ![t.val, 0] ∧ win0_5.index t = ![t.val, 0] ∧ win0_6.index t = ![t.val, 0] ∧ t.val < 3 :=
  (by decide +kernel : ∀ t : Fin grid0.N, _)

/-- The row of the whole arrays that row `a` of point `t`'s block is. -/
def row (t : Fin cfg0.N) (a : Fin 192) : Fin 576 := ⟨192 * t.val + a.val, by have := (idx t).2.2.2.2.2.2.2; omega⟩

theorem flat (X : FVec Ideal S1x1024x576 .f32) :
    transpose S576x1024 [1, 0] (shapeCast S1024x576 X shapeCasts_S1x1024x576_S1024x576) transposes_S1024x576_S576x1024_1_0 = matT X :=
  ext2 fun a b => by
    unfold matT
    pointwise []

/-- The launch's four arrays are the arguments as transposed matrices, the gradient as it is. -/
theorem args (c : Dev nD) : V m c main_v1 = matT (m ((c : Thread nD τ).loc main_arg0)) ∧ V m c main_arg1 = m ((c : Thread nD τ).loc main_arg1) ∧
    V m c main_v3 = matT (m ((c : Thread nD τ).loc main_arg2)) ∧ V m c main_v5 = matT (m ((c : Thread nD τ).loc main_arg3)) := by
  refine ⟨?_, V_main_arg1 m c, ?_, ?_⟩ <;> (unfold V; simp only [hostOps0]; after_results; exact flat _)

/-- A point's blocks are its rows of the four arrays. -/
theorem blk (c : Dev nD) (t : Fin cfg0.N) (a : Fin 192) (k : Fin 1024) :
    (iblk m c 0 t : S192x1024.Idx → EReal) (ix2 a k) = (V m c main_v1 : S576x1024.Idx → EReal) (ix2 (row t a) k) ∧
    (iblk m c 1 t : S192x1024.Idx → EReal) (ix2 a k) = (V m c main_arg1 : S576x1024.Idx → EReal) (ix2 (row t a) k) ∧
    (iblk m c 2 t : S192x1024.Idx → EReal) (ix2 a k) = (V m c main_v3 : S576x1024.Idx → EReal) (ix2 (row t a) k) ∧
    (iblk m c 3 t : S192x1024.Idx → EReal) (ix2 a k) = (V m c main_v5 : S576x1024.Idx → EReal) (ix2 (row t a) k) := by
  refine ⟨?_, ?_, ?_, ?_⟩ <;> blk_ext [iblk, idx t, row]

theorem pay_m (g m : FVec Ideal S192x1024 .f32) : k0_pay1 (F := Ideal) g m = arrM g m :=
  ext2 fun a b => by
    unfold arrM newM
    pointwise [k0_pay1]
theorem pay_v (g v : FVec Ideal S192x1024 .f32) : k0_pay2 (F := Ideal) g v = arrV g v :=
  ext2 fun a b => by
    unfold arrV newV
    pointwise [k0_pay2]
theorem pay_d (g m v w : FVec Ideal S192x1024 .f32) : k0_pay3 (F := Ideal) g m v w = arrD w g m v :=
  ext2 fun a b => by
    unfold k0_pay3
    rw [pay_m, pay_v]
    unfold arrD delta arrM arrV
    pointwise []

theorem final_d (c : Dev nD) : (dats m 0 c).arrAt 4 cfg0.N = arrD (V m c main_v1) (V m c main_arg1) (V m c main_v3) (V m c main_v5) := by
  refine (dats m 0 c).arrAt_eq_of_covers 4 _ (by decide +kernel) fun t hf y => ?_
  blk_simp
  rw [after0_4]
  obtain ⟨a, b, rfl⟩ : ∃ (a : Fin 192) (b : Fin 1024), y = ix2 a b := ⟨y 0, y 1, by funext i; fin_cases i <;> rfl⟩
  obtain ⟨e0, e1, e2, e3⟩ := blk m c t a b
  have he : ((cfg0.win 4).blk t).view.emb (ix2 a b : S192x1024.Idx) = (ix2 (row t a) b : S576x1024.Idx) := by blk_ext [idx t, row]
  rw [he]
  unfold out0_4
  rw [View.canon_cons_unit_zero hz2]
  simp only [View.ld_unit_zero (S := S192x1024) hz2]
  rw [pay_d]
  unfold arrD
  rw [e0, e1, e2, e3]
theorem final_m (c : Dev nD) : (dats m 0 c).arrAt 5 cfg0.N = arrM (V m c main_arg1) (V m c main_v3) := by
  refine (dats m 0 c).arrAt_eq_of_covers 5 _ (by decide +kernel) fun t hf y => ?_
  blk_simp
  rw [after0_5]
  obtain ⟨a, b, rfl⟩ : ∃ (a : Fin 192) (b : Fin 1024), y = ix2 a b := ⟨y 0, y 1, by funext i; fin_cases i <;> rfl⟩
  obtain ⟨e0, e1, e2, e3⟩ := blk m c t a b
  have he : ((cfg0.win 5).blk t).view.emb (ix2 a b : S192x1024.Idx) = (ix2 (row t a) b : S576x1024.Idx) := by blk_ext [idx t, row]
  rw [he]
  unfold out0_5
  rw [View.canon_cons_unit_zero hz2]
  simp only [View.ld_unit_zero (S := S192x1024) hz2]
  rw [pay_m]
  unfold arrM
  rw [e1, e2]
theorem final_v (c : Dev nD) : (dats m 0 c).arrAt 6 cfg0.N = arrV (V m c main_arg1) (V m c main_v5) := by
  refine (dats m 0 c).arrAt_eq_of_covers 6 _ (by decide +kernel) fun t hf y => ?_
  blk_simp
  rw [after0_6]
  obtain ⟨a, b, rfl⟩ : ∃ (a : Fin 192) (b : Fin 1024), y = ix2 a b := ⟨y 0, y 1, by funext i; fin_cases i <;> rfl⟩
  obtain ⟨e0, e1, e2, e3⟩ := blk m c t a b
  have he : ((cfg0.win 6).blk t).view.emb (ix2 a b : S192x1024.Idx) = (ix2 (row t a) b : S576x1024.Idx) := by blk_ext [idx t, row]
  rw [he]
  unfold out0_6
  rw [View.canon_cons_unit_zero hz2]
  simp only [View.ld_unit_zero (S := S192x1024) hz2]
  rw [pay_v]
  unfold arrV
  rw [e1, e3]

/-- The reference declares no semaphore. -/
theorem frame_ref : Cert.quiescent_AdamWinRefIdeal (hAdamWinRefIdeal := Cert.AdamWinRefIdeal.Gen.facts) := fun m ρ _ =>
  (θ_run Cert.AdamWinRefIdeal.defs _ _).mono (fun r h => ⟨fun c => (h c).2.2.2, sem_eq_zero_of_no_sems (by decide) r.2⟩)
    (Cert.AdamWinRefIdeal.Value.run (F := Ideal) m ρ)

theorem algebraic : Cert.algebraic_AdamWinIdeal_AdamWinRefIdeal (hAdamWinIdeal := Cert.AdamWinIdeal.Gen.facts) (hAdamWinRefIdeal := Cert.AdamWinRefIdeal.Gen.facts) := by
  intro m g m' g' _ h
  refine ⟨fun c => (dats m 0 c).arrAt 4 cfg0.N, fun c => (dats m 0 c).arrAt 5 cfg0.N, fun c => (dats m 0 c).arrAt 6 cfg0.N, Cert.AdamWinIdeal.Value.run_blocks m g,
    (θ_run _ _ _).mono (fun r hr c => ?_) (Cert.AdamWinRefIdeal.Value.run m' g')⟩
  obtain ⟨h0, h1, h2, h3⟩ := h c
  obtain ⟨r0, r1, r2, rest⟩ := hr c
  obtain ⟨a0, a1, a2, a3⟩ := args m c
  refine ⟨r0.trans (Eq.trans ?_ (final_d m c).symm), r1.trans (Eq.trans ?_ (final_m m c).symm), r2.trans (Eq.trans ?_ (final_v m c).symm), rest⟩
  · rw [h0, h1, h2, h3, a0, a1, a2, a3]
    refine (flat _).trans ?_
    conv_rhs => rw [← Cert.AdamWinRefIdeal.Val.twice (m ((c : Thread nD τ).loc main_arg1))]
    rfl
  · rw [h1, h2, a1, a2]
    refine (flat _).trans ?_
    conv_rhs => rw [← Cert.AdamWinRefIdeal.Val.twice (m ((c : Thread nD τ).loc main_arg1))]
    rfl
  · rw [h1, h3, a1, a3]
    refine (flat _).trans ?_
    conv_rhs => rw [← Cert.AdamWinRefIdeal.Val.twice (m ((c : Thread nD τ).loc main_arg1))]
    rfl

end Cert.AdamWinIdeal.Val

end
-- ==== Proof.AdamFfnIn.lean ====
/- The optimiser's step of the first feed-forward weight, from the transposed gradient: every block of rows of the change and the new moments is the reference's. -/
module

public import proofs.«01_k».proof.Defs
public import proofs.«01_k».proof.Proof.Norm.Adam
public import proofs.«01_k».proof.Proof.Gen.AdamFfnInIdeal.Value
public import proofs.«01_k».proof.Proof.Gen.AdamFfnInRefIdeal.Run

@[expose] public section

noncomputable section

namespace Cert.AdamFfnInRefIdeal.Val

open Cert.AdamFfnInRefIdeal Cert.AdamFfnInRefIdeal.Gen Cert.Norm Idealize.ShloMosaic

/-- The gradient in the shape of the weight, transposed twice, is the gradient. -/
theorem twice (g : FVec Ideal S704x1024 .f32) :
    matT (broadcastInDim S1x1024x704 ![1, 2] bcast_S1024x704_S1x1024x704_1_2 (transpose S1024x704 [1, 0] g transposes_S704x1024_S1024x704_1_0)) = g :=
  ext2 fun a b => by
    unfold matT
    pointwise []

end Cert.AdamFfnInRefIdeal.Val

namespace Cert.AdamFfnInIdeal.Val

open Cert.AdamFfnInIdeal Cert.AdamFfnInIdeal.Gen Cert.Norm Idealize.ShloMosaic Idealize.ShloMosaic.TcCoe Idealize.SL.Sem

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧
    win0_4.index t = ![t.val, 0] ∧ win0_5.index t = ![t.val, 0] ∧ win0_6.index t = ![t.val, 0] ∧ t.val < 4 :=
  (by decide +kernel : ∀ t : Fin grid0.N, _)

/-- The row of the whole arrays that row `a` of point `t`'s block is. -/
def row (t : Fin cfg0.N) (a : Fin 176) : Fin 704 := ⟨176 * t.val + a.val, by have := (idx t).2.2.2.2.2.2.2; omega⟩

theorem flat (X : FVec Ideal S1x1024x704 .f32) :
    transpose S704x1024 [1, 0] (shapeCast S1024x704 X shapeCasts_S1x1024x704_S1024x704) transposes_S1024x704_S704x1024_1_0 = matT X :=
  ext2 fun a b => by
    unfold matT
    pointwise []

/-- The launch's four arrays are the arguments as transposed matrices, the gradient as it is. -/
theorem args (c : Dev nD) : V m c main_v1 = matT (m ((c : Thread nD τ).loc main_arg0)) ∧ V m c main_arg1 = m ((c : Thread nD τ).loc main_arg1) ∧
    V m c main_v3 = matT (m ((c : Thread nD τ).loc main_arg2)) ∧ V m c main_v5 = matT (m ((c : Thread nD τ).loc main_arg3)) := by
  refine ⟨?_, V_main_arg1 m c, ?_, ?_⟩ <;> (unfold V; simp only [hostOps0]; after_results; exact flat _)

/-- A point's blocks are its rows of the four arrays. -/
theorem blk (c : Dev nD) (t : Fin cfg0.N) (a : Fin 176) (k : Fin 1024) :
    (iblk m c 0 t : S176x1024.Idx → EReal) (ix2 a k) = (V m c main_v1 : S704x1024.Idx → EReal) (ix2 (row t a) k) ∧
    (iblk m c 1 t : S176x1024.Idx → EReal) (ix2 a k) = (V m c main_arg1 : S704x1024.Idx → EReal) (ix2 (row t a) k) ∧
    (iblk m c 2 t : S176x1024.Idx → EReal) (ix2 a k) = (V m c main_v3 : S704x1024.Idx → EReal) (ix2 (row t a) k) ∧
    (iblk m c 3 t : S176x1024.Idx → EReal) (ix2 a k) = (V m c main_v5 : S704x1024.Idx → EReal) (ix2 (row t a) k) := by
  refine ⟨?_, ?_, ?_, ?_⟩ <;> blk_ext [iblk, idx t, row]

theorem pay_m (g m : FVec Ideal S176x1024 .f32) : k0_pay1 (F := Ideal) g m = arrM g m :=
  ext2 fun a b => by
    unfold arrM newM
    pointwise [k0_pay1]
theorem pay_v (g v : FVec Ideal S176x1024 .f32) : k0_pay2 (F := Ideal) g v = arrV g v :=
  ext2 fun a b => by
    unfold arrV newV
    pointwise [k0_pay2]
theorem pay_d (g m v w : FVec Ideal S176x1024 .f32) : k0_pay3 (F := Ideal) g m v w = arrD w g m v :=
  ext2 fun a b => by
    unfold k0_pay3
    rw [pay_m, pay_v]
    unfold arrD delta arrM arrV
    pointwise []

theorem final_d (c : Dev nD) : (dats m 0 c).arrAt 4 cfg0.N = arrD (V m c main_v1) (V m c main_arg1) (V m c main_v3) (V m c main_v5) := by
  refine (dats m 0 c).arrAt_eq_of_covers 4 _ (by decide +kernel) fun t hf y => ?_
  blk_simp
  rw [after0_4]
  obtain ⟨a, b, rfl⟩ : ∃ (a : Fin 176) (b : Fin 1024), y = ix2 a b := ⟨y 0, y 1, by funext i; fin_cases i <;> rfl⟩
  obtain ⟨e0, e1, e2, e3⟩ := blk m c t a b
  have he : ((cfg0.win 4).blk t).view.emb (ix2 a b : S176x1024.Idx) = (ix2 (row t a) b : S704x1024.Idx) := by blk_ext [idx t, row]
  rw [he]
  unfold out0_4
  rw [View.canon_cons_unit_zero hz2]
  simp only [View.ld_unit_zero (S := S176x1024) hz2]
  rw [pay_d]
  unfold arrD
  rw [e0, e1, e2, e3]
theorem final_m (c : Dev nD) : (dats m 0 c).arrAt 5 cfg0.N = arrM (V m c main_arg1) (V m c main_v3) := by
  refine (dats m 0 c).arrAt_eq_of_covers 5 _ (by decide +kernel) fun t hf y => ?_
  blk_simp
  rw [after0_5]
  obtain ⟨a, b, rfl⟩ : ∃ (a : Fin 176) (b : Fin 1024), y = ix2 a b := ⟨y 0, y 1, by funext i; fin_cases i <;> rfl⟩
  obtain ⟨e0, e1, e2, e3⟩ := blk m c t a b
  have he : ((cfg0.win 5).blk t).view.emb (ix2 a b : S176x1024.Idx) = (ix2 (row t a) b : S704x1024.Idx) := by blk_ext [idx t, row]
  rw [he]
  unfold out0_5
  rw [View.canon_cons_unit_zero hz2]
  simp only [View.ld_unit_zero (S := S176x1024) hz2]
  rw [pay_m]
  unfold arrM
  rw [e1, e2]
theorem final_v (c : Dev nD) : (dats m 0 c).arrAt 6 cfg0.N = arrV (V m c main_arg1) (V m c main_v5) := by
  refine (dats m 0 c).arrAt_eq_of_covers 6 _ (by decide +kernel) fun t hf y => ?_
  blk_simp
  rw [after0_6]
  obtain ⟨a, b, rfl⟩ : ∃ (a : Fin 176) (b : Fin 1024), y = ix2 a b := ⟨y 0, y 1, by funext i; fin_cases i <;> rfl⟩
  obtain ⟨e0, e1, e2, e3⟩ := blk m c t a b
  have he : ((cfg0.win 6).blk t).view.emb (ix2 a b : S176x1024.Idx) = (ix2 (row t a) b : S704x1024.Idx) := by blk_ext [idx t, row]
  rw [he]
  unfold out0_6
  rw [View.canon_cons_unit_zero hz2]
  simp only [View.ld_unit_zero (S := S176x1024) hz2]
  rw [pay_v]
  unfold arrV
  rw [e1, e3]

/-- The reference declares no semaphore. -/
theorem frame_ref : Cert.quiescent_AdamFfnInRefIdeal (hAdamFfnInRefIdeal := Cert.AdamFfnInRefIdeal.Gen.facts) := fun m ρ _ =>
  (θ_run Cert.AdamFfnInRefIdeal.defs _ _).mono (fun r h => ⟨fun c => (h c).2.2.2, sem_eq_zero_of_no_sems (by decide) r.2⟩)
    (Cert.AdamFfnInRefIdeal.Value.run (F := Ideal) m ρ)

theorem algebraic : Cert.algebraic_AdamFfnInIdeal_AdamFfnInRefIdeal (hAdamFfnInIdeal := Cert.AdamFfnInIdeal.Gen.facts) (hAdamFfnInRefIdeal := Cert.AdamFfnInRefIdeal.Gen.facts) := by
  intro m g m' g' _ h
  refine ⟨fun c => (dats m 0 c).arrAt 4 cfg0.N, fun c => (dats m 0 c).arrAt 5 cfg0.N, fun c => (dats m 0 c).arrAt 6 cfg0.N, Cert.AdamFfnInIdeal.Value.run_blocks m g,
    (θ_run _ _ _).mono (fun r hr c => ?_) (Cert.AdamFfnInRefIdeal.Value.run m' g')⟩
  obtain ⟨h0, h1, h2, h3⟩ := h c
  obtain ⟨r0, r1, r2, rest⟩ := hr c
  obtain ⟨a0, a1, a2, a3⟩ := args m c
  refine ⟨r0.trans (Eq.trans ?_ (final_d m c).symm), r1.trans (Eq.trans ?_ (final_m m c).symm), r2.trans (Eq.trans ?_ (final_v m c).symm), rest⟩
  · rw [h0, h1, h2, h3, a0, a1, a2, a3]
    refine (flat _).trans ?_
    conv_rhs => rw [← Cert.AdamFfnInRefIdeal.Val.twice (m ((c : Thread nD τ).loc main_arg1))]
    rfl
  · rw [h1, h2, a1, a2]
    refine (flat _).trans ?_
    conv_rhs => rw [← Cert.AdamFfnInRefIdeal.Val.twice (m ((c : Thread nD τ).loc main_arg1))]
    rfl
  · rw [h1, h3, a1, a3]
    refine (flat _).trans ?_
    conv_rhs => rw [← Cert.AdamFfnInRefIdeal.Val.twice (m ((c : Thread nD τ).loc main_arg1))]
    rfl

end Cert.AdamFfnInIdeal.Val

end
-- ==== Proof.AdamLru.lean ====
/- The optimiser's step of the recurrence's projection: every block of rows of the change and the new moments is the reference's. -/
module

public import proofs.«01_k».proof.Defs
public import proofs.«01_k».proof.Proof.Norm.Adam
public import proofs.«01_k».proof.Proof.Gen.AdamLruIdeal.Value
public import proofs.«01_k».proof.Proof.Gen.AdamLruRefIdeal.Run

@[expose] public section

noncomputable section

namespace Cert.AdamLruIdeal.Val

open Cert.AdamLruIdeal Cert.AdamLruIdeal.Gen Cert.Norm Idealize.ShloMosaic Idealize.ShloMosaic.TcCoe Idealize.SL.Sem

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧
    win0_4.index t = ![t.val, 0] ∧ win0_5.index t = ![t.val, 0] ∧ win0_6.index t = ![t.val, 0] ∧ t.val < 1 :=
  (by decide +kernel : ∀ t : Fin grid0.N, _)

/-- The row of the whole arrays that row `a` of point `t`'s block is. -/
def row (t : Fin cfg0.N) (a : Fin 128) : Fin 128 := ⟨128 * t.val + a.val, by have := (idx t).2.2.2.2.2.2.2; omega⟩

theorem flat (X : FVec Ideal S1x128x1024 .f32) : shapeCast S128x1024 X shapeCasts_S1x128x1024_S128x1024 = mat X :=
  ext2 fun a b => by
    unfold mat
    pointwise []

/-- The launch's four arrays are the arguments as matrices. -/
theorem args (c : Dev nD) : V m c main_v0 = mat (m ((c : Thread nD τ).loc main_arg0)) ∧ V m c main_v1 = mat (m ((c : Thread nD τ).loc main_arg1)) ∧
    V m c main_v2 = mat (m ((c : Thread nD τ).loc main_arg2)) ∧ V m c main_v3 = mat (m ((c : Thread nD τ).loc main_arg3)) := by
  unfold V
  simp only [hostOps0]
  refine ⟨?_, ?_, ?_, ?_⟩ <;> (after_results; exact flat _)

/-- A point's blocks are its rows of the four arrays. -/
theorem blk (c : Dev nD) (t : Fin cfg0.N) (a : Fin 128) (k : Fin 1024) :
    (iblk m c 0 t : S128x1024.Idx → EReal) (ix2 a k) = (V m c main_v0 : S128x1024.Idx → EReal) (ix2 (row t a) k) ∧
    (iblk m c 1 t : S128x1024.Idx → EReal) (ix2 a k) = (V m c main_v1 : S128x1024.Idx → EReal) (ix2 (row t a) k) ∧
    (iblk m c 2 t : S128x1024.Idx → EReal) (ix2 a k) = (V m c main_v2 : S128x1024.Idx → EReal) (ix2 (row t a) k) ∧
    (iblk m c 3 t : S128x1024.Idx → EReal) (ix2 a k) = (V m c main_v3 : S128x1024.Idx → EReal) (ix2 (row t a) k) := by
  refine ⟨?_, ?_, ?_, ?_⟩ <;> blk_ext [iblk, idx t, row]

theorem pay_m (g m : FVec Ideal S128x1024 .f32) : k0_pay2 (F := Ideal) g m = arrM g m :=
  ext2 fun a b => by
    unfold arrM newM
    pointwise [k0_pay2, k0_pay1]
theorem pay_v (g v : FVec Ideal S128x1024 .f32) : k0_pay3 (F := Ideal) g v = arrV g v :=
  ext2 fun a b => by
    unfold arrV newV
    pointwise [k0_pay3, k0_pay1]
theorem pay_d (g m v w : FVec Ideal S128x1024 .f32) : k0_pay4 (F := Ideal) g m v w = arrD w g m v :=
  ext2 fun a b => by
    unfold k0_pay4
    rw [pay_m, pay_v]
    unfold arrD delta arrM arrV
    pointwise []

theorem final_d (c : Dev nD) : (dats m 0 c).arrAt 4 cfg0.N = arrD (V m c main_v0) (V m c main_v1) (V m c main_v2) (V m c main_v3) := by
  refine (dats m 0 c).arrAt_eq_of_covers 4 _ (by decide +kernel) fun t hf y => ?_
  blk_simp
  rw [after0_4]
  obtain ⟨a, b, rfl⟩ : ∃ (a : Fin 128) (b : Fin 1024), y = ix2 a b := ⟨y 0, y 1, by funext i; fin_cases i <;> rfl⟩
  obtain ⟨e0, e1, e2, e3⟩ := blk m c t a b
  have he : ((cfg0.win 4).blk t).view.emb (ix2 a b : S128x1024.Idx) = (ix2 (row t a) b : S128x1024.Idx) := by blk_ext [idx t, row]
  rw [he]
  unfold out0_4
  rw [View.canon_cons_unit_zero hz2]
  simp only [View.ld_unit_zero (S := S128x1024) hz2]
  rw [pay_d]
  unfold arrD
  rw [e0, e1, e2, e3]
theorem final_m (c : Dev nD) : (dats m 0 c).arrAt 5 cfg0.N = arrM (V m c main_v1) (V m c main_v2) := by
  refine (dats m 0 c).arrAt_eq_of_covers 5 _ (by decide +kernel) fun t hf y => ?_
  blk_simp
  rw [after0_5]
  obtain ⟨a, b, rfl⟩ : ∃ (a : Fin 128) (b : Fin 1024), y = ix2 a b := ⟨y 0, y 1, by funext i; fin_cases i <;> rfl⟩
  obtain ⟨e0, e1, e2, e3⟩ := blk m c t a b
  have he : ((cfg0.win 5).blk t).view.emb (ix2 a b : S128x1024.Idx) = (ix2 (row t a) b : S128x1024.Idx) := by blk_ext [idx t, row]
  rw [he]
  unfold out0_5
  rw [View.canon_cons_unit_zero hz2]
  simp only [View.ld_unit_zero (S := S128x1024) hz2]
  rw [pay_m]
  unfold arrM
  rw [e1, e2]
theorem final_v (c : Dev nD) : (dats m 0 c).arrAt 6 cfg0.N = arrV (V m c main_v1) (V m c main_v3) := by
  refine (dats m 0 c).arrAt_eq_of_covers 6 _ (by decide +kernel) fun t hf y => ?_
  blk_simp
  rw [after0_6]
  obtain ⟨a, b, rfl⟩ : ∃ (a : Fin 128) (b : Fin 1024), y = ix2 a b := ⟨y 0, y 1, by funext i; fin_cases i <;> rfl⟩
  obtain ⟨e0, e1, e2, e3⟩ := blk m c t a b
  have he : ((cfg0.win 6).blk t).view.emb (ix2 a b : S128x1024.Idx) = (ix2 (row t a) b : S128x1024.Idx) := by blk_ext [idx t, row]
  rw [he]
  unfold out0_6
  rw [View.canon_cons_unit_zero hz2]
  simp only [View.ld_unit_zero (S := S128x1024) hz2]
  rw [pay_v]
  unfold arrV
  rw [e1, e3]

/-- The reference declares no semaphore. -/
theorem frame_ref : Cert.quiescent_AdamLruRefIdeal (hAdamLruRefIdeal := Cert.AdamLruRefIdeal.Gen.facts) := fun m ρ _ =>
  (θ_run Cert.AdamLruRefIdeal.defs _ _).mono (fun r h => ⟨fun c => (h c).2.2.2, sem_eq_zero_of_no_sems (by decide) r.2⟩)
    (Cert.AdamLruRefIdeal.Value.run (F := Ideal) m ρ)

theorem algebraic : Cert.algebraic_AdamLruIdeal_AdamLruRefIdeal (hAdamLruIdeal := Cert.AdamLruIdeal.Gen.facts) (hAdamLruRefIdeal := Cert.AdamLruRefIdeal.Gen.facts) := by
  intro m g m' g' _ h
  refine ⟨fun c => (dats m 0 c).arrAt 4 cfg0.N, fun c => (dats m 0 c).arrAt 5 cfg0.N, fun c => (dats m 0 c).arrAt 6 cfg0.N, Cert.AdamLruIdeal.Value.run_blocks m g,
    (θ_run _ _ _).mono (fun r hr c => ?_) (Cert.AdamLruRefIdeal.Value.run m' g')⟩
  obtain ⟨h0, h1, h2, h3⟩ := h c
  obtain ⟨r0, r1, r2, rest⟩ := hr c
  obtain ⟨a0, a1, a2, a3⟩ := args m c
  refine ⟨r0.trans (Eq.trans ?_ (final_d m c).symm), r1.trans (Eq.trans ?_ (final_m m c).symm), r2.trans (Eq.trans ?_ (final_v m c).symm), rest⟩
  · rw [h0, h1, h2, h3, a0, a1, a2, a3]
    exact flat _
  · rw [h1, h2, a1, a2]
    exact flat _
  · rw [h1, h3, a1, a3]
    exact flat _

end Cert.AdamLruIdeal.Val

end
-- ==== Proof.AdamFfnOut.lean ====
/- The optimiser's step of the second feed-forward weight: every block of rows of the change and the new moments is the reference's. -/
module

public import proofs.«01_k».proof.Defs
public import proofs.«01_k».proof.Proof.Norm.Adam
public import proofs.«01_k».proof.Proof.Gen.AdamFfnOutIdeal.Value
public import proofs.«01_k».proof.Proof.Gen.AdamFfnOutRefIdeal.Run

@[expose] public section

noncomputable section

namespace Cert.AdamFfnOutIdeal.Val

open Cert.AdamFfnOutIdeal Cert.AdamFfnOutIdeal.Gen Cert.Norm Idealize.ShloMosaic Idealize.ShloMosaic.TcCoe Idealize.SL.Sem

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧
    win0_4.index t = ![t.val, 0] ∧ win0_5.index t = ![t.val, 0] ∧ win0_6.index t = ![t.val, 0] ∧ t.val < 2 :=
  (by decide +kernel : ∀ t : Fin grid0.N, _)

/-- The row of the whole arrays that row `a` of point `t`'s block is. -/
def row (t : Fin cfg0.N) (a : Fin 176) : Fin 352 := ⟨176 * t.val + a.val, by have := (idx t).2.2.2.2.2.2.2; omega⟩

theorem flat (X : FVec Ideal S1x352x1024 .f32) : shapeCast S352x1024 X shapeCasts_S1x352x1024_S352x1024 = mat X :=
  ext2 fun a b => by
    unfold mat
    pointwise []

/-- The launch's four arrays are the arguments as matrices. -/
theorem args (c : Dev nD) : V m c main_v0 = mat (m ((c : Thread nD τ).loc main_arg0)) ∧ V m c main_v1 = mat (m ((c : Thread nD τ).loc main_arg1)) ∧
    V m c main_v2 = mat (m ((c : Thread nD τ).loc main_arg2)) ∧ V m c main_v3 = mat (m ((c : Thread nD τ).loc main_arg3)) := by
  unfold V
  simp only [hostOps0]
  refine ⟨?_, ?_, ?_, ?_⟩ <;> (after_results; exact flat _)

/-- A point's blocks are its rows of the four arrays. -/
theorem blk (c : Dev nD) (t : Fin cfg0.N) (a : Fin 176) (k : Fin 1024) :
    (iblk m c 0 t : S176x1024.Idx → EReal) (ix2 a k) = (V m c main_v0 : S352x1024.Idx → EReal) (ix2 (row t a) k) ∧
    (iblk m c 1 t : S176x1024.Idx → EReal) (ix2 a k) = (V m c main_v1 : S352x1024.Idx → EReal) (ix2 (row t a) k) ∧
    (iblk m c 2 t : S176x1024.Idx → EReal) (ix2 a k) = (V m c main_v2 : S352x1024.Idx → EReal) (ix2 (row t a) k) ∧
    (iblk m c 3 t : S176x1024.Idx → EReal) (ix2 a k) = (V m c main_v3 : S352x1024.Idx → EReal) (ix2 (row t a) k) := by
  refine ⟨?_, ?_, ?_, ?_⟩ <;> blk_ext [iblk, idx t, row]

theorem pay_m (g m : FVec Ideal S176x1024 .f32) : k0_pay2 (F := Ideal) g m = arrM g m :=
  ext2 fun a b => by
    unfold arrM newM
    pointwise [k0_pay2, k0_pay1]
theorem pay_v (g v : FVec Ideal S176x1024 .f32) : k0_pay3 (F := Ideal) g v = arrV g v :=
  ext2 fun a b => by
    unfold arrV newV
    pointwise [k0_pay3, k0_pay1]
theorem pay_d (g m v w : FVec Ideal S176x1024 .f32) : k0_pay4 (F := Ideal) g m v w = arrD w g m v :=
  ext2 fun a b => by
    unfold k0_pay4
    rw [pay_m, pay_v]
    unfold arrD delta arrM arrV
    pointwise []

theorem final_d (c : Dev nD) : (dats m 0 c).arrAt 4 cfg0.N = arrD (V m c main_v0) (V m c main_v1) (V m c main_v2) (V m c main_v3) := by
  refine (dats m 0 c).arrAt_eq_of_covers 4 _ (by decide +kernel) fun t hf y => ?_
  blk_simp
  rw [after0_4]
  obtain ⟨a, b, rfl⟩ : ∃ (a : Fin 176) (b : Fin 1024), y = ix2 a b := ⟨y 0, y 1, by funext i; fin_cases i <;> rfl⟩
  obtain ⟨e0, e1, e2, e3⟩ := blk m c t a b
  have he : ((cfg0.win 4).blk t).view.emb (ix2 a b : S176x1024.Idx) = (ix2 (row t a) b : S352x1024.Idx) := by blk_ext [idx t, row]
  rw [he]
  unfold out0_4
  rw [View.canon_cons_unit_zero hz2]
  simp only [View.ld_unit_zero (S := S176x1024) hz2]
  rw [pay_d]
  unfold arrD
  rw [e0, e1, e2, e3]
theorem final_m (c : Dev nD) : (dats m 0 c).arrAt 5 cfg0.N = arrM (V m c main_v1) (V m c main_v2) := by
  refine (dats m 0 c).arrAt_eq_of_covers 5 _ (by decide +kernel) fun t hf y => ?_
  blk_simp
  rw [after0_5]
  obtain ⟨a, b, rfl⟩ : ∃ (a : Fin 176) (b : Fin 1024), y = ix2 a b := ⟨y 0, y 1, by funext i; fin_cases i <;> rfl⟩
  obtain ⟨e0, e1, e2, e3⟩ := blk m c t a b
  have he : ((cfg0.win 5).blk t).view.emb (ix2 a b : S176x1024.Idx) = (ix2 (row t a) b : S352x1024.Idx) := by blk_ext [idx t, row]
  rw [he]
  unfold out0_5
  rw [View.canon_cons_unit_zero hz2]
  simp only [View.ld_unit_zero (S := S176x1024) hz2]
  rw [pay_m]
  unfold arrM
  rw [e1, e2]
theorem final_v (c : Dev nD) : (dats m 0 c).arrAt 6 cfg0.N = arrV (V m c main_v1) (V m c main_v3) := by
  refine (dats m 0 c).arrAt_eq_of_covers 6 _ (by decide +kernel) fun t hf y => ?_
  blk_simp
  rw [after0_6]
  obtain ⟨a, b, rfl⟩ : ∃ (a : Fin 176) (b : Fin 1024), y = ix2 a b := ⟨y 0, y 1, by funext i; fin_cases i <;> rfl⟩
  obtain ⟨e0, e1, e2, e3⟩ := blk m c t a b
  have he : ((cfg0.win 6).blk t).view.emb (ix2 a b : S176x1024.Idx) = (ix2 (row t a) b : S352x1024.Idx) := by blk_ext [idx t, row]
  rw [he]
  unfold out0_6
  rw [View.canon_cons_unit_zero hz2]
  simp only [View.ld_unit_zero (S := S176x1024) hz2]
  rw [pay_v]
  unfold arrV
  rw [e1, e3]

/-- The reference declares no semaphore. -/
theorem frame_ref : Cert.quiescent_AdamFfnOutRefIdeal (hAdamFfnOutRefIdeal := Cert.AdamFfnOutRefIdeal.Gen.facts) := fun m ρ _ =>
  (θ_run Cert.AdamFfnOutRefIdeal.defs _ _).mono (fun r h => ⟨fun c => (h c).2.2.2, sem_eq_zero_of_no_sems (by decide) r.2⟩)
    (Cert.AdamFfnOutRefIdeal.Value.run (F := Ideal) m ρ)

theorem algebraic : Cert.algebraic_AdamFfnOutIdeal_AdamFfnOutRefIdeal (hAdamFfnOutIdeal := Cert.AdamFfnOutIdeal.Gen.facts) (hAdamFfnOutRefIdeal := Cert.AdamFfnOutRefIdeal.Gen.facts) := by
  intro m g m' g' _ h
  refine ⟨fun c => (dats m 0 c).arrAt 4 cfg0.N, fun c => (dats m 0 c).arrAt 5 cfg0.N, fun c => (dats m 0 c).arrAt 6 cfg0.N, Cert.AdamFfnOutIdeal.Value.run_blocks m g,
    (θ_run _ _ _).mono (fun r hr c => ?_) (Cert.AdamFfnOutRefIdeal.Value.run m' g')⟩
  obtain ⟨h0, h1, h2, h3⟩ := h c
  obtain ⟨r0, r1, r2, rest⟩ := hr c
  obtain ⟨a0, a1, a2, a3⟩ := args m c
  refine ⟨r0.trans (Eq.trans ?_ (final_d m c).symm), r1.trans (Eq.trans ?_ (final_m m c).symm), r2.trans (Eq.trans ?_ (final_v m c).symm), rest⟩
  · rw [h0, h1, h2, h3, a0, a1, a2, a3]
    exact flat _
  · rw [h1, h2, a1, a2]
    exact flat _
  · rw [h1, h3, a1, a3]
    exact flat _

end Cert.AdamFfnOutIdeal.Val

end
-- ==== Proof.AdamPool.lean ====
/- The optimiser's step of the pooling branch's projection: every block of rows of the change and the new moments is the reference's. -/
module

public import proofs.«01_k».proof.Defs
public import proofs.«01_k».proof.Proof.Norm.Adam
public import proofs.«01_k».proof.Proof.Gen.AdamPoolIdeal.Value
public import proofs.«01_k».proof.Proof.Gen.AdamPoolRefIdeal.Run

@[expose] public section

noncomputable section

namespace Cert.AdamPoolIdeal.Val

open Cert.AdamPoolIdeal Cert.AdamPoolIdeal.Gen Cert.Norm Idealize.ShloMosaic Idealize.ShloMosaic.TcCoe Idealize.SL.Sem

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧
    win0_4.index t = ![t.val, 0] ∧ win0_5.index t = ![t.val, 0] ∧ win0_6.index t = ![t.val, 0] ∧ t.val < 2 :=
  (by decide +kernel : ∀ t : Fin grid0.N, _)

/-- The row of the whole arrays that row `a` of point `t`'s block is. -/
def row (t : Fin cfg0.N) (a : Fin 256) : Fin 512 := ⟨256 * t.val + a.val, by have := (idx t).2.2.2.2.2.2.2; omega⟩

theorem flat (X : FVec Ideal S1x512x128 .f32) : shapeCast S512x128 X shapeCasts_S1x512x128_S512x128 = mat X :=
  ext2 fun a b => by
    unfold mat
    pointwise []

/-- The launch's four arrays are the arguments as matrices. -/
theorem args (c : Dev nD) : V m c main_v0 = mat (m ((c : Thread nD τ).loc main_arg0)) ∧ V m c main_v1 = mat (m ((c : Thread nD τ).loc main_arg1)) ∧
    V m c main_v2 = mat (m ((c : Thread nD τ).loc main_arg2)) ∧ V m c main_v3 = mat (m ((c : Thread nD τ).loc main_arg3)) := by
  unfold V
  simp only [hostOps0]
  refine ⟨?_, ?_, ?_, ?_⟩ <;> (after_results; exact flat _)

/-- A point's blocks are its rows of the four arrays. -/
theorem blk (c : Dev nD) (t : Fin cfg0.N) (a : Fin 256) (k : Fin 128) :
    (iblk m c 0 t : S256x128.Idx → EReal) (ix2 a k) = (V m c main_v0 : S512x128.Idx → EReal) (ix2 (row t a) k) ∧
    (iblk m c 1 t : S256x128.Idx → EReal) (ix2 a k) = (V m c main_v1 : S512x128.Idx → EReal) (ix2 (row t a) k) ∧
    (iblk m c 2 t : S256x128.Idx → EReal) (ix2 a k) = (V m c main_v2 : S512x128.Idx → EReal) (ix2 (row t a) k) ∧
    (iblk m c 3 t : S256x128.Idx → EReal) (ix2 a k) = (V m c main_v3 : S512x128.Idx → EReal) (ix2 (row t a) k) := by
  refine ⟨?_, ?_, ?_, ?_⟩ <;> blk_ext [iblk, idx t, row]

theorem pay_m (g m : FVec Ideal S256x128 .f32) : k0_pay2 (F := Ideal) g m = arrM g m :=
  ext2 fun a b => by
    unfold arrM newM
    pointwise [k0_pay2, k0_pay1]
theorem pay_v (g v : FVec Ideal S256x128 .f32) : k0_pay3 (F := Ideal) g v = arrV g v :=
  ext2 fun a b => by
    unfold arrV newV
    pointwise [k0_pay3, k0_pay1]
theorem pay_d (g m v w : FVec Ideal S256x128 .f32) : k0_pay4 (F := Ideal) g m v w = arrD w g m v :=
  ext2 fun a b => by
    unfold k0_pay4
    rw [pay_m, pay_v]
    unfold arrD delta arrM arrV
    pointwise []

theorem final_d (c : Dev nD) : (dats m 0 c).arrAt 4 cfg0.N = arrD (V m c main_v0) (V m c main_v1) (V m c main_v2) (V m c main_v3) := by
  refine (dats m 0 c).arrAt_eq_of_covers 4 _ (by decide +kernel) fun t hf y => ?_
  blk_simp
  rw [after0_4]
  obtain ⟨a, b, rfl⟩ : ∃ (a : Fin 256) (b : Fin 128), y = ix2 a b := ⟨y 0, y 1, by funext i; fin_cases i <;> rfl⟩
  obtain ⟨e0, e1, e2, e3⟩ := blk m c t a b
  have he : ((cfg0.win 4).blk t).view.emb (ix2 a b : S256x128.Idx) = (ix2 (row t a) b : S512x128.Idx) := by blk_ext [idx t, row]
  rw [he]
  unfold out0_4
  rw [View.canon_cons_unit_zero hz2]
  simp only [View.ld_unit_zero (S := S256x128) hz2]
  rw [pay_d]
  unfold arrD
  rw [e0, e1, e2, e3]
theorem final_m (c : Dev nD) : (dats m 0 c).arrAt 5 cfg0.N = arrM (V m c main_v1) (V m c main_v2) := by
  refine (dats m 0 c).arrAt_eq_of_covers 5 _ (by decide +kernel) fun t hf y => ?_
  blk_simp
  rw [after0_5]
  obtain ⟨a, b, rfl⟩ : ∃ (a : Fin 256) (b : Fin 128), y = ix2 a b := ⟨y 0, y 1, by funext i; fin_cases i <;> rfl⟩
  obtain ⟨e0, e1, e2, e3⟩ := blk m c t a b
  have he : ((cfg0.win 5).blk t).view.emb (ix2 a b : S256x128.Idx) = (ix2 (row t a) b : S512x128.Idx) := by blk_ext [idx t, row]
  rw [he]
  unfold out0_5
  rw [View.canon_cons_unit_zero hz2]
  simp only [View.ld_unit_zero (S := S256x128) hz2]
  rw [pay_m]
  unfold arrM
  rw [e1, e2]
theorem final_v (c : Dev nD) : (dats m 0 c).arrAt 6 cfg0.N = arrV (V m c main_v1) (V m c main_v3) := by
  refine (dats m 0 c).arrAt_eq_of_covers 6 _ (by decide +kernel) fun t hf y => ?_
  blk_simp
  rw [after0_6]
  obtain ⟨a, b, rfl⟩ : ∃ (a : Fin 256) (b : Fin 128), y = ix2 a b := ⟨y 0, y 1, by funext i; fin_cases i <;> rfl⟩
  obtain ⟨e0, e1, e2, e3⟩ := blk m c t a b
  have he : ((cfg0.win 6).blk t).view.emb (ix2 a b : S256x128.Idx) = (ix2 (row t a) b : S512x128.Idx) := by blk_ext [idx t, row]
  rw [he]
  unfold out0_6
  rw [View.canon_cons_unit_zero hz2]
  simp only [View.ld_unit_zero (S := S256x128) hz2]
  rw [pay_v]
  unfold arrV
  rw [e1, e3]

/-- The reference declares no semaphore. -/
theorem frame_ref : Cert.quiescent_AdamPoolRefIdeal (hAdamPoolRefIdeal := Cert.AdamPoolRefIdeal.Gen.facts) := fun m ρ _ =>
  (θ_run Cert.AdamPoolRefIdeal.defs _ _).mono (fun r h => ⟨fun c => (h c).2.2.2, sem_eq_zero_of_no_sems (by decide) r.2⟩)
    (Cert.AdamPoolRefIdeal.Value.run (F := Ideal) m ρ)

theorem algebraic : Cert.algebraic_AdamPoolIdeal_AdamPoolRefIdeal (hAdamPoolIdeal := Cert.AdamPoolIdeal.Gen.facts) (hAdamPoolRefIdeal := Cert.AdamPoolRefIdeal.Gen.facts) := by
  intro m g m' g' _ h
  refine ⟨fun c => (dats m 0 c).arrAt 4 cfg0.N, fun c => (dats m 0 c).arrAt 5 cfg0.N, fun c => (dats m 0 c).arrAt 6 cfg0.N, Cert.AdamPoolIdeal.Value.run_blocks m g,
    (θ_run _ _ _).mono (fun r hr c => ?_) (Cert.AdamPoolRefIdeal.Value.run m' g')⟩
  obtain ⟨h0, h1, h2, h3⟩ := h c
  obtain ⟨r0, r1, r2, rest⟩ := hr c
  obtain ⟨a0, a1, a2, a3⟩ := args m c
  refine ⟨r0.trans (Eq.trans ?_ (final_d m c).symm), r1.trans (Eq.trans ?_ (final_m m c).symm), r2.trans (Eq.trans ?_ (final_v m c).symm), rest⟩
  · rw [h0, h1, h2, h3, a0, a1, a2, a3]
    exact flat _
  · rw [h1, h2, a1, a2]
    exact flat _
  · rw [h1, h3, a1, a3]
    exact flat _

end Cert.AdamPoolIdeal.Val

end
-- ==== Proof.AdamPle.lean ====
/- The optimiser's step of the per-layer embedding's projection: every block of rows of the change and the new moments is the reference's. -/
module

public import proofs.«01_k».proof.Defs
public import proofs.«01_k».proof.Proof.Norm.Adam
public import proofs.«01_k».proof.Proof.Gen.AdamPleIdeal.Value
public import proofs.«01_k».proof.Proof.Gen.AdamPleRefIdeal.Run

@[expose] public section

noncomputable section

namespace Cert.AdamPleIdeal.Val

open Cert.AdamPleIdeal Cert.AdamPleIdeal.Gen Cert.Norm Idealize.ShloMosaic Idealize.ShloMosaic.TcCoe Idealize.SL.Sem

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧
    win0_4.index t = ![t.val, 0] ∧ win0_5.index t = ![t.val, 0] ∧ win0_6.index t = ![t.val, 0] ∧ t.val < 1 :=
  (by decide +kernel : ∀ t : Fin grid0.N, _)

/-- The row of the whole arrays that row `a` of point `t`'s block is. -/
def row (t : Fin cfg0.N) (a : Fin 256) : Fin 256 := ⟨256 * t.val + a.val, by have := (idx t).2.2.2.2.2.2.2; omega⟩

theorem flat (X : FVec Ideal S1x256x128 .f32) : shapeCast S256x128 X shapeCasts_S1x256x128_S256x128 = mat X :=
  ext2 fun a b => by
    unfold mat
    pointwise []

/-- The launch's four arrays are the arguments as matrices. -/
theorem args (c : Dev nD) : V m c main_v0 = mat (m ((c : Thread nD τ).loc main_arg0)) ∧ V m c main_v1 = mat (m ((c : Thread nD τ).loc main_arg1)) ∧
    V m c main_v2 = mat (m ((c : Thread nD τ).loc main_arg2)) ∧ V m c main_v3 = mat (m ((c : Thread nD τ).loc main_arg3)) := by
  unfold V
  simp only [hostOps0]
  refine ⟨?_, ?_, ?_, ?_⟩ <;> (after_results; exact flat _)

/-- A point's blocks are its rows of the four arrays. -/
theorem blk (c : Dev nD) (t : Fin cfg0.N) (a : Fin 256) (k : Fin 128) :
    (iblk m c 0 t : S256x128.Idx → EReal) (ix2 a k) = (V m c main_v0 : S256x128.Idx → EReal) (ix2 (row t a) k) ∧
    (iblk m c 1 t : S256x128.Idx → EReal) (ix2 a k) = (V m c main_v1 : S256x128.Idx → EReal) (ix2 (row t a) k) ∧
    (iblk m c 2 t : S256x128.Idx → EReal) (ix2 a k) = (V m c main_v2 : S256x128.Idx → EReal) (ix2 (row t a) k) ∧
    (iblk m c 3 t : S256x128.Idx → EReal) (ix2 a k) = (V m c main_v3 : S256x128.Idx → EReal) (ix2 (row t a) k) := by
  refine ⟨?_, ?_, ?_, ?_⟩ <;> blk_ext [iblk, idx t, row]

theorem pay_m (g m : FVec Ideal S256x128 .f32) : k0_pay2 (F := Ideal) g m = arrM g m :=
  ext2 fun a b => by
    unfold arrM newM
    pointwise [k0_pay2, k0_pay1]
theorem pay_v (g v : FVec Ideal S256x128 .f32) : k0_pay3 (F := Ideal) g v = arrV g v :=
  ext2 fun a b => by
    unfold arrV newV
    pointwise [k0_pay3, k0_pay1]
theorem pay_d (g m v w : FVec Ideal S256x128 .f32) : k0_pay4 (F := Ideal) g m v w = arrD w g m v :=
  ext2 fun a b => by
    unfold k0_pay4
    rw [pay_m, pay_v]
    unfold arrD delta arrM arrV
    pointwise []

theorem final_d (c : Dev nD) : (dats m 0 c).arrAt 4 cfg0.N = arrD (V m c main_v0) (V m c main_v1) (V m c main_v2) (V m c main_v3) := by
  refine (dats m 0 c).arrAt_eq_of_covers 4 _ (by decide +kernel) fun t hf y => ?_
  blk_simp
  rw [after0_4]
  obtain ⟨a, b, rfl⟩ : ∃ (a : Fin 256) (b : Fin 128), y = ix2 a b := ⟨y 0, y 1, by funext i; fin_cases i <;> rfl⟩
  obtain ⟨e0, e1, e2, e3⟩ := blk m c t a b
  have he : ((cfg0.win 4).blk t).view.emb (ix2 a b : S256x128.Idx) = (ix2 (row t a) b : S256x128.Idx) := by blk_ext [idx t, row]
  rw [he]
  unfold out0_4
  rw [View.canon_cons_unit_zero hz2]
  simp only [View.ld_unit_zero (S := S256x128) hz2]
  rw [pay_d]
  unfold arrD
  rw [e0, e1, e2, e3]
theorem final_m (c : Dev nD) : (dats m 0 c).arrAt 5 cfg0.N = arrM (V m c main_v1) (V m c main_v2) := by
  refine (dats m 0 c).arrAt_eq_of_covers 5 _ (by decide +kernel) fun t hf y => ?_
  blk_simp
  rw [after0_5]
  obtain ⟨a, b, rfl⟩ : ∃ (a : Fin 256) (b : Fin 128), y = ix2 a b := ⟨y 0, y 1, by funext i; fin_cases i <;> rfl⟩
  obtain ⟨e0, e1, e2, e3⟩ := blk m c t a b
  have he : ((cfg0.win 5).blk t).view.emb (ix2 a b : S256x128.Idx) = (ix2 (row t a) b : S256x128.Idx) := by blk_ext [idx t, row]
  rw [he]
  unfold out0_5
  rw [View.canon_cons_unit_zero hz2]
  simp only [View.ld_unit_zero (S := S256x128) hz2]
  rw [pay_m]
  unfold arrM
  rw [e1, e2]
theorem final_v (c : Dev nD) : (dats m 0 c).arrAt 6 cfg0.N = arrV (V m c main_v1) (V m c main_v3) := by
  refine (dats m 0 c).arrAt_eq_of_covers 6 _ (by decide +kernel) fun t hf y => ?_
  blk_simp
  rw [after0_6]
  obtain ⟨a, b, rfl⟩ : ∃ (a : Fin 256) (b : Fin 128), y = ix2 a b := ⟨y 0, y 1, by funext i; fin_cases i <;> rfl⟩
  obtain ⟨e0, e1, e2, e3⟩ := blk m c t a b
  have he : ((cfg0.win 6).blk t).view.emb (ix2 a b : S256x128.Idx) = (ix2 (row t a) b : S256x128.Idx) := by blk_ext [idx t, row]
  rw [he]
  unfold out0_6
  rw [View.canon_cons_unit_zero hz2]
  simp only [View.ld_unit_zero (S := S256x128) hz2]
  rw [pay_v]
  unfold arrV
  rw [e1, e3]

/-- The reference declares no semaphore. -/
theorem frame_ref : Cert.quiescent_AdamPleRefIdeal (hAdamPleRefIdeal := Cert.AdamPleRefIdeal.Gen.facts) := fun m ρ _ =>
  (θ_run Cert.AdamPleRefIdeal.defs _ _).mono (fun r h => ⟨fun c => (h c).2.2.2, sem_eq_zero_of_no_sems (by decide) r.2⟩)
    (Cert.AdamPleRefIdeal.Value.run (F := Ideal) m ρ)

theorem algebraic : Cert.algebraic_AdamPleIdeal_AdamPleRefIdeal (hAdamPleIdeal := Cert.AdamPleIdeal.Gen.facts) (hAdamPleRefIdeal := Cert.AdamPleRefIdeal.Gen.facts) := by
  intro m g m' g' _ h
  refine ⟨fun c => (dats m 0 c).arrAt 4 cfg0.N, fun c => (dats m 0 c).arrAt 5 cfg0.N, fun c => (dats m 0 c).arrAt 6 cfg0.N, Cert.AdamPleIdeal.Value.run_blocks m g,
    (θ_run _ _ _).mono (fun r hr c => ?_) (Cert.AdamPleRefIdeal.Value.run m' g')⟩
  obtain ⟨h0, h1, h2, h3⟩ := h c
  obtain ⟨r0, r1, r2, rest⟩ := hr c
  obtain ⟨a0, a1, a2, a3⟩ := args m c
  refine ⟨r0.trans (Eq.trans ?_ (final_d m c).symm), r1.trans (Eq.trans ?_ (final_m m c).symm), r2.trans (Eq.trans ?_ (final_v m c).symm), rest⟩
  · rw [h0, h1, h2, h3, a0, a1, a2, a3]
    exact flat _
  · rw [h1, h2, a1, a2]
    exact flat _
  · rw [h1, h3, a1, a3]
    exact flat _

end Cert.AdamPleIdeal.Val

end
-- ==== Proof.lean ====
/- The claims about the calls of the training step: each call's frame, the frame of its idealised
   text and of its reference, and that the two compute the same values. -/
module

public import proofs.«01_k».proof.Defs
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame.Runs
public import proofs.«01_k».proof.Proof.Gen.FfnInRefIdeal
public import proofs.«01_k».proof.Proof.Gen.FfnInRefIdeal.Run
public import proofs.«01_k».proof.Proof.FfnIn.Alg
public import proofs.«01_k».proof.Proof.FfnIn.Frames
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame.Runs
public import proofs.«01_k».proof.Proof.Gen.InprojRefIdeal
public import proofs.«01_k».proof.Proof.Gen.InprojRefIdeal.Run
public import proofs.«01_k».proof.Proof.Inproj.Alg
public import proofs.«01_k».proof.Proof.Inproj.Frames
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame.Runs
public import proofs.«01_k».proof.Proof.Gen.FwdRefIdeal
public import proofs.«01_k».proof.Proof.Gen.FwdRefIdeal.Run
public import proofs.«01_k».proof.Proof.Fwd.Alg
public import proofs.«01_k».proof.Proof.Fwd.Frames
public import proofs.«01_k».proof.Proof.Gen.Hidden
public import proofs.«01_k».proof.Proof.Gen.Hidden.Skeleton
public import proofs.«01_k».proof.Proof.Gen.Hidden.Launch
public import proofs.«01_k».proof.Proof.Gen.Hidden.Points
public import proofs.«01_k».proof.Proof.Gen.HiddenIdeal
public import proofs.«01_k».proof.Proof.Gen.HiddenIdeal.Skeleton
public import proofs.«01_k».proof.Proof.Gen.HiddenIdeal.Launch
public import proofs.«01_k».proof.Proof.Gen.HiddenIdeal.Points
public import proofs.«01_k».proof.Proof.Gen.HiddenIdeal.Frame.Runs
public import proofs.«01_k».proof.Proof.Gen.HiddenRefIdeal
public import proofs.«01_k».proof.Proof.Gen.HiddenRefIdeal.Run
public import proofs.«01_k».proof.Proof.Hidden.Alg
public import proofs.«01_k».proof.Proof.Hidden.Frames
public import proofs.«01_k».proof.Proof.Gen.LruProj
public import proofs.«01_k».proof.Proof.Gen.LruProj.Frame
public import proofs.«01_k».proof.Proof.Gen.LruProjIdeal
public import proofs.«01_k».proof.Proof.Gen.LruProjIdeal.Frame
public import proofs.«01_k».proof.Proof.Gen.LruProjIdeal.Value
public import proofs.«01_k».proof.Proof.Gen.LruProjRefIdeal
public import proofs.«01_k».proof.Proof.Gen.LruProjRefIdeal.Run
public import proofs.«01_k».proof.Proof.LruProj
public import proofs.«01_k».proof.Proof.Gen.PoolProj
public import proofs.«01_k».proof.Proof.Gen.PoolProj.Frame
public import proofs.«01_k».proof.Proof.Gen.PoolProjIdeal
public import proofs.«01_k».proof.Proof.Gen.PoolProjIdeal.Frame
public import proofs.«01_k».proof.Proof.Gen.PoolProjIdeal.Value
public import proofs.«01_k».proof.Proof.Gen.PoolProjRefIdeal
public import proofs.«01_k».proof.Proof.Gen.PoolProjRefIdeal.Run
public import proofs.«01_k».proof.Proof.PoolProj
public import proofs.«01_k».proof.Proof.Gen.Head
public import proofs.«01_k».proof.Proof.Gen.Head.Skeleton
public import proofs.«01_k».proof.Proof.Gen.Head.Launch
public import proofs.«01_k».proof.Proof.Gen.Head.Points
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Points
public import proofs.«01_k».proof.Proof.Gen.HeadIdeal.Frame.Runs
public import proofs.«01_k».proof.Proof.Gen.HeadRefIdeal
public import proofs.«01_k».proof.Proof.Gen.HeadRefIdeal.Run
public import proofs.«01_k».proof.Proof.Head.Alg
public import proofs.«01_k».proof.Proof.Head.Frames
public import proofs.«01_k».proof.Proof.Gen.AdamWin
public import proofs.«01_k».proof.Proof.Gen.AdamWin.Frame
public import proofs.«01_k».proof.Proof.Gen.AdamWinIdeal
public import proofs.«01_k».proof.Proof.Gen.AdamWinIdeal.Frame
public import proofs.«01_k».proof.Proof.Gen.AdamWinIdeal.Value
public import proofs.«01_k».proof.Proof.Gen.AdamWinRefIdeal
public import proofs.«01_k».proof.Proof.Gen.AdamWinRefIdeal.Run
public import proofs.«01_k».proof.Proof.AdamWin
public import proofs.«01_k».proof.Proof.Gen.AdamFfnIn
public import proofs.«01_k».proof.Proof.Gen.AdamFfnIn.Frame
public import proofs.«01_k».proof.Proof.Gen.AdamFfnInIdeal
public import proofs.«01_k».proof.Proof.Gen.AdamFfnInIdeal.Frame
public import proofs.«01_k».proof.Proof.Gen.AdamFfnInIdeal.Value
public import proofs.«01_k».proof.Proof.Gen.AdamFfnInRefIdeal
public import proofs.«01_k».proof.Proof.Gen.AdamFfnInRefIdeal.Run
public import proofs.«01_k».proof.Proof.AdamFfnIn
public import proofs.«01_k».proof.Proof.Gen.AdamLru
public import proofs.«01_k».proof.Proof.Gen.AdamLru.Frame
public import proofs.«01_k».proof.Proof.Gen.AdamLruIdeal
public import proofs.«01_k».proof.Proof.Gen.AdamLruIdeal.Frame
public import proofs.«01_k».proof.Proof.Gen.AdamLruIdeal.Value
public import proofs.«01_k».proof.Proof.Gen.AdamLruRefIdeal
public import proofs.«01_k».proof.Proof.Gen.AdamLruRefIdeal.Run
public import proofs.«01_k».proof.Proof.AdamLru
public import proofs.«01_k».proof.Proof.Gen.AdamFfnOut
public import proofs.«01_k».proof.Proof.Gen.AdamFfnOut.Frame
public import proofs.«01_k».proof.Proof.Gen.AdamFfnOutIdeal
public import proofs.«01_k».proof.Proof.Gen.AdamFfnOutIdeal.Frame
public import proofs.«01_k».proof.Proof.Gen.AdamFfnOutIdeal.Value
public import proofs.«01_k».proof.Proof.Gen.AdamFfnOutRefIdeal
public import proofs.«01_k».proof.Proof.Gen.AdamFfnOutRefIdeal.Run
public import proofs.«01_k».proof.Proof.AdamFfnOut
public import proofs.«01_k».proof.Proof.Gen.AdamPool
public import proofs.«01_k».proof.Proof.Gen.AdamPool.Frame
public import proofs.«01_k».proof.Proof.Gen.AdamPoolIdeal
public import proofs.«01_k».proof.Proof.Gen.AdamPoolIdeal.Frame
public import proofs.«01_k».proof.Proof.Gen.AdamPoolIdeal.Value
public import proofs.«01_k».proof.Proof.Gen.AdamPoolRefIdeal
public import proofs.«01_k».proof.Proof.Gen.AdamPoolRefIdeal.Run
public import proofs.«01_k».proof.Proof.AdamPool
public import proofs.«01_k».proof.Proof.Gen.AdamPle
public import proofs.«01_k».proof.Proof.Gen.AdamPle.Frame
public import proofs.«01_k».proof.Proof.Gen.AdamPleIdeal
public import proofs.«01_k».proof.Proof.Gen.AdamPleIdeal.Frame
public import proofs.«01_k».proof.Proof.Gen.AdamPleIdeal.Value
public import proofs.«01_k».proof.Proof.Gen.AdamPleRefIdeal
public import proofs.«01_k».proof.Proof.Gen.AdamPleRefIdeal.Run
public import proofs.«01_k».proof.Proof.AdamPle
public import proofs.«01_k».proof.Proof.Gen.Pre_finite
public import Idealize.ShloMosaic.Adequacy
public import Idealize.ShloMosaic.Init

@[expose] public section

noncomputable section

namespace Cert.Proof

open Idealize.ShloMosaic Idealize.SL.Sem

theorem claim : Cert.Claim :=
  ⟨Cert.FfnIn.Gen.facts, Cert.FfnInIdeal.Gen.facts, Cert.FfnInRefIdeal.Gen.facts, Cert.Inproj.Gen.facts, Cert.InprojIdeal.Gen.facts, Cert.InprojRefIdeal.Gen.facts, Cert.Fwd.Gen.facts, Cert.FwdIdeal.Gen.facts, Cert.FwdRefIdeal.Gen.facts, Cert.Hidden.Gen.facts, Cert.HiddenIdeal.Gen.facts, Cert.HiddenRefIdeal.Gen.facts, Cert.LruProj.Gen.facts, Cert.LruProjIdeal.Gen.facts, Cert.LruProjRefIdeal.Gen.facts, Cert.PoolProj.Gen.facts, Cert.PoolProjIdeal.Gen.facts, Cert.PoolProjRefIdeal.Gen.facts, Cert.Head.Gen.facts, Cert.HeadIdeal.Gen.facts, Cert.HeadRefIdeal.Gen.facts, Cert.AdamWin.Gen.facts, Cert.AdamWinIdeal.Gen.facts, Cert.AdamWinRefIdeal.Gen.facts, Cert.AdamFfnIn.Gen.facts, Cert.AdamFfnInIdeal.Gen.facts, Cert.AdamFfnInRefIdeal.Gen.facts, Cert.AdamLru.Gen.facts, Cert.AdamLruIdeal.Gen.facts, Cert.AdamLruRefIdeal.Gen.facts, Cert.AdamFfnOut.Gen.facts, Cert.AdamFfnOutIdeal.Gen.facts, Cert.AdamFfnOutRefIdeal.Gen.facts, Cert.AdamPool.Gen.facts, Cert.AdamPoolIdeal.Gen.facts, Cert.AdamPoolRefIdeal.Gen.facts, Cert.AdamPle.Gen.facts, Cert.AdamPleIdeal.Gen.facts, Cert.AdamPleRefIdeal.Gen.facts, Cert.Pre_finite.Gen.facts,
    Cert.FfnInIdeal.Val.frame_own, Cert.FfnInIdeal.Val.frame_ideal, Cert.FfnInIdeal.Val.frame_ref,
    Cert.InprojIdeal.Val.frame_own, Cert.InprojIdeal.Val.frame_ideal, Cert.InprojIdeal.Val.frame_ref,
    Cert.FwdIdeal.Val.frame_own, Cert.FwdIdeal.Val.frame_ideal, Cert.FwdIdeal.Val.frame_ref,
    Cert.HiddenIdeal.Val.frame_own, Cert.HiddenIdeal.Val.frame_ideal, Cert.HiddenIdeal.Val.frame_ideal_finite, Cert.HiddenIdeal.Val.frame_ref, Cert.HiddenIdeal.Val.frame_ref_finite,
    fun m ρ _ => Cert.LruProj.Gen.frame m ρ, fun m ρ _ => Cert.LruProjIdeal.Gen.frame m ρ, Cert.LruProjIdeal.Val.frame_ref,
    fun m ρ _ => Cert.PoolProj.Gen.frame m ρ, fun m ρ _ => Cert.PoolProjIdeal.Gen.frame m ρ, Cert.PoolProjIdeal.Val.frame_ref,
    Cert.HeadIdeal.Val.frame_own, Cert.HeadIdeal.Val.frame_ideal, Cert.HeadIdeal.Val.frame_ref,
    fun m ρ _ => Cert.AdamWin.Gen.frame m ρ, fun m ρ _ => Cert.AdamWinIdeal.Gen.frame m ρ, Cert.AdamWinIdeal.Val.frame_ref,
    fun m ρ _ => Cert.AdamFfnIn.Gen.frame m ρ, fun m ρ _ => Cert.AdamFfnInIdeal.Gen.frame m ρ, Cert.AdamFfnInIdeal.Val.frame_ref,
    fun m ρ _ => Cert.AdamLru.Gen.frame m ρ, fun m ρ _ => Cert.AdamLruIdeal.Gen.frame m ρ, Cert.AdamLruIdeal.Val.frame_ref,
    fun m ρ _ => Cert.AdamFfnOut.Gen.frame m ρ, fun m ρ _ => Cert.AdamFfnOutIdeal.Gen.frame m ρ, Cert.AdamFfnOutIdeal.Val.frame_ref,
    fun m ρ _ => Cert.AdamPool.Gen.frame m ρ, fun m ρ _ => Cert.AdamPoolIdeal.Gen.frame m ρ, Cert.AdamPoolIdeal.Val.frame_ref,
    fun m ρ _ => Cert.AdamPle.Gen.frame m ρ, fun m ρ _ => Cert.AdamPleIdeal.Gen.frame m ρ, Cert.AdamPleIdeal.Val.frame_ref,
    trivial, Cert.FfnInIdeal.Val.algebraic,
    trivial, Cert.InprojIdeal.Val.algebraic,
    trivial, Cert.FwdIdeal.Val.algebraic,
    trivial, Cert.HiddenIdeal.Val.algebraic,
    trivial, Cert.LruProjIdeal.Val.algebraic,
    trivial, Cert.PoolProjIdeal.Val.algebraic,
    trivial, Cert.HeadIdeal.Val.algebraic,
    trivial, Cert.AdamWinIdeal.Val.algebraic,
    trivial, Cert.AdamFfnInIdeal.Val.algebraic,
    trivial, Cert.AdamLruIdeal.Val.algebraic,
    trivial, Cert.AdamFfnOutIdeal.Val.algebraic,
    trivial, Cert.AdamPoolIdeal.Val.algebraic,
    trivial, Cert.AdamPleIdeal.Val.algebraic⟩

end Cert.Proof

end
